-- ==== Defs.lean ====
def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdIdeal_inproj_finite [hPre_inproj_finite : Cert.Pre_inproj_finite.Facts] (m : (ℓ : Loc Cert.InprojBwdIdeal.nD Cert.InprojBwdIdeal.τ Cert.InprojBwdIdeal.sig) → Buf (Elt Ideal) ℓ) : Prop :=
  ∀ c : Dev Cert.InprojBwdIdeal.nD,
    (Cert.Pre_inproj_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_loss_finite [hPre_loss_finite : Cert.Pre_loss_finite.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))) = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_loss_finite [hPre_loss_finite : Cert.Pre_loss_finite.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_loss_finite.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5)) (m ((c.tc : Thread Cert.FfnLossRefIdeal.nD Cert.FfnLossRefIdeal.τ).loc Cert.FfnLossRefIdeal.main_arg6))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_out_finite [hPre_attn_out_finite : Cert.Pre_attn_out_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_out_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnOutRefIdeal (m : (ℓ : Loc Cert.AttnOutRefIdeal.nD Cert.AttnOutRefIdeal.τ Cert.AttnOutRefIdeal.sig) → Buf (Elt Ideal) ℓ) : Prop :=
  True

def Pre_AttnOutRefIdeal_attn_out_finite [hPre_attn_out_finite : Cert.Pre_attn_out_finite.Facts] (m : (ℓ : Loc Cert.AttnOutRefIdeal.nD Cert.AttnOutRefIdeal.τ Cert.AttnOutRefIdeal.sig) → Buf (Elt Ideal) ℓ) : Prop :=
  ∀ c : Dev Cert.AttnOutRefIdeal.nD,
    (Cert.Pre_attn_out_finite.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4)
      ∧ r.2.mem ((c.tc : Thread Cert.InprojBwd.nD Cert.InprojBwd.τ).loc Cert.InprojBwd.main_arg5) = m ((c.tc : Thread Cert.InprojBwd.nD Cert.InprojBwd.τ).loc Cert.InprojBwd.main_arg5)
      ∧ r.2.mem ((c.tc : Thread Cert.InprojBwd.nD Cert.InprojBwd.τ).loc Cert.InprojBwd.main_arg6) = m ((c.tc : Thread Cert.InprojBwd.nD Cert.InprojBwd.τ).loc Cert.InprojBwd.main_arg6)
      ∧ r.2.mem ((c.tc : Thread Cert.InprojBwd.nD Cert.InprojBwd.τ).loc Cert.InprojBwd.main_arg7) = m ((c.tc : Thread Cert.InprojBwd.nD Cert.InprojBwd.τ).loc Cert.InprojBwd.main_arg7)
      ∧ r.2.mem ((c.tc : Thread Cert.InprojBwd.nD Cert.InprojBwd.τ).loc Cert.InprojBwd.main_arg8) = m ((c.tc : Thread Cert.InprojBwd.nD Cert.InprojBwd.τ).loc Cert.InprojBwd.main_arg8))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
      ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8))
      ∧ r.2.sem = fun _ => 0)

def quiescent_InprojBwdIdeal_pre_inproj_finite [hInprojBwdIdeal : Cert.InprojBwdIdeal.Facts] [hPre_inproj_finite : Cert.Pre_inproj_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal_inproj_finite m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
      ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5)
      ∧ r.2.mem ((c.tc : Thread Cert.FfnLoss.nD Cert.FfnLoss.τ).loc Cert.FfnLoss.main_arg6) = m ((c.tc : Thread Cert.FfnLoss.nD Cert.FfnLoss.τ).loc Cert.FfnLoss.main_arg6))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossIdeal_pre_loss_finite [hFfnLossIdeal : Cert.FfnLossIdeal.Facts] [hPre_loss_finite : Cert.Pre_loss_finite.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_loss_finite m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5)
      ∧ r.2.mem ((c.tc : Thread Cert.FfnLossRefIdeal.nD Cert.FfnLossRefIdeal.τ).loc Cert.FfnLossRefIdeal.main_arg6) = m ((c.tc : Thread Cert.FfnLossRefIdeal.nD Cert.FfnLossRefIdeal.τ).loc Cert.FfnLossRefIdeal.main_arg6))
      ∧ r.2.sem = fun _ => 0)

def quiescent_FfnLossRefIdeal_pre_loss_finite [hFfnLossRefIdeal : Cert.FfnLossRefIdeal.Facts] [hPre_loss_finite : Cert.Pre_loss_finite.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_loss_finite m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5)
      ∧ r.2.mem ((c.tc : Thread Cert.FfnLossRefIdeal.nD Cert.FfnLossRefIdeal.τ).loc Cert.FfnLossRefIdeal.main_arg6) = m ((c.tc : Thread Cert.FfnLossRefIdeal.nD Cert.FfnLossRefIdeal.τ).loc Cert.FfnLossRefIdeal.main_arg6))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attn_out_finite [hAttnFwdIdeal : Cert.AttnFwdIdeal.Facts] [hPre_attn_out_finite : Cert.Pre_attn_out_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_out_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_AttnOutRefIdeal_pre_attn_out_finite [hAttnOutRefIdeal : Cert.AttnOutRefIdeal.Facts] [hPre_attn_out_finite : Cert.Pre_attn_out_finite.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal_attn_out_finite m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2)
      ∧ r.2.mem ((c.tc : Thread Cert.InprojFwd.nD Cert.InprojFwd.τ).loc Cert.InprojFwd.main_arg3) = m ((c.tc : Thread Cert.InprojFwd.nD Cert.InprojFwd.τ).loc Cert.InprojFwd.main_arg3))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
      ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2)
      ∧ r.2.mem ((c.tc : Thread Cert.InprojFwdRefIdeal.nD Cert.InprojFwdRefIdeal.τ).loc Cert.InprojFwdRefIdeal.main_arg3) = m ((c.tc : Thread Cert.InprojFwdRefIdeal.nD Cert.InprojFwdRefIdeal.τ).loc Cert.InprojFwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def preserves_InprojBwd_InprojBwdIdeal : Prop :=
  True

def algebraic_InprojBwdIdeal_InprojRefIdeal_pre_inproj_finite [hInprojBwdIdeal : Cert.InprojBwdIdeal.Facts] [hInprojRefIdeal : Cert.InprojRefIdeal.Facts] [hPre_inproj_finite : Cert.Pre_inproj_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojBwdIdeal_inproj_finite m →
    (∀ c : Dev Cert.InprojBwdIdeal.nD,
      m' ((c.tc : Thread Cert.InprojRefIdeal.nD Cert.InprojRefIdeal.τ).loc Cert.InprojRefIdeal.main_arg0) = m ((c.tc : Thread Cert.InprojBwdIdeal.nD Cert.InprojBwdIdeal.τ).loc Cert.InprojBwdIdeal.main_arg0)
      ∧ m' ((c.tc : Thread Cert.InprojRefIdeal.nD Cert.InprojRefIdeal.τ).loc Cert.InprojRefIdeal.main_arg1) = m ((c.tc : Thread Cert.InprojBwdIdeal.nD Cert.InprojBwdIdeal.τ).loc Cert.InprojBwdIdeal.main_arg1)
      ∧ m' ((c.tc : Thread Cert.InprojRefIdeal.nD Cert.InprojRefIdeal.τ).loc Cert.InprojRefIdeal.main_arg2) = m ((c.tc : Thread Cert.InprojBwdIdeal.nD Cert.InprojBwdIdeal.τ).loc Cert.InprojBwdIdeal.main_arg2)
      ∧ m' ((c.tc : Thread Cert.InprojRefIdeal.nD Cert.InprojRefIdeal.τ).loc Cert.InprojRefIdeal.main_arg3) = m ((c.tc : Thread Cert.InprojBwdIdeal.nD Cert.InprojBwdIdeal.τ).loc Cert.InprojBwdIdeal.main_arg3)
      ∧ m' ((c.tc : Thread Cert.InprojRefIdeal.nD Cert.InprojRefIdeal.τ).loc Cert.InprojRefIdeal.main_arg4) = m ((c.tc : Thread Cert.InprojBwdIdeal.nD Cert.InprojBwdIdeal.τ).loc Cert.InprojBwdIdeal.main_arg4)
      ∧ m' ((c.tc : Thread Cert.InprojRefIdeal.nD Cert.InprojRefIdeal.τ).loc Cert.InprojRefIdeal.main_arg5) = m ((c.tc : Thread Cert.InprojBwdIdeal.nD Cert.InprojBwdIdeal.τ).loc Cert.InprojBwdIdeal.main_arg5)
      ∧ m' ((c.tc : Thread Cert.InprojRefIdeal.nD Cert.InprojRefIdeal.τ).loc Cert.InprojRefIdeal.main_arg6) = m ((c.tc : Thread Cert.InprojBwdIdeal.nD Cert.InprojBwdIdeal.τ).loc Cert.InprojBwdIdeal.main_arg6)
      ∧ m' ((c.tc : Thread Cert.InprojRefIdeal.nD Cert.InprojRefIdeal.τ).loc Cert.InprojRefIdeal.main_arg7) = m ((c.tc : Thread Cert.InprojBwdIdeal.nD Cert.InprojBwdIdeal.τ).loc Cert.InprojBwdIdeal.main_arg7)
      ∧ m' ((c.tc : Thread Cert.InprojRefIdeal.nD Cert.InprojRefIdeal.τ).loc Cert.InprojRefIdeal.main_arg8) = m ((c.tc : Thread Cert.InprojBwdIdeal.nD Cert.InprojBwdIdeal.τ).loc Cert.InprojBwdIdeal.main_arg8)) →
    ∃ (v0 : (c : Dev Cert.InprojBwdIdeal.nD) → Buf (Elt Ideal) ((c.tc : Thread Cert.InprojBwdIdeal.nD Cert.InprojBwdIdeal.τ).loc Cert.InprojBwdIdeal.main_v42_0)) (v1 : (c : Dev Cert.InprojBwdIdeal.nD) → Buf (Elt Ideal) ((c.tc : Thread Cert.InprojBwdIdeal.nD Cert.InprojBwdIdeal.τ).loc Cert.InprojBwdIdeal.main_v42_1)) (v2 : (c : Dev Cert.InprojBwdIdeal.nD) → Buf (Elt Ideal) ((c.tc : Thread Cert.InprojBwdIdeal.nD Cert.InprojBwdIdeal.τ).loc Cert.InprojBwdIdeal.main_v42_2)) (v3 : (c : Dev Cert.InprojBwdIdeal.nD) → Buf (Elt Ideal) ((c.tc : Thread Cert.InprojBwdIdeal.nD Cert.InprojBwdIdeal.τ).loc Cert.InprojBwdIdeal.main_v42_3)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v42_0) = v0 c
          ∧ r.2.mem ((c.tc : Thread Cert.InprojBwdIdeal.nD Cert.InprojBwdIdeal.τ).loc Cert.InprojBwdIdeal.main_v42_1) = v1 c
          ∧ r.2.mem ((c.tc : Thread Cert.InprojBwdIdeal.nD Cert.InprojBwdIdeal.τ).loc Cert.InprojBwdIdeal.main_v42_2) = v2 c
          ∧ r.2.mem ((c.tc : Thread Cert.InprojBwdIdeal.nD Cert.InprojBwdIdeal.τ).loc Cert.InprojBwdIdeal.main_v42_3) = v3 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
          ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
          ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
          ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
          ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v52) = v0 c
          ∧ r.2.mem ((c.tc : Thread Cert.InprojRefIdeal.nD Cert.InprojRefIdeal.τ).loc Cert.InprojRefIdeal.main_v54) = v1 c
          ∧ r.2.mem ((c.tc : Thread Cert.InprojRefIdeal.nD Cert.InprojRefIdeal.τ).loc Cert.InprojRefIdeal.main_v29) = v2 c
          ∧ r.2.mem ((c.tc : Thread Cert.InprojRefIdeal.nD Cert.InprojRefIdeal.τ).loc Cert.InprojRefIdeal.main_v35) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v51_0)) (v1 : (c : Dev Cert.FfnBwdIdeal.nD) → Buf (Elt Ideal) ((c.tc : Thread Cert.FfnBwdIdeal.nD Cert.FfnBwdIdeal.τ).loc Cert.FfnBwdIdeal.main_v51_1)) (v2 : (c : Dev Cert.FfnBwdIdeal.nD) → Buf (Elt Ideal) ((c.tc : Thread Cert.FfnBwdIdeal.nD Cert.FfnBwdIdeal.τ).loc Cert.FfnBwdIdeal.main_v51_2)) (v3 : (c : Dev Cert.FfnBwdIdeal.nD) → Buf (Elt Ideal) ((c.tc : Thread Cert.FfnBwdIdeal.nD Cert.FfnBwdIdeal.τ).loc Cert.FfnBwdIdeal.main_v51_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v51_0) = v0 c
          ∧ r.2.mem ((c.tc : Thread Cert.FfnBwdIdeal.nD Cert.FfnBwdIdeal.τ).loc Cert.FfnBwdIdeal.main_v51_1) = v1 c
          ∧ r.2.mem ((c.tc : Thread Cert.FfnBwdIdeal.nD Cert.FfnBwdIdeal.τ).loc Cert.FfnBwdIdeal.main_v51_2) = v2 c
          ∧ r.2.mem ((c.tc : Thread Cert.FfnBwdIdeal.nD Cert.FfnBwdIdeal.τ).loc Cert.FfnBwdIdeal.main_v51_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v119) = v0 c
          ∧ r.2.mem ((c.tc : Thread Cert.FfnRefIdeal.nD Cert.FfnRefIdeal.τ).loc Cert.FfnRefIdeal.main_v118) = v1 c
          ∧ r.2.mem ((c.tc : Thread Cert.FfnRefIdeal.nD Cert.FfnRefIdeal.τ).loc Cert.FfnRefIdeal.main_v96) = v2 c
          ∧ r.2.mem ((c.tc : Thread Cert.FfnRefIdeal.nD Cert.FfnRefIdeal.τ).loc Cert.FfnRefIdeal.main_v120) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnLoss_FfnLossIdeal : Prop :=
  True

def algebraic_FfnLossIdeal_FfnLossRefIdeal_pre_loss_finite [hFfnLossIdeal : Cert.FfnLossIdeal.Facts] [hFfnLossRefIdeal : Cert.FfnLossRefIdeal.Facts] [hPre_loss_finite : Cert.Pre_loss_finite.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_loss_finite m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)
      ∧ m' ((c.tc : Thread Cert.FfnLossRefIdeal.nD Cert.FfnLossRefIdeal.τ).loc Cert.FfnLossRefIdeal.main_arg5) = m ((c.tc : Thread Cert.FfnLossIdeal.nD Cert.FfnLossIdeal.τ).loc Cert.FfnLossIdeal.main_arg5)
      ∧ m' ((c.tc : Thread Cert.FfnLossRefIdeal.nD Cert.FfnLossRefIdeal.τ).loc Cert.FfnLossRefIdeal.main_arg6) = m ((c.tc : Thread Cert.FfnLossIdeal.nD Cert.FfnLossIdeal.τ).loc Cert.FfnLossIdeal.main_arg6)) →
    ∃ (v0 : (c : Dev Cert.FfnLossIdeal.nD) → Buf (Elt Ideal) ((c.tc : Thread Cert.FfnLossIdeal.nD Cert.FfnLossIdeal.τ).loc Cert.FfnLossIdeal.main_v24_0)) (v1 : (c : Dev Cert.FfnLossIdeal.nD) → Buf (Elt Ideal) ((c.tc : Thread Cert.FfnLossIdeal.nD Cert.FfnLossIdeal.τ).loc Cert.FfnLossIdeal.main_v24_1)) (v2 : (c : Dev Cert.FfnLossIdeal.nD) → Buf (Elt Ideal) ((c.tc : Thread Cert.FfnLossIdeal.nD Cert.FfnLossIdeal.τ).loc Cert.FfnLossIdeal.main_v24_2)) (v3 : (c : Dev Cert.FfnLossIdeal.nD) → Buf (Elt Ideal) ((c.tc : Thread Cert.FfnLossIdeal.nD Cert.FfnLossIdeal.τ).loc Cert.FfnLossIdeal.main_v24_3)) (v4 : (c : Dev Cert.FfnLossIdeal.nD) → Buf (Elt Ideal) ((c.tc : Thread Cert.FfnLossIdeal.nD Cert.FfnLossIdeal.τ).loc Cert.FfnLossIdeal.main_v24_4)) (v5 : (c : Dev Cert.FfnLossIdeal.nD) → Buf (Elt Ideal) ((c.tc : Thread Cert.FfnLossIdeal.nD Cert.FfnLossIdeal.τ).loc Cert.FfnLossIdeal.main_v24_5)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v24_0) = v0 c
          ∧ r.2.mem ((c.tc : Thread Cert.FfnLossIdeal.nD Cert.FfnLossIdeal.τ).loc Cert.FfnLossIdeal.main_v24_1) = v1 c
          ∧ r.2.mem ((c.tc : Thread Cert.FfnLossIdeal.nD Cert.FfnLossIdeal.τ).loc Cert.FfnLossIdeal.main_v24_2) = v2 c
          ∧ r.2.mem ((c.tc : Thread Cert.FfnLossIdeal.nD Cert.FfnLossIdeal.τ).loc Cert.FfnLossIdeal.main_v24_3) = v3 c
          ∧ r.2.mem ((c.tc : Thread Cert.FfnLossIdeal.nD Cert.FfnLossIdeal.τ).loc Cert.FfnLossIdeal.main_v24_4) = v4 c
          ∧ r.2.mem ((c.tc : Thread Cert.FfnLossIdeal.nD Cert.FfnLossIdeal.τ).loc Cert.FfnLossIdeal.main_v24_5) = v5 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
          ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v104) = v0 c
          ∧ r.2.mem ((c.tc : Thread Cert.FfnLossRefIdeal.nD Cert.FfnLossRefIdeal.τ).loc Cert.FfnLossRefIdeal.main_v45) = v1 c
          ∧ r.2.mem ((c.tc : Thread Cert.FfnLossRefIdeal.nD Cert.FfnLossRefIdeal.τ).loc Cert.FfnLossRefIdeal.main_v105) = v2 c
          ∧ r.2.mem ((c.tc : Thread Cert.FfnLossRefIdeal.nD Cert.FfnLossRefIdeal.τ).loc Cert.FfnLossRefIdeal.main_v103) = v3 c
          ∧ r.2.mem ((c.tc : Thread Cert.FfnLossRefIdeal.nD Cert.FfnLossRefIdeal.τ).loc Cert.FfnLossRefIdeal.main_v106) = v4 c
          ∧ r.2.mem ((c.tc : Thread Cert.FfnLossRefIdeal.nD Cert.FfnLossRefIdeal.τ).loc Cert.FfnLossRefIdeal.main_v107) = v5 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4)
          ∧ r.2.mem ((c.tc : Thread Cert.FfnLossRefIdeal.nD Cert.FfnLossRefIdeal.τ).loc Cert.FfnLossRefIdeal.main_arg5) = m' ((c.tc : Thread Cert.FfnLossRefIdeal.nD Cert.FfnLossRefIdeal.τ).loc Cert.FfnLossRefIdeal.main_arg5)
          ∧ r.2.mem ((c.tc : Thread Cert.FfnLossRefIdeal.nD Cert.FfnLossRefIdeal.τ).loc Cert.FfnLossRefIdeal.main_arg6) = m' ((c.tc : Thread Cert.FfnLossRefIdeal.nD Cert.FfnLossRefIdeal.τ).loc Cert.FfnLossRefIdeal.main_arg6))

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)
      ∧ m' ((c.tc : Thread Cert.MixRefIdeal.nD Cert.MixRefIdeal.τ).loc Cert.MixRefIdeal.main_arg9) = m ((c.tc : Thread Cert.MixBwdIdeal.nD Cert.MixBwdIdeal.τ).loc Cert.MixBwdIdeal.main_arg9)
      ∧ m' ((c.tc : Thread Cert.MixRefIdeal.nD Cert.MixRefIdeal.τ).loc Cert.MixRefIdeal.main_arg10) = m ((c.tc : Thread Cert.MixBwdIdeal.nD Cert.MixBwdIdeal.τ).loc Cert.MixBwdIdeal.main_arg10)) →
    ∃ (v0 : (c : Dev Cert.MixBwdIdeal.nD) → Buf (Elt Ideal) ((c.tc : Thread Cert.MixBwdIdeal.nD Cert.MixBwdIdeal.τ).loc Cert.MixBwdIdeal.main_v76_0)) (v1 : (c : Dev Cert.MixBwdIdeal.nD) → Buf (Elt Ideal) ((c.tc : Thread Cert.MixBwdIdeal.nD Cert.MixBwdIdeal.τ).loc Cert.MixBwdIdeal.main_v76_1)) (v2 : (c : Dev Cert.MixBwdIdeal.nD) → Buf (Elt Ideal) ((c.tc : Thread Cert.MixBwdIdeal.nD Cert.MixBwdIdeal.τ).loc Cert.MixBwdIdeal.main_v76_2)) (v3 : (c : Dev Cert.MixBwdIdeal.nD) → Buf (Elt Ideal) ((c.tc : Thread Cert.MixBwdIdeal.nD Cert.MixBwdIdeal.τ).loc Cert.MixBwdIdeal.main_v76_3)) (v4 : (c : Dev Cert.MixBwdIdeal.nD) → Buf (Elt Ideal) ((c.tc : Thread Cert.MixBwdIdeal.nD Cert.MixBwdIdeal.τ).loc Cert.MixBwdIdeal.main_v76_4)) (v5 : (c : Dev Cert.MixBwdIdeal.nD) → Buf (Elt Ideal) ((c.tc : Thread Cert.MixBwdIdeal.nD Cert.MixBwdIdeal.τ).loc Cert.MixBwdIdeal.main_v76_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v76_0) = v0 c
          ∧ r.2.mem ((c.tc : Thread Cert.MixBwdIdeal.nD Cert.MixBwdIdeal.τ).loc Cert.MixBwdIdeal.main_v76_1) = v1 c
          ∧ r.2.mem ((c.tc : Thread Cert.MixBwdIdeal.nD Cert.MixBwdIdeal.τ).loc Cert.MixBwdIdeal.main_v76_2) = v2 c
          ∧ r.2.mem ((c.tc : Thread Cert.MixBwdIdeal.nD Cert.MixBwdIdeal.τ).loc Cert.MixBwdIdeal.main_v76_3) = v3 c
          ∧ r.2.mem ((c.tc : Thread Cert.MixBwdIdeal.nD Cert.MixBwdIdeal.τ).loc Cert.MixBwdIdeal.main_v76_4) = v4 c
          ∧ r.2.mem ((c.tc : Thread Cert.MixBwdIdeal.nD Cert.MixBwdIdeal.τ).loc Cert.MixBwdIdeal.main_v76_5) = v5 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v117) = v0 c
          ∧ r.2.mem ((c.tc : Thread Cert.MixRefIdeal.nD Cert.MixRefIdeal.τ).loc Cert.MixRefIdeal.main_v119) = v1 c
          ∧ r.2.mem ((c.tc : Thread Cert.MixRefIdeal.nD Cert.MixRefIdeal.τ).loc Cert.MixRefIdeal.main_v121) = v2 c
          ∧ r.2.mem ((c.tc : Thread Cert.MixRefIdeal.nD Cert.MixRefIdeal.τ).loc Cert.MixRefIdeal.main_v114) = v3 c
          ∧ r.2.mem ((c.tc : Thread Cert.MixRefIdeal.nD Cert.MixRefIdeal.τ).loc Cert.MixRefIdeal.main_v123) = v4 c
          ∧ r.2.mem ((c.tc : Thread Cert.MixRefIdeal.nD Cert.MixRefIdeal.τ).loc Cert.MixRefIdeal.main_v124) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_AttnFwd_AttnFwdIdeal : Prop :=
  True

def algebraic_AttnFwdIdeal_AttnOutRefIdeal_pre_attn_out_finite [hAttnFwdIdeal : Cert.AttnFwdIdeal.Facts] [hAttnOutRefIdeal : Cert.AttnOutRefIdeal.Facts] [hPre_attn_out_finite : Cert.Pre_attn_out_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnFwdIdeal_attn_out_finite m →
    (∀ c : Dev Cert.AttnFwdIdeal.nD,
      m' ((c.tc : Thread Cert.AttnOutRefIdeal.nD Cert.AttnOutRefIdeal.τ).loc Cert.AttnOutRefIdeal.main_arg0) = m ((c.tc : Thread Cert.AttnFwdIdeal.nD Cert.AttnFwdIdeal.τ).loc Cert.AttnFwdIdeal.main_arg0)
      ∧ m' ((c.tc : Thread Cert.AttnOutRefIdeal.nD Cert.AttnOutRefIdeal.τ).loc Cert.AttnOutRefIdeal.main_arg1) = m ((c.tc : Thread Cert.AttnFwdIdeal.nD Cert.AttnFwdIdeal.τ).loc Cert.AttnFwdIdeal.main_arg1)
      ∧ m' ((c.tc : Thread Cert.AttnOutRefIdeal.nD Cert.AttnOutRefIdeal.τ).loc Cert.AttnOutRefIdeal.main_arg2) = m ((c.tc : Thread Cert.AttnFwdIdeal.nD Cert.AttnFwdIdeal.τ).loc Cert.AttnFwdIdeal.main_arg2)
      ∧ m' ((c.tc : Thread Cert.AttnOutRefIdeal.nD Cert.AttnOutRefIdeal.τ).loc Cert.AttnOutRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v54)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v54) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v69) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)) →
    ∃ (v0 : (c : Dev Cert.MixFwdIdeal.nD) → Buf (Elt Ideal) ((c.tc : Thread Cert.MixFwdIdeal.nD Cert.MixFwdIdeal.τ).loc Cert.MixFwdIdeal.main_v19_0)) (v1 : (c : Dev Cert.MixFwdIdeal.nD) → Buf (Elt Ideal) ((c.tc : Thread Cert.MixFwdIdeal.nD Cert.MixFwdIdeal.τ).loc Cert.MixFwdIdeal.main_v19_1)) (v2 : (c : Dev Cert.MixFwdIdeal.nD) → Buf (Elt Ideal) ((c.tc : Thread Cert.MixFwdIdeal.nD Cert.MixFwdIdeal.τ).loc Cert.MixFwdIdeal.main_v19_2)) (v3 : (c : Dev Cert.MixFwdIdeal.nD) → Buf (Elt Ideal) ((c.tc : Thread Cert.MixFwdIdeal.nD Cert.MixFwdIdeal.τ).loc Cert.MixFwdIdeal.main_v19_3)) (v4 : (c : Dev Cert.MixFwdIdeal.nD) → Buf (Elt Ideal) ((c.tc : Thread Cert.MixFwdIdeal.nD Cert.MixFwdIdeal.τ).loc Cert.MixFwdIdeal.main_v19_4)) (v5 : (c : Dev Cert.MixFwdIdeal.nD) → Buf (Elt Ideal) ((c.tc : Thread Cert.MixFwdIdeal.nD Cert.MixFwdIdeal.τ).loc Cert.MixFwdIdeal.main_v19_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v19_0) = v0 c
          ∧ r.2.mem ((c.tc : Thread Cert.MixFwdIdeal.nD Cert.MixFwdIdeal.τ).loc Cert.MixFwdIdeal.main_v19_1) = v1 c
          ∧ r.2.mem ((c.tc : Thread Cert.MixFwdIdeal.nD Cert.MixFwdIdeal.τ).loc Cert.MixFwdIdeal.main_v19_2) = v2 c
          ∧ r.2.mem ((c.tc : Thread Cert.MixFwdIdeal.nD Cert.MixFwdIdeal.τ).loc Cert.MixFwdIdeal.main_v19_3) = v3 c
          ∧ r.2.mem ((c.tc : Thread Cert.MixFwdIdeal.nD Cert.MixFwdIdeal.τ).loc Cert.MixFwdIdeal.main_v19_4) = v4 c
          ∧ r.2.mem ((c.tc : Thread Cert.MixFwdIdeal.nD Cert.MixFwdIdeal.τ).loc Cert.MixFwdIdeal.main_v19_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v57) = v0 c
          ∧ r.2.mem ((c.tc : Thread Cert.MixFwdRefIdeal.nD Cert.MixFwdRefIdeal.τ).loc Cert.MixFwdRefIdeal.main_v58) = v1 c
          ∧ r.2.mem ((c.tc : Thread Cert.MixFwdRefIdeal.nD Cert.MixFwdRefIdeal.τ).loc Cert.MixFwdRefIdeal.main_v59) = v2 c
          ∧ r.2.mem ((c.tc : Thread Cert.MixFwdRefIdeal.nD Cert.MixFwdRefIdeal.τ).loc Cert.MixFwdRefIdeal.main_v60) = v3 c
          ∧ r.2.mem ((c.tc : Thread Cert.MixFwdRefIdeal.nD Cert.MixFwdRefIdeal.τ).loc Cert.MixFwdRefIdeal.main_v56) = v4 c
          ∧ r.2.mem ((c.tc : Thread Cert.MixFwdRefIdeal.nD Cert.MixFwdRefIdeal.τ).loc Cert.MixFwdRefIdeal.main_v75) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)
      ∧ m' ((c.tc : Thread Cert.InprojFwdRefIdeal.nD Cert.InprojFwdRefIdeal.τ).loc Cert.InprojFwdRefIdeal.main_arg3) = m ((c.tc : Thread Cert.InprojFwdIdeal.nD Cert.InprojFwdIdeal.τ).loc Cert.InprojFwdIdeal.main_arg3)) →
    ∃ (v0 : (c : Dev Cert.InprojFwdIdeal.nD) → Buf (Elt Ideal) ((c.tc : Thread Cert.InprojFwdIdeal.nD Cert.InprojFwdIdeal.τ).loc Cert.InprojFwdIdeal.main_v4_0)) (v1 : (c : Dev Cert.InprojFwdIdeal.nD) → Buf (Elt Ideal) ((c.tc : Thread Cert.InprojFwdIdeal.nD Cert.InprojFwdIdeal.τ).loc Cert.InprojFwdIdeal.main_v4_1)) (v2 : (c : Dev Cert.InprojFwdIdeal.nD) → Buf (Elt Ideal) ((c.tc : Thread Cert.InprojFwdIdeal.nD Cert.InprojFwdIdeal.τ).loc Cert.InprojFwdIdeal.main_v4_2)) (v3 : (c : Dev Cert.InprojFwdIdeal.nD) → Buf (Elt Ideal) ((c.tc : Thread Cert.InprojFwdIdeal.nD Cert.InprojFwdIdeal.τ).loc Cert.InprojFwdIdeal.main_v4_3)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v4_0) = v0 c
          ∧ r.2.mem ((c.tc : Thread Cert.InprojFwdIdeal.nD Cert.InprojFwdIdeal.τ).loc Cert.InprojFwdIdeal.main_v4_1) = v1 c
          ∧ r.2.mem ((c.tc : Thread Cert.InprojFwdIdeal.nD Cert.InprojFwdIdeal.τ).loc Cert.InprojFwdIdeal.main_v4_2) = v2 c
          ∧ r.2.mem ((c.tc : Thread Cert.InprojFwdIdeal.nD Cert.InprojFwdIdeal.τ).loc Cert.InprojFwdIdeal.main_v4_3) = v3 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
          ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v20) = v0 c
          ∧ r.2.mem ((c.tc : Thread Cert.InprojFwdRefIdeal.nD Cert.InprojFwdRefIdeal.τ).loc Cert.InprojFwdRefIdeal.main_v21) = v1 c
          ∧ r.2.mem ((c.tc : Thread Cert.InprojFwdRefIdeal.nD Cert.InprojFwdRefIdeal.τ).loc Cert.InprojFwdRefIdeal.main_v22) = v2 c
          ∧ r.2.mem ((c.tc : Thread Cert.InprojFwdRefIdeal.nD Cert.InprojFwdRefIdeal.τ).loc Cert.InprojFwdRefIdeal.main_v23) = v3 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2)
          ∧ r.2.mem ((c.tc : Thread Cert.InprojFwdRefIdeal.nD Cert.InprojFwdRefIdeal.τ).loc Cert.InprojFwdRefIdeal.main_arg3) = m' ((c.tc : Thread Cert.InprojFwdRefIdeal.nD Cert.InprojFwdRefIdeal.τ).loc Cert.InprojFwdRefIdeal.main_arg3))

def Claim : Prop :=
  ∃ (hInprojBwd : Cert.InprojBwd.Facts) (hInprojBwdIdeal : Cert.InprojBwdIdeal.Facts) (hInprojRefIdeal : Cert.InprojRefIdeal.Facts) (hFfnBwd : Cert.FfnBwd.Facts) (hFfnBwdIdeal : Cert.FfnBwdIdeal.Facts) (hFfnRefIdeal : Cert.FfnRefIdeal.Facts) (hFfnLoss : Cert.FfnLoss.Facts) (hFfnLossIdeal : Cert.FfnLossIdeal.Facts) (hFfnLossRefIdeal : Cert.FfnLossRefIdeal.Facts) (hMixBwd : Cert.MixBwd.Facts) (hMixBwdIdeal : Cert.MixBwdIdeal.Facts) (hMixRefIdeal : Cert.MixRefIdeal.Facts) (hAttnFwd : Cert.AttnFwd.Facts) (hAttnFwdIdeal : Cert.AttnFwdIdeal.Facts) (hAttnOutRefIdeal : Cert.AttnOutRefIdeal.Facts) (hMixFwd : Cert.MixFwd.Facts) (hMixFwdIdeal : Cert.MixFwdIdeal.Facts) (hMixFwdRefIdeal : Cert.MixFwdRefIdeal.Facts) (hInprojFwd : Cert.InprojFwd.Facts) (hInprojFwdIdeal : Cert.InprojFwdIdeal.Facts) (hInprojFwdRefIdeal : Cert.InprojFwdRefIdeal.Facts) (hAttnBwd : Cert.AttnBwd.Facts) (hPre_inproj_finite : Cert.Pre_inproj_finite.Facts) (hPre_ffn_finite : Cert.Pre_ffn_finite.Facts) (hPre_loss_finite : Cert.Pre_loss_finite.Facts) (hPre_attn_out_finite : Cert.Pre_attn_out_finite.Facts),
    quiescent_InprojBwd (hInprojBwd := hInprojBwd)
    ∧ quiescent_InprojBwdIdeal (hInprojBwdIdeal := hInprojBwdIdeal)
    ∧ quiescent_InprojBwdIdeal_pre_inproj_finite (hInprojBwdIdeal := hInprojBwdIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnLoss (hFfnLoss := hFfnLoss)
    ∧ quiescent_FfnLossIdeal (hFfnLossIdeal := hFfnLossIdeal)
    ∧ quiescent_FfnLossIdeal_pre_loss_finite (hFfnLossIdeal := hFfnLossIdeal) (hPre_loss_finite := hPre_loss_finite)
    ∧ quiescent_FfnLossRefIdeal (hFfnLossRefIdeal := hFfnLossRefIdeal)
    ∧ quiescent_FfnLossRefIdeal_pre_loss_finite (hFfnLossRefIdeal := hFfnLossRefIdeal) (hPre_loss_finite := hPre_loss_finite)
    ∧ quiescent_MixBwd (hMixBwd := hMixBwd)
    ∧ quiescent_MixBwdIdeal (hMixBwdIdeal := hMixBwdIdeal)
    ∧ quiescent_MixRefIdeal (hMixRefIdeal := hMixRefIdeal)
    ∧ quiescent_AttnFwd (hAttnFwd := hAttnFwd)
    ∧ quiescent_AttnFwdIdeal (hAttnFwdIdeal := hAttnFwdIdeal)
    ∧ quiescent_AttnFwdIdeal_pre_attn_out_finite (hAttnFwdIdeal := hAttnFwdIdeal) (hPre_attn_out_finite := hPre_attn_out_finite)
    ∧ quiescent_AttnOutRefIdeal (hAttnOutRefIdeal := hAttnOutRefIdeal)
    ∧ quiescent_AttnOutRefIdeal_pre_attn_out_finite (hAttnOutRefIdeal := hAttnOutRefIdeal) (hPre_attn_out_finite := hPre_attn_out_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_AttnBwd (hAttnBwd := hAttnBwd)
    ∧ preserves_InprojBwd_InprojBwdIdeal
    ∧ algebraic_InprojBwdIdeal_InprojRefIdeal_pre_inproj_finite (hInprojBwdIdeal := hInprojBwdIdeal) (hInprojRefIdeal := hInprojRefIdeal) (hPre_inproj_finite := hPre_inproj_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_FfnLoss_FfnLossIdeal
    ∧ algebraic_FfnLossIdeal_FfnLossRefIdeal_pre_loss_finite (hFfnLossIdeal := hFfnLossIdeal) (hFfnLossRefIdeal := hFfnLossRefIdeal) (hPre_loss_finite := hPre_loss_finite)
    ∧ preserves_MixBwd_MixBwdIdeal
    ∧ algebraic_MixBwdIdeal_MixRefIdeal (hMixBwdIdeal := hMixBwdIdeal) (hMixRefIdeal := hMixRefIdeal)
    ∧ preserves_AttnFwd_AttnFwdIdeal
    ∧ algebraic_AttnFwdIdeal_AttnOutRefIdeal_pre_attn_out_finite (hAttnFwdIdeal := hAttnFwdIdeal) (hAttnOutRefIdeal := hAttnOutRefIdeal) (hPre_attn_out_finite := hPre_attn_out_finite)
    ∧ preserves_MixFwd_MixFwdIdeal
    ∧ algebraic_MixFwdIdeal_MixFwdRefIdeal (hMixFwdIdeal := hMixFwdIdeal) (hMixFwdRefIdeal := hMixFwdRefIdeal)
    ∧ preserves_InprojFwd_InprojFwdIdeal
    ∧ algebraic_InprojFwdIdeal_InprojFwdRefIdeal (hInprojFwdIdeal := hInprojFwdIdeal) (hInprojFwdRefIdeal := hInprojFwdRefIdeal)
-- ==== Pre_attn_out_finite.lean ====
abbrev S1x4096x512 : Shape := ⟨3, ![1, 4096, 512]⟩
abbrev S1x4096x128 : Shape := ⟨3, ![1, 4096, 128]⟩
abbrev S1x8 : Shape := ⟨2, ![1, 8]⟩
abbrev S_ : Shape := ⟨0, ![]⟩

class Facts : Prop where
  bcast_S_S1x4096x512 : S_.BroadcastsInDim S1x4096x512 (![] : Fin 0 → Fin S1x4096x512.rank)
  reducesTo_S1x4096x512_S_d0_1_2 : S1x4096x512.ReducesTo [0, 1, 2] S_
  h_S_ : 0 < S_.numel
  bcast_S_S1x4096x128 : S_.BroadcastsInDim S1x4096x128 (![] : Fin 0 → Fin S1x4096x128.rank)
  reducesTo_S1x4096x128_S_d0_1_2 : S1x4096x128.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S1x4096x512 .f32) (main_arg1 : FVec F S1x4096x128 .f32) (main_arg2 : FVec F S1x4096x128 .f32) (main_arg3 : FVec F S1x8 .f32) : IVec S_ 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_c : IVec S_ 1 := constantI S_ 1 1#1
  let main_v3 : IVec S_ 1 := (fun x v => Host.reduce IntOp.andi x v reducesTo_S1x4096x512_S_d0_1_2 h_S_) main_v2 main_c
  let main_v4 : FVec F S1x4096x128 .f32 := Host.absf main_arg1
  let main_cst_0 : FVec F S_ .f32 := constant S_ .f32 0x7F800000#32
  let main_v5 : FVec F S1x4096x128 .f32 := broadcastInDim S1x4096x128 ![] bcast_S_S1x4096x128 main_cst_0
  let main_v6 : IVec S1x4096x128 1 := cmpf .olt main_v4 main_v5
  let main_c_1 : IVec S_ 1 := constantI S_ 1 1#1
  let main_v7 : IVec S_ 1 := (fun x v => Host.reduce IntOp.andi x v reducesTo_S1x4096x128_S_d0_1_2 h_S_) main_v6 main_c_1
  let main_v8 : FVec F S1x4096x128 .f32 := Host.absf main_arg2
  let main_cst_2 : FVec F S_ .f32 := constant S_ .f32 0x7F800000#32
  let main_v9 : FVec F S1x4096x128 .f32 := broadcastInDim S1x4096x128 ![] bcast_S_S1x4096x128 main_cst_2
  let main_v10 : IVec S1x4096x128 1 := cmpf .olt main_v8 main_v9
  let main_c_3 : IVec S_ 1 := constantI S_ 1 1#1
  let main_v11 : IVec S_ 1 := (fun x v => Host.reduce IntOp.andi x v reducesTo_S1x4096x128_S_d0_1_2 h_S_) main_v10 main_c_3
  let main_v12 : FVec F S1x8 .f32 := Host.absf main_arg3
  let main_cst_4 : FVec F S_ .f32 := constant S_ .f32 0x7F800000#32
  let main_v13 : FVec F S1x8 .f32 := broadcastInDim S1x8 ![] bcast_S_S1x8 main_cst_4
  let main_v14 : IVec S1x8 1 := cmpf .olt main_v12 main_v13
  let main_c_5 : IVec S_ 1 := constantI S_ 1 1#1
  let main_v15 : IVec S_ 1 := (fun x v => Host.reduce IntOp.andi x v reducesTo_S1x8_S_d0_1 h_S_) main_v14 main_c_5
  fn_part1 (F := F) main_v3 main_v7 main_v11 main_v15
-- ==== Pre_ffn_finite.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S1x4096x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : FVec F S1x4096x1024 .f32 := Host.absf main_arg5
  let main_cst_8 : FVec F S_ .f32 := constant S_ .f32 0x7F800000#32
  let main_v21 : FVec F S1x4096x1024 .f32 := broadcastInDim S1x4096x1024 ![] bcast_S_S1x4096x1024 main_cst_8
  let main_v22 : IVec S1x4096x1024 1 := cmpf .olt main_v20 main_v21
  let main_c_9 : IVec S_ 1 := constantI S_ 1 1#1
  let main_v23 : IVec S_ 1 := (fun x v => Host.reduce IntOp.andi x v reducesTo_S1x4096x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S1x4096x1024 .f32) (main_arg1 : FVec F S1x1024 .f32) (main_arg2 : FVec F S1x1024x5632 .f32) (main_arg3 : FVec F S1x3x5632 .f32) (main_arg4 : FVec F S1x2816x1024 .f32) (main_arg5 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x5632 .f32 := Host.absf main_arg2
  let main_cst_2 : FVec F S_ .f32 := constant S_ .f32 0x7F800000#32
  let main_v9 : FVec F S1x1024x5632 .f32 := broadcastInDim S1x1024x5632 ![] bcast_S_S1x1024x5632 main_cst_2
  let main_v10 : IVec S1x1024x5632 1 := cmpf .olt main_v8 main_v9
  let main_c_3 : IVec S_ 1 := constantI S_ 1 1#1
  let main_v11 : IVec S_ 1 := (fun x v => Host.reduce IntOp.andi x v reducesTo_S1x1024x5632_S_d0_1_2 h_S_) main_v10 main_c_3
  let main_v12 : FVec F S1x3x5632 .f32 := Host.absf main_arg3
  let main_cst_4 : FVec F S_ .f32 := constant S_ .f32 0x7F800000#32
  let main_v13 : FVec F S1x3x5632 .f32 := broadcastInDim S1x3x5632 ![] bcast_S_S1x3x5632 main_cst_4
  let main_v14 : IVec S1x3x5632 1 := cmpf .olt main_v12 main_v13
  let main_c_5 : IVec S_ 1 := constantI S_ 1 1#1
  let main_v15 : IVec S_ 1 := (fun x v => Host.reduce IntOp.andi x v reducesTo_S1x3x5632_S_d0_1_2 h_S_) main_v14 main_c_5
  fn_part1 (F := F) main_arg4 main_arg5 main_v3 main_v7 main_v11 main_v15
-- ==== Pre_inproj_finite.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4096x512 : Shape := ⟨3, ![1, 4096, 512]⟩
abbrev S1x4096x128 : Shape := ⟨3, ![1, 4096, 128]⟩
abbrev S1x4096x1536 : Shape := ⟨3, ![1, 4096, 1536]⟩
abbrev S1x4096x2048 : Shape := ⟨3, ![1, 4096, 2048]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4352 : S_.BroadcastsInDim S1x1024x4352 (![] : Fin 0 → Fin S1x1024x4352.rank)
  reducesTo_S1x1024x4352_S_d0_1_2 : S1x1024x4352.ReducesTo [0, 1, 2] S_
  bcast_S_S1x4096x512 : S_.BroadcastsInDim S1x4096x512 (![] : Fin 0 → Fin S1x4096x512.rank)
  reducesTo_S1x4096x512_S_d0_1_2 : S1x4096x512.ReducesTo [0, 1, 2] S_
  bcast_S_S1x4096x128 : S_.BroadcastsInDim S1x4096x128 (![] : Fin 0 → Fin S1x4096x128.rank)
  reducesTo_S1x4096x128_S_d0_1_2 : S1x4096x128.ReducesTo [0, 1, 2] S_
  bcast_S_S1x4096x1536 : S_.BroadcastsInDim S1x4096x1536 (![] : Fin 0 → Fin S1x4096x1536.rank)
  reducesTo_S1x4096x1536_S_d0_1_2 : S1x4096x1536.ReducesTo [0, 1, 2] S_
  bcast_S_S1x4096x2048 : S_.BroadcastsInDim S1x4096x2048 (![] : Fin 0 → Fin S1x4096x2048.rank)
  reducesTo_S1x4096x2048_S_d0_1_2 : S1x4096x2048.ReducesTo [0, 1, 2] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg5 : FVec F S1x4096x128 .f32) (main_arg6 : FVec F S1x4096x128 .f32) (main_arg7 : FVec F S1x4096x1536 .f32) (main_arg8 : FVec F S1x4096x2048 .f32) (main_v3 : IVec S_ 1) (main_v7 : IVec S_ 1) (main_v11 : IVec S_ 1) (main_v15 : IVec S_ 1) : IVec S_ 1 :=
  let main_v16 : FVec F S1x4096x128 .f32 := Host.absf main_arg5
  let main_cst_6 : FVec F S_ .f32 := constant S_ .f32 0x7F800000#32
  let main_v17 : FVec F S1x4096x128 .f32 := broadcastInDim S1x4096x128 ![] bcast_S_S1x4096x128 main_cst_6
  let main_v18 : IVec S1x4096x128 1 := cmpf .olt main_v16 main_v17
  let main_c_7 : IVec S_ 1 := constantI S_ 1 1#1
  let main_v19 : IVec S_ 1 := (fun x v => Host.reduce IntOp.andi x v reducesTo_S1x4096x128_S_d0_1_2 h_S_) main_v18 main_c_7
  let main_v20 : FVec F S1x4096x128 .f32 := Host.absf main_arg6
  let main_cst_8 : FVec F S_ .f32 := constant S_ .f32 0x7F800000#32
  let main_v21 : FVec F S1x4096x128 .f32 := broadcastInDim S1x4096x128 ![] bcast_S_S1x4096x128 main_cst_8
  let main_v22 : IVec S1x4096x128 1 := cmpf .olt main_v20 main_v21
  let main_c_9 : IVec S_ 1 := constantI S_ 1 1#1
  let main_v23 : IVec S_ 1 := (fun x v => Host.reduce IntOp.andi x v reducesTo_S1x4096x128_S_d0_1_2 h_S_) main_v22 main_c_9
  let main_v24 : FVec F S1x4096x1536 .f32 := Host.absf main_arg7
  let main_cst_10 : FVec F S_ .f32 := constant S_ .f32 0x7F800000#32
  let main_v25 : FVec F S1x4096x1536 .f32 := broadcastInDim S1x4096x1536 ![] bcast_S_S1x4096x1536 main_cst_10
  let main_v26 : IVec S1x4096x1536 1 := cmpf .olt main_v24 main_v25
  let main_c_11 : IVec S_ 1 := constantI S_ 1 1#1
  let main_v27 : IVec S_ 1 := (fun x v => Host.reduce IntOp.andi x v reducesTo_S1x4096x1536_S_d0_1_2 h_S_) main_v26 main_c_11
  let main_v28 : FVec F S1x4096x2048 .f32 := Host.absf main_arg8
  let main_cst_12 : FVec F S_ .f32 := constant S_ .f32 0x7F800000#32
  let main_v29 : FVec F S1x4096x2048 .f32 := broadcastInDim S1x4096x2048 ![] bcast_S_S1x4096x2048 main_cst_12
  let main_v30 : IVec S1x4096x2048 1 := cmpf .olt main_v28 main_v29
  let main_c_13 : IVec S_ 1 := constantI S_ 1 1#1
  let main_v31 : IVec S_ 1 := (fun x v => Host.reduce IntOp.andi x v reducesTo_S1x4096x2048_S_d0_1_2 h_S_) main_v30 main_c_13
  fn_part2 (F := F) main_v3 main_v7 main_v11 main_v15 main_v19 main_v23 main_v27 main_v31

def fn {F : FTy → Type} [FloatOps F] (main_arg0 : FVec F S1x4096x1024 .f32) (main_arg1 : FVec F S1x1024 .f32) (main_arg2 : FVec F S1x1024x4352 .f32) (main_arg3 : FVec F S1x4096x1024 .f32) (main_arg4 : FVec F S1x4096x512 .f32) (main_arg5 : FVec F S1x4096x128 .f32) (main_arg6 : FVec F S1x4096x128 .f32) (main_arg7 : FVec F S1x4096x1536 .f32) (main_arg8 : FVec F S1x4096x2048 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x4352 .f32 := Host.absf main_arg2
  let main_cst_2 : FVec F S_ .f32 := constant S_ .f32 0x7F800000#32
  let main_v9 : FVec F S1x1024x4352 .f32 := broadcastInDim S1x1024x4352 ![] bcast_S_S1x1024x4352 main_cst_2
  let main_v10 : IVec S1x1024x4352 1 := cmpf .olt main_v8 main_v9
  let main_c_3 : IVec S_ 1 := constantI S_ 1 1#1
  let main_v11 : IVec S_ 1 := (fun x v => Host.reduce IntOp.andi x v reducesTo_S1x1024x4352_S_d0_1_2 h_S_) main_v10 main_c_3
  let main_v12 : FVec F S1x4096x512 .f32 := Host.absf main_arg4
  let main_cst_4 : FVec F S_ .f32 := constant S_ .f32 0x7F800000#32
  let main_v13 : FVec F S1x4096x512 .f32 := broadcastInDim S1x4096x512 ![] bcast_S_S1x4096x512 main_cst_4
  let main_v14 : IVec S1x4096x512 1 := cmpf .olt main_v12 main_v13
  let main_c_5 : IVec S_ 1 := constantI S_ 1 1#1
  let main_v15 : IVec S_ 1 := (fun x v => Host.reduce IntOp.andi x v reducesTo_S1x4096x512_S_d0_1_2 h_S_) main_v14 main_c_5
  fn_part1 (F := F) main_arg5 main_arg6 main_arg7 main_arg8 main_v3 main_v7 main_v11 main_v15
-- ==== Pre_loss_finite.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x2816x1024 .f32) (main_arg5 : FVec F S1024 .f32) (main_arg6 : FVec F S1x4096x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1x4096x1024 .f32 := Host.absf main_arg6
  let main_cst_10 : FVec F S_ .f32 := constant S_ .f32 0x7F800000#32
  let main_v25 : FVec F S1x4096x1024 .f32 := broadcastInDim S1x4096x1024 ![] bcast_S_S1x4096x1024 main_cst_10
  let main_v26 : IVec S1x4096x1024 1 := cmpf .olt main_v24 main_v25
  let main_c_11 : IVec S_ 1 := constantI S_ 1 1#1
  let main_v27 : IVec S_ 1 := (fun x v => Host.reduce IntOp.andi x v reducesTo_S1x4096x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S1x4096x1024 .f32) (main_arg1 : FVec F S1x1024 .f32) (main_arg2 : FVec F S1x1024x5632 .f32) (main_arg3 : FVec F S1x3x5632 .f32) (main_arg4 : FVec F S1x2816x1024 .f32) (main_arg5 : FVec F S1024 .f32) (main_arg6 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x5632 .f32 := Host.absf main_arg2
  let main_cst_2 : FVec F S_ .f32 := constant S_ .f32 0x7F800000#32
  let main_v9 : FVec F S1x1024x5632 .f32 := broadcastInDim S1x1024x5632 ![] bcast_S_S1x1024x5632 main_cst_2
  let main_v10 : IVec S1x1024x5632 1 := cmpf .olt main_v8 main_v9
  let main_c_3 : IVec S_ 1 := constantI S_ 1 1#1
  let main_v11 : IVec S_ 1 := (fun x v => Host.reduce IntOp.andi x v reducesTo_S1x1024x5632_S_d0_1_2 h_S_) main_v10 main_c_3
  let main_v12 : FVec F S1x3x5632 .f32 := Host.absf main_arg3
  let main_cst_4 : FVec F S_ .f32 := constant S_ .f32 0x7F800000#32
  let main_v13 : FVec F S1x3x5632 .f32 := broadcastInDim S1x3x5632 ![] bcast_S_S1x3x5632 main_cst_4
  let main_v14 : IVec S1x3x5632 1 := cmpf .olt main_v12 main_v13
  let main_c_5 : IVec S_ 1 := constantI S_ 1 1#1
  let main_v15 : IVec S_ 1 := (fun x v => Host.reduce IntOp.andi x v reducesTo_S1x3x5632_S_d0_1_2 h_S_) main_v14 main_c_5
  fn_part1 (F := F) main_arg4 main_arg5 main_arg6 main_v3 main_v7 main_v11 main_v15
-- ==== InprojBwd.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4096x512 : Shape := ⟨3, ![1, 4096, 512]⟩
abbrev S1x4096x128 : Shape := ⟨3, ![1, 4096, 128]⟩
abbrev S1x4096x1536 : Shape := ⟨3, ![1, 4096, 1536]⟩
abbrev S1x4096x2048 : Shape := ⟨3, ![1, 4096, 2048]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S4096x128 : Shape := ⟨2, ![4096, 128]⟩
abbrev S16x2x128x128 : Shape := ⟨4, ![16, 2, 128, 128]⟩
abbrev S16x1x128x128 : Shape := ⟨4, ![16, 1, 128, 128]⟩
abbrev S16x128x128 : Shape := ⟨3, ![16, 128, 128]⟩
abbrev S2048x128 : Shape := ⟨2, ![2048, 128]⟩
abbrev S4096x1536 : Shape := ⟨2, ![4096, 1536]⟩
abbrev S4096x2048 : Shape := ⟨2, ![4096, 2048]⟩
abbrev S1024x4352 : Shape := ⟨2, ![1024, 4352]⟩
abbrev S4352x1024 : Shape := ⟨2, ![4352, 1024]⟩
abbrev S1x4352 : Shape := ⟨2, ![1, 4352]⟩
abbrev S256x512 : Shape := ⟨2, ![256, 512]⟩
abbrev S128x128 : Shape := ⟨2, ![128, 128]⟩
abbrev S256x1536 : Shape := ⟨2, ![256, 1536]⟩
abbrev S256x2048 : Shape := ⟨2, ![256, 2048]⟩
abbrev S256x1024 : Shape := ⟨2, ![256, 1024]⟩
abbrev S256x128 : Shape := ⟨2, ![256, 128]⟩
abbrev S256x4352 : Shape := ⟨2, ![256, 4352]⟩
abbrev S4352 : Shape := ⟨1, ![4352]⟩
abbrev S256 : Shape := ⟨1, ![256]⟩
abbrev S256x1 : Shape := ⟨2, ![256, 1]⟩
abbrev S1024 : Shape := ⟨1, ![1024]⟩

abbrev nBuf : Space → Nat
  | .hbm => 58
  | .vmem => 28
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x4096x1024, .f32⟩
  | .hbm, ⟨4, _⟩ => ⟨S1x4096x512, .f32⟩
  | .hbm, ⟨5, _⟩ => ⟨S1x4096x128, .f32⟩
  | .hbm, ⟨6, _⟩ => ⟨S1x4096x128, .f32⟩
  | .hbm, ⟨7, _⟩ => ⟨S1x4096x1536, .f32⟩
  | .hbm, ⟨8, _⟩ => ⟨S1x4096x2048, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x512, .f32⟩
  | .hbm, ⟨27, _⟩ => ⟨S4096x512, .bf16⟩
  | .hbm, ⟨28, _⟩ => ⟨S4096x128, .f32⟩
  | .hbm, ⟨29, _⟩ => ⟨S4096x128, .bf16⟩
  | .hbm, ⟨30, _⟩ => ⟨S16x2x128x128, .bf16⟩
  | .hbm, ⟨31, _⟩ => ⟨S16x1x128x128, .bf16⟩
  | .hbm, ⟨32, _⟩ => ⟨S16x128x128, .bf16⟩
  | .hbm, ⟨33, _⟩ => ⟨S2048x128, .bf16⟩
  | .hbm, ⟨34, _⟩ => ⟨S16x1x128x128, .bf16⟩
  | .hbm, ⟨35, _⟩ => ⟨S16x128x128, .bf16⟩
  | .hbm, ⟨36, _⟩ => ⟨S2048x128, .bf16⟩
  | .hbm, ⟨37, _⟩ => ⟨S4096x128, .f32⟩
  | .hbm, ⟨38, _⟩ => ⟨S4096x128, .bf16⟩
  | .hbm, ⟨39, _⟩ => ⟨S16x2x128x128, .bf16⟩
  | .hbm, ⟨40, _⟩ => ⟨S16x1x128x128, .bf16⟩
  | .hbm, ⟨41, _⟩ => ⟨S16x128x128, .bf16⟩
  | .hbm, ⟨42, _⟩ => ⟨S2048x128, .bf16⟩
  | .hbm, ⟨43, _⟩ => ⟨S16x1x128x128, .bf16⟩
  | .hbm, ⟨44, _⟩ => ⟨S16x128x128, .bf16⟩
  | .hbm, ⟨45, _⟩ => ⟨S2048x128, .bf16⟩
  | .hbm, ⟨46, _⟩ => ⟨S4096x1536, .f32⟩
  | .hbm, ⟨47, _⟩ => ⟨S4096x1536, .bf16⟩
  | .hbm, ⟨48, _⟩ => ⟨S4096x2048, .f32⟩
  | .hbm, ⟨49, _⟩ => ⟨S4096x2048, .bf16⟩
  | .hbm, ⟨50, _⟩ => ⟨S1024x4352, .f32⟩
  | .hbm, ⟨51, _⟩ => ⟨S4352x1024, .f32⟩
  | .hbm, ⟨52, _⟩ => ⟨S4352x1024, .bf16⟩
  | .hbm, ⟨53, _⟩ => ⟨S4096x1024, .f32⟩
  | .hbm, ⟨54, _⟩ => ⟨S4096x1024, .f32⟩
  | .hbm, ⟨55, _⟩ => ⟨S4352x1024, .bf16⟩
  | .hbm, ⟨56, _⟩ => ⟨S1x4352, .f32⟩
  | .hbm, ⟨57, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x1536, .bf16⟩
  | .local _ .vmem, ⟨11, _⟩ => ⟨S256x1536, .bf16⟩
  | .local _ .vmem, ⟨12, _⟩ => ⟨S256x2048, .bf16⟩
  | .local _ .vmem, ⟨13, _⟩ => ⟨S256x2048, .bf16⟩
  | .local _ .vmem, ⟨14, _⟩ => ⟨S4352x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S4352x1024, .bf16⟩
  | .local _ .vmem, ⟨25, _⟩ => ⟨S1x4352, .f32⟩
  | .local _ .vmem, ⟨26, _⟩ => ⟨S1x1024, .f32⟩
  | .local _ .vmem, ⟨27, _⟩ => ⟨S4352x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v74 : BitVec 1 := Scalar.cmpi .eq arg0 c15_i32
  let v75 : BitVec 32 := Scalar.extui v74
  let c0_i32_46 : BitVec 32 := 0#32
  let v76 : BitVec 1 := Scalar.cmpi .ne v75 c0_i32_46
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4352x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4352 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InprojRefIdeal.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4096x512 : Shape := ⟨3, ![1, 4096, 512]⟩
abbrev S1x4096x128 : Shape := ⟨3, ![1, 4096, 128]⟩
abbrev S1x4096x1536 : Shape := ⟨3, ![1, 4096, 1536]⟩
abbrev S1x4096x2048 : Shape := ⟨3, ![1, 4096, 2048]⟩
abbrev S4096x512 : Shape := ⟨2, ![4096, 512]⟩
abbrev S4096x128 : Shape := ⟨2, ![4096, 128]⟩
abbrev S4096x1536 : Shape := ⟨2, ![4096, 1536]⟩
abbrev S4096x2048 : Shape := ⟨2, ![4096, 2048]⟩
abbrev S4096x4352 : Shape := ⟨2, ![4096, 4352]⟩
abbrev S_ : Shape := ⟨0, ![]⟩
abbrev S1x4352 : Shape := ⟨2, ![1, 4352]⟩
abbrev S4096x1024 : Shape := ⟨2, ![4096, 1024]⟩
abbrev S1024x4352 : Shape := ⟨2, ![1024, 4352]⟩
abbrev S4096 : Shape := ⟨1, ![4096]⟩
abbrev S4096x1 : Shape := ⟨2, ![4096, 1]⟩
abbrev S4352 : Shape := ⟨1, ![4352]⟩
abbrev S4352x1024 : Shape := ⟨2, ![4352, 1024]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x4096x1024, .f32⟩
  | .hbm, ⟨4, _⟩ => ⟨S1x4096x512, .f32⟩
  | .hbm, ⟨5, _⟩ => ⟨S1x4096x128, .f32⟩
  | .hbm, ⟨6, _⟩ => ⟨S1x4096x128, .f32⟩
  | .hbm, ⟨7, _⟩ => ⟨S1x4096x1536, .f32⟩
  | .hbm, ⟨8, _⟩ => ⟨S1x4096x2048, .f32⟩
  | .hbm, ⟨9, _⟩ => ⟨S4096x512, .f32⟩
  | .hbm, ⟨10, _⟩ => ⟨S4096x128, .f32⟩
  | .hbm, ⟨11, _⟩ => ⟨S4096x128, .f32⟩
  | .hbm, ⟨12, _⟩ => ⟨S4096x1536, .f32⟩
  | .hbm, ⟨13, _⟩ => ⟨S4096x2048, .f32⟩
  | .hbm, ⟨14, _⟩ => ⟨S4096x4352, .f32⟩
  | .hbm, ⟨15, _⟩ => ⟨S_, .f32⟩
  | .hbm, ⟨16, _⟩ => ⟨S1x4352, .f32⟩
  | .hbm, ⟨17, _⟩ => ⟨S4096x1024, .f32⟩
  | .hbm, ⟨18, _⟩ => ⟨S1024x4352, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x4352, .f32⟩
  | .hbm, ⟨39, _⟩ => ⟨S4096x4352, .f32⟩
  | .hbm, ⟨40, _⟩ => ⟨S4096x4352, .f32⟩
  | .hbm, ⟨41, _⟩ => ⟨S4096x1024, .f32⟩
  | .hbm, ⟨42, _⟩ => ⟨S_, .f32⟩
  | .hbm, ⟨43, _⟩ => ⟨S4352, .f32⟩
  | .hbm, ⟨44, _⟩ => ⟨S1x4352, .f32⟩
  | .hbm, ⟨45, _⟩ => ⟨S4352x1024, .f32⟩
  | .hbm, ⟨46, _⟩ => ⟨S1024x4352, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4352x1024, .f32⟩
  | .hbm, ⟨73, _⟩ => ⟨S4352x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== FfnBwd.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S3x5632 : Shape := ⟨2, ![3, 5632]⟩
abbrev S1x5632 : Shape := ⟨2, ![1, 5632]⟩
abbrev S5632 : Shape := ⟨1, ![5632]⟩
abbrev S2x5632 : Shape := ⟨2, ![2, 5632]⟩
abbrev S4094x5632 : Shape := ⟨2, ![4094, 5632]⟩
abbrev S4095x5632 : Shape := ⟨2, ![4095, 5632]⟩
abbrev S2816x1024 : Shape := ⟨2, ![2816, 1024]⟩
abbrev S256x1024 : Shape := ⟨2, ![256, 1024]⟩
abbrev S256x5632 : Shape := ⟨2, ![256, 5632]⟩
abbrev S8x5632 : Shape := ⟨2, ![8, 5632]⟩
abbrev S256x2816 : Shape := ⟨2, ![256, 2816]⟩
abbrev S16x5632 : Shape := ⟨2, ![16, 5632]⟩
abbrev S248x5632 : Shape := ⟨2, ![248, 5632]⟩
abbrev S256 : Shape := ⟨1, ![256]⟩
abbrev S256x1 : Shape := ⟨2, ![256, 1]⟩

abbrev nBuf : Space → Nat
  | .hbm => 66
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x2816x1024, .f32⟩
  | .hbm, ⟨5, _⟩ => ⟨S1x4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x5632, .f32⟩
  | .hbm, ⟨25, _⟩ => ⟨S4096x5632, .f32⟩
  | .hbm, ⟨26, _⟩ => ⟨S3x5632, .f32⟩
  | .hbm, ⟨27, _⟩ => ⟨S1x5632, .f32⟩
  | .hbm, ⟨28, _⟩ => ⟨S5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S4094x5632, .f32⟩
  | .hbm, ⟨33, _⟩ => ⟨S4096x5632, .f32⟩
  | .hbm, ⟨34, _⟩ => ⟨S1x5632, .f32⟩
  | .hbm, ⟨35, _⟩ => ⟨S4096x5632, .f32⟩
  | .hbm, ⟨36, _⟩ => ⟨S4096x5632, .f32⟩
  | .hbm, ⟨37, _⟩ => ⟨S1x5632, .f32⟩
  | .hbm, ⟨38, _⟩ => ⟨S5632, .f32⟩
  | .hbm, ⟨39, _⟩ => ⟨S1x5632, .f32⟩
  | .hbm, ⟨40, _⟩ => ⟨S_, .f32⟩
  | .hbm, ⟨41, _⟩ => ⟨S1x5632, .f32⟩
  | .hbm, ⟨42, _⟩ => ⟨S4095x5632, .f32⟩
  | .hbm, ⟨43, _⟩ => ⟨S4096x5632, .f32⟩
  | .hbm, ⟨44, _⟩ => ⟨S1x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S1x5632, .f32⟩
  | .hbm, ⟨49, _⟩ => ⟨S5632, .f32⟩
  | .hbm, ⟨50, _⟩ => ⟨S1x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x1024, .f32⟩
  | .hbm, ⟨55, _⟩ => ⟨S4096x5632, .bf16⟩
  | .hbm, ⟨56, _⟩ => ⟨S4096x1024, .f32⟩
  | .hbm, ⟨57, _⟩ => ⟨S1024x5632, .f32⟩
  | .hbm, ⟨58, _⟩ => ⟨S1024x5632, .bf16⟩
  | .hbm, ⟨59, _⟩ => ⟨S3x5632, .f32⟩
  | .hbm, ⟨60, _⟩ => ⟨S2816x1024, .f32⟩
  | .hbm, ⟨61, _⟩ => ⟨S2816x1024, .bf16⟩
  | .hbm, ⟨62, _⟩ => ⟨S4096x5632, .bf16⟩
  | .hbm, ⟨63, _⟩ => ⟨S4096x1024, .f32⟩
  | .hbm, ⟨64, _⟩ => ⟨S3x5632, .f32⟩
  | .hbm, ⟨65, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x5632, .f32⟩
  | .local _ .vmem, ⟨5, _⟩ => ⟨S256x5632, .f32⟩
  | .local _ .vmem, ⟨6, _⟩ => ⟨S256x1024, .f32⟩
  | .local _ .vmem, ⟨7, _⟩ => ⟨S256x1024, .f32⟩
  | .local _ .vmem, ⟨8, _⟩ => ⟨S1024x5632, .bf16⟩
  | .local _ .vmem, ⟨9, _⟩ => ⟨S3x5632, .f32⟩
  | .local _ .vmem, ⟨10, _⟩ => ⟨S2816x1024, .bf16⟩
  | .local _ .vmem, ⟨11, _⟩ => ⟨S1x1024, .f32⟩
  | .local _ .vmem, ⟨12, _⟩ => ⟨S256x5632, .bf16⟩
  | .local _ .vmem, ⟨13, _⟩ => ⟨S256x5632, .bf16⟩
  | .local _ .vmem, ⟨14, _⟩ => ⟨S256x1024, .f32⟩
  | .local _ .vmem, ⟨15, _⟩ => ⟨S256x1024, .f32⟩
  | .local _ .vmem, ⟨16, _⟩ => ⟨S3x5632, .f32⟩
  | .local _ .vmem, ⟨17, _⟩ => ⟨S1x1024, .f32⟩
  | .local _ .vmem, ⟨18, _⟩ => ⟨S8x5632, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51_0 : Ref sig .tc := ⟨.hbm, 62, rfl⟩
abbrev main_v51_1 : Ref sig .tc := ⟨.hbm, 63, rfl⟩
abbrev main_v51_2 : Ref sig .tc := ⟨.hbm, 64, rfl⟩
abbrev main_v51_3 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S4096x1024 : Shape := ⟨2, ![4096, 1024]⟩
abbrev S1024 : Shape := ⟨1, ![1024]⟩
abbrev S3x5632 : Shape := ⟨2, ![3, 5632]⟩
abbrev S_ : Shape := ⟨0, ![]⟩
abbrev S4096x5632 : Shape := ⟨2, ![4096, 5632]⟩
abbrev S1024x5632 : Shape := ⟨2, ![1024, 5632]⟩
abbrev S2816x1024 : Shape := ⟨2, ![2816, 1024]⟩
abbrev S4096 : Shape := ⟨1, ![4096]⟩
abbrev S4096x1 : Shape := ⟨2, ![4096, 1]⟩
abbrev S1x5632 : Shape := ⟨2, ![1, 5632]⟩
abbrev S5632 : Shape := ⟨1, ![5632]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩

abbrev nBuf : Space → Nat
  | .hbm => 167
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x5632, .f32⟩
  | 3 => ⟨S1x3x5632, .f32⟩
  | 4 => ⟨S1x2816x1024, .f32⟩
  | 5 => ⟨S1x4096x1024, .f32⟩
  | 6 => ⟨S4096x1024, .f32⟩
  | 7 => ⟨S1024, .f32⟩
  | 8 => ⟨S3x5632, .f32⟩
  | 9 => ⟨S_, .f32⟩
  | 10 => ⟨S4096x5632, .f32⟩
  | 11 => ⟨S1024x5632, .f32⟩
  | 12 => ⟨S2816x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x5632, .f32⟩
  | 34 => ⟨S4096x5632, .f32⟩
  | 35 => ⟨S1x5632, .f32⟩
  | 36 => ⟨S5632, .f32⟩
  | 37 => ⟨S2x5632, .f32⟩
  | 38 => ⟨S_, .f32⟩
  | 39 => ⟨S2x5632, .f32⟩
  | 40 => ⟨S4094x5632, .f32⟩
  | 41 => ⟨S4096x5632, .f32⟩
  | 42 => ⟨S_, .f32⟩
  | 43 => ⟨S2x5632, .f32⟩
  | 44 => ⟨S1x5632, .f32⟩
  | 45 => ⟨S4096x5632, .f32⟩
  | 46 => ⟨S4096x5632, .f32⟩
  | 47 => ⟨S1x5632, .f32⟩
  | 48 => ⟨S5632, .f32⟩
  | 49 => ⟨S1x5632, .f32⟩
  | 50 => ⟨S_, .f32⟩
  | 51 => ⟨S1x5632, .f32⟩
  | 52 => ⟨S4095x5632, .f32⟩
  | 53 => ⟨S4096x5632, .f32⟩
  | 54 => ⟨S_, .f32⟩
  | 55 => ⟨S1x5632, .f32⟩
  | 56 => ⟨S1x5632, .f32⟩
  | 57 => ⟨S4096x5632, .f32⟩
  | 58 => ⟨S4096x5632, .f32⟩
  | 59 => ⟨S4096x5632, .f32⟩
  | 60 => ⟨S1x5632, .f32⟩
  | 61 => ⟨S5632, .f32⟩
  | 62 => ⟨S1x5632, .f32⟩
  | 63 => ⟨S4096x5632, .f32⟩
  | 64 => ⟨S4096x5632, .f32⟩
  | 65 => ⟨S4096x5632, .f32⟩
  | 66 => ⟨S4096x2816, .f32⟩
  | 67 => ⟨S4096x2816, .f32⟩
  | 68 => ⟨S4096x2816, .f32⟩
  | 69 => ⟨S4096x2816, .f32⟩
  | 70 => ⟨S_, .f32⟩
  | 71 => ⟨S4096x2816, .f32⟩
  | 72 => ⟨S4096x2816, .f32⟩
  | 73 => ⟨S_, .f32⟩
  | 74 => ⟨S4096x2816, .f32⟩
  | 75 => ⟨S4096x2816, .f32⟩
  | 76 => ⟨S_, .f32⟩
  | 77 => ⟨S4096x2816, .f32⟩
  | 78 => ⟨S4096x2816, .f32⟩
  | 79 => ⟨S4096x2816, .f32⟩
  | 80 => ⟨S4096x2816, .f32⟩
  | 81 => ⟨S4096x2816, .f32⟩
  | 82 => ⟨S4096x1024, .f32⟩
  | 83 => ⟨S4096x1024, .f32⟩
  | 84 => ⟨S4096x1024, .f32⟩
  | 85 => ⟨S4096x2816, .f32⟩
  | 86 => ⟨S4096x2816, .f32⟩
  | 87 => ⟨S4096x2816, .f32⟩
  | 88 => ⟨S4096x2816, .f32⟩
  | 89 => ⟨S4096x2816, .f32⟩
  | 90 => ⟨S4096x2816, .f32⟩
  | 91 => ⟨S4096x2816, .f32⟩
  | 92 => ⟨S4096x5632, .f32⟩
  | 93 => ⟨S4096x5632, .f32⟩
  | 94 => ⟨S4096x5632, .f32⟩
  | 95 => ⟨S4096x5632, .f32⟩
  | 96 => ⟨S_, .f32⟩
  | 97 => ⟨S5632, .f32⟩
  | 98 => ⟨S1x5632, .f32⟩
  | 99 => ⟨S_, .f32⟩
  | 100 => ⟨S5632, .f32⟩
  | 101 => ⟨S1x5632, .f32⟩
  | 102 => ⟨S_, .f32⟩
  | 103 => ⟨S3x5632, .f32⟩
  | 104 => ⟨S4096x5632, .f32⟩
  | 105 => ⟨S4096x5632, .f32⟩
  | 106 => ⟨S4096x5632, .f32⟩
  | 107 => ⟨S_, .f32⟩
  | 108 => ⟨S5632, .f32⟩
  | 109 => ⟨S1x5632, .f32⟩
  | 110 => ⟨S_, .f32⟩
  | 111 => ⟨S5632, .f32⟩
  | 112 => ⟨S1x5632, .f32⟩
  | 113 => ⟨S4095x5632, .f32⟩
  | 114 => ⟨S_, .f32⟩
  | 115 => ⟨S4096x5632, .f32⟩
  | 116 => ⟨S4096x5632, .f32⟩
  | 117 => ⟨S1x5632, .f32⟩
  | 118 => ⟨S_, .f32⟩
  | 119 => ⟨S3x5632, .f32⟩
  | 120 => ⟨S3x5632, .f32⟩
  | 121 => ⟨S4096x5632, .f32⟩
  | 122 => ⟨S4096x5632, .f32⟩
  | 123 => ⟨S4096x5632, .f32⟩
  | 124 => ⟨S_, .f32⟩
  | 125 => ⟨S5632, .f32⟩
  | 126 => ⟨S1x5632, .f32⟩
  | 127 => ⟨S_, .f32⟩
  | _ => ⟨S1x4096x1024, .f32⟩

abbrev hbmTy0_1 (i : Nat) : BufTy := match i % 128 with
  | 0 => ⟨S5632, .f32⟩
  | 1 => ⟨S2x5632, .f32⟩
  | 2 => ⟨S4094x5632, .f32⟩
  | 3 => ⟨S_, .f32⟩
  | 4 => ⟨S4096x5632, .f32⟩
  | 5 => ⟨S4096x5632, .f32⟩
  | 6 => ⟨S1x5632, .f32⟩
  | 7 => ⟨S_, .f32⟩
  | 8 => ⟨S3x5632, .f32⟩
  | 9 => ⟨S3x5632, .f32⟩
  | 10 => ⟨S4096x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S_, .f32⟩
  | 18 => ⟨S1024, .f32⟩
  | 19 => ⟨S4096x1024, .f32⟩
  | 20 => ⟨S_, .f32⟩
  | 21 => ⟨S4096, .f32⟩
  | 22 => ⟨S4096x1, .f32⟩
  | 23 => ⟨S4096x1024, .f32⟩
  | 24 => ⟨S4096x1024, .f32⟩
  | 25 => ⟨S4096x1024, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x5632, .bf16⟩
  | 38 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_v53_2 : Ref sig .tc := ⟨.hbm, 75, rfl⟩
abbrev main_call0_cst_1 : Ref sig .tc := ⟨.hbm, 76, rfl⟩
abbrev main_call0_v6 : Ref sig .tc := ⟨.hbm, 77, rfl⟩
abbrev main_call0_v7 : Ref sig .tc := ⟨.hbm, 78, rfl⟩
abbrev main_v53_1 : Ref sig .tc := ⟨.hbm, 79, rfl⟩
abbrev main_v53_0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_cst_10 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_17 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_22 : Ref sig .tc := ⟨.hbm, 155, rfl⟩
abbrev main_v111 : Ref sig .tc := ⟨.hbm, 156, rfl⟩
abbrev main_v112 : Ref sig .tc := ⟨.hbm, 157, rfl⟩
abbrev main_cst_23 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]
-- ==== FfnLoss.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S3x5632 : Shape := ⟨2, ![3, 5632]⟩
abbrev S2816x1024 : Shape := ⟨2, ![2816, 1024]⟩
abbrev S4096x5632 : Shape := ⟨2, ![4096, 5632]⟩
abbrev S4096x2816 : Shape := ⟨2, ![4096, 2816]⟩
abbrev S1x128 : Shape := ⟨2, ![1, 128]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S16x5632 : Shape := ⟨2, ![16, 5632]⟩
abbrev S1x5632 : Shape := ⟨2, ![1, 5632]⟩
abbrev S248x5632 : Shape := ⟨2, ![248, 5632]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 40
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x2816x1024, .f32⟩
  | .hbm, ⟨5, _⟩ => ⟨S1024, .f32⟩
  | .hbm, ⟨6, _⟩ => ⟨S1x4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S1024x5632, .f32⟩
  | .hbm, ⟨28, _⟩ => ⟨S1024x5632, .bf16⟩
  | .hbm, ⟨29, _⟩ => ⟨S3x5632, .f32⟩
  | .hbm, ⟨30, _⟩ => ⟨S2816x1024, .f32⟩
  | .hbm, ⟨31, _⟩ => ⟨S2816x1024, .bf16⟩
  | .hbm, ⟨32, _⟩ => ⟨S1x1024, .f32⟩
  | .hbm, ⟨33, _⟩ => ⟨S4096x1024, .f32⟩
  | .hbm, ⟨34, _⟩ => ⟨S4096x5632, .bf16⟩
  | .hbm, ⟨35, _⟩ => ⟨S4096x5632, .f32⟩
  | .hbm, ⟨36, _⟩ => ⟨S4096x2816, .bf16⟩
  | .hbm, ⟨37, _⟩ => ⟨S4096x1024, .f32⟩
  | .hbm, ⟨38, _⟩ => ⟨S1x128, .f32⟩
  | .hbm, ⟨39, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x5632, .bf16⟩
  | .local _ .vmem, ⟨5, _⟩ => ⟨S3x5632, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x5632, .bf16⟩
  | .local _ .vmem, ⟨11, _⟩ => ⟨S256x5632, .bf16⟩
  | .local _ .vmem, ⟨12, _⟩ => ⟨S256x5632, .f32⟩
  | .local _ .vmem, ⟨13, _⟩ => ⟨S256x5632, .f32⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S1x128, .f32⟩
  | .local _ .vmem, ⟨19, _⟩ => ⟨S1x1024, .f32⟩
  | .local _ .vmem, ⟨20, _⟩ => ⟨S8x5632, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnLossRefIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S_ : Shape := ⟨0, ![]⟩
abbrev S4096x1024 : Shape := ⟨2, ![4096, 1024]⟩
abbrev S1024x5632 : Shape := ⟨2, ![1024, 5632]⟩
abbrev S3x5632 : Shape := ⟨2, ![3, 5632]⟩
abbrev S2816x1024 : Shape := ⟨2, ![2816, 1024]⟩
abbrev S4096 : Shape := ⟨1, ![4096]⟩
abbrev S4096x1 : Shape := ⟨2, ![4096, 1]⟩
abbrev S4096x5632 : Shape := ⟨2, ![4096, 5632]⟩
abbrev S1x5632 : Shape := ⟨2, ![1, 5632]⟩
abbrev S5632 : Shape := ⟨1, ![5632]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x5632, .f32⟩
  | 3 => ⟨S1x3x5632, .f32⟩
  | 4 => ⟨S1x2816x1024, .f32⟩
  | 5 => ⟨S1024, .f32⟩
  | 6 => ⟨S1x4096x1024, .f32⟩
  | 7 => ⟨S_, .f32⟩
  | 8 => ⟨S4096x1024, .f32⟩
  | 9 => ⟨S4096x1024, .f32⟩
  | 10 => ⟨S1024, .f32⟩
  | 11 => ⟨S1024x5632, .f32⟩
  | 12 => ⟨S3x5632, .f32⟩
  | 13 => ⟨S2816x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x5632, .f32⟩
  | 32 => ⟨S1x5632, .f32⟩
  | 33 => ⟨S5632, .f32⟩
  | 34 => ⟨S2x5632, .f32⟩
  | 35 => ⟨S_, .f32⟩
  | 36 => ⟨S2x5632, .f32⟩
  | 37 => ⟨S4094x5632, .f32⟩
  | 38 => ⟨S4096x5632, .f32⟩
  | 39 => ⟨S1x5632, .f32⟩
  | 40 => ⟨S4096x5632, .f32⟩
  | 41 => ⟨S4096x5632, .f32⟩
  | 42 => ⟨S1x5632, .f32⟩
  | 43 => ⟨S5632, .f32⟩
  | 44 => ⟨S1x5632, .f32⟩
  | 45 => ⟨S_, .f32⟩
  | 46 => ⟨S1x5632, .f32⟩
  | 47 => ⟨S4095x5632, .f32⟩
  | 48 => ⟨S4096x5632, .f32⟩
  | 49 => ⟨S1x5632, .f32⟩
  | 50 => ⟨S4096x5632, .f32⟩
  | 51 => ⟨S4096x5632, .f32⟩
  | 52 => ⟨S4096x5632, .f32⟩
  | 53 => ⟨S1x5632, .f32⟩
  | 54 => ⟨S5632, .f32⟩
  | 55 => ⟨S1x5632, .f32⟩
  | 56 => ⟨S4096x5632, .f32⟩
  | 57 => ⟨S4096x5632, .f32⟩
  | 58 => ⟨S4096x5632, .f32⟩
  | 59 => ⟨S4096x2816, .f32⟩
  | 60 => ⟨S4096x2816, .f32⟩
  | 61 => ⟨S4096x2816, .f32⟩
  | 62 => ⟨S4096x2816, .f32⟩
  | 63 => ⟨S_, .f32⟩
  | 64 => ⟨S4096x2816, .f32⟩
  | 65 => ⟨S4096x2816, .f32⟩
  | 66 => ⟨S_, .f32⟩
  | 67 => ⟨S4096x2816, .f32⟩
  | 68 => ⟨S4096x2816, .f32⟩
  | 69 => ⟨S4096x2816, .f32⟩
  | 70 => ⟨S4096x2816, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S_, .f32⟩
  | 100 => ⟨S4096, .f32⟩
  | 101 => ⟨S_, .f32⟩
  | 102 => ⟨S4096, .f32⟩
  | 103 => ⟨S4096, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S4096, .f32⟩
  | 112 => ⟨S_, .f32⟩
  | 113 => ⟨S4096, .f32⟩
  | 114 => ⟨S4096, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S_, .f32⟩
  | 124 => ⟨S1024, .f32⟩
  | 125 => ⟨S4096x1024, .f32⟩
  | 126 => ⟨S_, .f32⟩
  | 127 => ⟨S4096, .f32⟩
  | _ => ⟨S1x4096x1024, .f32⟩

abbrev hbmTy0_1 (i : Nat) : BufTy := match i % 128 with
  | 0 => ⟨S4096x1, .f32⟩
  | 1 => ⟨S4096x1024, .f32⟩
  | 2 => ⟨S4096x1024, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x5632, .bf16⟩
  | 15 => ⟨S4096x2816, .bf16⟩
  | 16 => ⟨S1x128, .f32⟩
  | 17 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_cst_11 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_cst_14 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_v97 : Ref sig .tc := ⟨.hbm, 134, rfl⟩
abbrev main_cst_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== MixBwd.lean ====
abbrev S1x4096x512 : Shape := ⟨3, ![1, 4096, 512]⟩
abbrev S1x4096x1024 : Shape := ⟨3, ![1, 4096, 1024]⟩
abbrev S1x3x512 : Shape := ⟨3, ![1, 3, 512]⟩
abbrev S1x512x1024 : Shape := ⟨3, ![1, 512, 1024]⟩
abbrev S1x1024x1024 : Shape := ⟨3, ![1, 1024, 1024]⟩
abbrev S4096x512 : Shape := ⟨2, ![4096, 512]⟩
abbrev S3x512 : Shape := ⟨2, ![3, 512]⟩
abbrev S1x512 : Shape := ⟨2, ![1, 512]⟩
abbrev S512 : Shape := ⟨1, ![512]⟩
abbrev S2x512 : Shape := ⟨2, ![2, 512]⟩
abbrev S_ : Shape := ⟨0, ![]⟩
abbrev S4094x512 : Shape := ⟨2, ![4094, 512]⟩
abbrev S4095x512 : Shape := ⟨2, ![4095, 512]⟩
abbrev S512x1024 : Shape := ⟨2, ![512, 1024]⟩
abbrev S4096x1024 : Shape := ⟨2, ![4096, 1024]⟩
abbrev S4096x1536 : Shape := ⟨2, ![4096, 1536]⟩
abbrev S4096x2048 : Shape := ⟨2, ![4096, 2048]⟩
abbrev S1024x1024 : Shape := ⟨2, ![1024, 1024]⟩
abbrev S512x2048 : Shape := ⟨2, ![512, 2048]⟩
abbrev S512x1536 : Shape := ⟨2, ![512, 1536]⟩
abbrev S16x1536 : Shape := ⟨2, ![16, 1536]⟩
abbrev S512x512 : Shape := ⟨2, ![512, 512]⟩
abbrev S8x512 : Shape := ⟨2, ![8, 512]⟩
abbrev S8x1536 : Shape := ⟨2, ![8, 1536]⟩
abbrev S16x512 : Shape := ⟨2, ![16, 512]⟩
abbrev S504x512 : Shape := ⟨2, ![504, 512]⟩

abbrev nBuf : Space → Nat
  | .hbm => 99
  | .vmem => 33
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x1024, .f32⟩
  | .hbm, ⟨5, _⟩ => ⟨S1x4096x1024, .f32⟩
  | .hbm, ⟨6, _⟩ => ⟨S1x3x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x4096x1024, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S3x512, .f32⟩
  | .hbm, ⟨16, _⟩ => ⟨S1x512, .f32⟩
  | .hbm, ⟨17, _⟩ => ⟨S512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S4094x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S4095x512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S512x1024, .f32⟩
  | .hbm, ⟨46, _⟩ => ⟨S4096x1024, .f32⟩
  | .hbm, ⟨47, _⟩ => ⟨S512x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x1536, .f32⟩
  | .hbm, ⟨74, _⟩ => ⟨S4096x1536, .bf16⟩
  | .hbm, ⟨75, _⟩ => ⟨S4096x1024, .f32⟩
  | .hbm, ⟨76, _⟩ => ⟨S4096x1024, .f32⟩
  | .hbm, ⟨77, _⟩ => ⟨S4096x2048, .f32⟩
  | .hbm, ⟨78, _⟩ => ⟨S4096x2048, .bf16⟩
  | .hbm, ⟨79, _⟩ => ⟨S512x1024, .f32⟩
  | .hbm, ⟨80, _⟩ => ⟨S512x1024, .f32⟩
  | .hbm, ⟨81, _⟩ => ⟨S1024x1024, .f32⟩
  | .hbm, ⟨82, _⟩ => ⟨S1024x1024, .bf16⟩
  | .hbm, ⟨83, _⟩ => ⟨S4096x1024, .f32⟩
  | .hbm, ⟨84, _⟩ => ⟨S4096x1024, .bf16⟩
  | .hbm, ⟨85, _⟩ => ⟨S4096x1024, .bf16⟩
  | .hbm, ⟨86, _⟩ => ⟨S4096x512, .f32⟩
  | .hbm, ⟨87, _⟩ => ⟨S4096x512, .bf16⟩
  | .hbm, ⟨88, _⟩ => ⟨S4096x512, .bf16⟩
  | .hbm, ⟨89, _⟩ => ⟨S4096x1024, .bf16⟩
  | .hbm, ⟨90, _⟩ => ⟨S3x512, .f32⟩
  | .hbm, ⟨91, _⟩ => ⟨S1024x1024, .f32⟩
  | .hbm, ⟨92, _⟩ => ⟨S1024x1024, .bf16⟩
  | .hbm, ⟨93, _⟩ => ⟨S4096x512, .bf16⟩
  | .hbm, ⟨94, _⟩ => ⟨S4096x1536, .bf16⟩
  | .hbm, ⟨95, _⟩ => ⟨S4096x2048, .bf16⟩
  | .hbm, ⟨96, _⟩ => ⟨S3x512, .f32⟩
  | .hbm, ⟨97, _⟩ => ⟨S1024x1024, .bf16⟩
  | .hbm, ⟨98, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .bf16⟩
  | .local _ .vmem, ⟨9, _⟩ => ⟨S512x1536, .bf16⟩
  | .local _ .vmem, ⟨10, _⟩ => ⟨S16x1536, .bf16⟩
  | .local _ .vmem, ⟨11, _⟩ => ⟨S16x1536, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S3x512, .f32⟩
  | .local _ .vmem, ⟨19, _⟩ => ⟨S1024x1024, .bf16⟩
  | .local _ .vmem, ⟨20, _⟩ => ⟨S1024x1024, .bf16⟩
  | .local _ .vmem, ⟨21, _⟩ => ⟨S512x512, .bf16⟩
  | .local _ .vmem, ⟨22, _⟩ => ⟨S512x512, .bf16⟩
  | .local _ .vmem, ⟨23, _⟩ => ⟨S512x1536, .bf16⟩
  | .local _ .vmem, ⟨24, _⟩ => ⟨S512x1536, .bf16⟩
  | .local _ .vmem, ⟨25, _⟩ => ⟨S512x2048, .bf16⟩
  | .local _ .vmem, ⟨26, _⟩ => ⟨S512x2048, .bf16⟩
  | .local _ .vmem, ⟨27, _⟩ => ⟨S3x512, .f32⟩
  | .local _ .vmem, ⟨28, _⟩ => ⟨S1024x1024, .bf16⟩
  | .local _ .vmem, ⟨29, _⟩ => ⟨S1024x1024, .bf16⟩
  | .local _ .vmem, ⟨30, _⟩ => ⟨S8x512, .f32⟩
  | .local _ .vmem, ⟨31, _⟩ => ⟨S1024x1024, .f32⟩
  | .local _ .vmem, ⟨32, _⟩ => ⟨S1024x1024, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_1 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76_0 : Ref sig .tc := ⟨.hbm, 93, rfl⟩
abbrev main_v76_1 : Ref sig .tc := ⟨.hbm, 94, rfl⟩
abbrev main_v76_2 : Ref sig .tc := ⟨.hbm, 95, rfl⟩
abbrev main_v76_3 : Ref sig .tc := ⟨.hbm, 96, rfl⟩
abbrev main_v76_4 : Ref sig .tc := ⟨.hbm, 97, rfl⟩
abbrev main_v76_5 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixRefIdeal.lean ====
abbrev S1x4096x512 : Shape := ⟨3, ![1, 4096, 512]⟩
abbrev S1x4096x1024 : Shape := ⟨3, ![1, 4096, 1024]⟩
abbrev S1x3x512 : Shape := ⟨3, ![1, 3, 512]⟩
abbrev S1x512x1024 : Shape := ⟨3, ![1, 512, 1024]⟩
abbrev S1x1024x1024 : Shape := ⟨3, ![1, 1024, 1024]⟩
abbrev S4096x512 : Shape := ⟨2, ![4096, 512]⟩
abbrev S4096x1024 : Shape := ⟨2, ![4096, 1024]⟩
abbrev S3x512 : Shape := ⟨2, ![3, 512]⟩
abbrev S512x1024 : Shape := ⟨2, ![512, 1024]⟩
abbrev S1024x1024 : Shape := ⟨2, ![1024, 1024]⟩
abbrev S1x512 : Shape := ⟨2, ![1, 512]⟩
abbrev S512 : Shape := ⟨1, ![512]⟩
abbrev S2x512 : Shape := ⟨2, ![2, 512]⟩
abbrev S_ : Shape := ⟨0, ![]⟩
abbrev S4094x512 : Shape := ⟨2, ![4094, 512]⟩
abbrev S4095x512 : Shape := ⟨2, ![4095, 512]⟩
abbrev S1024x512 : Shape := ⟨2, ![1024, 512]⟩
abbrev S4096x1536 : Shape := ⟨2, ![4096, 1536]⟩
abbrev S4096x2048 : Shape := ⟨2, ![4096, 2048]⟩

abbrev nBuf : Space → Nat
  | .hbm => 157
  | .vmem => 0
  | .smem => 0
  | _ => 0

abbrev hbmTy0_0 (i : Nat) : BufTy := match i % 128 with
  | 0 => ⟨S1x4096x512, .f32⟩
  | 1 => ⟨S1x4096x512, .f32⟩
  | 2 => ⟨S1x4096x512, .f32⟩
  | 3 => ⟨S1x4096x512, .f32⟩
  | 4 => ⟨S1x4096x1024, .f32⟩
  | 5 => ⟨S1x4096x1024, .f32⟩
  | 6 => ⟨S1x3x512, .f32⟩
  | 7 => ⟨S1x512x1024, .f32⟩
  | 8 => ⟨S1x512x1024, .f32⟩
  | 9 => ⟨S1x1024x1024, .f32⟩
  | 10 => ⟨S1x4096x1024, .f32⟩
  | 11 => ⟨S4096x512, .f32⟩
  | 12 => ⟨S4096x512, .f32⟩
  | 13 => ⟨S4096x512, .f32⟩
  | 14 => ⟨S4096x512, .f32⟩
  | 15 => ⟨S4096x1024, .f32⟩
  | 16 => ⟨S4096x1024, .f32⟩
  | 17 => ⟨S3x512, .f32⟩
  | 18 => ⟨S512x1024, .f32⟩
  | 19 => ⟨S512x1024, .f32⟩
  | 20 => ⟨S1024x1024, .f32⟩
  | 21 => ⟨S4096x512, .f32⟩
  | 22 => ⟨S1x512, .f32⟩
  | 23 => ⟨S512, .f32⟩
  | 24 => ⟨S2x512, .f32⟩
  | 25 => ⟨S_, .f32⟩
  | 26 => ⟨S2x512, .f32⟩
  | 27 => ⟨S4094x512, .f32⟩
  | 28 => ⟨S4096x512, .f32⟩
  | 29 => ⟨S_, .f32⟩
  | 30 => ⟨S2x512, .f32⟩
  | 31 => ⟨S1x512, .f32⟩
  | 32 => ⟨S4096x512, .f32⟩
  | 33 => ⟨S4096x512, .f32⟩
  | 34 => ⟨S1x512, .f32⟩
  | 35 => ⟨S512, .f32⟩
  | 36 => ⟨S1x512, .f32⟩
  | 37 => ⟨S_, .f32⟩
  | 38 => ⟨S1x512, .f32⟩
  | 39 => ⟨S4095x512, .f32⟩
  | 40 => ⟨S4096x512, .f32⟩
  | 41 => ⟨S_, .f32⟩
  | 42 => ⟨S1x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S1x512, .f32⟩
  | 50 => ⟨S4096x512, .f32⟩
  | 51 => ⟨S4096x512, .f32⟩
  | 52 => ⟨S4096x512, .f32⟩
  | 53 => ⟨S4096x512, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S1024x1024, .f32⟩
  | 86 => ⟨S1024x1024, .f32⟩
  | 87 => ⟨S4096x1024, .f32⟩
  | 88 => ⟨S4096x1024, .f32⟩
  | 89 => ⟨S4096x1024, .f32⟩
  | 90 => ⟨S1024x512, .f32⟩
  | 91 => ⟨S512x1024, .f32⟩
  | 92 => ⟨S4096x512, .f32⟩
  | 93 => ⟨S4096x1024, .f32⟩
  | 94 => ⟨S4096x1024, .f32⟩
  | 95 => ⟨S4096x1024, .f32⟩
  | 96 => ⟨S1024x512, .f32⟩
  | 97 => ⟨S512x1024, .f32⟩
  | 98 => ⟨S4096x512, .f32⟩
  | 99 => ⟨S4096x1024, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S512, .f32⟩
  | 107 => ⟨S1x512, .f32⟩
  | 108 => ⟨S_, .f32⟩
  | 109 => ⟨S512, .f32⟩
  | 110 => ⟨S1x512, .f32⟩
  | 111 => ⟨S_, .f32⟩
  | 112 => ⟨S3x512, .f32⟩
  | 113 => ⟨S4096x512, .f32⟩
  | 114 => ⟨S4096x512, .f32⟩
  | 115 => ⟨S4096x512, .f32⟩
  | 116 => ⟨S_, .f32⟩
  | 117 => ⟨S512, .f32⟩
  | 118 => ⟨S1x512, .f32⟩
  | 119 => ⟨S_, .f32⟩
  | 120 => ⟨S512, .f32⟩
  | 121 => ⟨S1x512, .f32⟩
  | 122 => ⟨S4095x512, .f32⟩
  | 123 => ⟨S_, .f32⟩
  | 124 => ⟨S4096x512, .f32⟩
  | 125 => ⟨S4096x512, .f32⟩
  | 126 => ⟨S1x512, .f32⟩
  | 127 => ⟨S_, .f32⟩
  | _ => ⟨S1x4096x512, .f32⟩

abbrev hbmTy0_1 (i : Nat) : BufTy := match i % 128 with
  | 0 => ⟨S3x512, .f32⟩
  | 1 => ⟨S3x512, .f32⟩
  | 2 => ⟨S4096x512, .f32⟩
  | 3 => ⟨S4096x512, .f32⟩
  | 4 => ⟨S4096x512, .f32⟩
  | 5 => ⟨S_, .f32⟩
  | 6 => ⟨S512, .f32⟩
  | 7 => ⟨S1x512, .f32⟩
  | 8 => ⟨S_, .f32⟩
  | 9 => ⟨S512, .f32⟩
  | 10 => ⟨S2x512, .f32⟩
  | 11 => ⟨S4094x512, .f32⟩
  | 12 => ⟨S_, .f32⟩
  | 13 => ⟨S4096x512, .f32⟩
  | 14 => ⟨S4096x512, .f32⟩
  | 15 => ⟨S1x512, .f32⟩
  | 16 => ⟨S_, .f32⟩
  | 17 => ⟨S3x512, .f32⟩
  | 18 => ⟨S3x512, .f32⟩
  | 19 => ⟨S4096x512, .f32⟩
  | 20 => ⟨S4096x512, .f32⟩
  | 21 => ⟨S4096x512, .bf16⟩
  | 22 => ⟨S4096x1536, .f32⟩
  | 23 => ⟨S4096x1536, .bf16⟩
  | 24 => ⟨S4096x2048, .f32⟩
  | 25 => ⟨S4096x2048, .bf16⟩
  | 26 => ⟨S1024x1024, .f32⟩
  | 27 => ⟨S1024x1024, .bf16⟩
  | 28 => ⟨S1024x1024, .bf16⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_9 : Ref sig .tc := ⟨.hbm, 105, rfl⟩
abbrev main_v84 : Ref sig .tc := ⟨.hbm, 106, rfl⟩
abbrev main_v85 : Ref sig .tc := ⟨.hbm, 107, rfl⟩
abbrev main_cst_10 : Ref sig .tc := ⟨.hbm, 108, rfl⟩
abbrev main_v86 : Ref sig .tc := ⟨.hbm, 109, rfl⟩
abbrev main_v87 : Ref sig .tc := ⟨.hbm, 110, rfl⟩
abbrev main_cst_11 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_cst_13 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_14 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_15 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_16 : Ref sig .tc := ⟨.hbm, 133, rfl⟩
abbrev main_v105 : Ref sig .tc := ⟨.hbm, 134, rfl⟩
abbrev main_v106 : Ref sig .tc := ⟨.hbm, 135, rfl⟩
abbrev main_cst_17 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_18 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_19 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩

abbrev nD : Nat := 1
abbrev τ : Topo := Topo.v7x

variable {F : FTy → Type} [FloatOps F]
-- ==== AttnFwd.lean ====
abbrev S1x4096x512 : Shape := ⟨3, ![1, 4096, 512]⟩
abbrev S1x4096x128 : Shape := ⟨3, ![1, 4096, 128]⟩
abbrev S1x8 : Shape := ⟨2, ![1, 8]⟩
abbrev S4096x512 : Shape := ⟨2, ![4096, 512]⟩
abbrev S4096x128 : Shape := ⟨2, ![4096, 128]⟩
abbrev S4096x768 : Shape := ⟨2, ![4096, 768]⟩
abbrev S8 : Shape := ⟨1, ![8]⟩
abbrev S256 : Shape := ⟨1, ![256]⟩
abbrev S256x1 : Shape := ⟨2, ![256, 1]⟩
abbrev S512 : Shape := ⟨1, ![512]⟩
abbrev S_ : Shape := ⟨0, ![]⟩
abbrev S1x512 : Shape := ⟨2, ![1, 512]⟩
abbrev S256x512 : Shape := ⟨2, ![256, 512]⟩
abbrev S1x256x512 : Shape := ⟨3, ![1, 256, 512]⟩
abbrev S2x256x512 : Shape := ⟨3, ![2, 256, 512]⟩
abbrev S512x512 : Shape := ⟨2, ![512, 512]⟩
abbrev S128x128 : Shape := ⟨2, ![128, 128]⟩
abbrev S512x128 : Shape := ⟨2, ![512, 128]⟩
abbrev S128x512 : Shape := ⟨2, ![128, 512]⟩
abbrev S128x64 : Shape := ⟨2, ![128, 64]⟩
abbrev S256x64 : Shape := ⟨2, ![256, 64]⟩
abbrev S512x64 : Shape := ⟨2, ![512, 64]⟩
abbrev S1 : Shape := ⟨1, ![1]⟩
abbrev S64x512 : Shape := ⟨2, ![64, 512]⟩

abbrev nBuf : Space → Nat
  | .hbm => 121
  | .vmem => 15
  | .smem => 1
  | _ => 0

abbrev bufTy : (tb : Table) → Fin (tcTables nBuf tb) → BufTy
  | .hbm, ⟨0, _⟩ => ⟨S1x4096x512, .f32⟩
  | .hbm, ⟨1, _⟩ => ⟨S1x4096x128, .f32⟩
  | .hbm, ⟨2, _⟩ => ⟨S1x4096x128, .f32⟩
  | .hbm, ⟨3, _⟩ => ⟨S1x8, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x768, .f32⟩
  | .hbm, ⟨8, _⟩ => ⟨S4096x768, .bf16⟩
  | .hbm, ⟨9, _⟩ => ⟨S8, .f32⟩
  | .hbm, ⟨10, _⟩ => ⟨S256, .i32⟩
  | .hbm, ⟨11, _⟩ => ⟨S256x1, .i32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S_, .i1⟩
  | .hbm, ⟨29, _⟩ => ⟨S512, .i1⟩
  | .hbm, ⟨30, _⟩ => ⟨S512, .i1⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S1x512, .i32⟩
  | .hbm, ⟨36, _⟩ => ⟨S256x512, .i32⟩
  | .hbm, ⟨37, _⟩ => ⟨S256x512, .i32⟩
  | .hbm, ⟨38, _⟩ => ⟨S256x512, .i1⟩
  | .hbm, ⟨39, _⟩ => ⟨S_, .i32⟩
  | .hbm, ⟨40, _⟩ => ⟨S1x512, .i32⟩
  | .hbm, ⟨41, _⟩ => ⟨S1x512, .i32⟩
  | .hbm, ⟨42, _⟩ => ⟨S256x512, .i32⟩
  | .hbm, ⟨43, _⟩ => ⟨S256x512, .i32⟩
  | .hbm, ⟨44, _⟩ => ⟨S256x512, .i1⟩
  | .hbm, ⟨45, _⟩ => ⟨S256x512, .i1⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S256x512, .i1⟩
  | .hbm, ⟨50, _⟩ => ⟨S256x512, .i1⟩
  | .hbm, ⟨51, _⟩ => ⟨S_, .f32⟩
  | .hbm, ⟨52, _⟩ => ⟨S_, .f32⟩
  | .hbm, ⟨53, _⟩ => ⟨S256x512, .f32⟩
  | .hbm, ⟨54, _⟩ => ⟨S256x512, .f32⟩
  | .hbm, ⟨55, _⟩ => ⟨S256x512, .f32⟩
  | .hbm, ⟨56, _⟩ => ⟨S_, .f32⟩
  | .hbm, ⟨57, _⟩ => ⟨S_, .f32⟩
  | .hbm, ⟨58, _⟩ => ⟨S256x512, .f32⟩
  | .hbm, ⟨59, _⟩ => ⟨S256x512, .f32⟩
  | .hbm, ⟨60, _⟩ => ⟨S256x512, .f32⟩
  | .hbm, ⟨61, _⟩ => ⟨S1x256x512, .f32⟩
  | .hbm, ⟨62, _⟩ => ⟨S1x256x512, .f32⟩
  | .hbm, ⟨63, _⟩ => ⟨S2x256x512, .f32⟩
  | .hbm, ⟨64, _⟩ => ⟨S2x256x512, .f32⟩
  | .hbm, ⟨65, _⟩ => ⟨S256, .i32⟩
  | .hbm, ⟨66, _⟩ => ⟨S256x1, .i32⟩
  | .hbm, ⟨67, _⟩ => ⟨S512, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S512, .i32⟩
  | .hbm, ⟨75, _⟩ => ⟨S512, .i32⟩
  | .hbm, ⟨76, _⟩ => ⟨S_, .i32⟩
  | .hbm, ⟨77, _⟩ => ⟨S512, .i32⟩
  | .hbm, ⟨78, _⟩ => ⟨S512, .i1⟩
  | .hbm, ⟨79, _⟩ => ⟨S_, .i32⟩
  | .hbm, ⟨80, _⟩ => ⟨S512, .i32⟩
  | .hbm, ⟨81, _⟩ => ⟨S512, .i1⟩
  | .hbm, ⟨82, _⟩ => ⟨S_, .i32⟩
  | .hbm, ⟨83, _⟩ => ⟨S_, .i1⟩
  | .hbm, ⟨84, _⟩ => ⟨S512, .i1⟩
  | .hbm, ⟨85, _⟩ => ⟨S512, .i1⟩
  | .hbm, ⟨86, _⟩ => ⟨S512, .i1⟩
  | .hbm, ⟨87, _⟩ => ⟨S512, .i32⟩
  | .hbm, ⟨88, _⟩ => ⟨S512, .i32⟩
  | .hbm, ⟨89, _⟩ => ⟨S512, .i32⟩
  | .hbm, ⟨90, _⟩ => ⟨S1x512, .i32⟩
  | .hbm, ⟨91, _⟩ => ⟨S256x512, .i32⟩
  | .hbm, ⟨92, _⟩ => ⟨S256x512, .i32⟩
  | .hbm, ⟨93, _⟩ => ⟨S256x512, .i1⟩
  | .hbm, ⟨94, _⟩ => ⟨S_, .i32⟩
  | .hbm, ⟨95, _⟩ => ⟨S1x512, .i32⟩
  | .hbm, ⟨96, _⟩ => ⟨S1x512, .i32⟩
  | .hbm, ⟨97, _⟩ => ⟨S256x512, .i32⟩
  | .hbm, ⟨98, _⟩ => ⟨S256x512, .i32⟩
  | .hbm, ⟨99, _⟩ => ⟨S256x512, .i1⟩
  | .hbm, ⟨100, _⟩ => ⟨S256x512, .i1⟩
  | .hbm, ⟨101, _⟩ => ⟨S_, .i32⟩
  | .hbm, ⟨102, _⟩ => ⟨S256x1, .i32⟩
  | .hbm, ⟨103, _⟩ => ⟨S256x1, .i1⟩
  | .hbm, ⟨104, _⟩ => ⟨S256x512, .i1⟩
  | .hbm, ⟨105, _⟩ => ⟨S256x512, .i1⟩
  | .hbm, ⟨106, _⟩ => ⟨S_, .f32⟩
  | .hbm, ⟨107, _⟩ => ⟨S_, .f32⟩
  | .hbm, ⟨108, _⟩ => ⟨S256x512, .f32⟩
  | .hbm, ⟨109, _⟩ => ⟨S256x512, .f32⟩
  | .hbm, ⟨110, _⟩ => ⟨S256x512, .f32⟩
  | .hbm, ⟨111, _⟩ => ⟨S_, .f32⟩
  | .hbm, ⟨112, _⟩ => ⟨S_, .f32⟩
  | .hbm, ⟨113, _⟩ => ⟨S256x512, .f32⟩
  | .hbm, ⟨114, _⟩ => ⟨S256x512, .f32⟩
  | .hbm, ⟨115, _⟩ => ⟨S256x512, .f32⟩
  | .hbm, ⟨116, _⟩ => ⟨S1x256x512, .f32⟩
  | .hbm, ⟨117, _⟩ => ⟨S1x256x512, .f32⟩
  | .hbm, ⟨118, _⟩ => ⟨S2x256x512, .f32⟩
  | .hbm, ⟨119, _⟩ => ⟨S2x256x512, .f32⟩
  | .hbm, ⟨120, _⟩ => ⟨S4096x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S512x512, .bf16⟩
  | .local _ .vmem, ⟨4, _⟩ => ⟨S512x512, .bf16⟩
  | .local _ .vmem, ⟨5, _⟩ => ⟨S128x128, .bf16⟩
  | .local _ .vmem, ⟨6, _⟩ => ⟨S128x128, .bf16⟩
  | .local _ .vmem, ⟨7, _⟩ => ⟨S512x128, .bf16⟩
  | .local _ .vmem, ⟨8, _⟩ => ⟨S512x128, .bf16⟩
  | .local _ .vmem, ⟨9, _⟩ => ⟨S128x128, .bf16⟩
  | .local _ .vmem, ⟨10, _⟩ => ⟨S128x128, .bf16⟩
  | .local _ .vmem, ⟨11, _⟩ => ⟨S512x128, .bf16⟩
  | .local _ .vmem, ⟨12, _⟩ => ⟨S512x128, .bf16⟩
  | .local _ .vmem, ⟨13, _⟩ => ⟨S512x512, .bf16⟩
  | .local _ .vmem, ⟨14, _⟩ => ⟨S512x512, .bf16⟩
  | .local _ .smem, ⟨0, _⟩ => ⟨S8, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_v24 : Ref sig .tc := ⟨.hbm, 55, rfl⟩
abbrev main_cst_3 : Ref sig .tc := ⟨.hbm, 56, rfl⟩
abbrev main_cst_4 : Ref sig .tc := ⟨.hbm, 57, rfl⟩
abbrev main_call2_v0 : Ref sig .tc := ⟨.hbm, 58, rfl⟩
abbrev main_call2_v1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_5 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_v5 : Ref sig .tc := ⟨.hbm, 77, rfl⟩
abbrev main_call3_v6 : Ref sig .tc := ⟨.hbm, 78, rfl⟩
abbrev main_call3_c_2 : Ref sig .tc := ⟨.hbm, 79, rfl⟩
abbrev main_call3_v7 : Ref sig .tc := ⟨.hbm, 80, rfl⟩
abbrev main_call3_v8 : Ref sig .tc := ⟨.hbm, 81, rfl⟩
abbrev main_call3_c_3 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_6 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_c_7 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_cst_8 : Ref sig .tc := ⟨.hbm, 106, rfl⟩
abbrev main_cst_9 : Ref sig .tc := ⟨.hbm, 107, rfl⟩
abbrev main_call4_v0 : Ref sig .tc := ⟨.hbm, 108, rfl⟩
abbrev main_call4_v1 : Ref sig .tc := ⟨.hbm, 109, rfl⟩
abbrev main_v48 : Ref sig .tc := ⟨.hbm, 110, rfl⟩
abbrev main_cst_10 : Ref sig .tc := ⟨.hbm, 111, rfl⟩
abbrev main_cst_11 : Ref sig .tc := ⟨.hbm, 112, rfl⟩
abbrev main_call5_v0 : Ref sig .tc := ⟨.hbm, 113, rfl⟩
abbrev main_call5_v1 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c4_i32_0 : BitVec 32 := 4#32
  let c0_i32_1 : BitVec 32 := 0#32
  ![v3.toNat, c4_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c5_i32 : BitVec 32 := 5#32
  let c0_i32 : BitVec 32 := 0#32
  ![v0.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnOutRefIdeal.lean ====
abbrev S1x4096x512 : Shape := ⟨3, ![1, 4096, 512]⟩
abbrev S1x4096x128 : Shape := ⟨3, ![1, 4096, 128]⟩
abbrev S1x8 : Shape := ⟨2, ![1, 8]⟩
abbrev S4096x512 : Shape := ⟨2, ![4096, 512]⟩
abbrev S4096x128 : Shape := ⟨2, ![4096, 128]⟩
abbrev S8 : Shape := ⟨1, ![8]⟩
abbrev S32x128x2x4x64 : Shape := ⟨5, ![32, 128, 2, 4, 64]⟩
abbrev S32x128x2x64 : Shape := ⟨4, ![32, 128, 2, 64]⟩
abbrev S1x128x2x64 : Shape := ⟨4, ![1, 128, 2, 64]⟩
abbrev S_ : Shape := ⟨0, ![]⟩
abbrev S31x128x2x64 : Shape := ⟨4, ![31, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x2x4x1x1 : Shape := ⟨5, ![1, 2, 4, 1, 1]⟩
abbrev S32x2x4x128x1 : Shape := ⟨5, ![32, 2, 4, 128, 1]⟩
abbrev S32x2x4x128x257 : Shape := ⟨5, ![32, 2, 4, 128, 257]⟩
abbrev S32x2x4x128 : Shape := ⟨4, ![32, 2, 4, 128]⟩
abbrev S32x2x64x4x128 : Shape := ⟨5, ![32, 2, 64, 4, 128]⟩

abbrev nBuf : Space → Nat
  | .hbm => 89
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x128, .f32⟩
  | .hbm, ⟨2, _⟩ => ⟨S1x4096x128, .f32⟩
  | .hbm, ⟨3, _⟩ => ⟨S1x8, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S8, .f32⟩
  | .hbm, ⟨8, _⟩ => ⟨S32x128x2x4x64, .f32⟩
  | .hbm, ⟨9, _⟩ => ⟨S32x128x2x64, .f32⟩
  | .hbm, ⟨10, _⟩ => ⟨S32x128x2x64, .f32⟩
  | .hbm, ⟨11, _⟩ => ⟨S1x128x2x64, .f32⟩
  | .hbm, ⟨12, _⟩ => ⟨S_, .f32⟩
  | .hbm, ⟨13, _⟩ => ⟨S1x128x2x64, .f32⟩
  | .hbm, ⟨14, _⟩ => ⟨S31x128x2x64, .f32⟩
  | .hbm, ⟨15, _⟩ => ⟨S32x128x2x64, .f32⟩
  | .hbm, ⟨16, _⟩ => ⟨S32x256x2x64, .f32⟩
  | .hbm, ⟨17, _⟩ => ⟨S1x128x2x64, .f32⟩
  | .hbm, ⟨18, _⟩ => ⟨S_, .f32⟩
  | .hbm, ⟨19, _⟩ => ⟨S1x128x2x64, .f32⟩
  | .hbm, ⟨20, _⟩ => ⟨S31x128x2x64, .f32⟩
  | .hbm, ⟨21, _⟩ => ⟨S32x128x2x64, .f32⟩
  | .hbm, ⟨22, _⟩ => ⟨S32x256x2x64, .f32⟩
  | .hbm, ⟨23, _⟩ => ⟨S32x2x256x128x4, .f32⟩
  | .hbm, ⟨24, _⟩ => ⟨S32x2x4x128x256, .f32⟩
  | .hbm, ⟨25, _⟩ => ⟨S_, .f32⟩
  | .hbm, ⟨26, _⟩ => ⟨S32x2x4x128x256, .f32⟩
  | .hbm, ⟨27, _⟩ => ⟨S32x2x4x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S32, .i32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i1⟩
  | .hbm, ⟨50, _⟩ => ⟨S1x1x256, .i32⟩
  | .hbm, ⟨51, _⟩ => ⟨S_, .i32⟩
  | .hbm, ⟨52, _⟩ => ⟨S1x1x256, .i32⟩
  | .hbm, ⟨53, _⟩ => ⟨S1x1x256, .i1⟩
  | .hbm, ⟨54, _⟩ => ⟨S32x1x256, .i1⟩
  | .hbm, ⟨55, _⟩ => ⟨S32x1x256, .i1⟩
  | .hbm, ⟨56, _⟩ => ⟨S32x1x256, .i1⟩
  | .hbm, ⟨57, _⟩ => ⟨S1x128x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S32x1x1x128x256, .i1⟩
  | .hbm, ⟨62, _⟩ => ⟨S_, .f32⟩
  | .hbm, ⟨63, _⟩ => ⟨S_, .f32⟩
  | .hbm, ⟨64, _⟩ => ⟨S32x2x4x128x256, .i1⟩
  | .hbm, ⟨65, _⟩ => ⟨S32x2x4x128x256, .f32⟩
  | .hbm, ⟨66, _⟩ => ⟨S32x2x4x128x256, .f32⟩
  | .hbm, ⟨67, _⟩ => ⟨S1x2x4x1x1, .f32⟩
  | .hbm, ⟨68, _⟩ => ⟨S32x2x4x128x1, .f32⟩
  | .hbm, ⟨69, _⟩ => ⟨S32x2x4x128x257, .f32⟩
  | .hbm, ⟨70, _⟩ => ⟨S_, .f32⟩
  | .hbm, ⟨71, _⟩ => ⟨S32x2x4x128, .f32⟩
  | .hbm, ⟨72, _⟩ => ⟨S_, .f32⟩
  | .hbm, ⟨73, _⟩ => ⟨S32x2x4x128, .f32⟩
  | .hbm, ⟨74, _⟩ => ⟨S32x2x4x128, .f32⟩
  | .hbm, ⟨75, _⟩ => ⟨S32x2x4x128x1, .f32⟩
  | .hbm, ⟨76, _⟩ => ⟨S32x2x4x128x257, .f32⟩
  | .hbm, ⟨77, _⟩ => ⟨S32x2x4x128x257, .f32⟩
  | .hbm, ⟨78, _⟩ => ⟨S32x2x4x128x257, .f32⟩
  | .hbm, ⟨79, _⟩ => ⟨S_, .f32⟩
  | .hbm, ⟨80, _⟩ => ⟨S32x2x4x128, .f32⟩
  | .hbm, ⟨81, _⟩ => ⟨S32x2x4x128x1, .f32⟩
  | .hbm, ⟨82, _⟩ => ⟨S32x2x4x128x257, .f32⟩
  | .hbm, ⟨83, _⟩ => ⟨S32x2x4x128x257, .f32⟩
  | .hbm, ⟨84, _⟩ => ⟨S32x2x4x128x256, .f32⟩
  | .hbm, ⟨85, _⟩ => ⟨S32x2x64x4x128, .f32⟩
  | .hbm, ⟨86, _⟩ => ⟨S32x128x2x4x64, .f32⟩
  | .hbm, ⟨87, _⟩ => ⟨S4096x512, .f32⟩
  | .hbm, ⟨88, _⟩ => ⟨S4096x512, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== MixFwd.lean ====
abbrev S1x4096x1024 : Shape := ⟨3, ![1, 4096, 1024]⟩
abbrev S1x4096x512 : Shape := ⟨3, ![1, 4096, 512]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S4096x1024 : Shape := ⟨2, ![4096, 1024]⟩
abbrev S4096x512 : Shape := ⟨2, ![4096, 512]⟩
abbrev S4096x1536 : Shape := ⟨2, ![4096, 1536]⟩
abbrev S4096x2048 : Shape := ⟨2, ![4096, 2048]⟩
abbrev S3x512 : Shape := ⟨2, ![3, 512]⟩
abbrev S512x512 : Shape := ⟨2, ![512, 512]⟩
abbrev S512x1536 : Shape := ⟨2, ![512, 1536]⟩
abbrev S512x2048 : Shape := ⟨2, ![512, 2048]⟩
abbrev S8x512 : Shape := ⟨2, ![8, 512]⟩
abbrev S16x512 : Shape := ⟨2, ![16, 512]⟩
abbrev S1x512 : Shape := ⟨2, ![1, 512]⟩
abbrev S504x512 : Shape := ⟨2, ![504, 512]⟩
abbrev S512 : Shape := ⟨1, ![512]⟩
abbrev S512x1 : Shape := ⟨2, ![512, 1]⟩

abbrev nBuf : Space → Nat
  | .hbm => 37
  | .vmem => 25
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x1024, .f32⟩
  | .hbm, ⟨6, _⟩ => ⟨S1x4096x1024, .f32⟩
  | .hbm, ⟨7, _⟩ => ⟨S1x3x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x1024, .bf16⟩
  | .hbm, ⟨16, _⟩ => ⟨S4096x1024, .f32⟩
  | .hbm, ⟨17, _⟩ => ⟨S4096x512, .f32⟩
  | .hbm, ⟨18, _⟩ => ⟨S4096x512, .bf16⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x1536, .f32⟩
  | .hbm, ⟨23, _⟩ => ⟨S4096x1536, .bf16⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x2048, .bf16⟩
  | .hbm, ⟨28, _⟩ => ⟨S3x512, .f32⟩
  | .hbm, ⟨29, _⟩ => ⟨S1024x1024, .f32⟩
  | .hbm, ⟨30, _⟩ => ⟨S1024x1024, .bf16⟩
  | .hbm, ⟨31, _⟩ => ⟨S4096x512, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S4096x1024, .f32⟩
  | .hbm, ⟨36, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1536, .bf16⟩
  | .local _ .vmem, ⟨5, _⟩ => ⟨S512x1536, .bf16⟩
  | .local _ .vmem, ⟨6, _⟩ => ⟨S512x2048, .bf16⟩
  | .local _ .vmem, ⟨7, _⟩ => ⟨S512x2048, .bf16⟩
  | .local _ .vmem, ⟨8, _⟩ => ⟨S3x512, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S8x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixFwdRefIdeal.lean ====
abbrev S1x4096x1024 : Shape := ⟨3, ![1, 4096, 1024]⟩
abbrev S1x4096x512 : Shape := ⟨3, ![1, 4096, 512]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S4096x512 : Shape := ⟨2, ![4096, 512]⟩
abbrev S3x512 : Shape := ⟨2, ![3, 512]⟩
abbrev S1x512 : Shape := ⟨2, ![1, 512]⟩
abbrev S512 : Shape := ⟨1, ![512]⟩
abbrev S2x512 : Shape := ⟨2, ![2, 512]⟩
abbrev S_ : Shape := ⟨0, ![]⟩
abbrev S4094x512 : Shape := ⟨2, ![4094, 512]⟩
abbrev S4095x512 : Shape := ⟨2, ![4095, 512]⟩
abbrev S512x1024 : Shape := ⟨2, ![512, 1024]⟩
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S4096x1 : Shape := ⟨2, ![4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x1024, .f32⟩
  | .hbm, ⟨6, _⟩ => ⟨S1x4096x1024, .f32⟩
  | .hbm, ⟨7, _⟩ => ⟨S1x3x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S3x512, .f32⟩
  | .hbm, ⟨17, _⟩ => ⟨S1x512, .f32⟩
  | .hbm, ⟨18, _⟩ => ⟨S512, .f32⟩
  | .hbm, ⟨19, _⟩ => ⟨S2x512, .f32⟩
  | .hbm, ⟨20, _⟩ => ⟨S_, .f32⟩
  | .hbm, ⟨21, _⟩ => ⟨S2x512, .f32⟩
  | .hbm, ⟨22, _⟩ => ⟨S4094x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S4095x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S512x1024, .f32⟩
  | .hbm, ⟨47, _⟩ => ⟨S4096x1024, .f32⟩
  | .hbm, ⟨48, _⟩ => ⟨S512x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1024x1024, .f32⟩
  | .hbm, ⟨73, _⟩ => ⟨S4096x1024, .f32⟩
  | .hbm, ⟨74, _⟩ => ⟨S4096x1024, .f32⟩
  | .hbm, ⟨75, _⟩ => ⟨S4096x512, .bf16⟩
  | .hbm, ⟨76, _⟩ => ⟨S4096x1024, .bf16⟩
  | .hbm, ⟨77, _⟩ => ⟨S4096x1024, .bf16⟩
  | .hbm, ⟨78, _⟩ => ⟨S4096x1024, .bf16⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S4096x1024, .f32⟩
  | .hbm, ⟨95, _⟩ => ⟨S4096x1024, .f32⟩
  | .hbm, ⟨96, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_1 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_5 : Ref sig .tc := ⟨.hbm, 81, rfl⟩
abbrev main_v63 : Ref sig .tc := ⟨.hbm, 82, rfl⟩
abbrev main_v64 : Ref sig .tc := ⟨.hbm, 83, rfl⟩
abbrev main_cst_6 : Ref sig .tc := ⟨.hbm, 84, rfl⟩
abbrev main_v65 : Ref sig .tc := ⟨.hbm, 85, rfl⟩
abbrev main_v66 : Ref sig .tc := ⟨.hbm, 86, rfl⟩
abbrev main_cst_7 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== InprojFwd.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4352 : Shape := ⟨2, ![1, 4352]⟩
abbrev S4096x1024 : Shape := ⟨2, ![4096, 1024]⟩
abbrev S1024x4352 : Shape := ⟨2, ![1024, 4352]⟩
abbrev S4352x1024 : Shape := ⟨2, ![4352, 1024]⟩
abbrev S4096x768 : Shape := ⟨2, ![4096, 768]⟩
abbrev S4096x1536 : Shape := ⟨2, ![4096, 1536]⟩
abbrev S4096x2048 : Shape := ⟨2, ![4096, 2048]⟩
abbrev S512x1024 : Shape := ⟨2, ![512, 1024]⟩
abbrev S512x768 : Shape := ⟨2, ![512, 768]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S512x4352 : Shape := ⟨2, ![512, 4352]⟩

abbrev nBuf : Space → Nat
  | .hbm => 12
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x4352, .f32⟩
  | .hbm, ⟨4, _⟩ => ⟨S4096x1024, .f32⟩
  | .hbm, ⟨5, _⟩ => ⟨S1024x4352, .f32⟩
  | .hbm, ⟨6, _⟩ => ⟨S4352x1024, .f32⟩
  | .hbm, ⟨7, _⟩ => ⟨S4352x1024, .bf16⟩
  | .hbm, ⟨8, _⟩ => ⟨S4096x1024, .bf16⟩
  | .hbm, ⟨9, _⟩ => ⟨S4096x768, .bf16⟩
  | .hbm, ⟨10, _⟩ => ⟨S4096x1536, .bf16⟩
  | .hbm, ⟨11, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S1x4352, .f32⟩
  | .local _ .vmem, ⟨5, _⟩ => ⟨S512x1024, .bf16⟩
  | .local _ .vmem, ⟨6, _⟩ => ⟨S512x1024, .bf16⟩
  | .local _ .vmem, ⟨7, _⟩ => ⟨S512x768, .bf16⟩
  | .local _ .vmem, ⟨8, _⟩ => ⟨S512x768, .bf16⟩
  | .local _ .vmem, ⟨9, _⟩ => ⟨S512x1536, .bf16⟩
  | .local _ .vmem, ⟨10, _⟩ => ⟨S512x1536, .bf16⟩
  | .local _ .vmem, ⟨11, _⟩ => ⟨S512x2048, .bf16⟩
  | .local _ .vmem, ⟨12, _⟩ => ⟨S512x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojFwdRefIdeal.lean ====
abbrev S1x4096x1024 : Shape := ⟨3, ![1, 4096, 1024]⟩
abbrev S1x1024 : Shape := ⟨2, ![1, 1024]⟩
abbrev S1x1024x4352 : Shape := ⟨3, ![1, 1024, 4352]⟩
abbrev S1x4352 : Shape := ⟨2, ![1, 4352]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4352 : Shape := ⟨2, ![1024, 4352]⟩
abbrev S4096x4352 : Shape := ⟨2, ![4096, 4352]⟩
abbrev S4096x768 : Shape := ⟨2, ![4096, 768]⟩
abbrev S4096x1536 : Shape := ⟨2, ![4096, 1536]⟩
abbrev S4096x2048 : Shape := ⟨2, ![4096, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4352, .f32⟩
  | .hbm, ⟨3, _⟩ => ⟨S1x4352, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x4352, .f32⟩
  | .hbm, ⟨21, _⟩ => ⟨S4096x4352, .f32⟩
  | .hbm, ⟨22, _⟩ => ⟨S4096x4352, .f32⟩
  | .hbm, ⟨23, _⟩ => ⟨S4096x4352, .f32⟩
  | .hbm, ⟨24, _⟩ => ⟨S4096x768, .f32⟩
  | .hbm, ⟨25, _⟩ => ⟨S4096x1536, .f32⟩
  | .hbm, ⟨26, _⟩ => ⟨S4096x2048, .f32⟩
  | .hbm, ⟨27, _⟩ => ⟨S4096x1024, .bf16⟩
  | .hbm, ⟨28, _⟩ => ⟨S4096x768, .bf16⟩
  | .hbm, ⟨29, _⟩ => ⟨S4096x1536, .bf16⟩
  | .hbm, ⟨30, _⟩ => ⟨S4096x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== AttnBwd.lean ====
abbrev S1x4096x512 : Shape := ⟨3, ![1, 4096, 512]⟩
abbrev S1x4096x128 : Shape := ⟨3, ![1, 4096, 128]⟩
abbrev S1x8 : Shape := ⟨2, ![1, 8]⟩
abbrev S4096x512 : Shape := ⟨2, ![4096, 512]⟩
abbrev S4096x128 : Shape := ⟨2, ![4096, 128]⟩
abbrev S4096x768 : Shape := ⟨2, ![4096, 768]⟩
abbrev S8 : Shape := ⟨1, ![8]⟩
abbrev S32x128x2x4x64 : Shape := ⟨5, ![32, 128, 2, 4, 64]⟩
abbrev S32x128x2x64 : Shape := ⟨4, ![32, 128, 2, 64]⟩
abbrev S1x128x2x64 : Shape := ⟨4, ![1, 128, 2, 64]⟩
abbrev S_ : Shape := ⟨0, ![]⟩
abbrev S31x128x2x64 : Shape := ⟨4, ![31, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x2x4x1x1 : Shape := ⟨5, ![1, 2, 4, 1, 1]⟩
abbrev S32x2x4x128x1 : Shape := ⟨5, ![32, 2, 4, 128, 1]⟩
abbrev S32x2x4x128x257 : Shape := ⟨5, ![32, 2, 4, 128, 257]⟩
abbrev S32x2x4x128 : Shape := ⟨4, ![32, 2, 4, 128]⟩
abbrev S32x2x64x4x128 : Shape := ⟨5, ![32, 2, 64, 4, 128]⟩
abbrev S256x1 : Shape := ⟨2, ![256, 1]⟩
abbrev S512 : Shape := ⟨1, ![512]⟩
abbrev S1x512 : Shape := ⟨2, ![1, 512]⟩
abbrev S256x512 : Shape := ⟨2, ![256, 512]⟩
abbrev S1x256x512 : Shape := ⟨3, ![1, 256, 512]⟩
abbrev S2x256x512 : Shape := ⟨3, ![2, 256, 512]⟩
abbrev S2048x128 : Shape := ⟨2, ![2048, 128]⟩
abbrev S8x128 : Shape := ⟨2, ![8, 128]⟩
abbrev S128x128 : Shape := ⟨2, ![128, 128]⟩
abbrev S256x128 : Shape := ⟨2, ![256, 128]⟩
abbrev S128x512 : Shape := ⟨2, ![128, 512]⟩
abbrev S128x64 : Shape := ⟨2, ![128, 64]⟩
abbrev S256x64 : Shape := ⟨2, ![256, 64]⟩
abbrev S512x64 : Shape := ⟨2, ![512, 64]⟩
abbrev S1 : Shape := ⟨1, ![1]⟩
abbrev S512x1 : Shape := ⟨2, ![512, 1]⟩
abbrev S64x512 : Shape := ⟨2, ![64, 512]⟩
abbrev S1x128 : Shape := ⟨2, ![1, 128]⟩
abbrev S1x1x128 : Shape := ⟨3, ![1, 1, 128]⟩
abbrev S1x1x1 : Shape := ⟨3, ![1, 1, 1]⟩

abbrev nBuf : Space → Nat
  | .hbm => 214
  | .vmem => 30
  | .smem => 1
  | _ => 0

abbrev hbmTy0_0 (i : Nat) : BufTy := match i % 128 with
  | 0 => ⟨S1x4096x512, .f32⟩
  | 1 => ⟨S1x4096x128, .f32⟩
  | 2 => ⟨S1x4096x128, .f32⟩
  | 3 => ⟨S1x8, .f32⟩
  | 4 => ⟨S1x4096x512, .f32⟩
  | 5 => ⟨S4096x512, .f32⟩
  | 6 => ⟨S4096x128, .f32⟩
  | 7 => ⟨S4096x128, .f32⟩
  | 8 => ⟨S4096x768, .f32⟩
  | 9 => ⟨S4096x768, .bf16⟩
  | 10 => ⟨S4096x512, .f32⟩
  | 11 => ⟨S4096x128, .f32⟩
  | 12 => ⟨S4096x128, .f32⟩
  | 13 => ⟨S8, .f32⟩
  | 14 => ⟨S32x128x2x4x64, .f32⟩
  | 15 => ⟨S32x128x2x64, .f32⟩
  | 16 => ⟨S32x128x2x64, .f32⟩
  | 17 => ⟨S1x128x2x64, .f32⟩
  | 18 => ⟨S_, .f32⟩
  | 19 => ⟨S1x128x2x64, .f32⟩
  | 20 => ⟨S31x128x2x64, .f32⟩
  | 21 => ⟨S32x128x2x64, .f32⟩
  | 22 => ⟨S32x256x2x64, .f32⟩
  | 23 => ⟨S1x128x2x64, .f32⟩
  | 24 => ⟨S_, .f32⟩
  | 25 => ⟨S1x128x2x64, .f32⟩
  | 26 => ⟨S31x128x2x64, .f32⟩
  | 27 => ⟨S32x128x2x64, .f32⟩
  | 28 => ⟨S32x256x2x64, .f32⟩
  | 29 => ⟨S32x2x256x128x4, .f32⟩
  | 30 => ⟨S32x2x4x128x256, .f32⟩
  | 31 => ⟨S_, .f32⟩
  | 32 => ⟨S32x2x4x128x256, .f32⟩
  | 33 => ⟨S32x2x4x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S128x256, .i32⟩
  | 49 => ⟨S128x256, .i1⟩
  | 50 => ⟨S128x256, .i1⟩
  | 51 => ⟨S32, .i32⟩
  | 52 => ⟨S32x1x1, .i32⟩
  | 53 => ⟨S_, .i32⟩
  | 54 => ⟨S32x1x1, .i32⟩
  | 55 => ⟨S32x1x1, .i1⟩
  | 56 => ⟨S1x1x256, .i32⟩
  | 57 => ⟨S_, .i32⟩
  | 58 => ⟨S1x1x256, .i32⟩
  | 59 => ⟨S1x1x256, .i1⟩
  | 60 => ⟨S32x1x256, .i1⟩
  | 61 => ⟨S32x1x256, .i1⟩
  | 62 => ⟨S32x1x256, .i1⟩
  | 63 => ⟨S1x128x256, .i1⟩
  | 64 => ⟨S32x128x256, .i1⟩
  | 65 => ⟨S32x128x256, .i1⟩
  | 66 => ⟨S32x128x256, .i1⟩
  | 67 => ⟨S32x1x1x128x256, .i1⟩
  | 68 => ⟨S_, .f32⟩
  | 69 => ⟨S_, .f32⟩
  | 70 => ⟨S32x2x4x128x256, .i1⟩
  | 71 => ⟨S32x2x4x128x256, .f32⟩
  | 72 => ⟨S32x2x4x128x256, .f32⟩
  | 73 => ⟨S1x2x4x1x1, .f32⟩
  | 74 => ⟨S32x2x4x128x1, .f32⟩
  | 75 => ⟨S32x2x4x128x257, .f32⟩
  | 76 => ⟨S_, .f32⟩
  | 77 => ⟨S32x2x4x128, .f32⟩
  | 78 => ⟨S_, .f32⟩
  | 79 => ⟨S32x2x4x128, .f32⟩
  | 80 => ⟨S32x2x4x128, .f32⟩
  | 81 => ⟨S32x2x4x128x1, .f32⟩
  | 82 => ⟨S32x2x4x128x257, .f32⟩
  | 83 => ⟨S32x2x4x128x257, .f32⟩
  | 84 => ⟨S32x2x4x128x257, .f32⟩
  | 85 => ⟨S_, .f32⟩
  | 86 => ⟨S32x2x4x128, .f32⟩
  | 87 => ⟨S32x2x4x128x1, .f32⟩
  | 88 => ⟨S32x2x4x128x257, .f32⟩
  | 89 => ⟨S32x2x4x128x257, .f32⟩
  | 90 => ⟨S32x2x4x128x256, .f32⟩
  | 91 => ⟨S32x2x64x4x128, .f32⟩
  | 92 => ⟨S32x128x2x4x64, .f32⟩
  | 93 => ⟨S4096x512, .f32⟩
  | 94 => ⟨S4096x512, .bf16⟩
  | 95 => ⟨S8, .f32⟩
  | 96 => ⟨S4096x512, .f32⟩
  | 97 => ⟨S4096x512, .bf16⟩
  | 98 => ⟨S256, .i32⟩
  | 99 => ⟨S256x1, .i32⟩
  | 100 => ⟨S512, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S512, .i32⟩
  | 108 => ⟨S512, .i32⟩
  | 109 => ⟨S_, .i32⟩
  | 110 => ⟨S512, .i32⟩
  | 111 => ⟨S512, .i1⟩
  | 112 => ⟨S_, .i32⟩
  | 113 => ⟨S512, .i32⟩
  | 114 => ⟨S512, .i1⟩
  | 115 => ⟨S_, .i32⟩
  | 116 => ⟨S_, .i1⟩
  | 117 => ⟨S512, .i1⟩
  | 118 => ⟨S512, .i1⟩
  | 119 => ⟨S512, .i1⟩
  | 120 => ⟨S512, .i32⟩
  | 121 => ⟨S512, .i32⟩
  | 122 => ⟨S512, .i32⟩
  | 123 => ⟨S1x512, .i32⟩
  | 124 => ⟨S256x512, .i32⟩
  | 125 => ⟨S256x512, .i32⟩
  | 126 => ⟨S256x512, .i1⟩
  | 127 => ⟨S_, .i32⟩
  | _ => ⟨S1x4096x512, .f32⟩

abbrev hbmTy0_1 (i : Nat) : BufTy := match i % 128 with
  | 0 => ⟨S1x512, .i32⟩
  | 1 => ⟨S1x512, .i32⟩
  | 2 => ⟨S256x512, .i32⟩
  | 3 => ⟨S256x512, .i32⟩
  | 4 => ⟨S256x512, .i1⟩
  | 5 => ⟨S256x512, .i1⟩
  | 6 => ⟨S_, .i32⟩
  | 7 => ⟨S256x1, .i32⟩
  | 8 => ⟨S256x1, .i1⟩
  | 9 => ⟨S256x512, .i1⟩
  | 10 => ⟨S256x512, .i1⟩
  | 11 => ⟨S_, .f32⟩
  | 12 => ⟨S_, .f32⟩
  | 13 => ⟨S256x512, .f32⟩
  | 14 => ⟨S256x512, .f32⟩
  | 15 => ⟨S256x512, .f32⟩
  | 16 => ⟨S_, .f32⟩
  | 17 => ⟨S_, .f32⟩
  | 18 => ⟨S256x512, .f32⟩
  | 19 => ⟨S256x512, .f32⟩
  | 20 => ⟨S256x512, .f32⟩
  | 21 => ⟨S1x256x512, .f32⟩
  | 22 => ⟨S1x256x512, .f32⟩
  | 23 => ⟨S2x256x512, .f32⟩
  | 24 => ⟨S2x256x512, .f32⟩
  | 25 => ⟨S256, .i32⟩
  | 26 => ⟨S256x1, .i32⟩
  | 27 => ⟨S512, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S512, .i32⟩
  | 35 => ⟨S512, .i32⟩
  | 36 => ⟨S_, .i32⟩
  | 37 => ⟨S512, .i32⟩
  | 38 => ⟨S512, .i1⟩
  | 39 => ⟨S_, .i32⟩
  | 40 => ⟨S512, .i32⟩
  | 41 => ⟨S512, .i1⟩
  | 42 => ⟨S_, .i32⟩
  | 43 => ⟨S_, .i1⟩
  | 44 => ⟨S512, .i1⟩
  | 45 => ⟨S512, .i1⟩
  | 46 => ⟨S512, .i1⟩
  | 47 => ⟨S512, .i32⟩
  | 48 => ⟨S512, .i32⟩
  | 49 => ⟨S512, .i32⟩
  | 50 => ⟨S1x512, .i32⟩
  | 51 => ⟨S256x512, .i32⟩
  | 52 => ⟨S256x512, .i32⟩
  | 53 => ⟨S256x512, .i1⟩
  | 54 => ⟨S_, .i32⟩
  | 55 => ⟨S1x512, .i32⟩
  | 56 => ⟨S1x512, .i32⟩
  | 57 => ⟨S256x512, .i32⟩
  | 58 => ⟨S256x512, .i32⟩
  | 59 => ⟨S256x512, .i1⟩
  | 60 => ⟨S256x512, .i1⟩
  | 61 => ⟨S_, .i32⟩
  | 62 => ⟨S256x1, .i32⟩
  | 63 => ⟨S256x1, .i1⟩
  | 64 => ⟨S256x512, .i1⟩
  | 65 => ⟨S256x512, .i1⟩
  | 66 => ⟨S_, .f32⟩
  | 67 => ⟨S_, .f32⟩
  | 68 => ⟨S256x512, .f32⟩
  | 69 => ⟨S256x512, .f32⟩
  | 70 => ⟨S256x512, .f32⟩
  | 71 => ⟨S_, .f32⟩
  | 72 => ⟨S_, .f32⟩
  | 73 => ⟨S256x512, .f32⟩
  | 74 => ⟨S256x512, .f32⟩
  | 75 => ⟨S256x512, .f32⟩
  | 76 => ⟨S1x256x512, .f32⟩
  | 77 => ⟨S1x256x512, .f32⟩
  | 78 => ⟨S2x256x512, .f32⟩
  | 79 => ⟨S2x256x512, .f32⟩
  | 80 => ⟨S4096x512, .bf16⟩
  | 81 => ⟨S2048x128, .bf16⟩
  | 82 => ⟨S2048x128, .bf16⟩
  | 83 => ⟨S2048x128, .bf16⟩
  | 84 => ⟨S2048x128, .bf16⟩
  | 85 => ⟨S8x128, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S256x512, .bf16⟩
  | .local _ .vmem, ⟨4, _⟩ => ⟨S256x512, .bf16⟩
  | .local _ .vmem, ⟨5, _⟩ => ⟨S128x128, .bf16⟩
  | .local _ .vmem, ⟨6, _⟩ => ⟨S128x128, .bf16⟩
  | .local _ .vmem, ⟨7, _⟩ => ⟨S256x128, .bf16⟩
  | .local _ .vmem, ⟨8, _⟩ => ⟨S256x128, .bf16⟩
  | .local _ .vmem, ⟨9, _⟩ => ⟨S128x128, .bf16⟩
  | .local _ .vmem, ⟨10, _⟩ => ⟨S128x128, .bf16⟩
  | .local _ .vmem, ⟨11, _⟩ => ⟨S256x128, .bf16⟩
  | .local _ .vmem, ⟨12, _⟩ => ⟨S256x128, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S128x128, .bf16⟩
  | .local _ .vmem, ⟨24, _⟩ => ⟨S128x128, .bf16⟩
  | .local _ .vmem, ⟨25, _⟩ => ⟨S128x128, .bf16⟩
  | .local _ .vmem, ⟨26, _⟩ => ⟨S128x128, .bf16⟩
  | .local _ .vmem, ⟨27, _⟩ => ⟨S8x128, .f32⟩
  | .local _ .vmem, ⟨28, _⟩ => ⟨S128x128, .f32⟩
  | .local _ .vmem, ⟨29, _⟩ => ⟨S128x128, .f32⟩
  | .local _ .smem, ⟨0, _⟩ => ⟨S8, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_c_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_10 : Ref sig .tc := ⟨.hbm, 101, rfl⟩
abbrev main_call1_v0 : Ref sig .tc := ⟨.hbm, 102, rfl⟩
abbrev main_call1_c : Ref sig .tc := ⟨.hbm, 103, rfl⟩
abbrev main_call1_v1 : Ref sig .tc := ⟨.hbm, 104, rfl⟩
abbrev main_call1_c_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_c_1 : Ref sig .tc := ⟨.hbm, 109, rfl⟩
abbrev main_call1_v5 : Ref sig .tc := ⟨.hbm, 110, rfl⟩
abbrev main_call1_v6 : Ref sig .tc := ⟨.hbm, 111, rfl⟩
abbrev main_call1_c_2 : Ref sig .tc := ⟨.hbm, 112, rfl⟩
abbrev main_call1_v7 : Ref sig .tc := ⟨.hbm, 113, rfl⟩
abbrev main_call1_v8 : Ref sig .tc := ⟨.hbm, 114, rfl⟩
abbrev main_call1_c_3 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_v12 : Ref sig .tc := ⟨.hbm, 119, rfl⟩
abbrev main_call1_v13 : Ref sig .tc := ⟨.hbm, 120, rfl⟩
abbrev main_call1_v14 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_11 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_12 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_13 : Ref sig .tc := ⟨.hbm, 139, rfl⟩
abbrev main_cst_14 : Ref sig .tc := ⟨.hbm, 140, rfl⟩
abbrev main_call2_v0 : Ref sig .tc := ⟨.hbm, 141, rfl⟩
abbrev main_call2_v1 : Ref sig .tc := ⟨.hbm, 142, rfl⟩
abbrev main_v96 : Ref sig .tc := ⟨.hbm, 143, rfl⟩
abbrev main_cst_15 : Ref sig .tc := ⟨.hbm, 144, rfl⟩
abbrev main_cst_16 : Ref sig .tc := ⟨.hbm, 145, rfl⟩
abbrev main_call3_v0 : Ref sig .tc := ⟨.hbm, 146, rfl⟩
abbrev main_call3_v1 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_17 : Ref sig .tc := ⟨.hbm, 156, rfl⟩
abbrev main_call4_v0 : Ref sig .tc := ⟨.hbm, 157, rfl⟩
abbrev main_call4_c : Ref sig .tc := ⟨.hbm, 158, rfl⟩
abbrev main_call4_v1 : Ref sig .tc := ⟨.hbm, 159, rfl⟩
abbrev main_call4_c_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_c_1 : Ref sig .tc := ⟨.hbm, 164, rfl⟩
abbrev main_call4_v5 : Ref sig .tc := ⟨.hbm, 165, rfl⟩
abbrev main_call4_v6 : Ref sig .tc := ⟨.hbm, 166, rfl⟩
abbrev main_call4_c_2 : Ref sig .tc := ⟨.hbm, 167, rfl⟩
abbrev main_call4_v7 : Ref sig .tc := ⟨.hbm, 168, rfl⟩
abbrev main_call4_v8 : Ref sig .tc := ⟨.hbm, 169, rfl⟩
abbrev main_call4_c_3 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_v12 : Ref sig .tc := ⟨.hbm, 174, rfl⟩
abbrev main_call4_v13 : Ref sig .tc := ⟨.hbm, 175, rfl⟩
abbrev main_call4_v14 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_c_18 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_c_19 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_20 : Ref sig .tc := ⟨.hbm, 194, rfl⟩
abbrev main_cst_21 : Ref sig .tc := ⟨.hbm, 195, rfl⟩
abbrev main_call5_v0 : Ref sig .tc := ⟨.hbm, 196, rfl⟩
abbrev main_call5_v1 : Ref sig .tc := ⟨.hbm, 197, rfl⟩
abbrev main_v120 : Ref sig .tc := ⟨.hbm, 198, rfl⟩
abbrev main_cst_22 : Ref sig .tc := ⟨.hbm, 199, rfl⟩
abbrev main_cst_23 : Ref sig .tc := ⟨.hbm, 200, rfl⟩
abbrev main_call6_v0 : Ref sig .tc := ⟨.hbm, 201, rfl⟩
abbrev main_call6_v1 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126_0 : Ref sig .tc := ⟨.hbm, 208, rfl⟩
abbrev main_v126_1 : Ref sig .tc := ⟨.hbm, 209, rfl⟩
abbrev main_v126_2 : Ref sig .tc := ⟨.hbm, 210, rfl⟩
abbrev main_v126_3 : Ref sig .tc := ⟨.hbm, 211, rfl⟩
abbrev main_v126_4 : Ref sig .tc := ⟨.hbm, 212, rfl⟩
abbrev main_v126_5 : Ref sig .tc := ⟨.hbm, 213, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c5_i32 : BitVec 32 := 5#32
  let c0_i32 : BitVec 32 := 0#32
  ![v0.toNat, c5_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Proof.Reals.lean ====
/-
  Real numbers inside the extended reals: the operations of the idealized programs on finite values, the constants the
  programs carry, and the gradient of a root-mean-square norm written in the two ways the kernels and the reference write it.
-/
module

public import Idealize.ShloMosaic.PureOps.Ideal.Laws
public import Idealize.ShloMosaic.Lib.IdealHost
public import Mathlib.Analysis.SpecialFunctions.Trigonometric.DerivHyp

@[expose] public section

noncomputable section

namespace Cert.Reals

open Idealize.ShloMosaic

/-- A sum of reals, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

/-- The reciprocal square root of a positive real. -/
theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

theorem tanh_coe (r : ℝ) : Ideal.tanh (r : EReal) = ((Real.tanh r : ℝ) : EReal) := rfl

theorem exp_coe (r : ℝ) : Ideal.exp (r : EReal) = ((Real.exp r : ℝ) : EReal) := rfl

/-- A quotient of reals by a real that is not zero. -/
theorem div_coe_coe (a : ℝ) {b : ℝ} (h : b ≠ 0) : Ideal.div (a : EReal) (b : EReal) = ((a / b : ℝ) : EReal) := by
  rw [Ideal.div_coe h, ← EReal.coe_mul, mul_one_div]

/-- A value whose magnitude is below plus infinity is a real. -/
theorem real_of_abs_lt {x : EReal} (h : max x (-x) < ⊤) : ∃ r : ℝ, x = (r : EReal) := by
  induction x with
  | bot => simp at h
  | top => simp at h
  | coe r => exact ⟨r, rfl⟩

/-- An array of finite values is an array of reals. -/
theorem reals_of_finite {ι : Type*} {x : ι → EReal} (h : ∀ i, max (x i) (-(x i)) < ⊤) : ∃ r : ι → ℝ, ∀ i, x i = (r i : EReal) :=
  ⟨fun i => (real_of_abs_lt (h i)).choose, fun i => (real_of_abs_lt (h i)).choose_spec⟩

/-! ## Constants -/

/-- The word of 1024. -/
theorem word_1024 : Ideal.ofBits .f32 0x44800000#32 = ((1024 : ℝ) : EReal) := by
  simp [Ideal.ofBits, Ideal.ieee]
  rw [← EReal.coe_mul]; norm_num

/-- The word of minus one half. -/
theorem word_neg_half : Ideal.ofBits .f32 0xBF000000#32 = ((-(1/2) : ℝ) : EReal) := by
  simp [Ideal.ofBits, Ideal.ieee]
  rw [← EReal.coe_mul]; norm_num

/-- The norms' small constant is a positive real. -/
theorem word_eps : ∃ e : ℝ, 0 < e ∧ Ideal.ofBits .f32 0x3727C5AC#32 = (e : EReal) := by
  refine ⟨_, ?_, by simp [Ideal.ofBits, Ideal.ieee]; rfl⟩
  norm_num

/-- The word of plus infinity. -/
theorem word_top : Ideal.ofBits .f32 0x7F800000#32 = ⊤ := by
  simp [Ideal.ofBits, Ideal.ieee]

/-- The word of one half. -/
theorem word_half : Ideal.ofBits .f32 0x3F000000#32 = ((1/2 : ℝ) : EReal) := by
  simp [Ideal.ofBits, Ideal.ieee]
  rw [← EReal.coe_mul]; norm_num

/-! ## Finite values -/

/-- The extended real is a real. -/
def IsReal (x : EReal) : Prop := ∃ r : ℝ, x = (r : EReal)

theorem isReal_coe (r : ℝ) : IsReal (r : EReal) := ⟨r, rfl⟩
theorem isReal_zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type*} {s : Finset ι} {f : ι → EReal} (h : ∀ i, IsReal (f i)) : IsReal (∑ i ∈ s, f i) := by
  choose r hr using h
  exact ⟨∑ i ∈ s, r i, by rw [coe_sum]; exact Finset.sum_congr rfl fun i _ => hr i⟩
theorem IsReal.dite {p : Prop} [Decidable p] {x : p → EReal} {y : ¬p → EReal} (hx : ∀ h, IsReal (x h)) (hy : ∀ h, IsReal (y h)) :
    IsReal (if h : p then x h else y h) := by
  split
  · exact hx _
  · exact hy _

/-! ## The sigmoid -/

/-- The sigmoid of a real. -/
def sigm (a : ℝ) : ℝ := 1 / (1 + Real.exp (-a))

theorem one_add_exp_pos (a : ℝ) : 0 < 1 + Real.exp (-a) := by positivity

/-- Written with the exponential. -/
theorem sigm_exp (a : ℝ) : Ideal.div 1 (1 + Ideal.exp (-(a : EReal))) = ((sigm a : ℝ) : EReal) := by
  rw [← EReal.coe_neg, exp_coe, show (1 : EReal) = ((1 : ℝ) : EReal) from rfl, ← EReal.coe_add]
  exact div_coe_coe 1 (one_add_exp_pos a).ne'

/-- Written with the hyperbolic tangent. -/
theorem sigm_tanh (a : ℝ) : Ideal.ofBits .f32 0x3F000000#32 * Ideal.tanh (Ideal.ofBits .f32 0x3F000000#32 * (a : EReal))
    + Ideal.ofBits .f32 0x3F000000#32 = ((sigm a : ℝ) : EReal) := by
  rw [word_half, ← EReal.coe_mul, tanh_coe, ← EReal.coe_mul, ← EReal.coe_add, EReal.coe_eq_coe_iff, sigm, Real.tanh_eq_sinh_div_cosh,
    Real.sinh_eq, Real.cosh_eq]
  have h1 : Real.exp (-a) = Real.exp (-(1/2 * a)) * Real.exp (-(1/2 * a)) := by rw [← Real.exp_add]; congr 1; ring
  have h2 : Real.exp (1/2 * a) = (Real.exp (-(1/2 * a)))⁻¹ := by rw [← Real.exp_neg, neg_neg]
  have h3 : 0 < Real.exp (-(1/2 * a)) := Real.exp_pos _
  rw [h1, h2]
  generalize Real.exp (-(1/2 * a)) = y at h3 ⊢
  have h4 : (0:ℝ) < 1 + y * y := by positivity
  have h5 : (0:ℝ) < y⁻¹ + y := by positivity
  field_simp
  ring

/-! ## The root-mean-square norm -/

/-- The mean of the squares plus the small constant, the argument of the reciprocal square root. -/
def ms {n : ℕ} (N e : ℝ) (x : Fin n → ℝ) : ℝ := (∑ k, x k * x k) / N + e

theorem ms_pos {n : ℕ} {N e : ℝ} (hN : 0 < N) (he : 0 < e) (x : Fin n → ℝ) : 0 < ms N e x :=
  add_pos_of_nonneg_of_pos (div_nonneg (Finset.sum_nonneg fun k _ => mul_self_nonneg _) hN.le) he

/-- The reciprocal root mean square. -/
def rstd {n : ℕ} (N e : ℝ) (x : Fin n → ℝ) : ℝ := (Real.sqrt (ms N e x))⁻¹

/-- It is what the programs compute on finite values. -/
theorem rstd_eq {n : ℕ} {N e : ℝ} (hN : 0 < N) (he : 0 < e) (x : Fin n → ℝ) :
    Ideal.rsqrt (Ideal.div (∑ k, (x k : EReal) * (x k : EReal)) (N : EReal) + (e : EReal)) = ((rstd N e x : ℝ) : EReal) := by
  simp only [← EReal.coe_mul]
  rw [← coe_sum, div_coe_coe _ hN.ne', ← EReal.coe_add]
  exact rsqrt_coe (ms_pos hN he x)

/-- The gradient of the norm's input, the cotangent of the normalised row being `t`: written with the normalised row, and
    written as the derivative of each operation in turn. -/
theorem rms_grad {n : ℕ} {N e : ℝ} (hN : 0 < N) (he : 0 < e) (x t : Fin n → ℝ) (j : Fin n) :
    rstd N e x * (t j - x j * rstd N e x * ((∑ k, t k * (x k * rstd N e x)) / N))
      = t j * rstd N e x
        + 2 * (x j * (((∑ k, x k * t k) * (-(1/2) * (rstd N e x / ms N e x))) / N)) := by
  have hm := ms_pos hN he x
  have hr : rstd N e x * rstd N e x = 1 / ms N e x := by
    unfold rstd
    rw [← mul_inv, Real.mul_self_sqrt hm.le, one_div]
  have hs : (∑ k, t k * (x k * rstd N e x)) = (∑ k, x k * t k) * rstd N e x := by
    rw [Finset.sum_mul]; exact Finset.sum_congr rfl fun k _ => by ring
  rw [hs, div_eq_mul_one_div (rstd N e x) (ms N e x), ← hr]
  ring

end Cert.Reals
-- ==== Proof.InprojSpec.lean ====
/-
  The backward pass of the input projection, element by element, over the extended reals: the form both programs are read into,
  and the equality of the two forms of the input's gradient on finite values.
-/
module

public import proofs.«01_k».proof.Proof.Reals

@[expose] public section

noncomputable section

namespace Cert.InprojSpec

open Idealize.ShloMosaic Cert.Reals

/-- The cotangent of the projection at row `i`, column `p`: the five cotangents side by side. -/
def cot (q : Fin 4096 → Fin 512 → EReal) (k v : Fin 4096 → Fin 128 → EReal) (u : Fin 4096 → Fin 1536 → EReal)
    (z : Fin 4096 → Fin 2048 → EReal) (i : Fin 4096) (p : Fin 4352) : EReal :=
  if h0 : p.val < 512 then q i ⟨p.val, h0⟩
  else if h1 : p.val - 512 < 128 then k i ⟨p.val - 512, h1⟩
  else if h2 : p.val - 512 - 128 < 128 then v i ⟨p.val - 512 - 128, h2⟩
  else if h3 : p.val - 512 - 128 - 128 < 1536 then u i ⟨p.val - 512 - 128 - 128, h3⟩
  else z i ⟨p.val - 512 - 128 - 128 - 1536, by have := p.isLt; omega⟩

theorem cot_congr {q q' : Fin 4096 → Fin 512 → EReal} {k k' v v' : Fin 4096 → Fin 128 → EReal} {u u' : Fin 4096 → Fin 1536 → EReal}
    {z z' : Fin 4096 → Fin 2048 → EReal} (hq : ∀ i p, q i p = q' i p) (hk : ∀ i p, k i p = k' i p) (hv : ∀ i p, v i p = v' i p)
    (hu : ∀ i p, u i p = u' i p) (hz : ∀ i p, z i p = z' i p) : cot q k v u z = cot q' k' v' u' z' := by
  rw [show q = q' from funext₂ hq, show k = k' from funext₂ hk, show v = v' from funext₂ hv, show u = u' from funext₂ hu,
    show z = z' from funext₂ hz]

/-- Finite cotangents side by side are finite. -/
theorem cot_real {q : Fin 4096 → Fin 512 → ℝ} {k v : Fin 4096 → Fin 128 → ℝ} {u : Fin 4096 → Fin 1536 → ℝ}
    {z : Fin 4096 → Fin 2048 → ℝ} :
    ∃ r : Fin 4096 → Fin 4352 → ℝ, ∀ i p, cot (fun i p => (q i p : EReal)) (fun i p => (k i p : EReal)) (fun i p => (v i p : EReal))
      (fun i p => (u i p : EReal)) (fun i p => (z i p : EReal)) i p = (r i p : EReal) := by
  have h : ∀ i p, ∃ r : ℝ, cot (fun i p => (q i p : EReal)) (fun i p => (k i p : EReal)) (fun i p => (v i p : EReal))
      (fun i p => (u i p : EReal)) (fun i p => (z i p : EReal)) i p = (r : EReal) := by
    intro i p; unfold cot; split_ifs <;> exact ⟨_, rfl⟩
  choose r hr using h
  exact ⟨r, hr⟩

variable {n : ℕ} (x : Fin 4096 → Fin 1024 → EReal) (g : Fin 1024 → EReal) (w : Fin 1024 → Fin n → EReal)
  (D : Fin 4096 → Fin n → EReal) (e : Fin 4096 → Fin 1024 → EReal)

/-- The mean square of a row, and the small constant under the root. -/
def msq (i : Fin 4096) : EReal := Ideal.div (∑ j, x i j * x i j) (Ideal.ofBits .f32 0x44800000#32) + Ideal.ofBits .f32 0x3727C5AC#32

/-- The reciprocal root of the mean square of a row. -/
def scale (i : Fin 4096) : EReal := Ideal.rsqrt (msq x i)

/-- The gradient of the normalised input: the cotangent times the weight. -/
def dxn (i : Fin 4096) (j : Fin 1024) : EReal := ∑ p, D i p * w j p

/-- The weight's gradient. -/
def gw (p : Fin n) (j : Fin 1024) : EReal := ∑ i, D i p * (x i j * scale x i * g j)

/-- The bias's gradient. -/
def gb (p : Fin n) : EReal := ∑ i, D i p

/-- The norm gain's gradient. -/
def gg (j : Fin 1024) : EReal := ∑ i, dxn w D i j * (x i j * scale x i)

/-- The input's gradient as the kernel writes it. -/
def dx (i : Fin 4096) (j : Fin 1024) : EReal :=
  e i j + scale x i * (dxn w D i j * g j - x i j * scale x i *
    Ideal.div (∑ l, dxn w D i l * g l * (x i l * scale x i)) (Ideal.ofBits .f32 0x44800000#32))

/-- What the reference adds twice to the input's gradient: the derivative through the reciprocal root. -/
def through (i : Fin 4096) : EReal :=
  Ideal.div ((∑ l, x i l * (dxn w D i l * g l)) * (Ideal.ofBits .f32 0xBF000000#32 * Ideal.div (scale x i) (msq x i)))
    (Ideal.ofBits .f32 0x44800000#32)

/-- The input's gradient as the derivative of the forward lines gives it. -/
def dx' (i : Fin 4096) (j : Fin 1024) : EReal :=
  (e i j + dxn w D i j * g j * scale x i + x i j * through x g w D i) + through x g w D i * x i j

/-- On finite inputs, weights and cotangents the two forms agree, whatever the residual's cotangent. -/
theorem dx_eq (xr : Fin 4096 → Fin 1024 → ℝ) (gr : Fin 1024 → ℝ) (wr : Fin 1024 → Fin n → ℝ) (Dr : Fin 4096 → Fin n → ℝ)
    (hx : ∀ i j, x i j = (xr i j : EReal)) (hg : ∀ j, g j = (gr j : EReal)) (hw : ∀ j p, w j p = (wr j p : EReal))
    (hD : ∀ i p, D i p = (Dr i p : EReal)) (i : Fin 4096) (j : Fin 1024) : dx x g w D e i j = dx' x g w D e i j := by
  obtain ⟨ε, hε, hε'⟩ := word_eps
  have hN : (0 : ℝ) < 1024 := by norm_num
  have hm := ms_pos hN hε (xr i)
  have h1 : msq x i = ((ms 1024 ε (xr i) : ℝ) : EReal) := by
    unfold msq; simp only [hx, hε', word_1024, ← EReal.coe_mul]
    rw [← coe_sum, div_coe_coe _ hN.ne', ← EReal.coe_add]; rfl
  have h2 : scale x i = ((rstd 1024 ε (xr i) : ℝ) : EReal) := by
    unfold scale; rw [h1]; exact rsqrt_coe hm
  have h3 : ∀ l, dxn w D i l = ((∑ p, Dr i p * wr l p : ℝ) : EReal) := by
    intro l; unfold dxn; simp only [hD, hw, ← EReal.coe_mul]; rw [← coe_sum]
  unfold dx dx' through
  rw [add_assoc (e i j), add_assoc (e i j), add_assoc]
  congr 1
  simp only [h1, h2, h3, hx, hg, word_1024, word_neg_half, div_coe_coe _ hm.ne', ← EReal.coe_mul, ← coe_sum, div_coe_coe _ hN.ne',
    ← EReal.coe_add, ← EReal.coe_sub]
  have := rms_grad hN hε (xr i) (fun l => (∑ p, Dr i p * wr l p) * gr l) j
  rw [EReal.coe_eq_coe_iff, this]
  ring

end Cert.InprojSpec
-- ==== Proof.InprojBlocks.lean ====
/-
  The blocks the backward kernel of the input projection reads at each grid point, in terms of the program's arguments.
-/
module

public import proofs.«01_k».proof.Proof.Gen.InprojBwdIdeal.Frame.Runs
public import proofs.«01_k».proof.Proof.InprojSpec
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

namespace Cert.InprojBwdIdeal.Elem

open Cert.InprojBwdIdeal Cert.InprojBwdIdeal.Gen
open Idealize.ShloMosaic Idealize.ShloMosaic.TcCoe Idealize.SL.Sem

variable (m : (ℓ : Loc nD τ sig) → Buf (Elt Ideal) ℓ) (c : Dev nD)

/-- The input, the gain, the weight, the residual's cotangent and the projection's cotangent. -/
abbrev X (i : Fin 4096) (j : Fin 1024) : EReal := m ((c.tc : Thread nD τ).loc main_arg0) (ix3 0 i j)
abbrev G (j : Fin 1024) : EReal := m ((c.tc : Thread nD τ).loc main_arg1) (ix2 0 j)
abbrev W (j : Fin 1024) (p : Fin 4352) : EReal := m ((c.tc : Thread nD τ).loc main_arg2) (ix3 0 j p)
abbrev E (i : Fin 4096) (j : Fin 1024) : EReal := m ((c.tc : Thread nD τ).loc main_arg3) (ix3 0 i j)
abbrev D : Fin 4096 → Fin 4352 → EReal := InprojSpec.cot
  (fun i p => m ((c.tc : Thread nD τ).loc main_arg4) (ix3 0 i p)) (fun i p => m ((c.tc : Thread nD τ).loc main_arg5) (ix3 0 i p))
  (fun i p => m ((c.tc : Thread nD τ).loc main_arg6) (ix3 0 i p)) (fun i p => m ((c.tc : Thread nD τ).loc main_arg7) (ix3 0 i p))
  (fun i p => m ((c.tc : Thread nD τ).loc main_arg8) (ix3 0 i p))

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![0, 0] ∧ win0_12.index t = ![t.val, 0] :=
  (by decide +kernel : ∀ t : Fin grid0.N, _)

/-- The array row of row `r` of the block of point `t`. -/
def row (t : Fin cfg0.N) (r : Fin 256) : Fin 4096 :=
  ⟨t.val * 256 + r.val, by have := t.isLt; have := r.isLt; have : cfg0.N = 16 := N_0; omega⟩

variable (t : Fin cfg0.N)

/-- The cotangent block. -/
abbrev dp : FVec Ideal S256x4352 .bf16 :=
  k0_pay6 (iblk m c 1 t) (iblk m c 2 t) (iblk m c 3 t) (iblk m c 4 t) (iblk m c 0 t) (iblk m c 5 t) (iblk m c 6 t)

theorem b0 (r : Fin 256) (p : Fin 512) : iblk m c 0 t (ix2 r p) = m ((c.tc : Thread nD τ).loc main_arg4) (ix3 0 (row t r) p) := by
  blk_ext! [iblk, V, idx t, row]
theorem b5 (r : Fin 256) (p : Fin 1536) : iblk m c 5 t (ix2 r p) = m ((c.tc : Thread nD τ).loc main_arg7) (ix3 0 (row t r) p) := by
  blk_ext! [iblk, V, idx t, row]
theorem b6 (r : Fin 256) (p : Fin 2048) : iblk m c 6 t (ix2 r p) = m ((c.tc : Thread nD τ).loc main_arg8) (ix3 0 (row t r) p) := by
  blk_ext! [iblk, V, idx t, row]
theorem b1 (r : Fin 128) (p : Fin 128) : iblk m c 1 t (ix2 r p) = m ((c.tc : Thread nD τ).loc main_arg5) (ix3 0 (row t ⟨r.val, by omega⟩) p) := by
  blk_ext! [iblk, V, idx t, row]
theorem b2 (r : Fin 128) (p : Fin 128) : iblk m c 2 t (ix2 r p) = m ((c.tc : Thread nD τ).loc main_arg5) (ix3 0 (row t ⟨r.val + 128, by omega⟩) p) := by
  blk_ext! [iblk, V, idx t, row]
theorem b3 (r : Fin 128) (p : Fin 128) : iblk m c 3 t (ix2 r p) = m ((c.tc : Thread nD τ).loc main_arg6) (ix3 0 (row t ⟨r.val, by omega⟩) p) := by
  blk_ext! [iblk, V, idx t, row]
theorem b4 (r : Fin 128) (p : Fin 128) : iblk m c 4 t (ix2 r p) = m ((c.tc : Thread nD τ).loc main_arg6) (ix3 0 (row t ⟨r.val + 128, by omega⟩) p) := by
  blk_ext! [iblk, V, idx t, row]
theorem b7 (p : Fin 4352) (j : Fin 1024) : iblk m c 7 t (ix2 p j) = W m c j p := by
  blk_ext! [iblk, V, idx t, row]
theorem b8 (r : Fin 256) (j : Fin 1024) : iblk m c 8 t (ix2 r j) = X m c (row t r) j := by
  blk_ext! [iblk, V, idx t, row]
theorem b9 (r : Fin 256) (j : Fin 1024) : iblk m c 9 t (ix2 r j) = X m c (row t r) j * InprojSpec.scale (X m c) (row t r) * G m c j := by
  have e : (win0_9.blk t).view.emb (ix2 r j) = ix2 (row t r) j := by blk_ext [idx t, row]
  have h : V m c main_v13 (ix2 (row t r) j) = X m c (row t r) j * InprojSpec.scale (X m c) (row t r) * G m c j := by
    entry_read
    pointwise
    rfl
  show V m c main_v13 ((win0_9.blk t).view.emb (ix2 r j)) = _
  rw [e, h]
theorem b10 (r : Fin 256) (j : Fin 1024) : iblk m c 10 t (ix2 r j) = E m c (row t r) j := by
  blk_ext! [iblk, V, idx t, row]
theorem b11 (j : Fin 1024) : iblk m c 11 t (ix2 0 j) = G m c j := by
  blk_ext! [iblk, V, idx t, row]

/-- The cotangent block is the rows of the cotangent. -/
theorem dp_apply (r : Fin 256) (p : Fin 4352) : dp m c t (ix2 r p) = D m c (row t r) p := by
  pointwise [dp, k0_pay6, InprojSpec.cot, b0, b1, b2, b3, b4, b5, b6]
  repeat' split
  all_goals blk_ext [row]

end Cert.InprojBwdIdeal.Elem
-- ==== Proof.InprojKernel.lean ====
/-
  The arrays the backward kernel of the input projection leaves, element by element.
-/
module

public import proofs.«01_k».proof.Proof.Gen.InprojBwdIdeal.Frame
public import proofs.«01_k».proof.Proof.InprojBlocks
public import Idealize.ShloMosaic.Lib.Pipeline.ReadBack

@[expose] public section

set_option maxRecDepth 16384

noncomputable section

namespace Cert.InprojBwdIdeal.Elem

open Cert.InprojBwdIdeal Cert.InprojBwdIdeal.Gen
open Idealize.ShloMosaic Idealize.ShloMosaic.TcCoe Idealize.SL.Sem

variable (m : (ℓ : Loc nD τ sig) → Buf (Elt Ideal) ℓ) (c : Dev nD) (t : Fin cfg0.N)

/-- The rows of the input's gradient a point writes. -/
theorem out_dx : (outsAt0 m c t.val t.isLt).1
    = k0_pay16 (dp m c t) (iblk m c 7 t) (iblk m c 8 t) (iblk m c 11 t) (iblk m c 10 t) := by
  by_cases h0 : t.val % 16 = 0
  · rw [outsAt0_A m c t h0 (by omega)]; frame_out
  · by_cases h1 : t.val % 16 = 15
    · rw [outsAt0_C m c t h0 h1]; frame_out
    · rw [outsAt0_B m c t h0 h1]; frame_out

/-- The bias gradient block after a point, from the one before it. -/
abbrev gbNext (v : Vec Ideal S1x4352 .f32) : Vec Ideal S1x4352 .f32 :=
  k0_pay10 (k0_pay8 v) (k0_pay9 (iblk m c 1 t) (iblk m c 2 t) (iblk m c 3 t) (iblk m c 4 t) (iblk m c 0 t) (iblk m c 5 t) (iblk m c 6 t))

/-- The gain gradient block after a point, from the one before it. -/
abbrev ggNext (v : Vec Ideal S1x1024 .f32) : Vec Ideal S1x1024 .f32 :=
  k0_pay1 (k0_pay15 (dp m c t) (iblk m c 7 t) (iblk m c 8 t)) v

/-- The weight gradient accumulator after a point, from the one before it. -/
abbrev gwNext (v : Vec Ideal S4352x1024 .f32) : Vec Ideal S4352x1024 .f32 :=
  k0_pay7 (iblk m c 1 t) (iblk m c 2 t) (iblk m c 3 t) (iblk m c 4 t) (iblk m c 0 t) (iblk m c 5 t) (iblk m c 6 t) v (iblk m c 9 t)

/-- The first point starts each accumulation from zero. -/
theorem init (h0 : t.val % 16 = 0) : (outsAt0 m c t.val t.isLt).2.2.1 = gbNext m c t (k0_pay3 (F := Ideal))
    ∧ (outsAt0 m c t.val t.isLt).2.2.2.1 = ggNext m c t (k0_pay4 (F := Ideal)) ∧ (outsAt0 m c t.val t.isLt).2.2.2.2 = gwNext m c t (k0_pay5 (F := Ideal)) := by
  rw [outsAt0_A m c t h0 (by omega)]
  refine ⟨?_, ?_, ?_⟩ <;> frame_out <;> simp only [read_unread_whole]

/-- Every other point continues from what the point before left. -/
theorem step (h0 : ¬t.val % 16 = 0) :
    (outsAt0 m c t.val t.isLt).2.2.1 = gbNext m c t (outsAt0 m c (t.val - 1) (Nat.lt_of_le_of_lt (Nat.sub_le _ _) t.isLt)).2.2.1
    ∧ (outsAt0 m c t.val t.isLt).2.2.2.1 = ggNext m c t (outsAt0 m c (t.val - 1) (Nat.lt_of_le_of_lt (Nat.sub_le _ _) t.isLt)).2.2.2.1
    ∧ (outsAt0 m c t.val t.isLt).2.2.2.2 = gwNext m c t (outsAt0 m c (t.val - 1) (Nat.lt_of_le_of_lt (Nat.sub_le _ _) t.isLt)).2.2.2.2 := by
  by_cases h1 : t.val % 16 = 15
  · rw [outsAt0_C m c t h0 h1]
    refine ⟨?_, ?_, ?_⟩ <;> frame_out
    simp only [read_unread_whole]
  · rw [outsAt0_B m c t h0 h1]
    refine ⟨?_, ?_, ?_⟩ <;> frame_out
    simp only [read_unread_whole]

/-- The last point writes the accumulated weight gradient out. -/
theorem out_gw (h1 : t.val % 16 = 15) : (outsAt0 m c t.val t.isLt).2.1 = k0_pay2 (outsAt0 m c t.val t.isLt).2.2.2.2 := by
  rw [(step m c t (by omega)).2.2, outsAt0_C m c t (by omega) h1]; frame_out; simp only [read_unread_whole]

theorem gbNext_apply (v : Vec Ideal S1x4352 .f32) (p : Fin 4352) :
    gbNext m c t v (ix2 0 p) = v (ix2 0 p) + ∑ r : Fin 256, D m c (row t r) p := by
  simp only [← dp_apply]
  pointwise [k0_pay10, k0_pay8, k0_pay9]

theorem gwNext_apply (v : Vec Ideal S4352x1024 .f32) (p : Fin 4352) (j : Fin 1024) :
    gwNext m c t v (ix2 p j) = v (ix2 p j) + ∑ r : Fin 256, D m c (row t r) p
      * (X m c (row t r) j * InprojSpec.scale (X m c) (row t r) * G m c j) := by
  simp only [← dp_apply, ← b9]
  pointwise [k0_pay7]

theorem ggNext_apply (v : Vec Ideal S1x1024 .f32) (j : Fin 1024) :
    ggNext m c t v (ix2 0 j) = v (ix2 0 j) + ∑ r : Fin 256, InprojSpec.dxn (W m c) (D m c) (row t r) j
      * (X m c (row t r) j * InprojSpec.scale (X m c) (row t r)) := by
  pointwise [k0_pay1, k0_pay15, k0_pay14, k0_pay13, k0_pay11, k0_pay12]
  simp only [b8, b7, dp_apply]
  rfl

theorem out_dx_apply (r : Fin 256) (j : Fin 1024) : (outsAt0 m c t.val t.isLt).1 (ix2 r j)
    = InprojSpec.dx (X m c) (G m c) (W m c) (D m c) (E m c) (row t r) j := by
  rw [out_dx]
  pointwise [k0_pay16, k0_pay11, k0_pay12, k0_pay13, k0_pay14]
  simp only [b8, b7, b10, b11, dp_apply]
  rfl

/-- The bias gradient after the last point. -/
theorem acc_gb (ht : t.val + 1 = cfg0.N) (p : Fin 4352) : (outsAt0 m c t.val t.isLt).2.2.1 (ix2 0 p) = InprojSpec.gb (D m c) p := by
  refine (Pipeline.eq_sum_fin_of_reset_step_apply_last (fun n h p => (outsAt0 m c n h).2.2.1 (ix2 0 p)) 16 (fun _ => 0)
    (fun t p => ∑ r : Fin 256, D m c (row t r) p) (fun t h p => ?_) (fun t h p => ?_) (by decide) t ht p).trans ?_
  · rw [(init m c t h).1, gbNext_apply]; pointwise [k0_pay3]
  · rw [(step m c t h).1, gbNext_apply]
  · rw [zero_add]
    exact Fin.sum_mul_add_congr fun s k hl => rfl

/-- The gain gradient after the last point. -/
theorem acc_gg (ht : t.val + 1 = cfg0.N) (j : Fin 1024) :
    (outsAt0 m c t.val t.isLt).2.2.2.1 (ix2 0 j) = InprojSpec.gg (X m c) (W m c) (D m c) j := by
  refine (Pipeline.eq_sum_fin_of_reset_step_apply_last (fun n h p => (outsAt0 m c n h).2.2.2.1 (ix2 0 p)) 16 (fun _ => 0)
    (fun t j => ∑ r : Fin 256, InprojSpec.dxn (W m c) (D m c) (row t r) j * (X m c (row t r) j * InprojSpec.scale (X m c) (row t r)))
    (fun t h p => ?_) (fun t h p => ?_) (by decide) t ht j).trans ?_
  · rw [(init m c t h).2.1, ggNext_apply]; pointwise [k0_pay4]
  · rw [(step m c t h).2.1, ggNext_apply]
  · rw [zero_add]
    exact Fin.sum_mul_add_congr fun s k hl => rfl

/-- The weight gradient accumulator after the last point. -/
theorem acc_gw (ht : t.val + 1 = cfg0.N) (p : Fin 4352) (j : Fin 1024) :
    (outsAt0 m c t.val t.isLt).2.2.2.2 (ix2 p j) = InprojSpec.gw (X m c) (G m c) (D m c) p j := by
  refine (Pipeline.eq_sum_fin_of_reset_step_apply_last (fun n h (i : Fin 4352 × Fin 1024) => (outsAt0 m c n h).2.2.2.2 (ix2 i.1 i.2)) 16 (fun _ => 0)
    (fun t i => ∑ r : Fin 256, D m c (row t r) i.1 * (X m c (row t r) i.2 * InprojSpec.scale (X m c) (row t r) * G m c i.2))
    (fun t h i => ?_) (fun t h i => ?_) (by decide) t ht (p, j)).trans ?_
  · rw [(init m c t h).2.2, gwNext_apply]; pointwise [k0_pay5]
  · rw [(step m c t h).2.2, gwNext_apply]
  · rw [zero_add]
    exact Fin.sum_mul_add_congr fun s k hl => rfl

/-- The last point. -/
abbrev tl : Fin cfg0.N := ⟨15, lt_of_lt_of_eq (by decide) N_0.symm⟩

/-- The input's gradient array after the run. -/
theorem arr_dx : (dats m 0 c).arrAt 12 cfg0.N
    = fun i => InprojSpec.dx (X m c) (G m c) (W m c) (D m c) (E m c) (i 0) (i 1) := by
  refine (dats m 0 c).arrAt_eq_of_covers 12 _ (by decide +kernel) fun t hf y => ?_
  blk_simp
  rw [after0_12]
  idx_vars y
  refine (out_dx_apply m c t y0 y1).trans ?_
  have e : ((View.whole main_v42_0).slice (win0_12.rect t)).emb (ix2 y0 y1) = ix2 (row t y0) y1 := by blk_ext [idx t, row]
  exact congrArg (fun i => InprojSpec.dx (X m c) (G m c) (W m c) (D m c) (E m c) (i 0) (i 1)) e.symm

/-- The weight's gradient array after the run. -/
theorem arr_gw : (dats m 0 c).arrAt 13 cfg0.N = fun i => InprojSpec.gw (X m c) (G m c) (D m c) (i 0) (i 1) := by
  refine (dats m 0 c).arrAt_eq_of_after_last 13 tl (by decide +kernel) _ fun y => ?_
  blk_simp
  rw [after0_13]
  idx_vars y
  refine (congrFun (out_gw m c tl rfl) (ix2 y0 y1)).trans ?_
  pointwise [k0_pay2]
  exact acc_gw m c tl N_0.symm y0 y1

/-- The bias's gradient array after the run. -/
theorem arr_gb : (dats m 0 c).arrAt 14 cfg0.N = fun i => InprojSpec.gb (D m c) (i 1) := by
  refine (dats m 0 c).arrAt_eq_of_after_last 14 tl (by decide +kernel) _ fun y => ?_
  blk_simp
  rw [after0_14]
  idx_vars y
  obtain rfl : y0 = 0 := Subsingleton.elim _ _
  exact acc_gb m c tl N_0.symm y1

/-- The gain's gradient array after the run. -/
theorem arr_gg : (dats m 0 c).arrAt 15 cfg0.N = fun i => InprojSpec.gg (X m c) (W m c) (D m c) (i 1) := by
  refine (dats m 0 c).arrAt_eq_of_after_last 15 tl (by decide +kernel) _ fun y => ?_
  blk_simp
  rw [after0_15]
  idx_vars y
  obtain rfl : y0 = 0 := Subsingleton.elim _ _
  exact acc_gg m c tl N_0.symm y1

end Cert.InprojBwdIdeal.Elem
-- ==== Proof.InprojRef.lean ====
/-
  The reference of the input projection's backward pass, read element by element.
-/
module

public import proofs.«01_k».proof.Proof.Gen.InprojRefIdeal.Read
public import proofs.«01_k».proof.Proof.InprojSpec
public import Idealize.ShloMosaic.Lib.Pointwise
public import Idealize.ShloMosaic.Lib.Tactic.CleanTypes
public import Idealize.ShloMosaic.Lib.Claim
public import Idealize.ShloMosaic.Lib.Tactic

@[expose] public section

set_option maxRecDepth 16384

noncomputable section

namespace Cert.InprojRefIdeal.Elem

open Cert.InprojRefIdeal Cert.InprojRefIdeal.Value
open Idealize.ShloMosaic Idealize.ShloMosaic.TcCoe Idealize.SL.Sem

variable (m : (ℓ : Loc nD τ sig) → Buf (Elt Ideal) ℓ) (c : Dev nD)

/-- The input, the gain, the weight, the residual's cotangent and the projection's cotangent. -/
abbrev X (i : Fin 4096) (j : Fin 1024) : EReal := m ((c.tc : Thread nD τ).loc main_arg0) (ix3 0 i j)
abbrev G (j : Fin 1024) : EReal := m ((c.tc : Thread nD τ).loc main_arg1) (ix2 0 j)
abbrev W (j : Fin 1024) (p : Fin 4352) : EReal := m ((c.tc : Thread nD τ).loc main_arg2) (ix3 0 j p)
abbrev E (i : Fin 4096) (j : Fin 1024) : EReal := m ((c.tc : Thread nD τ).loc main_arg3) (ix3 0 i j)
abbrev D : Fin 4096 → Fin 4352 → EReal := InprojSpec.cot
  (fun i p => m ((c.tc : Thread nD τ).loc main_arg4) (ix3 0 i p)) (fun i p => m ((c.tc : Thread nD τ).loc main_arg5) (ix3 0 i p))
  (fun i p => m ((c.tc : Thread nD τ).loc main_arg6) (ix3 0 i p)) (fun i p => m ((c.tc : Thread nD τ).loc main_arg7) (ix3 0 i p))
  (fun i p => m ((c.tc : Thread nD τ).loc main_arg8) (ix3 0 i p))

/-- The input's gradient. -/
theorem dx_apply (i : Fin 4096) (j : Fin 1024) :
    res_main_v52 m c (ix2 i j) = InprojSpec.dx' (X m c) (G m c) (W m c) (D m c) (E m c) i j := by
  unfold res_main_v52
  clean_types
  pointwise
  simp only [Finset.univ_unique, Finset.sum_singleton]
  rfl

/-- The weight's gradient. -/
theorem gw_apply (x0 : Vec Ideal S1x4096x1024 .f32) (x1 : Vec Ideal S1x1024 .f32) (x4 : Vec Ideal S1x4096x512 .f32)
    (x5 x6 : Vec Ideal S1x4096x128 .f32) (x7 : Vec Ideal S1x4096x1536 .f32) (x8 : Vec Ideal S1x4096x2048 .f32)
    (p : Fin 4352) (j : Fin 1024) :
    Read.val_main_v54 x0 x1 x4 x5 x6 x7 x8 (ix2 p j)
      = InprojSpec.gw (fun i j => x0 (ix3 0 i j)) (fun j => x1 (ix2 0 j)) (InprojSpec.cot (fun i p => x4 (ix3 0 i p))
          (fun i p => x5 (ix3 0 i p)) (fun i p => x6 (ix3 0 i p)) (fun i p => x7 (ix3 0 i p)) (fun i p => x8 (ix3 0 i p))) p j := by
  rw [← Read.val_main_v54_eq]
  clean_types
  pointwise
  rfl

/-- The bias's gradient. -/
theorem gb_apply (x4 : Vec Ideal S1x4096x512 .f32)
    (x5 x6 : Vec Ideal S1x4096x128 .f32) (x7 : Vec Ideal S1x4096x1536 .f32) (x8 : Vec Ideal S1x4096x2048 .f32) (p : Fin 4352) :
    Read.val_main_v29 x4 x5 x6 x7 x8 (ix2 0 p)
      = InprojSpec.gb (InprojSpec.cot (fun i p => x4 (ix3 0 i p))
          (fun i p => x5 (ix3 0 i p)) (fun i p => x6 (ix3 0 i p)) (fun i p => x7 (ix3 0 i p)) (fun i p => x8 (ix3 0 i p))) p := by
  rw [← Read.val_main_v29_eq]
  clean_types
  pointwise
  rfl

/-- The gain's gradient. -/
theorem gg_apply (x0 : Vec Ideal S1x4096x1024 .f32) (x2 : Vec Ideal S1x1024x4352 .f32) (x4 : Vec Ideal S1x4096x512 .f32)
    (x5 x6 : Vec Ideal S1x4096x128 .f32) (x7 : Vec Ideal S1x4096x1536 .f32) (x8 : Vec Ideal S1x4096x2048 .f32) (j : Fin 1024) :
    Read.val_main_v35 x0 x2 x4 x5 x6 x7 x8 (ix2 0 j)
      = InprojSpec.gg (fun i j => x0 (ix3 0 i j)) (fun j p => x2 (ix3 0 j p)) (InprojSpec.cot (fun i p => x4 (ix3 0 i p))
          (fun i p => x5 (ix3 0 i p)) (fun i p => x6 (ix3 0 i p)) (fun i p => x7 (ix3 0 i p)) (fun i p => x8 (ix3 0 i p))) j := by
  rw [← Read.val_main_v35_eq]
  clean_types
  pointwise
  refine Finset.sum_congr rfl fun i _ => ?_
  rw [mul_comm]
  rfl

end Cert.InprojRefIdeal.Elem
-- ==== Proof.Finite.lean ====
/-
  What a finiteness precondition says: every element of the array is a real.
-/
module

public import proofs.«01_k».proof.Proof.Reals
public import Idealize.ShloMosaic.Lib.ReduceAll

@[expose] public section

noncomputable section

namespace Cert.Reals

open Idealize.ShloMosaic

/-- The conjunction of two conditions on whole arrays, at an index. -/
theorem andi_split {s : Shape} {x y : IVec s 1} {i : s.Idx} (h : andi x y i = 1#1) : x i = 1#1 ∧ y i = 1#1 :=
  IntOp.andi_eq_one.1 h

/-- If every magnitude of an array is below plus infinity, the array is one of reals. -/
theorem reals_of_all {s u b t : Shape} {axes : List (Fin s.rank)} [Subsingleton t.Idx] (x : FVec Ideal s .f32) {dims : Fin b.rank → Fin s.rank}
    (hb : b.BroadcastsInDim s dims) (init : IVec u 1) (h : s.ReducesTo axes t) (hu : 0 < u.numel) (j : t.Idx)
    (e : Host.reduce IntOp.andi (cmpf .olt (Host.absf x) (broadcastInDim s dims hb (constant b .f32 0x7F800000#32))) init h hu j = 1#1) :
    ∃ r : s.Idx → ℝ, ∀ i, x i = (r i : EReal) := by
  refine reals_of_finite fun i => ?_
  have hi := Host.reduce_andi_all _ _ _ _ j e i
  have h2 : BitVec.ofBool (decide (max (x i) (-(x i)) < Ideal.ofBits .f32 0x7F800000#32)) = 1#1 := hi
  rw [word_top] at h2
  by_contra hc
  rw [decide_eq_false hc] at h2
  exact absurd h2 (by decide)

end Cert.Reals
-- ==== Proof.InprojAlg.lean ====
/-
  The backward kernel of the input projection computes the derivative of the forward lines: from memories that agree on the
  arguments, finite where the derivative needs it, both programs leave the same four gradients.
-/
module

public import proofs.«01_k».proof.Defs
public import proofs.«01_k».proof.Proof.Gen.InprojBwdIdeal.Value
public import proofs.«01_k».proof.Proof.Gen.Pre_inproj_finite
public import proofs.«01_k».proof.Proof.InprojKernel
public import proofs.«01_k».proof.Proof.InprojRef
public import proofs.«01_k».proof.Proof.Finite

@[expose] public section

set_option maxRecDepth 16384

noncomputable section

namespace Cert.InprojAlg

open Idealize.ShloMosaic Idealize.ShloMosaic.TcCoe Idealize.SL.Sem Cert.Reals

abbrev MK := (ℓ : Loc InprojBwdIdeal.nD InprojBwdIdeal.τ InprojBwdIdeal.sig) → Buf (Elt Ideal) ℓ
abbrev MR := (ℓ : Loc InprojRefIdeal.nD InprojRefIdeal.τ InprojRefIdeal.sig) → Buf (Elt Ideal) ℓ

/-- What the precondition gives on a device: the arrays it speaks of hold reals. -/
theorem reals_of_pre (m : MK) (h : Pre_InprojBwdIdeal_inproj_finite m) (c : Dev InprojBwdIdeal.nD) :
    (∃ x : Fin 4096 → Fin 1024 → ℝ, ∀ i j, InprojBwdIdeal.Elem.X m c i j = (x i j : EReal))
    ∧ (∃ g : Fin 1024 → ℝ, ∀ j, InprojBwdIdeal.Elem.G m c j = (g j : EReal))
    ∧ (∃ w : Fin 1024 → Fin 4352 → ℝ, ∀ j p, InprojBwdIdeal.Elem.W m c j p = (w j p : EReal))
    ∧ (∃ D : Fin 4096 → Fin 4352 → ℝ, ∀ i p, InprojBwdIdeal.Elem.D m c i p = (D i p : EReal)) := by
  have e := congrFun (h c) (Shape.Idx.first Pre_inproj_finite.Gen.facts.h_S_)
  unfold Pre_inproj_finite.fn Pre_inproj_finite.fn_part1 Pre_inproj_finite.fn_part2 at e
  dsimp only at e
  obtain ⟨e, e8⟩ := andi_split e
  obtain ⟨e, e7⟩ := andi_split e
  obtain ⟨e, e6⟩ := andi_split e
  obtain ⟨e, e5⟩ := andi_split e
  obtain ⟨e, e4⟩ := andi_split e
  obtain ⟨e, e2⟩ := andi_split e
  obtain ⟨e0, e1⟩ := andi_split e
  haveI : Subsingleton Pre_inproj_finite.S_.Idx := ⟨fun a b => funext fun k => k.elim0⟩
  obtain ⟨r0, h0⟩ := reals_of_all _ _ _ _ _ _ e0
  obtain ⟨r1, h1⟩ := reals_of_all _ _ _ _ _ _ e1
  obtain ⟨r2, h2⟩ := reals_of_all _ _ _ _ _ _ e2
  obtain ⟨r4, h4⟩ := reals_of_all _ _ _ _ _ _ e4
  obtain ⟨r5, h5⟩ := reals_of_all _ _ _ _ _ _ e5
  obtain ⟨r6, h6⟩ := reals_of_all _ _ _ _ _ _ e6
  obtain ⟨r7, h7⟩ := reals_of_all _ _ _ _ _ _ e7
  obtain ⟨r8, h8⟩ := reals_of_all _ _ _ _ _ _ e8
  refine ⟨⟨fun i j => r0 (ix3 0 i j), fun i j => h0 _⟩, ⟨fun j => r1 (ix2 0 j), fun j => h1 _⟩,
    ⟨fun j p => r2 (ix3 0 j p), fun j p => h2 _⟩, ?_⟩
  obtain ⟨D, hD⟩ := InprojSpec.cot_real (q := fun i p => r4 (ix3 0 i p)) (k := fun i p => r5 (ix3 0 i p)) (v := fun i p => r6 (ix3 0 i p))
    (u := fun i p => r7 (ix3 0 i p)) (z := fun i p => r8 (ix3 0 i p))
  refine ⟨D, fun i p => ?_⟩
  rw [← hD]
  exact congrFun₂ (InprojSpec.cot_congr (fun i p => h4 _) (fun i p => h5 _) (fun i p => h6 _) (fun i p => h7 _) (fun i p => h8 _)) i p

/-- The two programs' arguments agree on a device. -/
abbrev Agree (m : MK) (m' : MR) (c : Dev InprojBwdIdeal.nD) : Prop :=
  m' ((c.tc : Thread InprojRefIdeal.nD InprojRefIdeal.τ).loc InprojRefIdeal.main_arg0) = m ((c.tc : Thread InprojBwdIdeal.nD InprojBwdIdeal.τ).loc InprojBwdIdeal.main_arg0)
  ∧ m' ((c.tc : Thread InprojRefIdeal.nD InprojRefIdeal.τ).loc InprojRefIdeal.main_arg1) = m ((c.tc : Thread InprojBwdIdeal.nD InprojBwdIdeal.τ).loc InprojBwdIdeal.main_arg1)
  ∧ m' ((c.tc : Thread InprojRefIdeal.nD InprojRefIdeal.τ).loc InprojRefIdeal.main_arg2) = m ((c.tc : Thread InprojBwdIdeal.nD InprojBwdIdeal.τ).loc InprojBwdIdeal.main_arg2)
  ∧ m' ((c.tc : Thread InprojRefIdeal.nD InprojRefIdeal.τ).loc InprojRefIdeal.main_arg3) = m ((c.tc : Thread InprojBwdIdeal.nD InprojBwdIdeal.τ).loc InprojBwdIdeal.main_arg3)
  ∧ m' ((c.tc : Thread InprojRefIdeal.nD InprojRefIdeal.τ).loc InprojRefIdeal.main_arg4) = m ((c.tc : Thread InprojBwdIdeal.nD InprojBwdIdeal.τ).loc InprojBwdIdeal.main_arg4)
  ∧ m' ((c.tc : Thread InprojRefIdeal.nD InprojRefIdeal.τ).loc InprojRefIdeal.main_arg5) = m ((c.tc : Thread InprojBwdIdeal.nD InprojBwdIdeal.τ).loc InprojBwdIdeal.main_arg5)
  ∧ m' ((c.tc : Thread InprojRefIdeal.nD InprojRefIdeal.τ).loc InprojRefIdeal.main_arg6) = m ((c.tc : Thread InprojBwdIdeal.nD InprojBwdIdeal.τ).loc InprojBwdIdeal.main_arg6)
  ∧ m' ((c.tc : Thread InprojRefIdeal.nD InprojRefIdeal.τ).loc InprojRefIdeal.main_arg7) = m ((c.tc : Thread InprojBwdIdeal.nD InprojBwdIdeal.τ).loc InprojBwdIdeal.main_arg7)
  ∧ m' ((c.tc : Thread InprojRefIdeal.nD InprojRefIdeal.τ).loc InprojRefIdeal.main_arg8) = m ((c.tc : Thread InprojBwdIdeal.nD InprojBwdIdeal.τ).loc InprojBwdIdeal.main_arg8)

variable {m : MK} {m' : MR} {c : Dev InprojBwdIdeal.nD}

/-- Agreement, read element by element. -/
theorem agree_elem (h : Agree m m' c) : InprojRefIdeal.Elem.X m' c = InprojBwdIdeal.Elem.X m c
    ∧ InprojRefIdeal.Elem.G m' c = InprojBwdIdeal.Elem.G m c ∧ InprojRefIdeal.Elem.W m' c = InprojBwdIdeal.Elem.W m c
    ∧ InprojRefIdeal.Elem.E m' c = InprojBwdIdeal.Elem.E m c ∧ InprojRefIdeal.Elem.D m' c = InprojBwdIdeal.Elem.D m c := by
  obtain ⟨a0, a1, a2, a3, a4, a5, a6, a7, a8⟩ := h
  exact ⟨funext₂ fun i j => congrFun a0 _, funext fun j => congrFun a1 _, funext₂ fun i j => congrFun a2 _, funext₂ fun i j => congrFun a3 _,
    InprojSpec.cot_congr (fun i p => congrFun a4 _) (fun i p => congrFun a5 _) (fun i p => congrFun a6 _) (fun i p => congrFun a7 _)
      (fun i p => congrFun a8 _)⟩

theorem same_dx (hp : Pre_InprojBwdIdeal_inproj_finite m) (h : Agree m m' c) :
    InprojRefIdeal.Value.res_main_v52 m' c = InprojBwdIdeal.Value.G12 m c := by
  obtain ⟨⟨x, hx⟩, ⟨g, hg⟩, ⟨w, hw⟩, ⟨D, hD⟩⟩ := reals_of_pre m hp c
  obtain ⟨eX, eG, eW, eE, eD⟩ := agree_elem h
  rw [← InprojBwdIdeal.Value.final12, InprojBwdIdeal.Elem.arr_dx]
  funext i
  idx_vars i
  refine (InprojRefIdeal.Elem.dx_apply m' c i0 i1).trans ?_
  rw [eX, eG, eW, eE, eD]
  exact (InprojSpec.dx_eq _ _ _ _ _ x g w D hx hg hw hD i0 i1).symm

theorem same_gw (h : Agree m m' c) : InprojRefIdeal.Read.val_main_v54 (F := Ideal) (m' ((c.tc : Thread InprojRefIdeal.nD InprojRefIdeal.τ).loc InprojRefIdeal.main_arg0))
      (m' ((c.tc : Thread InprojRefIdeal.nD InprojRefIdeal.τ).loc InprojRefIdeal.main_arg1)) (m' ((c.tc : Thread InprojRefIdeal.nD InprojRefIdeal.τ).loc InprojRefIdeal.main_arg4))
      (m' ((c.tc : Thread InprojRefIdeal.nD InprojRefIdeal.τ).loc InprojRefIdeal.main_arg5)) (m' ((c.tc : Thread InprojRefIdeal.nD InprojRefIdeal.τ).loc InprojRefIdeal.main_arg6))
      (m' ((c.tc : Thread InprojRefIdeal.nD InprojRefIdeal.τ).loc InprojRefIdeal.main_arg7)) (m' ((c.tc : Thread InprojRefIdeal.nD InprojRefIdeal.τ).loc InprojRefIdeal.main_arg8))
    = InprojBwdIdeal.Value.G13 m c := by
  obtain ⟨eX, eG, eW, eE, eD⟩ := agree_elem h
  rw [← InprojBwdIdeal.Value.final13, InprojBwdIdeal.Elem.arr_gw]
  funext i
  idx_vars i
  refine (InprojRefIdeal.Elem.gw_apply _ _ _ _ _ _ _ i0 i1).trans ?_
  show InprojSpec.gw (InprojRefIdeal.Elem.X m' c) (InprojRefIdeal.Elem.G m' c) (InprojRefIdeal.Elem.D m' c) i0 i1 = _
  rw [eX, eG, eD]

theorem same_gb (h : Agree m m' c) : InprojRefIdeal.Read.val_main_v29 (F := Ideal) (m' ((c.tc : Thread InprojRefIdeal.nD InprojRefIdeal.τ).loc InprojRefIdeal.main_arg4))
      (m' ((c.tc : Thread InprojRefIdeal.nD InprojRefIdeal.τ).loc InprojRefIdeal.main_arg5)) (m' ((c.tc : Thread InprojRefIdeal.nD InprojRefIdeal.τ).loc InprojRefIdeal.main_arg6))
      (m' ((c.tc : Thread InprojRefIdeal.nD InprojRefIdeal.τ).loc InprojRefIdeal.main_arg7)) (m' ((c.tc : Thread InprojRefIdeal.nD InprojRefIdeal.τ).loc InprojRefIdeal.main_arg8))
    = InprojBwdIdeal.Value.G14 m c := by
  obtain ⟨eX, eG, eW, eE, eD⟩ := agree_elem h
  rw [← InprojBwdIdeal.Value.final14, InprojBwdIdeal.Elem.arr_gb]
  funext i
  idx_vars i
  obtain rfl : i0 = 0 := Subsingleton.elim _ _
  refine (InprojRefIdeal.Elem.gb_apply _ _ _ _ _ i1).trans ?_
  show InprojSpec.gb (InprojRefIdeal.Elem.D m' c) i1 = _
  rw [eD]

theorem same_gg (h : Agree m m' c) : InprojRefIdeal.Read.val_main_v35 (F := Ideal) (m' ((c.tc : Thread InprojRefIdeal.nD InprojRefIdeal.τ).loc InprojRefIdeal.main_arg0))
      (m' ((c.tc : Thread InprojRefIdeal.nD InprojRefIdeal.τ).loc InprojRefIdeal.main_arg2)) (m' ((c.tc : Thread InprojRefIdeal.nD InprojRefIdeal.τ).loc InprojRefIdeal.main_arg4))
      (m' ((c.tc : Thread InprojRefIdeal.nD InprojRefIdeal.τ).loc InprojRefIdeal.main_arg5)) (m' ((c.tc : Thread InprojRefIdeal.nD InprojRefIdeal.τ).loc InprojRefIdeal.main_arg6))
      (m' ((c.tc : Thread InprojRefIdeal.nD InprojRefIdeal.τ).loc InprojRefIdeal.main_arg7)) (m' ((c.tc : Thread InprojRefIdeal.nD InprojRefIdeal.τ).loc InprojRefIdeal.main_arg8))
    = InprojBwdIdeal.Value.G15 m c := by
  obtain ⟨eX, eG, eW, eE, eD⟩ := agree_elem h
  rw [← InprojBwdIdeal.Value.final15, InprojBwdIdeal.Elem.arr_gg]
  funext i
  idx_vars i
  obtain rfl : i0 = 0 := Subsingleton.elim _ _
  refine (InprojRefIdeal.Elem.gg_apply _ _ _ _ _ _ _ i1).trans ?_
  show InprojSpec.gg (InprojRefIdeal.Elem.X m' c) (InprojRefIdeal.Elem.W m' c) (InprojRefIdeal.Elem.D m' c) i1 = _
  rw [eX, eW, eD]

/-- The value claim: the kernel and the derivative of the forward lines leave the same four gradients. -/
theorem algebraic : algebraic_InprojBwdIdeal_InprojRefIdeal_pre_inproj_finite := by
  intro m g m' g' hp ha
  refine ⟨InprojBwdIdeal.Value.G12 m, InprojBwdIdeal.Value.G13 m, InprojBwdIdeal.Value.G14 m, InprojBwdIdeal.Value.G15 m,
    InprojBwdIdeal.Value.run m g, (θ_run _ _ _).mono (fun r h c => ?_) (InprojRefIdeal.Value.run m' g')⟩
  obtain ⟨h0, h1, h2, h3, hr⟩ := h c
  exact ⟨h0.trans (same_dx hp (ha c)), h1.trans ((InprojRefIdeal.Read.val_main_v54_eq ..).trans (same_gw (ha c))),
    h2.trans ((InprojRefIdeal.Read.val_main_v29_eq ..).trans (same_gb (ha c))),
    h3.trans ((InprojRefIdeal.Read.val_main_v35_eq ..).trans (same_gg (ha c))), hr⟩

/-- The reference runs, leaves its arguments unchanged and has no semaphore. -/
theorem frame_ref : quiescent_InprojRefIdeal := fun m ρ _ =>
  (θ_run InprojRefIdeal.defs _ _).mono (fun r h => ⟨fun c => (h c).2.2.2.2, sem_eq_zero_of_no_sems (by decide) r.2⟩)
    (InprojRefIdeal.Value.run (F := Ideal) m ρ)

end Cert.InprojAlg
-- ==== Proof.FfnSpec.lean ====
/-
  The backward pass of the gated feed-forward layer, element by element, over the extended reals: the form both programs are read
  into, and the equality of the two forms on finite values.
-/
module

public import proofs.«01_k».proof.Proof.InprojSpec

@[expose] public section

noncomputable section

namespace Cert.FfnSpec

open Idealize.ShloMosaic Cert.Reals Cert.InprojSpec

/-- The array `n` rows earlier, zero before the first row. -/
def earlier {k : ℕ} (n : ℕ) (f : Fin 4096 → Fin k → EReal) (i : Fin 4096) (l : Fin k) : EReal :=
  if h : i.val < n then 0 else f ⟨i.val - n, by omega⟩ l

/-- The array `n` rows later, zero past the last row. -/
def later {k : ℕ} (n : ℕ) (f : Fin 4096 → Fin k → EReal) (i : Fin 4096) (l : Fin k) : EReal :=
  if h : i.val < 4096 - n then f ⟨n + i.val, by omega⟩ l else 0

/-- Moving the one factor of a correlation down is moving the other up. -/
theorem sum_later {n k : ℕ} (hn : n ≤ 4096) (f u : Fin 4096 → Fin k → EReal) (l : Fin k) :
    ∑ i, later n f i l * u i l = ∑ i, f i l * earlier n u i l := by
  classical
  have h1 : ∑ i, later n f i l * u i l = ∑ i ∈ Finset.univ.filter (fun i : Fin 4096 => i.val < 4096 - n), later n f i l * u i l := by
    refine (Finset.sum_filter_of_ne fun i _ h => ?_).symm
    by_contra hc
    exact h (by rw [later, dif_neg hc, zero_mul])
  rw [h1]
  refine Finset.sum_of_injOn (fun i => if h : i.val < 4096 - n then ⟨n + i.val, by omega⟩ else i) ?_ ?_ ?_ ?_
  · intro a ha b hb e
    simp only [Finset.coe_filter, Finset.mem_univ, true_and, Set.mem_setOf_eq] at ha hb
    simp only [dif_pos ha, dif_pos hb, Fin.mk.injEq] at e
    exact Fin.ext (by omega)
  · exact fun _ _ => Finset.mem_coe.2 (Finset.mem_univ _)
  · intro i _ h
    have : i.val < n := by
      by_contra hc
      refine h ⟨⟨i.val - n, by omega⟩, ?_, ?_⟩
      · simp only [Finset.coe_filter, Finset.mem_univ, true_and, Set.mem_setOf_eq]; omega
      · show (if h : i.val - n < 4096 - n then (⟨n + (i.val - n), _⟩ : Fin 4096) else _) = i
        rw [dif_pos (by omega)]
        exact Fin.ext (by show n + (i.val - n) = i.val; omega)
    rw [earlier, dif_pos this, mul_zero]
  · intro i hi
    have hi' := (Finset.mem_filter.1 hi).2
    simp only [later, earlier, dif_pos hi']
    rw [dif_neg (by show ¬ n + i.val < n; omega)]
    congr 2
    exact Fin.ext (by show i.val = n + i.val - n; omega)

variable (x : Fin 4096 → Fin 1024 → EReal) (g : Fin 1024 → EReal) (wu : Fin 1024 → Fin 5632 → EReal)
  (cw : Fin 3 → Fin 5632 → EReal) (wd : Fin 2816 → Fin 1024 → EReal) (dh : Fin 4096 → Fin 1024 → EReal)

/-- The projection of the normalised input. -/
def u (i : Fin 4096) (l : Fin 5632) : EReal := ∑ k, x i k * scale x i * g k * wu k l

/-- Its causal convolution: gates in the first half of the columns, values in the second. -/
def up (i : Fin 4096) (l : Fin 5632) : EReal :=
  cw 0 l * earlier 2 (u x g wu) i l + cw 1 l * earlier 1 (u x g wu) i l + cw 2 l * u x g wu i l

/-- The cotangent of the gated values. -/
def dact (i : Fin 4096) (k : Fin 2816) : EReal := ∑ j, dh i j * wd k j

/-- The sigmoid by the hyperbolic tangent. -/
def sg (v : EReal) : EReal := Ideal.ofBits .f32 0x3F000000#32 * Ideal.tanh (Ideal.ofBits .f32 0x3F000000#32 * v) + Ideal.ofBits .f32 0x3F000000#32

/-- The sigmoid by the exponential. -/
def sg' (v : EReal) : EReal := Ideal.div 1 (1 + Ideal.exp (-v))

/-- The gradient through the gate, from the convolution's output `U` and the cotangent `A` of the gated values, as the kernel
    writes it. -/
def dgate (U : Fin 4096 → Fin 5632 → EReal) (A : Fin 4096 → Fin 2816 → EReal) (i : Fin 4096) (l : Fin 5632) : EReal :=
  if h : l.val < 2816 then A i ⟨l.val, h⟩ * U i ⟨2816 + l.val, by omega⟩ * (sg (U i l) * (1 + U i l * (1 - sg (U i l))))
  else A i ⟨l.val - 2816, by omega⟩ * (U i ⟨l.val - 2816, by omega⟩ * sg (U i ⟨l.val - 2816, by omega⟩))

/-- The gradient through the gate as the derivative of the forward lines gives it. -/
def dgate' (U : Fin 4096 → Fin 5632 → EReal) (A : Fin 4096 → Fin 2816 → EReal) (i : Fin 4096) (l : Fin 5632) : EReal :=
  if h : l.val < 2816 then A i ⟨l.val, h⟩ * U i ⟨2816 + l.val, by omega⟩ * sg' (U i l)
    + U i l * (A i ⟨l.val, h⟩ * U i ⟨2816 + l.val, by omega⟩) * (sg' (U i l) * (1 - sg' (U i l)))
  else U i ⟨l.val - 2816, by omega⟩ * sg' (U i ⟨l.val - 2816, by omega⟩) * A i ⟨l.val - 2816, by omega⟩

variable {x g wu cw wd dh}

theorem earlier_real {n : ℕ} {f : Fin 4096 → Fin 5632 → EReal} (h : ∀ i l, IsReal (f i l)) (i l) : IsReal (earlier n f i l) :=
  IsReal.dite (fun _ => isReal_zero) (fun _ => h _ _)

theorem later_real {n : ℕ} {f : Fin 4096 → Fin 5632 → EReal} (h : ∀ i l, IsReal (f i l)) (i l) : IsReal (later n f i l) :=
  IsReal.dite (fun _ => h _ _) (fun _ => isReal_zero)

theorem scale_real (hx : ∀ i k, IsReal (x i k)) (i : Fin 4096) : IsReal (scale x i) := by
  choose r hr using hx i
  obtain ⟨ε, hε, hε'⟩ := word_eps
  refine ⟨rstd 1024 ε r, ?_⟩
  unfold scale msq
  simp only [hr, word_1024, hε']
  exact rstd_eq (by norm_num) hε r

theorem u_real (hx : ∀ i k, IsReal (x i k)) (hg : ∀ k, IsReal (g k)) (hw : ∀ k l, IsReal (wu k l)) (i l) : IsReal (u x g wu i l) :=
  IsReal.sum fun k => (((hx i k).mul (scale_real hx i)).mul (hg k)).mul (hw k l)

theorem up_real (hx : ∀ i k, IsReal (x i k)) (hg : ∀ k, IsReal (g k)) (hw : ∀ k l, IsReal (wu k l)) (hc : ∀ t l, IsReal (cw t l))
    (i l) : IsReal (up x g wu cw i l) :=
  have h := u_real hx hg hw
  (((hc 0 l).mul (earlier_real h i l)).add ((hc 1 l).mul (earlier_real h i l))).add ((hc 2 l).mul (h i l))

theorem dact_real (hd : ∀ k j, IsReal (wd k j)) (hh : ∀ i j, IsReal (dh i j)) (i k) : IsReal (dact wd dh i k) :=
  IsReal.sum fun j => (hh i j).mul (hd k j)

theorem sg_real {v : EReal} (h : IsReal v) : ∃ a s : ℝ, v = (a : EReal) ∧ sg v = (s : EReal) ∧ sg' v = (s : EReal) := by
  obtain ⟨a, rfl⟩ := h
  exact ⟨a, sigm a, rfl, sigm_tanh a, sigm_exp a⟩

variable {U : Fin 4096 → Fin 5632 → EReal} {A : Fin 4096 → Fin 2816 → EReal}

theorem dgate_real (hU : ∀ i l, IsReal (U i l)) (hA : ∀ i k, IsReal (A i k)) (i l) : IsReal (dgate U A i l) := by
  have h1 : IsReal 1 := ⟨1, rfl⟩
  have hs : ∀ l, IsReal (sg (U i l)) := fun l => by obtain ⟨a, s, -, h, -⟩ := sg_real (hU i l); exact ⟨s, h⟩
  exact IsReal.dite (fun _ => ((hA i _).mul (hU i _)).mul ((hs l).mul (h1.add ((hU i l).mul (h1.sub (hs l))))))
    fun _ => (hA i _).mul ((hU i _).mul (hs _))

theorem dgate_eq (hU : ∀ i l, IsReal (U i l)) (hA : ∀ i k, IsReal (A i k)) (i l) : dgate U A i l = dgate' U A i l := by
  unfold dgate dgate'
  split
  · obtain ⟨a, s, ha, hs, hs'⟩ := sg_real (hU i l)
    rename_i h
    obtain ⟨d, hd⟩ := hA i ⟨l.val, h⟩
    obtain ⟨b, hb⟩ := hU i ⟨2816 + l.val, by omega⟩
    rw [hs, hs', ha, hd, hb, show (1 : EReal) = ((1 : ℝ) : EReal) from rfl]
    simp only [← EReal.coe_mul, ← EReal.coe_add, ← EReal.coe_sub, EReal.coe_eq_coe_iff]
    ring
  · obtain ⟨a, s, ha, hs, hs'⟩ := sg_real (hU i ⟨l.val - 2816, by omega⟩)
    rw [hs, hs', mul_comm]

variable (x g wu cw wd dh)

/-- The gradient of the convolution's output. -/
abbrev dup : Fin 4096 → Fin 5632 → EReal := dgate (up x g wu cw) (dact wd dh)
abbrev dup' : Fin 4096 → Fin 5632 → EReal := dgate' (up x g wu cw) (dact wd dh)

section Conv

variable {k : ℕ}

/-- The gradient of the convolution's input, from the gradient `P` of its output, as the kernel writes it. -/
def dconv (cw : Fin 3 → Fin k → EReal) (P : Fin 4096 → Fin k → EReal) (i : Fin 4096) (l : Fin k) : EReal :=
  cw 2 l * P i l + cw 1 l * later 1 P i l + cw 0 l * later 2 P i l

/-- The same as the derivative of the taps gives it. -/
def dconv' (cw : Fin 3 → Fin k → EReal) (P : Fin 4096 → Fin k → EReal) (i : Fin 4096) (l : Fin k) : EReal :=
  cw 2 l * P i l + later 1 (fun i l => cw 1 l * P i l) i l + later 2 (fun i l => cw 0 l * P i l) i l

theorem dconv_eq (cw : Fin 3 → Fin k → EReal) (P : Fin 4096 → Fin k → EReal) (i l) : dconv cw P i l = dconv' cw P i l := by
  have h : ∀ n (w : Fin k → EReal), w l * later n P i l = later n (fun i l => w l * P i l) i l := fun n w => by
    unfold later; split
    · rfl
    · exact mul_zero _
  rw [dconv, dconv', h, h]

/-- The gradient of the convolution's output against which tap `t` is correlated. -/
def tap (P : Fin 4096 → Fin k → EReal) (t : Fin 3) : Fin 4096 → Fin k → EReal := if t = 2 then P else if t = 1 then later 1 P else later 2 P

/-- The gradient of the taps, from the gradient `P` of the convolution of `z`, as the kernel writes it. -/
def corr (P z : Fin 4096 → Fin k → EReal) (t : Fin 3) (l : Fin k) : EReal := ∑ i, tap P t i l * z i l

/-- The same as the derivative of the taps gives it. -/
def corr' (P z : Fin 4096 → Fin k → EReal) (t : Fin 3) (l : Fin k) : EReal :=
  if t = 2 then ∑ i, P i l * z i l else if t = 1 then ∑ i, P i l * earlier 1 z i l else ∑ i, P i l * earlier 2 z i l

theorem corr_eq (P z : Fin 4096 → Fin k → EReal) (t l) : corr P z t l = corr' P z t l := by
  unfold corr corr' tap
  split_ifs
  · rfl
  · exact sum_later (by norm_num) _ _ _
  · exact sum_later (by norm_num) _ _ _

end Conv

/-- The convolution weight's gradient, in the two forms. -/
abbrev gconv (P : Fin 4096 → Fin 5632 → EReal) : Fin 3 → Fin 5632 → EReal := corr P (u x g wu)
abbrev gconv' (P : Fin 4096 → Fin 5632 → EReal) : Fin 3 → Fin 5632 → EReal := corr' P (u x g wu)

theorem dconv_real {P : Fin 4096 → Fin 5632 → EReal} (hc : ∀ t l, IsReal (cw t l)) (hP : ∀ i l, IsReal (P i l)) (i l) :
    IsReal (dconv cw P i l) :=
  (((hc 2 l).mul (hP i l)).add ((hc 1 l).mul (later_real hP i l))).add ((hc 0 l).mul (later_real hP i l))

/-- On finite arrays the kernel's gradients are the derivative's. -/
theorem same (hx : ∀ i k, IsReal (x i k)) (hg : ∀ k, IsReal (g k)) (hw : ∀ k l, IsReal (wu k l)) (hc : ∀ t l, IsReal (cw t l))
    (hd : ∀ k j, IsReal (wd k j)) (hh : ∀ i j, IsReal (dh i j)) :
    dup x g wu cw wd dh = dup' x g wu cw wd dh
    ∧ dconv cw (dup x g wu cw wd dh) = dconv' cw (dup' x g wu cw wd dh)
    ∧ gconv x g wu (dup x g wu cw wd dh) = gconv' x g wu (dup' x g wu cw wd dh)
    ∧ dx x g wu (dconv cw (dup x g wu cw wd dh)) dh = dx' x g wu (dconv' cw (dup' x g wu cw wd dh)) dh := by
  have hU := up_real hx hg hw hc
  have hA := dact_real hd hh
  have e1 : dup x g wu cw wd dh = dup' x g wu cw wd dh := funext₂ fun i l => dgate_eq hU hA i l
  have e2 : dconv cw (dup x g wu cw wd dh) = dconv' cw (dup' x g wu cw wd dh) := by
    rw [← e1]; exact funext₂ fun i l => dconv_eq cw _ i l
  have hP := dconv_real cw hc (P := dup x g wu cw wd dh) (dgate_real hU hA)
  refine ⟨e1, e2, ?_, ?_⟩
  · rw [← e1]; exact funext₂ fun t l => corr_eq _ _ t l
  · rw [← e2]
    choose xr hx using hx
    choose gr hg using hg
    choose wr hw using hw
    choose Dr hD using hP
    exact funext₂ fun i j => dx_eq x g wu _ dh xr gr wr Dr hx hg hw hD i j

end Cert.FfnSpec
-- ==== Proof.FfnBlocks.lean ====
/-
  The blocks the feed-forward layer's backward kernel reads at each grid point, in terms of the program's arguments.
-/
module

public import proofs.«01_k».proof.Proof.Gen.FfnBwdIdeal.Frame.Runs
public import proofs.«01_k».proof.Proof.FfnSpec
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

namespace Cert.FfnBwdIdeal.Elem

open Cert.FfnBwdIdeal Cert.FfnBwdIdeal.Gen Cert.FfnSpec
open Idealize.ShloMosaic Idealize.ShloMosaic.TcCoe Idealize.SL.Sem

variable (m : (ℓ : Loc nD τ sig) → Buf (Elt Ideal) ℓ) (c : Dev nD)

/-- The input, the gain, the first weight, the convolution's taps, the second weight and the layer's cotangent. -/
abbrev X (i : Fin 4096) (j : Fin 1024) : EReal := m ((c.tc : Thread nD τ).loc main_arg0) (ix3 0 i j)
abbrev G (j : Fin 1024) : EReal := m ((c.tc : Thread nD τ).loc main_arg1) (ix2 0 j)
abbrev Wu (j : Fin 1024) (l : Fin 5632) : EReal := m ((c.tc : Thread nD τ).loc main_arg2) (ix3 0 j l)
abbrev Cw (t : Fin 3) (l : Fin 5632) : EReal := m ((c.tc : Thread nD τ).loc main_arg3) (ix3 0 t l)
abbrev Wd (k : Fin 2816) (j : Fin 1024) : EReal := m ((c.tc : Thread nD τ).loc main_arg4) (ix3 0 k j)
abbrev Dh (i : Fin 4096) (j : Fin 1024) : EReal := m ((c.tc : Thread nD τ).loc main_arg5) (ix3 0 i j)

/-- The gradients of the convolution's output and input. -/
abbrev P : Fin 4096 → Fin 5632 → EReal := dup (X m c) (G m c) (Wu m c) (Cw m c) (Wd m c) (Dh m c)
abbrev Q : Fin 4096 → Fin 5632 → EReal := dconv (Cw m c) (P m c)

/-- Where each window's block lies: the grid goes from the last rows to the first. -/
theorem idx : ∀ t : Fin cfg0.N, win0_0.index t = ![15 - t.val, 0] ∧ win0_1.index t = ![15 - t.val, 0] ∧ win0_2.index t = ![15 - t.val, 0]
    ∧ win0_3.index t = ![15 - t.val, 0] ∧ win0_4.index t = ![0, 0] ∧ win0_5.index t = ![0, 0] ∧ win0_6.index t = ![0, 0]
    ∧ win0_7.index t = ![0, 0] ∧ win0_8.index t = ![15 - t.val, 0] ∧ win0_9.index t = ![15 - t.val, 0] :=
  (by decide +kernel : ∀ t : Fin grid0.N, _)

/-- The array row of row `r` of the block of point `t`. -/
def row (t : Fin cfg0.N) (r : Fin 256) : Fin 4096 :=
  ⟨(15 - t.val) * 256 + r.val, by have := t.isLt; have := r.isLt; have : cfg0.N = 16 := N_0; omega⟩

/-- The saved projection the host's lines leave. -/
theorem ub_host (i : Fin 4096) (l : Fin 5632) : V m c main_v44 (ix2 i l) = u (X m c) (G m c) (Wu m c) i l := by
  entry_read
  pointwise
  rfl

/-- The convolution the host's lines leave. -/
theorem up_host (i : Fin 4096) (l : Fin 5632) : V m c main_v42 (ix2 i l) = up (X m c) (G m c) (Wu m c) (Cw m c) i l := by
  entry_read
  pointwise
  rfl

theorem dh_host (i : Fin 4096) (j : Fin 1024) : V m c main_v43 (ix2 i j) = Dh m c i j := by
  entry_read
  pointwise

theorem x_host (i : Fin 4096) (j : Fin 1024) : V m c main_v45 (ix2 i j) = X m c i j := by
  entry_read
  pointwise

variable (t : Fin cfg0.N)

theorem b0 (r : Fin 256) (j : Fin 1024) : iblk m c 0 t (ix2 r j) = Dh m c (row t r) j := by
  have e : (win0_0.blk t).view.emb (ix2 r j) = ix2 (row t r) j := by blk_ext [idx t, row]
  show V m c main_v43 ((win0_0.blk t).view.emb (ix2 r j)) = _
  rw [e, dh_host]
theorem b1 (r : Fin 256) (l : Fin 5632) : iblk m c 1 t (ix2 r l) = u (X m c) (G m c) (Wu m c) (row t r) l := by
  have e : (win0_1.blk t).view.emb (ix2 r l) = ix2 (row t r) l := by blk_ext [idx t, row]
  show V m c main_v44 ((win0_1.blk t).view.emb (ix2 r l)) = _
  rw [e, ub_host]
theorem b2 (r : Fin 256) (l : Fin 5632) : iblk m c 2 t (ix2 r l) = up (X m c) (G m c) (Wu m c) (Cw m c) (row t r) l := by
  have e : (win0_2.blk t).view.emb (ix2 r l) = ix2 (row t r) l := by blk_ext [idx t, row]
  show V m c main_v42 ((win0_2.blk t).view.emb (ix2 r l)) = _
  rw [e, up_host]
theorem b3 (r : Fin 256) (j : Fin 1024) : iblk m c 3 t (ix2 r j) = X m c (row t r) j := by
  have e : (win0_3.blk t).view.emb (ix2 r j) = ix2 (row t r) j := by blk_ext [idx t, row]
  show V m c main_v45 ((win0_3.blk t).view.emb (ix2 r j)) = _
  rw [e, x_host]
theorem b4 (j : Fin 1024) (l : Fin 5632) : iblk m c 4 t (ix2 j l) = Wu m c j l := by
  have e : (win0_4.blk t).view.emb (ix2 j l) = ix2 j l := by blk_ext [idx t, row]
  show V m c main_v47 ((win0_4.blk t).view.emb (ix2 j l)) = _
  rw [e]
  entry_read
  pointwise
theorem b5 (k : Fin 3) (l : Fin 5632) : iblk m c 5 t (ix2 k l) = Cw m c k l := by
  have e : (win0_5.blk t).view.emb (ix2 k l) = ix2 k l := by blk_ext [idx t, row]
  show V m c main_v48 ((win0_5.blk t).view.emb (ix2 k l)) = _
  rw [e]
  entry_read
  pointwise
theorem b6 (k : Fin 2816) (j : Fin 1024) : iblk m c 6 t (ix2 k j) = Wd m c k j := by
  have e : (win0_6.blk t).view.emb (ix2 k j) = ix2 k j := by blk_ext [idx t, row]
  show V m c main_v50 ((win0_6.blk t).view.emb (ix2 k j)) = _
  rw [e]
  entry_read
  pointwise
theorem b7 (j : Fin 1024) : iblk m c 7 t (ix2 0 j) = G m c j := by
  blk_ext! [iblk, V, idx t, row]

/-- The block of the gradient of the convolution's output. -/
abbrev dupB : FVec Ideal S256x5632 .f32 := k0_pay6 (iblk m c 0 t) (iblk m c 6 t) (iblk m c 2 t)

theorem pay6_apply (a : Vec Ideal S256x1024 .f32) (b : Vec Ideal S2816x1024 .bf16) (v : Vec Ideal S256x5632 .f32) (i : Fin 256 → Fin 4096)
    (D : Fin 4096 → Fin 1024 → EReal) (W : Fin 2816 → Fin 1024 → EReal) (U : Fin 4096 → Fin 5632 → EReal)
    (ha : ∀ r j, a (ix2 r j) = D (i r) j) (hb : ∀ k j, b (ix2 k j) = W k j) (hv : ∀ r l, v (ix2 r l) = U (i r) l)
    (r : Fin 256) (l : Fin 5632) : k0_pay6 a b v (ix2 r l) = dgate U (dact W D) (i r) l := by
  pointwise [k0_pay6, k0_pay5]
  simp only [ha, hb, hv]
  rfl

theorem dup_apply (r : Fin 256) (l : Fin 5632) : dupB m c t (ix2 r l) = P m c (row t r) l :=
  pay6_apply _ _ _ (row t) _ _ _ (b0 m c t) (b6 m c t) (b2 m c t) r l

end Cert.FfnBwdIdeal.Elem
-- ==== Proof.Rows.lean ====
/-
  An array kept row by row: what the latest stores leave at a row, and what a load of a row reads.
-/
module

public import Idealize.ShloMosaic.Lib.Pipeline.ValueKit
public import Idealize.ShloMosaic.Lib.Pipeline.ReadBack

@[expose] public section

noncomputable section

namespace Cert.Rows

open Idealize.ShloMosaic

variable {Val : EltTy → Type} {e : EltTy} {K n : ℕ}

/-- A row of an array of `n` columns. -/
abbrev rowRect (a : ℕ) (inb : ∀ x, (![a, 0] : Fin 2 → ℕ) x + (⟨2, ![1, n]⟩ : Shape).size x ≤ (⟨2, ![K, n]⟩ : Shape).size x) :
    Rect (⟨2, ![K, n]⟩ : Shape) := Rect.unit ![a, 0] (⟨2, ![1, n]⟩ : Shape).size inb

theorem rowRect_emb (a : Fin K) (inb) (l : Fin n) : (rowRect (K := K) (n := n) a.val inb).emb (ix2 (0 : Fin 1) l) = ix2 a l := by
  funext x; apply Fin.ext
  fin_cases x
  · show a.val + 1 * 0 = a.val; omega
  · show 0 + 1 * l.val = l.val; omega

/-- At the row last stored, the stored payload. -/
theorem canon_row [∀ e, Nonempty (Val e)] (a : Fin K) (inb) (w : (⟨2, ![1, n]⟩ : Shape).Idx → Val e)
    (L : List (View.Piece Val (⟨2, ![K, n]⟩ : Shape) e)) (l : Fin n) :
    View.canon (⟨rowRect a.val inb, w⟩ :: L) (ix2 a l) = w (ix2 (0 : Fin 1) l) := by
  rw [← rowRect_emb a inb l]
  exact View.canon_cons_emb (rowRect a.val inb) w L (ix2 (0 : Fin 1) l)

/-- At another row, what the earlier stores leave. -/
theorem canon_row_of_ne [∀ e, Nonempty (Val e)] (a : Fin K) (b : ℕ) (hne : a.val ≠ b) (inb) (w : (⟨2, ![1, n]⟩ : Shape).Idx → Val e)
    (L : List (View.Piece Val (⟨2, ![K, n]⟩ : Shape) e)) (l : Fin n) :
    View.canon (⟨rowRect b inb, w⟩ :: L) (ix2 a l) = View.canon L (ix2 a l) := by
  refine View.canon_cons_of_not_mem _ L fun hm => ?_
  obtain ⟨i, hi, he⟩ := (LoadRect.mem_set _).mp hm (0 : Fin 2)
  have hi1 : i < 1 := hi
  have he' : a.val = b + 1 * i := he
  omega

/-- A load of a row reads what the stores leave there. -/
theorem readCov_row [∀ e, Nonempty (Val e)] {sig : RefSig} {κ : Kind} {sp : Space} (v : View sig κ sp (⟨2, ![K, n]⟩ : Shape) e)
    (L : List (View.Piece Val (⟨2, ![K, n]⟩ : Shape) e)) (a : Fin K) (inb) (l : Fin n) :
    v.readCov L (rowRect a.val inb).toLoadRect (ix2 (0 : Fin 1) l) = View.canon L (ix2 a l) := by
  rw [View.readCov_eq_canon']
  exact congrArg (View.canon L) (rowRect_emb a inb l)

theorem ld_row (x : (⟨2, ![K, n]⟩ : Shape).Idx → Val e) (a : Fin K) (inb) (l : Fin n) :
    View.ld x (rowRect a.val inb) (ix2 (0 : Fin 1) l) = x (ix2 a l) :=
  congrArg x (rowRect_emb a inb l)

/-! Bands of `R` rows. -/

variable {R : ℕ}

/-- `R` rows of an array of `n` columns. -/
abbrev bandRect (a R : ℕ) (inb : ∀ x, (![a, 0] : Fin 2 → ℕ) x + (⟨2, ![R, n]⟩ : Shape).size x ≤ (⟨2, ![K, n]⟩ : Shape).size x) :
    Rect (⟨2, ![K, n]⟩ : Shape) := Rect.unit ![a, 0] (⟨2, ![R, n]⟩ : Shape).size inb

theorem bandRect_emb (a : ℕ) (inb) (i : Fin K) (s : Fin R) (hi : i.val = a + s.val) (l : Fin n) :
    (bandRect (K := K) (n := n) a R inb).emb (ix2 s l) = ix2 i l := by
  funext x; apply Fin.ext
  fin_cases x
  · show a + 1 * s.val = i.val; omega
  · show 0 + 1 * l.val = l.val; omega

theorem canon_band [∀ e, Nonempty (Val e)] (a : ℕ) (i : Fin K) (s : Fin R) (hi : i.val = a + s.val) (inb)
    (w : (⟨2, ![R, n]⟩ : Shape).Idx → Val e) (L : List (View.Piece Val (⟨2, ![K, n]⟩ : Shape) e)) (l : Fin n) :
    View.canon (⟨bandRect a R inb, w⟩ :: L) (ix2 i l) = w (ix2 s l) := by
  rw [← bandRect_emb a inb i s hi l]
  exact View.canon_cons_emb (bandRect a R inb) w L (ix2 s l)

theorem canon_band_of_lt [∀ e, Nonempty (Val e)] (a : ℕ) (i : Fin K) (hi : i.val < a) (inb) (w : (⟨2, ![R, n]⟩ : Shape).Idx → Val e)
    (L : List (View.Piece Val (⟨2, ![K, n]⟩ : Shape) e)) (l : Fin n) :
    View.canon (⟨bandRect a R inb, w⟩ :: L) (ix2 i l) = View.canon L (ix2 i l) := by
  refine View.canon_cons_of_not_mem _ L fun hm => ?_
  obtain ⟨b, _, he⟩ := (LoadRect.mem_set _).mp hm (0 : Fin 2)
  have he' : i.val = a + 1 * b := he
  omega

theorem canon_band_of_le [∀ e, Nonempty (Val e)] (a : ℕ) (i : Fin K) (hi : a + R ≤ i.val) (inb) (w : (⟨2, ![R, n]⟩ : Shape).Idx → Val e)
    (L : List (View.Piece Val (⟨2, ![K, n]⟩ : Shape) e)) (l : Fin n) :
    View.canon (⟨bandRect a R inb, w⟩ :: L) (ix2 i l) = View.canon L (ix2 i l) := by
  refine View.canon_cons_of_not_mem _ L fun hm => ?_
  obtain ⟨b, hb, he⟩ := (LoadRect.mem_set _).mp hm (0 : Fin 2)
  have hb' : b < R := hb
  have he' : i.val = a + 1 * b := he
  omega

/-- A load of a band reads what the stores leave there. -/
theorem readCov_band [∀ e, Nonempty (Val e)] {sig : RefSig} {κ : Kind} {sp : Space} (v : View sig κ sp (⟨2, ![K, n]⟩ : Shape) e)
    (L : List (View.Piece Val (⟨2, ![K, n]⟩ : Shape) e)) (a : ℕ) (i : Fin K) (s : Fin R) (hi : i.val = a + s.val) (inb) (l : Fin n) :
    v.readCov L (bandRect a R inb).toLoadRect (ix2 s l) = View.canon L (ix2 i l) := by
  rw [View.readCov_eq_canon']
  exact congrArg (View.canon L) (bandRect_emb a inb i s hi l)

theorem ld_band (x : (⟨2, ![K, n]⟩ : Shape).Idx → Val e) (a : ℕ) (i : Fin K) (s : Fin R) (hi : i.val = a + s.val) (inb) (l : Fin n) :
    View.ld x (bandRect a R inb) (ix2 s l) = x (ix2 i l) :=
  congrArg x (bandRect_emb a inb i s hi l)

end Cert.Rows
-- ==== Proof.FfnKernel.lean ====
/-
  The arrays the feed-forward layer's backward kernel leaves, element by element.
-/
module

public import proofs.«01_k».proof.Proof.Gen.FfnBwdIdeal.Frame
public import proofs.«01_k».proof.Proof.FfnBlocks
public import proofs.«01_k».proof.Proof.Rows

@[expose] public section

set_option maxRecDepth 16384

noncomputable section

namespace Cert.FfnBwdIdeal.Elem

open Cert.FfnBwdIdeal Cert.FfnBwdIdeal.Gen Cert.FfnSpec Cert.Rows
open Idealize.ShloMosaic Idealize.ShloMosaic.TcCoe Idealize.SL.Sem

variable (m : (ℓ : Loc nD τ sig) → Buf (Elt Ideal) ℓ) (c : Dev nD) (t : Fin cfg0.N)

/-- The point before, where there is one. -/
theorem prev_lt : t.val - 1 < cfg0.N := Nat.lt_of_le_of_lt (Nat.sub_le _ _) t.isLt

/-- The rows a point takes over from the point before: zero at the first. -/
def carry : Vec Ideal S8x5632 .f32 := if t.val % 16 = 0 then k0_pay2 (F := Ideal) else (outsAt0 m c (t.val - 1) (prev_lt t)).2.2.2.2

/-- The convolution weight's gradient a point takes over. -/
def gcwIn : Vec Ideal S3x5632 .f32 := if t.val % 16 = 0 then k0_pay3 (F := Ideal) else (outsAt0 m c (t.val - 1) (prev_lt t)).2.2.1

/-- The gain's gradient a point takes over. -/
def ggIn : Vec Ideal S1x1024 .f32 := if t.val % 16 = 0 then k0_pay4 (F := Ideal) else (outsAt0 m c (t.val - 1) (prev_lt t)).2.2.2.1

/-- The block of the gradient of the convolution's output, one row and two rows later. -/
abbrev dup1B : FVec Ideal S256x5632 .f32 := k0_pay8 (iblk m c 0 t) (iblk m c 6 t) (iblk m c 2 t) (carry m c t)
abbrev edgeB : FVec Ideal S16x5632 .f32 := k0_pay7 (iblk m c 0 t) (iblk m c 6 t) (iblk m c 2 t) (carry m c t)
abbrev dup2B : FVec Ideal S256x5632 .f32 := k0_pay9 (dupB m c t) (edgeB m c t) 254#32

theorem out_du : (outsAt0 m c t.val t.isLt).1 = k0_pay15 (dupB m c t) (dup1B m c t) (dup2B m c t) (iblk m c 5 t) := by
  by_cases h0 : t.val % 16 = 0
  · rw [outsAt0_A m c t h0]; frame_out; simp only [dup1B, dup2B, edgeB, carry, if_pos h0]
  · rw [outsAt0_B m c t h0]; frame_out; simp only [dup1B, dup2B, edgeB, carry, if_neg h0, read_unread_whole]

theorem out_dh1 : (outsAt0 m c t.val t.isLt).2.1 = k0_pay21 (k0_pay5 (iblk m c 0 t)) (dupB m c t) (dup1B m c t) (dup2B m c t) (iblk m c 5 t)
    (iblk m c 4 t) (iblk m c 3 t) (iblk m c 7 t) := by
  by_cases h0 : t.val % 16 = 0
  · rw [outsAt0_A m c t h0]; frame_out; simp only [dup1B, dup2B, edgeB, carry, if_pos h0]
  · rw [outsAt0_B m c t h0]; frame_out; simp only [dup1B, dup2B, edgeB, carry, if_neg h0, read_unread_whole]

theorem out_gg : (outsAt0 m c t.val t.isLt).2.2.2.1 = k0_pay1 (k0_pay20 (dupB m c t) (dup1B m c t) (dup2B m c t) (iblk m c 5 t)
    (iblk m c 4 t) (iblk m c 3 t)) (ggIn m c t) := by
  by_cases h0 : t.val % 16 = 0
  · rw [outsAt0_A m c t h0]; frame_out; simp only [dup1B, dup2B, edgeB, carry, ggIn, if_pos h0]
  · rw [outsAt0_B m c t h0]; frame_out; simp only [dup1B, dup2B, edgeB, carry, ggIn, if_neg h0, read_unread_whole]

theorem out_carry : (outsAt0 m c t.val t.isLt).2.2.2.2 = k0_pay10 (dupB m c t) := by
  by_cases h0 : t.val % 16 = 0
  · rw [outsAt0_A m c t h0]; frame_out
  · rw [outsAt0_B m c t h0]; frame_out

theorem N16 : cfg0.N = 16 := N_0

/-- The rows taken over are the first of the block after. -/
theorem carry_apply (q : Fin 8) (l : Fin 5632) : carry m c t (ix2 q l) = later 256 (P m c) (row t ⟨q.val, by omega⟩) l := by
  have ht := t.isLt
  have hN := N16
  unfold carry later
  split
  · rw [dif_neg (by simp only [row]; omega)]
    pointwise [k0_pay2]
  · rw [dif_pos (by simp only [row]; omega), show (outsAt0 m c (t.val - 1) (prev_lt t)).2.2.2.2 = k0_pay10 (dupB m c ⟨t.val - 1, prev_lt t⟩)
      from out_carry m c ⟨t.val - 1, prev_lt t⟩]
    pointwise [k0_pay10]
    refine (dup_apply m c _ _ l).trans (congrArg (P m c · l) (Fin.ext ?_))
    simp only [row]; omega

theorem dup1_apply (r : Fin 256) (l : Fin 5632) : dup1B m c t (ix2 r l) = later 1 (P m c) (row t r) l := by
  have ht := t.isLt
  have hN := N16
  have h6 := dup_apply m c t
  have hc := carry_apply m c t
  revert h6 hc
  unfold dup1B dupB
  generalize carry m c t = d
  intro h6 hc
  pointwise [k0_pay8, k0_pay7]
  simp only [h6, hc]
  unfold later
  repeat' split
  all_goals first
    | rfl
    | (exfalso; simp only [row] at *; omega)
    | (refine congrArg (P m c · l) (Fin.ext ?_); simp only [row]; omega)

theorem dup2_apply (r : Fin 256) (l : Fin 5632) : dup2B m c t (ix2 r l) = later 2 (P m c) (row t r) l := by
  have ht := t.isLt
  have hN := N16
  have h6 := dup_apply m c t
  have hc := carry_apply m c t
  revert h6 hc
  unfold dup2B edgeB dupB
  generalize carry m c t = d
  intro h6 hc
  pointwise [k0_pay9, k0_pay7]
  simp only [h6, hc]
  unfold later
  repeat' split
  all_goals first
    | rfl
    | (exfalso; simp only [row] at *; omega)
    | (refine congrArg (P m c · l) (Fin.ext ?_); simp only [row]; omega)

theorem du_apply (r : Fin 256) (l : Fin 5632) :
    k0_pay15 (dupB m c t) (dup1B m c t) (dup2B m c t) (iblk m c 5 t) (ix2 r l) = Q m c (row t r) l := by
  have h0 := dup_apply m c t r l
  have h1 := dup1_apply m c t r l
  have h2 := dup2_apply m c t r l
  have h5 := fun k => b5 m c t k l
  revert h0 h1 h2 h5
  generalize dupB m c t = a, dup1B m c t = b, dup2B m c t = d
  intro h0 h1 h2 h5
  pointwise [k0_pay15]
  rw [h0, h1, h2]
  simp only [h5]
  rfl

/-- The norm's part of the payloads, over any gradient block. -/
theorem pay21_apply (i : Fin 256 → Fin 4096) (e : FVec Ideal S256x1024 .f32) (a b d : FVec Ideal S256x5632 .f32) (w : Vec Ideal S3x5632 .f32)
    (v : Vec Ideal S1024x5632 .bf16) (x : Vec Ideal S256x1024 .f32) (g : Vec Ideal S1x1024 .f32)
    {X E : Fin 4096 → Fin 1024 → EReal} {G : Fin 1024 → EReal} {W : Fin 1024 → Fin 5632 → EReal} {D : Fin 4096 → Fin 5632 → EReal}
    (he : ∀ r j, e (ix2 r j) = E (i r) j) (hD : ∀ r l, k0_pay15 a b d w (ix2 r l) = D (i r) l) (hv : ∀ j l, v (ix2 j l) = W j l)
    (hx : ∀ r j, x (ix2 r j) = X (i r) j) (hg : ∀ j, g (ix2 0 j) = G j) (r : Fin 256) (j : Fin 1024) :
    k0_pay21 e a b d w v x g (ix2 r j) = InprojSpec.dx X G W D E (i r) j := by
  pointwise [k0_pay21, k0_pay16, k0_pay17, k0_pay18, k0_pay19, k0_pay20]
  simp only [he, hD, hv, hx, hg]
  rfl

theorem pay20_apply (i : Fin 256 → Fin 4096) (a b d : FVec Ideal S256x5632 .f32) (w : Vec Ideal S3x5632 .f32)
    (v : Vec Ideal S1024x5632 .bf16) (x : Vec Ideal S256x1024 .f32) (z : Vec Ideal S1x1024 .f32)
    {X : Fin 4096 → Fin 1024 → EReal} {W : Fin 1024 → Fin 5632 → EReal} {D : Fin 4096 → Fin 5632 → EReal}
    (hD : ∀ r l, k0_pay15 a b d w (ix2 r l) = D (i r) l) (hv : ∀ j l, v (ix2 j l) = W j l)
    (hx : ∀ r j, x (ix2 r j) = X (i r) j) (j : Fin 1024) :
    k0_pay1 (k0_pay20 a b d w v x) z (ix2 0 j)
      = z (ix2 0 j) + ∑ r : Fin 256, InprojSpec.dxn W D (i r) j * (X (i r) j * InprojSpec.scale X (i r)) := by
  pointwise [k0_pay1, k0_pay16, k0_pay17, k0_pay18, k0_pay19, k0_pay20]
  simp only [hD, hv, hx]
  rfl

theorem out_du_apply (r : Fin 256) (l : Fin 5632) : (outsAt0 m c t.val t.isLt).1 (ix2 r l) = Q m c (row t r) l := by
  rw [out_du]; exact du_apply m c t r l

theorem out_dh1_apply (r : Fin 256) (j : Fin 1024) :
    (outsAt0 m c t.val t.isLt).2.1 (ix2 r j) = InprojSpec.dx (X m c) (G m c) (Wu m c) (Q m c) (Dh m c) (row t r) j := by
  rw [out_dh1]
  refine pay21_apply (row t) _ _ _ _ _ _ _ _ (fun r j => ?_) (du_apply m c t) (b4 m c t) (b3 m c t) (b7 m c t) r j
  rw [← b0]; pointwise [k0_pay5]

theorem out_gg_apply (j : Fin 1024) : (outsAt0 m c t.val t.isLt).2.2.2.1 (ix2 0 j) = ggIn m c t (ix2 0 j)
    + ∑ r : Fin 256, InprojSpec.dxn (Wu m c) (Q m c) (row t r) j * (X m c (row t r) j * InprojSpec.scale (X m c) (row t r)) := by
  rw [out_gg]
  exact pay20_apply (row t) _ _ _ _ _ _ _ (du_apply m c t) (b4 m c t) (b3 m c t) j

/-! The convolution weight's gradient: each point adds to its three rows. -/

theorem pay12_apply (d : FVec Ideal S256x5632 .f32) (u : Vec Ideal S256x5632 .bf16) (z : Vec Ideal S1x5632 .f32) (l : Fin 5632) :
    k0_pay12 d u z (ix2 0 l) = z (ix2 0 l) + ∑ r : Fin 256, d (ix2 r l) * u (ix2 r l) := by pointwise [k0_pay12, k0_pay11]

theorem pay13_apply (d : FVec Ideal S256x5632 .f32) (u : Vec Ideal S256x5632 .bf16) (z : Vec Ideal S1x5632 .f32) (l : Fin 5632) :
    k0_pay13 d u z (ix2 0 l) = z (ix2 0 l) + ∑ r : Fin 256, d (ix2 r l) * u (ix2 r l) := by pointwise [k0_pay13, k0_pay11]

theorem pay14_apply (a : FVec Ideal S256x5632 .f32) (b : FVec Ideal S16x5632 .f32) (u : Vec Ideal S256x5632 .bf16) (z : Vec Ideal S1x5632 .f32)
    (l : Fin 5632) : k0_pay14 a b 254#32 u z (ix2 0 l) = z (ix2 0 l) + ∑ r : Fin 256, k0_pay9 a b 254#32 (ix2 r l) * u (ix2 r l) := by
  pointwise [k0_pay14, k0_pay11]

/-- The sum a point adds at a row, from the block `d` correlated there. -/
abbrev corr (d : FVec Ideal S256x5632 .f32) (l : Fin 5632) : EReal := ∑ r : Fin 256, d (ix2 r l) * (iblk m c 1 t : Vec Ideal S256x5632 .bf16) (ix2 r l)

theorem out_gcw (l : Fin 5632) : (outsAt0 m c t.val t.isLt).2.2.1 (ix2 0 l) = gcwIn m c t (ix2 0 l) + corr m c t (dup2B m c t) l
    ∧ (outsAt0 m c t.val t.isLt).2.2.1 (ix2 1 l) = gcwIn m c t (ix2 1 l) + corr m c t (dup1B m c t) l
    ∧ (outsAt0 m c t.val t.isLt).2.2.1 (ix2 2 l) = gcwIn m c t (ix2 2 l) + corr m c t (dupB m c t) l := by
  have z : ∀ (L : List (View.Piece (Elt Ideal) S3x5632 .f32)) (inb) (w : S3x5632.Idx → Elt Ideal .f32) (k : Fin 3),
      View.canon (⟨Rect.unit ![0, 0] ![3, 5632] inb, w⟩ :: L) (ix2 k l) = w (ix2 k l) :=
    fun L inb w k => congrFun (View.canon_cons_unit_lit inb w L (by decide)) _
  by_cases h0 : t.val % 16 = 0
  · rw [outsAt0_A m c t h0]; frame_out
    simp only [dup1B, dup2B, edgeB, carry, gcwIn, if_pos h0]
    refine ⟨?_, ?_, ?_⟩
    · refine (canon_row (K := 3) (0 : Fin 3) _ _ _ l).trans ((pay14_apply _ _ _ _ l).trans (congrArg₂ (· + ·) ?_ rfl))
      refine (readCov_row (K := 3) _ _ (0 : Fin 3) _ l).trans ?_
      refine (canon_row_of_ne (K := 3) (0 : Fin 3) 1 (by decide) _ _ _ l).trans ?_
      exact (canon_row_of_ne (K := 3) (0 : Fin 3) 2 (by decide) _ _ _ l).trans (z _ _ _ _)
    · refine (canon_row_of_ne (K := 3) (1 : Fin 3) 0 (by decide) _ _ _ l).trans ?_
      refine (canon_row (K := 3) (1 : Fin 3) _ _ _ l).trans ((pay13_apply _ _ _ l).trans (congrArg₂ (· + ·) ?_ rfl))
      refine (readCov_row (K := 3) _ _ (1 : Fin 3) _ l).trans ?_
      exact (canon_row_of_ne (K := 3) (1 : Fin 3) 2 (by decide) _ _ _ l).trans (z _ _ _ _)
    · refine (canon_row_of_ne (K := 3) (2 : Fin 3) 0 (by decide) _ _ _ l).trans ?_
      refine (canon_row_of_ne (K := 3) (2 : Fin 3) 1 (by decide) _ _ _ l).trans ?_
      refine (canon_row (K := 3) (2 : Fin 3) _ _ _ l).trans ((pay12_apply _ _ _ l).trans (congrArg₂ (· + ·) ?_ rfl))
      exact (readCov_row (K := 3) _ _ (2 : Fin 3) _ l).trans (z _ _ _ _)
  · rw [outsAt0_B m c t h0]; frame_out
    simp only [read_unread_whole, dup1B, dup2B, edgeB, carry, gcwIn, if_neg h0]
    refine ⟨?_, ?_, ?_⟩
    · refine (canon_row (K := 3) (0 : Fin 3) _ _ _ l).trans ((pay14_apply _ _ _ _ l).trans (congrArg₂ (· + ·) ?_ rfl))
      exact ld_row _ (0 : Fin 3) _ l
    · refine (canon_row_of_ne (K := 3) (1 : Fin 3) 0 (by decide) _ _ _ l).trans ?_
      refine (canon_row (K := 3) (1 : Fin 3) _ _ _ l).trans ((pay13_apply _ _ _ l).trans (congrArg₂ (· + ·) ?_ rfl))
      exact ld_row _ (1 : Fin 3) _ l
    · refine (canon_row_of_ne (K := 3) (2 : Fin 3) 0 (by decide) _ _ _ l).trans ?_
      refine (canon_row_of_ne (K := 3) (2 : Fin 3) 1 (by decide) _ _ _ l).trans ?_
      refine (canon_row (K := 3) (2 : Fin 3) _ _ _ l).trans ((pay12_apply _ _ _ l).trans (congrArg₂ (· + ·) ?_ rfl))
      exact ld_row _ (2 : Fin 3) _ l

theorem corr_eq {d : FVec Ideal S256x5632 .f32} {l : Fin 5632} {S : Fin 4096 → Fin 5632 → EReal} (h : ∀ r, d (ix2 r l) = S (row t r) l) :
    corr m c t d l = ∑ r : Fin 256, S (row t r) l * u (X m c) (G m c) (Wu m c) (row t r) l :=
  Finset.sum_congr rfl fun r _ => congrArg₂ (· * ·) (h r) (b1 m c t r l)

theorem out_gcw_apply (k : Fin 3) (l : Fin 5632) : (outsAt0 m c t.val t.isLt).2.2.1 (ix2 k l) = gcwIn m c t (ix2 k l)
    + ∑ r : Fin 256, tap (P m c) k (row t r) l * u (X m c) (G m c) (Wu m c) (row t r) l := by
  obtain ⟨h0, h1, h2⟩ := out_gcw m c t l
  match k with
  | 0 => exact h0.trans (congrArg (_ + ·) (corr_eq m c t fun r => dup2_apply m c t r l))
  | 1 => exact h1.trans (congrArg (_ + ·) (corr_eq m c t fun r => dup1_apply m c t r l))
  | 2 => exact h2.trans (congrArg (_ + ·) (corr_eq m c t fun r => dup_apply m c t r l))

/-! The sums over the grid. -/

/-- The blocks' rows, from the last block to the first, are all the rows. -/
theorem sum_rows (f : Fin 4096 → EReal) : ∑ s : Fin 16, ∑ r : Fin 256, f (row ⟨s.val, lt_of_lt_of_eq s.isLt N16.symm⟩ r) = ∑ i, f i := by
  rw [← Equiv.sum_comp Fin.revPerm]
  exact Fin.sum_mul_add_congr fun s k hl => congrArg f (Fin.ext (by simp only [row, Fin.revPerm_apply, Fin.val_rev]; omega))

theorem acc_gg (ht : t.val + 1 = cfg0.N) (j : Fin 1024) :
    (outsAt0 m c t.val t.isLt).2.2.2.1 (ix2 0 j) = InprojSpec.gg (X m c) (Wu m c) (Q m c) j := by
  refine (Pipeline.eq_sum_fin_of_reset_step_apply_last (fun n h p => (outsAt0 m c n h).2.2.2.1 (ix2 0 p)) 16 (fun _ => 0)
    (fun t j => ∑ r : Fin 256, InprojSpec.dxn (Wu m c) (Q m c) (row t r) j * (X m c (row t r) j * InprojSpec.scale (X m c) (row t r)))
    (fun t h p => ?_) (fun t h p => ?_) (by decide) t ht j).trans ?_
  · rw [out_gg_apply, ggIn, if_pos h]; pointwise [k0_pay4]
  · rw [out_gg_apply, ggIn, if_neg h]
  · rw [zero_add]
    exact sum_rows fun i => InprojSpec.dxn (Wu m c) (Q m c) i j * (X m c i j * InprojSpec.scale (X m c) i)

theorem acc_gcw (ht : t.val + 1 = cfg0.N) (k : Fin 3) (l : Fin 5632) :
    (outsAt0 m c t.val t.isLt).2.2.1 (ix2 k l) = gconv (X m c) (G m c) (Wu m c) (P m c) k l := by
  refine (Pipeline.eq_sum_fin_of_reset_step_apply_last (fun n h (i : Fin 3 × Fin 5632) => (outsAt0 m c n h).2.2.1 (ix2 i.1 i.2)) 16 (fun _ => 0)
    (fun t i => ∑ r : Fin 256, tap (P m c) i.1 (row t r) i.2 * u (X m c) (G m c) (Wu m c) (row t r) i.2)
    (fun t h i => ?_) (fun t h i => ?_) (by decide) t ht (k, l)).trans ?_
  · rw [out_gcw_apply, gcwIn, if_pos h]; pointwise [k0_pay3]
  · rw [out_gcw_apply, gcwIn, if_neg h]
  · rw [zero_add]
    exact sum_rows fun i => tap (P m c) k i l * u (X m c) (G m c) (Wu m c) i l

/-- The last point. -/
abbrev tl : Fin cfg0.N := ⟨15, lt_of_lt_of_eq (by decide) N_0.symm⟩

/-- The gradient of the convolution's input after the run. -/
theorem arr_du : (dats m 0 c).arrAt 8 cfg0.N = fun i => Q m c (i 0) (i 1) := by
  refine (dats m 0 c).arrAt_eq_of_covers 8 _ (by decide +kernel) fun t hf y => ?_
  blk_simp
  rw [after0_8]
  idx_vars y
  refine (out_du_apply m c t y0 y1).trans ?_
  have e : ((View.whole main_v51_0).slice (win0_8.rect t)).emb (ix2 y0 y1) = ix2 (row t y0) y1 := by blk_ext [idx t, row]
  exact congrArg (fun i => Q m c (i 0) (i 1)) e.symm

/-- The layer input's gradient after the run. -/
theorem arr_dh1 : (dats m 0 c).arrAt 9 cfg0.N
    = fun i => InprojSpec.dx (X m c) (G m c) (Wu m c) (Q m c) (Dh m c) (i 0) (i 1) := by
  refine (dats m 0 c).arrAt_eq_of_covers 9 _ (by decide +kernel) fun t hf y => ?_
  blk_simp
  rw [after0_9]
  idx_vars y
  refine (out_dh1_apply m c t y0 y1).trans ?_
  have e : ((View.whole main_v51_1).slice (win0_9.rect t)).emb (ix2 y0 y1) = ix2 (row t y0) y1 := by blk_ext [idx t, row]
  exact congrArg (fun i => InprojSpec.dx (X m c) (G m c) (Wu m c) (Q m c) (Dh m c) (i 0) (i 1)) e.symm

/-- The convolution weight's gradient after the run. -/
theorem arr_gcw : (dats m 0 c).arrAt 10 cfg0.N = fun i => gconv (X m c) (G m c) (Wu m c) (P m c) (i 0) (i 1) := by
  refine (dats m 0 c).arrAt_eq_of_after_last 10 tl (by decide +kernel) _ fun y => ?_
  blk_simp
  rw [after0_10]
  idx_vars y
  exact acc_gcw m c tl N_0.symm y0 y1

/-- The gain's gradient after the run. -/
theorem arr_gg : (dats m 0 c).arrAt 11 cfg0.N = fun i => InprojSpec.gg (X m c) (Wu m c) (Q m c) (i 1) := by
  refine (dats m 0 c).arrAt_eq_of_after_last 11 tl (by decide +kernel) _ fun y => ?_
  blk_simp
  rw [after0_11]
  idx_vars y
  obtain rfl : y0 = 0 := Subsingleton.elim _ _
  exact acc_gg m c tl N_0.symm y1

end Cert.FfnBwdIdeal.Elem
-- ==== Proof.FfnRef.lean ====
/-
  The reference of the feed-forward layer's backward pass, read element by element.
-/
module

public import proofs.«01_k».proof.Proof.Gen.FfnRefIdeal.Run
public import proofs.«01_k».proof.Proof.FfnSpec
public import Idealize.ShloMosaic.Lib.Pointwise
public import Idealize.ShloMosaic.Lib.Tactic.CleanTypes
public import Idealize.ShloMosaic.Lib.Claim
public import Idealize.ShloMosaic.Lib.Tactic

@[expose] public section

set_option maxRecDepth 16384

noncomputable section

namespace Cert.FfnRefIdeal.Elem

open Cert.FfnRefIdeal Cert.FfnRefIdeal.Gen Cert.FfnRefIdeal.Value Cert.FfnSpec
open Idealize.ShloMosaic Idealize.ShloMosaic.TcCoe Idealize.SL.Sem

variable (V : Valuation τ sig (Elt Ideal))

/-- The input, the gain, the first weight, the convolution's taps, the second weight and the layer's cotangent. -/
abbrev X (i : Fin 4096) (j : Fin 1024) : EReal := V (Proc.devRef .tc main_arg0) (ix3 0 i j)
abbrev G (j : Fin 1024) : EReal := V (Proc.devRef .tc main_arg1) (ix2 0 j)
abbrev Wu (j : Fin 1024) (l : Fin 5632) : EReal := V (Proc.devRef .tc main_arg2) (ix3 0 j l)
abbrev Cw (t : Fin 3) (l : Fin 5632) : EReal := V (Proc.devRef .tc main_arg3) (ix3 0 t l)
abbrev Wd (k : Fin 2816) (j : Fin 1024) : EReal := V (Proc.devRef .tc main_arg4) (ix3 0 k j)
abbrev Dh (i : Fin 4096) (j : Fin 1024) : EReal := V (Proc.devRef .tc main_arg5) (ix3 0 i j)

/-- The gradients of the convolution's output and input. -/
abbrev P : Fin 4096 → Fin 5632 → EReal := dup' (X V) (G V) (Wu V) (Cw V) (Wd V) (Dh V)
abbrev Q : Fin 4096 → Fin 5632 → EReal := dconv' (Cw V) (P V)

/-! The arguments as the program reshapes them. -/

theorem x_apply (i : Fin 4096) (j : Fin 1024) : res_main_v0 V (ix2 i j) = X V i j := by
  unfold res_main_v0
  clean_types
  pointwise

theorem g_apply (j : Fin 1024) : res_main_v19 V (ix2 0 j) = G V j := by
  unfold res_main_v19
  clean_types
  pointwise

theorem wu_apply (j : Fin 1024) (l : Fin 5632) : res_main_v4 V (ix2 j l) = Wu V j l := by
  unfold res_main_v4
  clean_types
  pointwise

theorem wd_apply (k : Fin 2816) (j : Fin 1024) : res_main_v5 V (ix2 k j) = Wd V k j := by
  unfold res_main_v5
  clean_types
  pointwise

theorem dh_apply (i : Fin 4096) (j : Fin 1024) : res_main_v57 V (ix2 i j) = Dh V i j := by
  unfold res_main_v57
  clean_types
  pointwise

theorem cw0_apply (l : Fin 5632) : res_main_v31 V (ix2 0 l) = Cw V 0 l := by
  unfold res_main_v31
  clean_types
  pointwise [res_main_v2]

theorem cw1_apply (l : Fin 5632) : res_main_v41 V (ix2 0 l) = Cw V 1 l := by
  unfold res_main_v41
  clean_types
  pointwise [res_main_v2]

theorem cw2_apply (l : Fin 5632) : res_main_v47 V (ix2 0 l) = Cw V 2 l := by
  unfold res_main_v47
  clean_types
  pointwise [res_main_v2]

theorem msq_apply (i : Fin 4096) : res_main_v12 V (ix2 i 0) = InprojSpec.msq (X V) i := by
  unfold res_main_v12
  clean_types
  pointwise
  simp only [x_apply]
  rfl

theorem scale_apply (i : Fin 4096) : res_main_v13 V (ix2 i 0) = InprojSpec.scale (X V) i := by
  unfold res_main_v13
  clean_types
  pointwise
  rw [msq_apply]
  rfl

theorem norm_apply (i : Fin 4096) (j : Fin 1024) : res_main_v18 V (ix2 i j) = X V i j * InprojSpec.scale (X V) i := by
  unfold res_main_v18
  clean_types
  pointwise
  rw [scale_apply, x_apply]

theorem u_apply (i : Fin 4096) (l : Fin 5632) : res_main_v23 V (ix2 i l) = u (X V) (G V) (Wu V) i l := by
  unfold res_main_v23
  clean_types
  pointwise
  simp only [norm_apply, g_apply, wu_apply]
  rfl

theorem earlier1_apply (i : Fin 4096) (l : Fin 5632) : res_main_v39 V (ix2 i l) = earlier 1 (u (X V) (G V) (Wu V)) i l := by
  unfold res_main_v39
  clean_types
  pointwise
  simp only [u_apply]
  rfl

theorem earlier2_apply (i : Fin 4096) (l : Fin 5632) : res_main_v29 V (ix2 i l) = earlier 2 (u (X V) (G V) (Wu V)) i l := by
  unfold res_main_v29
  clean_types
  pointwise
  simp only [u_apply]
  rfl

theorem up_apply (i : Fin 4096) (l : Fin 5632) : res_main_v50 V (ix2 i l) = up (X V) (G V) (Wu V) (Cw V) i l := by
  unfold res_main_v50
  clean_types
  pointwise
  simp only [u_apply, earlier1_apply, earlier2_apply, cw0_apply, cw1_apply, cw2_apply]
  rfl

theorem gate_apply (i : Fin 4096) (k : Fin 2816) : res_main_v51 V (ix2 i k)
    = up (X V) (G V) (Wu V) (Cw V) i ⟨k.val, by omega⟩ := by
  rw [← up_apply]
  unfold res_main_v51
  clean_types
  pointwise

theorem val_apply (i : Fin 4096) (k : Fin 2816) : res_main_v52 V (ix2 i k)
    = up (X V) (G V) (Wu V) (Cw V) i ⟨2816 + k.val, by omega⟩ := by
  rw [← up_apply]
  unfold res_main_v52
  clean_types
  pointwise

theorem sig_apply (i : Fin 4096) (k : Fin 2816) : res_main_v53_2 V (ix2 i k)
    = sg' (up (X V) (G V) (Wu V) (Cw V) i ⟨k.val, by omega⟩) := by
  unfold res_main_v53_2
  clean_types
  pointwise
  rw [gate_apply]
  rfl

theorem dact_apply (i : Fin 4096) (k : Fin 2816) : res_main_v58 V (ix2 i k) = dact (Wd V) (Dh V) i k := by
  unfold res_main_v58
  clean_types
  pointwise
  simp only [dh_apply, wd_apply]
  rfl

theorem dup_apply (i : Fin 4096) (l : Fin 5632) : res_main_v62 V (ix2 i l) = P V i l := by
  unfold res_main_v62
  clean_types
  pointwise [res_main_v60, res_main_v53_0]
  simp only [gate_apply, val_apply, sig_apply, dact_apply]
  rfl

/-- The gradient of the convolution's input. -/
theorem du_apply (i : Fin 4096) (l : Fin 5632) : res_main_v93 V (ix2 i l) = Q V i l := by
  unfold res_main_v93
  clean_types
  pointwise [res_main_v72, res_main_v85]
  simp only [dup_apply, cw0_apply, cw1_apply, cw2_apply]
  rfl

theorem dhn_apply (i : Fin 4096) (j : Fin 1024) : res_main_v97 V (ix2 i j) = InprojSpec.dxn (Wu V) (Q V) i j := by
  unfold res_main_v97
  clean_types
  pointwise
  simp only [du_apply, wu_apply]
  rfl

/-- The layer input's gradient. -/
theorem dh1_apply (i : Fin 4096) (j : Fin 1024) : addf (addf (addf (res_main_v57 V) (mulf (res_main_v102 V)
      (broadcastInDim S4096x1024 ![0, 1] bcast_S4096x1_S4096x1024_0_1 (res_main_v13 V)))) (mulf (res_main_v0 V) (res_main_v114 V)))
      (mulf (res_main_v114 V) (res_main_v0 V)) (ix2 i j) = InprojSpec.dx' (X V) (G V) (Wu V) (Q V) (Dh V) i j := by
  clean_types
  pointwise [res_main_v102, res_main_v114]
  simp only [Finset.univ_unique, Finset.sum_singleton, Fin.default_eq_zero, dhn_apply, scale_apply, msq_apply, x_apply, g_apply, dh_apply]
  rfl

/-- The gain's gradient. -/
theorem gg_apply (j : Fin 1024) : broadcastInDim S1x1024 ![1] bcast_S1024_S1x1024_1 (Host.reduceAdd (shapeCast _ (Host.reduceAdd
      (mulf (res_main_v18 V) (res_main_v97 V)) (constant S_ .f32 0x00000000#32) reducesTo_S4096x1024_S1024_d0 h_S_)
      shapeCasts_S1024_S1x1024) (constant S_ .f32 0x00000000#32) reducesTo_S1x1024_S1024_d0 h_S_) (ix2 0 j)
    = InprojSpec.gg (X V) (Wu V) (Q V) j := by
  pointwise
  simp only [Finset.univ_unique, Finset.sum_singleton, dhn_apply, norm_apply]
  exact Finset.sum_congr rfl fun i _ => mul_comm _ _

/-- The convolution weight's gradient. -/
theorem gcw_apply (t : Fin 3) (l : Fin 5632) : (addf (addf (pad S3x5632 ![2, 0] ![0, 0] ![0, 0] (broadcastInDim S1x5632 ![1] bcast_S5632_S1x5632_1 (Host.reduceAdd
      (shapeCast _ (Host.reduceAdd (mulf (res_main_v62 V) (res_main_v23 V)) (constant S_ .f32 0x00000000#32)
      reducesTo_S4096x5632_S5632_d0 h_S_) shapeCasts_S5632_S1x5632) (constant S_ .f32 0x00000000#32)
      reducesTo_S1x5632_S5632_d0 h_S_)) (constant S_ .f32 0x00000000#32) pads_S1x5632_S3x5632_200_000 h_S_) (pad S3x5632 ![1,
      0] ![1, 0] ![0, 0] (broadcastInDim S1x5632 ![1] bcast_S5632_S1x5632_1 (Host.reduceAdd (shapeCast _ (Host.reduceAdd (mulf
      (res_main_v62 V) (res_main_v39 V)) (constant S_ .f32 0x00000000#32) reducesTo_S4096x5632_S5632_d0 h_S_)
      shapeCasts_S5632_S1x5632) (constant S_ .f32 0x00000000#32) reducesTo_S1x5632_S5632_d0 h_S_)) (constant S_ .f32
      0x00000000#32) pads_S1x5632_S3x5632_110_000 h_S_)) (pad S3x5632 ![0, 0] ![2, 0] ![0, 0] (broadcastInDim S1x5632 ![1]
      bcast_S5632_S1x5632_1 (Host.reduceAdd (shapeCast _ (Host.reduceAdd (mulf (res_main_v62 V) (res_main_v29 V)) (constant S_
      .f32 0x00000000#32) reducesTo_S4096x5632_S5632_d0 h_S_) shapeCasts_S5632_S1x5632) (constant S_ .f32 0x00000000#32)
      reducesTo_S1x5632_S5632_d0 h_S_)) (constant S_ .f32 0x00000000#32) pads_S1x5632_S3x5632_020_000 h_S_) : FVec Ideal S3x5632 .f32) (ix2 t l)
    = gconv' (X V) (G V) (Wu V) (P V) t l := by
  match t with
  | 0 | 1 | 2 =>
    pointwise
    simp only [Finset.univ_unique, Finset.sum_singleton, dup_apply, u_apply, earlier1_apply, earlier2_apply]
    rfl

end Cert.FfnRefIdeal.Elem
-- ==== Proof.FfnAlg.lean ====
/-
  The backward kernel of the feed-forward layer computes the derivative of the forward lines: from memories that agree on the
  arguments and are finite there, both programs leave the same four gradients.
-/
module

public import proofs.«01_k».proof.Defs
public import proofs.«01_k».proof.Proof.Gen.FfnBwdIdeal.Value
public import proofs.«01_k».proof.Proof.Gen.Pre_ffn_finite
public import proofs.«01_k».proof.Proof.FfnKernel
public import proofs.«01_k».proof.Proof.FfnRef
public import proofs.«01_k».proof.Proof.Finite

@[expose] public section

set_option maxRecDepth 16384

noncomputable section

namespace Cert.FfnAlg

open Idealize.ShloMosaic Idealize.ShloMosaic.TcCoe Idealize.SL.Sem Cert.Reals Cert.FfnBwdIdeal

abbrev MK := (ℓ : Loc nD τ sig) → Buf (Elt Ideal) ℓ
abbrev MR := (ℓ : Loc FfnRefIdeal.nD FfnRefIdeal.τ FfnRefIdeal.sig) → Buf (Elt Ideal) ℓ

variable {m : MK} {m' : MR} {c : Dev nD}

/-- What the precondition gives on a device: the arguments hold reals. -/
theorem reals_of_pre (h : Pre_FfnBwdIdeal_ffn_finite m) (c : Dev nD) :
    (∀ i j, IsReal (Elem.X m c i j)) ∧ (∀ j, IsReal (Elem.G m c j)) ∧ (∀ j l, IsReal (Elem.Wu m c j l))
    ∧ (∀ t l, IsReal (Elem.Cw m c t l)) ∧ (∀ k j, IsReal (Elem.Wd m c k j)) ∧ (∀ i j, IsReal (Elem.Dh m c i j)) := by
  have e := congrFun (h c) (Shape.Idx.first Pre_ffn_finite.Gen.facts.h_S_)
  unfold Pre_ffn_finite.fn Pre_ffn_finite.fn_part1 at e
  dsimp only at e
  obtain ⟨e, e5⟩ := andi_split e
  obtain ⟨e, e4⟩ := andi_split e
  obtain ⟨e, e3⟩ := andi_split e
  obtain ⟨e, e2⟩ := andi_split e
  obtain ⟨e0, e1⟩ := andi_split e
  haveI : Subsingleton Pre_ffn_finite.S_.Idx := ⟨fun a b => funext fun k => k.elim0⟩
  obtain ⟨r0, h0⟩ := reals_of_all _ _ _ _ _ _ e0
  obtain ⟨r1, h1⟩ := reals_of_all _ _ _ _ _ _ e1
  obtain ⟨r2, h2⟩ := reals_of_all _ _ _ _ _ _ e2
  obtain ⟨r3, h3⟩ := reals_of_all _ _ _ _ _ _ e3
  obtain ⟨r4, h4⟩ := reals_of_all _ _ _ _ _ _ e4
  obtain ⟨r5, h5⟩ := reals_of_all _ _ _ _ _ _ e5
  exact ⟨fun i j => ⟨_, h0 _⟩, fun j => ⟨_, h1 _⟩, fun j l => ⟨_, h2 _⟩, fun t l => ⟨_, h3 _⟩, fun k j => ⟨_, h4 _⟩, fun i j => ⟨_, h5 _⟩⟩

/-- The value claim: the kernel and the derivative of the forward lines leave the same four gradients. -/
theorem algebraic : algebraic_FfnBwdIdeal_FfnRefIdeal_pre_ffn_finite := by
  intro m g m' g' hp ha
  refine ⟨fun c => (Gen.dats m 0 c).arrAt 8 cfg0.N, fun c => (Gen.dats m 0 c).arrAt 9 cfg0.N,
    fun c => (Gen.dats m 0 c).arrAt 10 cfg0.N, fun c => (Gen.dats m 0 c).arrAt 11 cfg0.N,
    Value.run_blocks m g, (θ_run _ _ _).mono (fun r h c => ?_) (FfnRefIdeal.Value.run m' g')⟩
  obtain ⟨h0, h1, h2, h3, hr⟩ := h c
  obtain ⟨a0, a1, a2, a3, a4, a5⟩ := ha c
  obtain ⟨hx, hg, hw, hc, hd, hh⟩ := reals_of_pre hp c
  obtain ⟨-, eQ, eC, eD⟩ := FfnSpec.same _ _ _ _ _ _ hx hg hw hc hd hh
  have eX : FfnRefIdeal.Elem.X (StableHlo.launchContents m' c) = Elem.X m c := funext₂ fun i j => congrFun a0 _
  have eG : FfnRefIdeal.Elem.G (StableHlo.launchContents m' c) = Elem.G m c := funext fun j => congrFun a1 _
  have eWu : FfnRefIdeal.Elem.Wu (StableHlo.launchContents m' c) = Elem.Wu m c := funext₂ fun j l => congrFun a2 _
  have eCw : FfnRefIdeal.Elem.Cw (StableHlo.launchContents m' c) = Elem.Cw m c := funext₂ fun t l => congrFun a3 _
  have eWd : FfnRefIdeal.Elem.Wd (StableHlo.launchContents m' c) = Elem.Wd m c := funext₂ fun k j => congrFun a4 _
  have eDh : FfnRefIdeal.Elem.Dh (StableHlo.launchContents m' c) = Elem.Dh m c := funext₂ fun i j => congrFun a5 _
  refine ⟨h0.trans ?_, h1.trans ?_, h2.trans ?_, h3.trans ?_, hr⟩
  · refine Eq.trans ?_ (Elem.arr_du m c).symm
    funext i
    idx_vars i
    refine (FfnRefIdeal.Elem.du_apply _ i0 i1).trans ?_
    rw [FfnRefIdeal.Elem.Q, FfnRefIdeal.Elem.P, eX, eG, eWu, eCw, eWd, eDh, ← eQ]
  · refine Eq.trans ?_ (Elem.arr_dh1 m c).symm
    funext i
    idx_vars i
    refine (FfnRefIdeal.Elem.dh1_apply _ i0 i1).trans ?_
    rw [FfnRefIdeal.Elem.Q, FfnRefIdeal.Elem.P, eX, eG, eWu, eCw, eWd, eDh, ← eD]
  · refine Eq.trans ?_ (Elem.arr_gcw m c).symm
    funext i
    idx_vars i
    refine (FfnRefIdeal.Elem.gcw_apply _ i0 i1).trans ?_
    rw [FfnRefIdeal.Elem.P, eX, eG, eWu, eCw, eWd, eDh, ← eC]
  · refine Eq.trans ?_ (Elem.arr_gg m c).symm
    funext i
    idx_vars i
    obtain rfl : i0 = 0 := Subsingleton.elim _ _
    refine (FfnRefIdeal.Elem.gg_apply _ i1).trans ?_
    rw [FfnRefIdeal.Elem.Q, FfnRefIdeal.Elem.P, eX, eG, eWu, eCw, eWd, eDh, ← eQ]

/-- The reference runs, leaves its arguments unchanged and has no semaphore. -/
theorem frame_ref : quiescent_FfnRefIdeal := fun m ρ _ =>
  (θ_run FfnRefIdeal.defs _ _).mono (fun r h => ⟨fun c => (h c).2.2.2.2, sem_eq_zero_of_no_sems (by decide) r.2⟩)
    (FfnRefIdeal.Value.run (F := Ideal) m ρ)

end Cert.FfnAlg
-- ==== Proof.LossSpec.lean ====
/-
  The feed-forward layer with the final norm and the loss, element by element, over the extended reals: the form both programs are
  read into, and the equality of the two forms on finite values.
-/
module

public import proofs.«01_k».proof.Proof.FfnSpec
public import Idealize.ShloMosaic.Lib.Pipeline.ValueKit

@[expose] public section

noncomputable section

namespace Cert.LossSpec

open Idealize.ShloMosaic Cert.Reals Cert.InprojSpec Cert.FfnSpec

/-! ## The layer -/

variable (x : Fin 4096 → Fin 1024 → EReal) (wd : Fin 2816 → Fin 1024 → EReal) (s : EReal → EReal) (U : Fin 4096 → Fin 5632 → EReal)

/-- The gated values of the convolution's output `U`, the sigmoid being `s`. -/
def act (i : Fin 4096) (k : Fin 2816) : EReal :=
  U i ⟨k.val, by omega⟩ * s (U i ⟨k.val, by omega⟩) * U i ⟨2816 + k.val, by omega⟩

/-- The layer's output: the input and the second projection. -/
def out (A : Fin 4096 → Fin 2816 → EReal) (i : Fin 4096) (j : Fin 1024) : EReal := x i j + ∑ k, A i k * wd k j

variable {x wd U}

theorem act_eq (hU : ∀ i l, IsReal (U i l)) : act sg U = act sg' U := by
  funext i k
  obtain ⟨_, s, _, h, h'⟩ := sg_real (hU i ⟨k.val, by omega⟩)
  rw [act, act, h, h']

theorem act_real (hU : ∀ i l, IsReal (U i l)) (i k) : IsReal (act sg U i k) := by
  obtain ⟨_, s, _, h, _⟩ := sg_real (hU i ⟨k.val, by omega⟩)
  exact ((hU _ _).mul ⟨s, h⟩).mul (hU _ _)

theorem out_real {A : Fin 4096 → Fin 2816 → EReal} (hx : ∀ i j, IsReal (x i j)) (hd : ∀ k j, IsReal (wd k j)) (hA : ∀ i k, IsReal (A i k))
    (i j) : IsReal (out x wd A i j) :=
  (hx i j).add (IsReal.sum fun k => (hA i k).mul (hd k j))

/-! ## The loss and its gradients, from the layer's output `H`, the final gain `g` and the target `y` -/

variable (H : Fin 4096 → Fin 1024 → EReal) (g : Fin 1024 → EReal) (y : Fin 4096 → Fin 1024 → EReal)

/-- The normalised output less the target. -/
def err (i : Fin 4096) (j : Fin 1024) : EReal := H i j * scale H i * g j - y i j

/-- Row `r` of block `b`. -/
def brow (b : Fin 16) (r : Fin 256) : Fin 4096 := ⟨b.val * 256 + r.val, by omega⟩

/-- The loss of a block, as the kernel writes it. -/
def blockLoss (b : Fin 16) : EReal :=
  (∑ r : Fin 256, ∑ j, err H g y (brow b r) j * err H g y (brow b r) j) * Ideal.ofBits .f32 0x3A000000#32

/-- The loss, as the kernel writes it: block by block. -/
def loss : EReal := ∑ b : Fin 16, blockLoss H g y b

/-- The loss of the forward lines. -/
def loss' : EReal :=
  Ideal.ofBits .f32 0x3F000000#32 * ∑ i, Ideal.div (∑ j, err H g y i j * err H g y i j) (Ideal.ofBits .f32 0x44800000#32)

/-- The cotangent of the normalised output, as the kernel writes it. -/
def dy (i : Fin 4096) (j : Fin 1024) : EReal := err H g y i j * Ideal.ofBits .f32 0x3A800000#32

/-- The same as the derivative of the loss gives it. -/
def dy' (i : Fin 4096) (j : Fin 1024) : EReal :=
  Ideal.div (Ideal.ofBits .f32 0x3F000000#32) (Ideal.ofBits .f32 0x44800000#32) * (Ideal.ofBits .f32 0x40000000#32 * err H g y i j)

variable (D : Fin 4096 → Fin 1024 → EReal)

/-- The output's gradient from the cotangent `D` of its normalised form, as the kernel writes it. -/
def dh (i : Fin 4096) (j : Fin 1024) : EReal :=
  scale H i * (D i j * g j - H i j * scale H i *
    Ideal.div (∑ l, D i l * g l * (H i l * scale H i)) (Ideal.ofBits .f32 0x44800000#32))

/-- What the derivative adds twice: the part through the reciprocal root. -/
def thru (i : Fin 4096) : EReal :=
  Ideal.div ((∑ l, H i l * (D i l * g l)) * (Ideal.ofBits .f32 0xBF000000#32 * Ideal.div (scale H i) (msq H i)))
    (Ideal.ofBits .f32 0x44800000#32)

/-- The output's gradient as the derivative of the norm gives it. -/
def dh' (i : Fin 4096) (j : Fin 1024) : EReal :=
  (D i j * g j * scale H i + H i j * thru H g D i) + thru H g D i * H i j

/-- The final gain's gradient. -/
def gf (j : Fin 1024) : EReal := ∑ i, D i j * (H i j * scale H i)

/-- The word of the reciprocal of 1024. -/
theorem word_inv_1024 : Ideal.ofBits .f32 0x3A800000#32 = ((1 / 1024 : ℝ) : EReal) := by
  simp [Ideal.ofBits, Ideal.ieee]
  rw [← EReal.coe_mul]; norm_num

/-- The word of the reciprocal of 2048. -/
theorem word_inv_2048 : Ideal.ofBits .f32 0x3A000000#32 = ((1 / 2048 : ℝ) : EReal) := by
  simp [Ideal.ofBits, Ideal.ieee]
  rw [← EReal.coe_mul]; norm_num

theorem word_2 : Ideal.ofBits .f32 0x40000000#32 = ((2 : ℝ) : EReal) := by
  simp [Ideal.ofBits, Ideal.ieee]
  rw [← EReal.coe_mul]; norm_num

variable {H g y D}

theorem err_real (hH : ∀ i j, IsReal (H i j)) (hg : ∀ j, IsReal (g j)) (hy : ∀ i j, IsReal (y i j)) (i j) : IsReal (err H g y i j) :=
  (((hH i j).mul (scale_real hH i)).mul (hg j)).sub (hy i j)

theorem dy_real (hE : ∀ i j, IsReal (err H g y i j)) (i j) : IsReal (dy H g y i j) := (hE i j).mul ⟨_, word_inv_1024⟩

theorem dy_eq (hE : ∀ i j, IsReal (err H g y i j)) : dy H g y = dy' H g y := by
  funext i j
  obtain ⟨e, h⟩ := hE i j
  rw [dy, dy', h, word_inv_1024, word_half, word_1024, word_2, div_coe_coe _ (by norm_num)]
  simp only [← EReal.coe_mul, EReal.coe_eq_coe_iff]
  ring

theorem loss_eq (hE : ∀ i j, IsReal (err H g y i j)) : loss H g y = loss' H g y := by
  choose e he using hE
  have h : ∀ f : Fin 4096 → ℝ, ∑ b : Fin 16, ∑ r : Fin 256, f (brow b r) = ∑ i, f i := fun f =>
    Fin.sum_mul_add_congr fun b r hl => congrArg f (Fin.ext rfl)
  unfold loss loss' blockLoss
  simp only [he, word_inv_2048, word_half, word_1024, ← EReal.coe_mul, ← coe_sum, div_coe_coe _ (show (1024 : ℝ) ≠ 0 by norm_num),
    EReal.coe_eq_coe_iff]
  rw [← h, Finset.mul_sum]
  refine Finset.sum_congr rfl fun b _ => ?_
  rw [Finset.sum_mul, Finset.mul_sum]
  exact Finset.sum_congr rfl fun r _ => by ring

theorem dh_eq (hH : ∀ i j, IsReal (H i j)) (hg : ∀ j, IsReal (g j)) (hD : ∀ i j, IsReal (D i j)) : dh H g D = dh' H g D := by
  choose Hr hH using hH
  choose gr hg using hg
  choose Dr hD using hD
  funext i j
  obtain ⟨ε, hε, hε'⟩ := word_eps
  have hN : (0 : ℝ) < 1024 := by norm_num
  have hm := ms_pos hN hε (Hr i)
  have h1 : msq H i = ((ms 1024 ε (Hr i) : ℝ) : EReal) := by
    unfold msq; simp only [hH, hε', word_1024, ← EReal.coe_mul]
    rw [← coe_sum, div_coe_coe _ hN.ne', ← EReal.coe_add]; rfl
  have h2 : scale H i = ((rstd 1024 ε (Hr i) : ℝ) : EReal) := by
    unfold scale; rw [h1]; exact rsqrt_coe hm
  unfold dh dh' thru
  simp only [h1, h2, hH, hg, hD, word_1024, word_neg_half, div_coe_coe _ hm.ne', ← EReal.coe_mul, ← coe_sum, div_coe_coe _ hN.ne',
    ← EReal.coe_add, ← EReal.coe_sub]
  have := rms_grad hN hε (Hr i) (fun l => Dr i l * gr l) j
  rw [EReal.coe_eq_coe_iff, this]
  ring

/-- On finite arrays the kernel's gated values, loss, cotangent and output gradient are those of the forward lines. -/
theorem same (hx : ∀ i j, IsReal (x i j)) (hd : ∀ k j, IsReal (wd k j)) (hU : ∀ i l, IsReal (U i l)) (hg : ∀ j, IsReal (g j))
    (hy : ∀ i j, IsReal (y i j)) : act sg U = act sg' U
    ∧ loss (out x wd (act sg U)) g y = loss' (out x wd (act sg' U)) g y
    ∧ dy (out x wd (act sg U)) g y = dy' (out x wd (act sg' U)) g y
    ∧ dh (out x wd (act sg U)) g (dy (out x wd (act sg U)) g y) = dh' (out x wd (act sg' U)) g (dy' (out x wd (act sg' U)) g y) := by
  have e := act_eq hU
  have hH := out_real hx hd (act_real hU)
  have hE := err_real hH hg hy
  refine ⟨e, ?_, ?_, ?_⟩
  · rw [← e]; exact loss_eq hE
  · rw [← e]; exact dy_eq hE
  · rw [← e, ← dy_eq hE]; exact dh_eq hH hg (dy_real hE)

end Cert.LossSpec
-- ==== Proof.LossBlocks.lean ====
/-
  The blocks the feed-forward layer's forward kernel reads at each grid point, in terms of the program's arguments, and what the
  kernel makes of a block.
-/
module

public import proofs.«01_k».proof.Proof.Gen.FfnLossIdeal.Frame.Runs
public import proofs.«01_k».proof.Proof.LossSpec
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

namespace Cert.FfnLossIdeal.Elem

open Cert.FfnLossIdeal Cert.FfnLossIdeal.Gen Cert.FfnSpec Cert.LossSpec
open Idealize.ShloMosaic Idealize.ShloMosaic.TcCoe Idealize.SL.Sem

variable (m : (ℓ : Loc nD τ sig) → Buf (Elt Ideal) ℓ) (c : Dev nD)

/-- The input, the gain, the first weight, the convolution's taps, the second weight, the final gain and the target. -/
abbrev X (i : Fin 4096) (j : Fin 1024) : EReal := m ((c.tc : Thread nD τ).loc main_arg0) (ix3 0 i j)
abbrev G (j : Fin 1024) : EReal := m ((c.tc : Thread nD τ).loc main_arg1) (ix2 0 j)
abbrev Wu (j : Fin 1024) (l : Fin 5632) : EReal := m ((c.tc : Thread nD τ).loc main_arg2) (ix3 0 j l)
abbrev Cw (t : Fin 3) (l : Fin 5632) : EReal := m ((c.tc : Thread nD τ).loc main_arg3) (ix3 0 t l)
abbrev Wd (k : Fin 2816) (j : Fin 1024) : EReal := m ((c.tc : Thread nD τ).loc main_arg4) (ix3 0 k j)
abbrev Gf (j : Fin 1024) : EReal := m ((c.tc : Thread nD τ).loc main_arg5) (ix1 j)
abbrev Y (i : Fin 4096) (j : Fin 1024) : EReal := m ((c.tc : Thread nD τ).loc main_arg6) (ix3 0 i j)

/-- The first projection, its convolution, the gated values and the layer's output. -/
abbrev P : Fin 4096 → Fin 5632 → EReal := u (X m c) (G m c) (Wu m c)
abbrev U : Fin 4096 → Fin 5632 → EReal := up (X m c) (G m c) (Wu m c) (Cw m c)
abbrev A : Fin 4096 → Fin 2816 → EReal := act sg (U m c)
abbrev H : Fin 4096 → Fin 1024 → EReal := LossSpec.out (X m c) (Wd m c) (A m c)

/-- Where each window's block lies. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem N16 : cfg0.N = 16 := N_0

/-- The array row of row `r` of the block of point `t`. -/
def row (t : Fin cfg0.N) (r : Fin 256) : Fin 4096 := brow ⟨t.val, lt_of_lt_of_eq t.isLt N16⟩ r

/-- The normalised input the host's lines leave. -/
theorem n_host (i : Fin 4096) (j : Fin 1024) : V m c main_v15 (ix2 i j) = X m c i j * InprojSpec.scale (X m c) i * G m c j := by
  entry_read
  pointwise
  rfl

theorem x_host (i : Fin 4096) (j : Fin 1024) : V m c main_v16 (ix2 i j) = X m c i j := by
  entry_read
  pointwise

theorem y_host (i : Fin 4096) (j : Fin 1024) : V m c main_v23 (ix2 i j) = Y m c i j := by
  entry_read
  pointwise

variable (t : Fin cfg0.N)

theorem b0 (r : Fin 256) (j : Fin 1024) : iblk m c 0 t (ix2 r j)
    = X m c (row t r) j * InprojSpec.scale (X m c) (row t r) * G m c j := by
  have e : (win0_0.blk t).view.emb (ix2 r j) = ix2 (row t r) j := by blk_ext [idx t, row, brow]
  show V m c main_v15 ((win0_0.blk t).view.emb (ix2 r j)) = _
  rw [e, n_host]
theorem b1 (r : Fin 256) (j : Fin 1024) : iblk m c 1 t (ix2 r j) = X m c (row t r) j := by
  have e : (win0_1.blk t).view.emb (ix2 r j) = ix2 (row t r) j := by blk_ext [idx t, row, brow]
  show V m c main_v16 ((win0_1.blk t).view.emb (ix2 r j)) = _
  rw [e, x_host]
theorem b2 (j : Fin 1024) (l : Fin 5632) : iblk m c 2 t (ix2 j l) = Wu m c j l := by
  have e : (win0_2.blk t).view.emb (ix2 j l) = ix2 j l := by blk_ext [idx t, row]
  show V m c main_v18 ((win0_2.blk t).view.emb (ix2 j l)) = _
  rw [e]
  entry_read
  pointwise
theorem b3 (k : Fin 3) (l : Fin 5632) : iblk m c 3 t (ix2 k l) = Cw m c k l := by
  have e : (win0_3.blk t).view.emb (ix2 k l) = ix2 k l := by blk_ext [idx t, row]
  show V m c main_v19 ((win0_3.blk t).view.emb (ix2 k l)) = _
  rw [e]
  entry_read
  pointwise
theorem b4 (k : Fin 2816) (j : Fin 1024) : iblk m c 4 t (ix2 k j) = Wd m c k j := by
  have e : (win0_4.blk t).view.emb (ix2 k j) = ix2 k j := by blk_ext [idx t, row]
  show V m c main_v21 ((win0_4.blk t).view.emb (ix2 k j)) = _
  rw [e]
  entry_read
  pointwise
theorem b5 (j : Fin 1024) : iblk m c 5 t (ix2 0 j) = Gf m c j := by
  have e : (win0_5.blk t).view.emb (ix2 0 j) = ix2 0 j := by blk_ext [idx t, row]
  show V m c main_v22 ((win0_5.blk t).view.emb (ix2 0 j)) = _
  rw [e]
  entry_read
  pointwise
theorem b6 (r : Fin 256) (j : Fin 1024) : iblk m c 6 t (ix2 r j) = Y m c (row t r) j := by
  have e : (win0_6.blk t).view.emb (ix2 r j) = ix2 (row t r) j := by blk_ext [idx t, row, brow]
  show V m c main_v23 ((win0_6.blk t).view.emb (ix2 r j)) = _
  rw [e, y_host]

/-- The projection's block. -/
abbrev pB : FVec Ideal S256x5632 .f32 := k0_pay4 (iblk m c 0 t) (iblk m c 2 t)

theorem p_apply (r : Fin 256) (l : Fin 5632) : pB m c t (ix2 r l) = P m c (row t r) l := by
  have h0 := b0 m c t
  have h2 := b2 m c t
  revert h0 h2
  unfold pB
  generalize iblk m c 0 t = a, iblk m c 2 t = b
  intro h0 h2
  pointwise [k0_pay4]
  simp only [h0, h2]
  rfl

/-- The convolution of a block `a·b`, the eight rows before it being `d` and the taps `w`. -/
abbrev convB (a : Vec Ideal S256x1024 .bf16) (b : Vec Ideal S1024x5632 .bf16) (d : Vec Ideal S8x5632 .f32) (w : Vec Ideal S3x5632 .f32) :
    FVec Ideal S256x5632 .f32 := k0_pay11 (k0_pay7 a b d w) (k0_pay8 a b w) (k0_pay9 a b) (k0_pay10 w)

theorem conv_apply (a : Vec Ideal S256x1024 .bf16) (b : Vec Ideal S1024x5632 .bf16) (d : Vec Ideal S8x5632 .f32) (w : Vec Ideal S3x5632 .f32)
    {S : Fin 4096 → Fin 5632 → EReal} {W : Fin 3 → Fin 5632 → EReal} (hp : ∀ r l, k0_pay4 a b (ix2 r l) = S (row t r) l)
    (hd : ∀ (q : Fin 8) l, d (ix2 q l) = earlier 8 S (row t ⟨q.val, by omega⟩) l) (hw : ∀ k l, w (ix2 k l) = W k l)
    (r : Fin 256) (l : Fin 5632) : convB a b d w (ix2 r l)
      = W 0 l * earlier 2 S (row t r) l + W 1 l * earlier 1 S (row t r) l + W 2 l * S (row t r) l := by
  have ht := t.isLt
  have hN := N16
  have hr := r.isLt
  have e : ∀ x y z x' y' z' : EReal, x = x' → y = y' → z = z' → x + y + z = z' + y' + x' := by
    intro x y z x' y' z' h1 h2 h3; rw [h1, h2, h3]; abel
  unfold convB
  pointwise [k0_pay11, k0_pay7, k0_pay8, k0_pay9, k0_pay10, k0_pay6]
  simp only [hp, hd, hw]
  split
  all_goals refine e _ _ _ _ _ _ (congrArg _ ?_) (congrArg _ ?_) (congrArg _ ?_)
  all_goals try unfold earlier
  all_goals repeat' split
  all_goals first
    | rfl
    | (exfalso; simp only [row, brow] at *; omega)
    | (refine congrArg (S · l) (Fin.ext ?_); simp only [row, brow]; omega)

/-! What the kernel makes of a block, over any block of the convolution and of the layer's output. -/

variable (i : Fin 256 → Fin 4096)

theorem pay13_apply (v28 : FVec Ideal S8x5632 .f32) (v36 v38 v39 : FVec Ideal S256x5632 .f32) {U : Fin 4096 → Fin 5632 → EReal}
    (hU : ∀ r l, k0_pay11 v28 v36 v38 v39 (ix2 r l) = U (i r) l) (r : Fin 256) (k : Fin 2816) :
    k0_pay13 v28 v36 v38 v39 (ix2 r k) = act sg U (i r) k := by
  pointwise [k0_pay13]
  simp only [hU]
  rfl

theorem pay14_apply (v28 : FVec Ideal S8x5632 .f32) (v36 v38 v39 : FVec Ideal S256x5632 .f32) (x : Vec Ideal S256x1024 .f32)
    (w : Vec Ideal S2816x1024 .bf16) {X : Fin 4096 → Fin 1024 → EReal} {A : Fin 4096 → Fin 2816 → EReal} {W : Fin 2816 → Fin 1024 → EReal}
    (hA : ∀ r k, k0_pay13 v28 v36 v38 v39 (ix2 r k) = A (i r) k) (hx : ∀ r j, x (ix2 r j) = X (i r) j) (hw : ∀ k j, w (ix2 k j) = W k j)
    (r : Fin 256) (j : Fin 1024) : k0_pay14 v28 v36 v38 v39 x w (ix2 r j) = LossSpec.out X W A (i r) j := by
  pointwise [k0_pay14]
  simp only [hA, hx, hw]
  rfl

theorem pay15_apply (v28 : FVec Ideal S8x5632 .f32) (v36 v38 v39 : FVec Ideal S256x5632 .f32) (x : Vec Ideal S256x1024 .f32)
    (w : Vec Ideal S2816x1024 .bf16) {H : Fin 4096 → Fin 1024 → EReal} (hH : ∀ r j, k0_pay14 v28 v36 v38 v39 x w (ix2 r j) = H (i r) j)
    (r : Fin 256) : k0_pay15 v28 v36 v38 v39 x w (ix2 r 0) = InprojSpec.scale H (i r) := by
  pointwise [k0_pay15]
  simp only [hH]
  rfl

section Norm

variable (h : FVec Ideal S256x1024 .f32) (s : FVec Ideal S256x1 .f32) (g : FVec Ideal S1x1024 .f32) (y : Vec Ideal S256x1024 .f32)
  {H Y : Fin 4096 → Fin 1024 → EReal} {Gf : Fin 1024 → EReal}

theorem pay17_apply (hH : ∀ r j, h (ix2 r j) = H (i r) j) (hs : ∀ r, s (ix2 r 0) = InprojSpec.scale H (i r))
    (hg : ∀ j, g (ix2 0 j) = Gf j) (hy : ∀ r j, y (ix2 r j) = Y (i r) j) (r : Fin 256) (j : Fin 1024) :
    k0_pay17 h s g y (ix2 r j) = err H Gf Y (i r) j := by
  pointwise [k0_pay17]
  simp only [hH, hs, hg, hy]
  rfl

theorem pay18_apply (he : ∀ r j, k0_pay17 h s g y (ix2 r j) = err H Gf Y (i r) j) (z : Vec Ideal S1x128 .f32) (q : Fin 128) :
    k0_pay18 h s g y z (ix2 0 q) = z (ix2 0 q)
      + (∑ r : Fin 256, ∑ j, err H Gf Y (i r) j * err H Gf Y (i r) j) * Ideal.ofBits .f32 0x3A000000#32 := by
  pointwise [k0_pay18]
  simp only [he]

theorem pay21_apply (hH : ∀ r j, h (ix2 r j) = H (i r) j) (hs : ∀ r, s (ix2 r 0) = InprojSpec.scale H (i r))
    (hg : ∀ j, g (ix2 0 j) = Gf j) (he : ∀ r j, k0_pay17 h s g y (ix2 r j) = err H Gf Y (i r) j) (r : Fin 256) (j : Fin 1024) :
    k0_pay21 h s g y (ix2 r j) = dh H Gf (dy H Gf Y) (i r) j := by
  pointwise [k0_pay21, k0_pay19, k0_pay20]
  simp only [hH, hs, hg, he]
  rfl

theorem pay22_apply (hH : ∀ r j, h (ix2 r j) = H (i r) j) (hs : ∀ r, s (ix2 r 0) = InprojSpec.scale H (i r))
    (he : ∀ r j, k0_pay17 h s g y (ix2 r j) = err H Gf Y (i r) j) (z : Vec Ideal S1x1024 .f32) (j : Fin 1024) :
    k0_pay22 h s g y z (ix2 0 j) = z (ix2 0 j) + ∑ r : Fin 256, dy H Gf Y (i r) j * (H (i r) j * InprojSpec.scale H (i r)) := by
  pointwise [k0_pay22, k0_pay19, k0_pay20]
  simp only [hH, hs, he]
  rfl

end Norm

end Cert.FfnLossIdeal.Elem
-- ==== Proof.LossKernel.lean ====
/-
  The arrays the feed-forward layer's forward kernel leaves, element by element.
-/
module

public import proofs.«01_k».proof.Proof.Gen.FfnLossIdeal.Frame
public import proofs.«01_k».proof.Proof.LossBlocks
public import Idealize.ShloMosaic.Lib.Pipeline.ReadBack

@[expose] public section

set_option maxRecDepth 16384

noncomputable section

namespace Cert.FfnLossIdeal.Elem

open Cert.FfnLossIdeal Cert.FfnLossIdeal.Gen Cert.FfnSpec Cert.LossSpec
open Idealize.ShloMosaic Idealize.ShloMosaic.TcCoe Idealize.SL.Sem

variable (m : (ℓ : Loc nD τ sig) → Buf (Elt Ideal) ℓ) (c : Dev nD) (t : Fin cfg0.N)

/-- The point before, where there is one. -/
theorem prev_lt : t.val - 1 < cfg0.N := Nat.lt_of_le_of_lt (Nat.sub_le _ _) t.isLt

/-- The rows a point takes over from the point before: zero at the first. -/
def carry : Vec Ideal S8x5632 .f32 := if t.val % 16 = 0 then k0_pay1 (F := Ideal) else (outsAt0 m c (t.val - 1) (prev_lt t)).2.2.2.2.2.2

/-- The loss a point takes over. -/
def lossIn : Vec Ideal S1x128 .f32 := if t.val % 16 = 0 then k0_pay2 (F := Ideal) else (outsAt0 m c (t.val - 1) (prev_lt t)).2.2.2.2.1

/-- The final gain's gradient a point takes over. -/
def gfIn : Vec Ideal S1x1024 .f32 := if t.val % 16 = 0 then k0_pay3 (F := Ideal) else (outsAt0 m c (t.val - 1) (prev_lt t)).2.2.2.2.2.1

/-- The parts of the convolution's block that do not wait for the point before, and those that do. -/
abbrev c7 : FVec Ideal S8x5632 .f32 := k0_pay7 (iblk m c 0 t) (iblk m c 2 t) (carry m c t) (iblk m c 3 t)
abbrev c8 : FVec Ideal S256x5632 .f32 := k0_pay8 (iblk m c 0 t) (iblk m c 2 t) (iblk m c 3 t)
abbrev c9 : FVec Ideal S256x5632 .f32 := k0_pay9 (iblk m c 0 t) (iblk m c 2 t)
abbrev c10 : FVec Ideal S256x5632 .f32 := k0_pay10 (iblk m c 3 t)

/-- The block of the layer's output, its reciprocal roots and the final gain. -/
abbrev hB : FVec Ideal S256x1024 .f32 := k0_pay14 (c7 m c t) (c8 m c t) (c9 m c t) (c10 m c t) (iblk m c 1 t) (iblk m c 4 t)
abbrev sB : FVec Ideal S256x1 .f32 := k0_pay15 (c7 m c t) (c8 m c t) (c9 m c t) (c10 m c t) (iblk m c 1 t) (iblk m c 4 t)
abbrev gB : FVec Ideal S1x1024 .f32 := k0_pay16 (iblk m c 5 t)

theorem out_u : (outsAt0 m c t.val t.isLt).1 = k0_pay5 (iblk m c 0 t) (iblk m c 2 t) := by
  by_cases h0 : t.val % 16 = 0
  · rw [outsAt0_A m c t h0]; frame_out
  · rw [outsAt0_B m c t h0]; frame_out

theorem out_up : (outsAt0 m c t.val t.isLt).2.1 = k0_pay11 (c7 m c t) (c8 m c t) (c9 m c t) (c10 m c t) := by
  by_cases h0 : t.val % 16 = 0
  · rw [outsAt0_A m c t h0]; frame_out; simp only [c7, carry, if_pos h0]
  · rw [outsAt0_B m c t h0]; frame_out; simp only [c7, carry, if_neg h0, read_unread_whole]

theorem out_act : (outsAt0 m c t.val t.isLt).2.2.1 = k0_pay13 (c7 m c t) (c8 m c t) (c9 m c t) (c10 m c t) := by
  by_cases h0 : t.val % 16 = 0
  · rw [outsAt0_A m c t h0]; frame_out; simp only [c7, carry, if_pos h0]
  · rw [outsAt0_B m c t h0]; frame_out; simp only [c7, carry, if_neg h0, read_unread_whole]

theorem out_dh : (outsAt0 m c t.val t.isLt).2.2.2.1 = k0_pay21 (hB m c t) (sB m c t) (gB m c t) (iblk m c 6 t) := by
  by_cases h0 : t.val % 16 = 0
  · rw [outsAt0_A m c t h0]; frame_out; simp only [hB, sB, gB, c7, carry, if_pos h0]
  · rw [outsAt0_B m c t h0]; frame_out; simp only [hB, sB, gB, c7, carry, if_neg h0, read_unread_whole]

theorem out_loss : (outsAt0 m c t.val t.isLt).2.2.2.2.1 = k0_pay18 (hB m c t) (sB m c t) (gB m c t) (iblk m c 6 t) (lossIn m c t) := by
  by_cases h0 : t.val % 16 = 0
  · rw [outsAt0_A m c t h0]; frame_out; simp only [hB, sB, gB, c7, carry, lossIn, if_pos h0]
  · rw [outsAt0_B m c t h0]; frame_out; simp only [hB, sB, gB, c7, carry, lossIn, if_neg h0, read_unread_whole]

theorem out_gf : (outsAt0 m c t.val t.isLt).2.2.2.2.2.1 = k0_pay22 (hB m c t) (sB m c t) (gB m c t) (iblk m c 6 t) (gfIn m c t) := by
  by_cases h0 : t.val % 16 = 0
  · rw [outsAt0_A m c t h0]; frame_out; simp only [hB, sB, gB, c7, carry, gfIn, if_pos h0]
  · rw [outsAt0_B m c t h0]; frame_out; simp only [hB, sB, gB, c7, carry, gfIn, if_neg h0, read_unread_whole]

theorem out_carry : (outsAt0 m c t.val t.isLt).2.2.2.2.2.2 = k0_pay12 (pB m c t) := by
  by_cases h0 : t.val % 16 = 0
  · rw [outsAt0_A m c t h0]; frame_out
  · rw [outsAt0_B m c t h0]; frame_out

/-- The rows taken over are the last of the block before. -/
theorem carry_apply (q : Fin 8) (l : Fin 5632) : carry m c t (ix2 q l) = earlier 8 (P m c) (row t ⟨q.val, by omega⟩) l := by
  have ht := t.isLt
  have hN := N16
  unfold carry earlier
  split
  · rw [dif_pos (by simp only [row, brow]; omega)]
    pointwise [k0_pay1]
  · rw [dif_neg (by simp only [row, brow]; omega), show (outsAt0 m c (t.val - 1) (prev_lt t)).2.2.2.2.2.2 = k0_pay12 (pB m c ⟨t.val - 1, prev_lt t⟩)
      from out_carry m c ⟨t.val - 1, prev_lt t⟩]
    pointwise [k0_pay12]
    refine (p_apply m c _ _ l).trans (congrArg (P m c · l) (Fin.ext ?_))
    simp only [row, brow]; omega

theorem u_apply (r : Fin 256) (l : Fin 5632) : k0_pay11 (c7 m c t) (c8 m c t) (c9 m c t) (c10 m c t) (ix2 r l) = U m c (row t r) l :=
  conv_apply t _ _ _ _ (p_apply m c t) (carry_apply m c t) (b3 m c t) r l

theorem a_apply (r : Fin 256) (k : Fin 2816) : k0_pay13 (c7 m c t) (c8 m c t) (c9 m c t) (c10 m c t) (ix2 r k) = A m c (row t r) k :=
  pay13_apply (row t) _ _ _ _ (u_apply m c t) r k

theorem h_apply (r : Fin 256) (j : Fin 1024) : hB m c t (ix2 r j) = H m c (row t r) j :=
  pay14_apply (row t) _ _ _ _ _ _ (a_apply m c t) (b1 m c t) (b4 m c t) r j

theorem s_apply (r : Fin 256) : sB m c t (ix2 r 0) = InprojSpec.scale (H m c) (row t r) :=
  pay15_apply (row t) _ _ _ _ _ _ (h_apply m c t) r

theorem g_apply (j : Fin 1024) : gB m c t (ix2 0 j) = Gf m c j := by
  rw [← b5 m c t]
  unfold gB
  pointwise [k0_pay16]

theorem err_apply (r : Fin 256) (j : Fin 1024) : k0_pay17 (hB m c t) (sB m c t) (gB m c t) (iblk m c 6 t) (ix2 r j)
    = err (H m c) (Gf m c) (Y m c) (row t r) j :=
  pay17_apply (row t) _ _ _ _ (h_apply m c t) (s_apply m c t) (g_apply m c t) (b6 m c t) r j

theorem out_u_apply (r : Fin 256) (l : Fin 5632) : (outsAt0 m c t.val t.isLt).1 (ix2 r l) = P m c (row t r) l := by
  rw [out_u, ← p_apply m c t]
  unfold pB
  pointwise [k0_pay5]

theorem out_up_apply (r : Fin 256) (l : Fin 5632) : (outsAt0 m c t.val t.isLt).2.1 (ix2 r l) = U m c (row t r) l := by
  rw [out_up]; exact u_apply m c t r l

theorem out_act_apply (r : Fin 256) (k : Fin 2816) : (outsAt0 m c t.val t.isLt).2.2.1 (ix2 r k) = A m c (row t r) k := by
  rw [out_act]; exact a_apply m c t r k

theorem out_dh_apply (r : Fin 256) (j : Fin 1024) : (outsAt0 m c t.val t.isLt).2.2.2.1 (ix2 r j)
    = dh (H m c) (Gf m c) (dy (H m c) (Gf m c) (Y m c)) (row t r) j := by
  rw [out_dh]; exact pay21_apply (row t) _ _ _ _ (h_apply m c t) (s_apply m c t) (g_apply m c t) (err_apply m c t) r j

theorem out_loss_apply (q : Fin 128) : (outsAt0 m c t.val t.isLt).2.2.2.2.1 (ix2 0 q) = lossIn m c t (ix2 0 q)
    + blockLoss (H m c) (Gf m c) (Y m c) ⟨t.val, lt_of_lt_of_eq t.isLt N16⟩ := by
  rw [out_loss]; exact pay18_apply (row t) _ _ _ _ (err_apply m c t) _ q

theorem out_gf_apply (j : Fin 1024) : (outsAt0 m c t.val t.isLt).2.2.2.2.2.1 (ix2 0 j) = gfIn m c t (ix2 0 j)
    + ∑ r : Fin 256, dy (H m c) (Gf m c) (Y m c) (row t r) j * (H m c (row t r) j * InprojSpec.scale (H m c) (row t r)) := by
  rw [out_gf]; exact pay22_apply (row t) _ _ _ _ (h_apply m c t) (s_apply m c t) (err_apply m c t) _ j

/-! The sums over the grid. -/

theorem acc_loss (ht : t.val + 1 = cfg0.N) (q : Fin 128) :
    (outsAt0 m c t.val t.isLt).2.2.2.2.1 (ix2 0 q) = loss (H m c) (Gf m c) (Y m c) := by
  refine (Pipeline.eq_sum_fin_of_reset_step_apply_last (fun n h p => (outsAt0 m c n h).2.2.2.2.1 (ix2 0 p)) 16 (fun _ => 0)
    (fun t _ => blockLoss (H m c) (Gf m c) (Y m c) ⟨t.val, lt_of_lt_of_eq t.isLt N16⟩)
    (fun t h p => ?_) (fun t h p => ?_) (by decide) t ht q).trans ?_
  · rw [out_loss_apply, lossIn, if_pos h]; pointwise [k0_pay2]
  · rw [out_loss_apply, lossIn, if_neg h]
  · rw [zero_add]; rfl

theorem acc_gf (ht : t.val + 1 = cfg0.N) (j : Fin 1024) :
    (outsAt0 m c t.val t.isLt).2.2.2.2.2.1 (ix2 0 j) = gf (H m c) (dy (H m c) (Gf m c) (Y m c)) j := by
  refine (Pipeline.eq_sum_fin_of_reset_step_apply_last (fun n h p => (outsAt0 m c n h).2.2.2.2.2.1 (ix2 0 p)) 16 (fun _ => 0)
    (fun t j => ∑ r : Fin 256, dy (H m c) (Gf m c) (Y m c) (row t r) j * (H m c (row t r) j * InprojSpec.scale (H m c) (row t r)))
    (fun t h p => ?_) (fun t h p => ?_) (by decide) t ht j).trans ?_
  · rw [out_gf_apply, gfIn, if_pos h]; pointwise [k0_pay3]
  · rw [out_gf_apply, gfIn, if_neg h]
  · rw [zero_add]
    exact Fin.sum_mul_add_congr fun s k hl =>
      congrArg (fun i => dy (H m c) (Gf m c) (Y m c) i j * (H m c i j * InprojSpec.scale (H m c) i)) (Fin.ext rfl)

/-- The last point. -/
abbrev tl : Fin cfg0.N := ⟨15, lt_of_lt_of_eq (by decide) N_0.symm⟩

/-! The arrays after the run: the projection, its convolution, the gated values, the output's gradient, the loss and the final
gain's gradient. -/

theorem arr_u : (dats m 0 c).arrAt 7 cfg0.N = fun i => P m c (i 0) (i 1) := by
  refine (dats m 0 c).arrAt_eq_of_covers 7 _ (by decide +kernel) fun t hf y => ?_
  blk_simp
  rw [after0_7]
  idx_vars y
  refine (out_u_apply m c t y0 y1).trans ?_
  have e : ((View.whole main_v24_0).slice (win0_7.rect t)).emb (ix2 y0 y1) = ix2 (row t y0) y1 := by blk_ext [idx t, row, brow]
  generalize P m c = q
  rw [e]; rfl

theorem arr_up : (dats m 0 c).arrAt 8 cfg0.N = fun i => U m c (i 0) (i 1) := by
  refine (dats m 0 c).arrAt_eq_of_covers 8 _ (by decide +kernel) fun t hf y => ?_
  blk_simp
  rw [after0_8]
  idx_vars y
  refine (out_up_apply m c t y0 y1).trans ?_
  have e : ((View.whole main_v24_1).slice (win0_8.rect t)).emb (ix2 y0 y1) = ix2 (row t y0) y1 := by blk_ext [idx t, row, brow]
  generalize U m c = q
  rw [e]; rfl

theorem arr_act : (dats m 0 c).arrAt 9 cfg0.N = fun i => A m c (i 0) (i 1) := by
  refine (dats m 0 c).arrAt_eq_of_covers 9 _ (by decide +kernel) fun t hf y => ?_
  blk_simp
  rw [after0_9]
  idx_vars y
  refine (out_act_apply m c t y0 y1).trans ?_
  have e : ((View.whole main_v24_2).slice (win0_9.rect t)).emb (ix2 y0 y1) = ix2 (row t y0) y1 := by blk_ext [idx t, row, brow]
  generalize A m c = q
  rw [e]; rfl

theorem arr_dh : (dats m 0 c).arrAt 10 cfg0.N
    = fun i => dh (H m c) (Gf m c) (dy (H m c) (Gf m c) (Y m c)) (i 0) (i 1) := by
  refine (dats m 0 c).arrAt_eq_of_covers 10 _ (by decide +kernel) fun t hf y => ?_
  blk_simp
  rw [after0_10]
  idx_vars y
  refine (out_dh_apply m c t y0 y1).trans ?_
  have e : ((View.whole main_v24_3).slice (win0_10.rect t)).emb (ix2 y0 y1) = ix2 (row t y0) y1 := by blk_ext [idx t, row, brow]
  generalize dh (H m c) (Gf m c) (dy (H m c) (Gf m c) (Y m c)) = q
  rw [e]; rfl

theorem arr_loss : (dats m 0 c).arrAt 11 cfg0.N = fun _ => loss (H m c) (Gf m c) (Y m c) := by
  refine (dats m 0 c).arrAt_eq_of_after_last 11 tl (by decide +kernel) _ fun y => ?_
  blk_simp
  rw [after0_11]
  idx_vars y
  obtain rfl : y0 = 0 := Subsingleton.elim _ _
  exact acc_loss m c tl N_0.symm y1

theorem arr_gf : (dats m 0 c).arrAt 12 cfg0.N = fun i => gf (H m c) (dy (H m c) (Gf m c) (Y m c)) (i 1) := by
  refine (dats m 0 c).arrAt_eq_of_after_last 12 tl (by decide +kernel) _ fun y => ?_
  blk_simp
  rw [after0_12]
  idx_vars y
  obtain rfl : y0 = 0 := Subsingleton.elim _ _
  exact acc_gf m c tl N_0.symm y1

end Cert.FfnLossIdeal.Elem
-- ==== Proof.LossRef.lean ====
/-
  The reference of the feed-forward layer with the final norm and the loss, read element by element.
-/
module

public import proofs.«01_k».proof.Proof.Gen.FfnLossRefIdeal.Run
public import proofs.«01_k».proof.Proof.LossSpec
public import Idealize.ShloMosaic.Lib.Pointwise
public import Idealize.ShloMosaic.Lib.Tactic.CleanTypes
public import Idealize.ShloMosaic.Lib.Claim
public import Idealize.ShloMosaic.Lib.Tactic

@[expose] public section

set_option maxRecDepth 16384

noncomputable section

namespace Cert.FfnLossRefIdeal.Elem

open Cert.FfnLossRefIdeal Cert.FfnLossRefIdeal.Gen Cert.FfnLossRefIdeal.Value Cert.FfnSpec Cert.LossSpec
open Idealize.ShloMosaic Idealize.ShloMosaic.TcCoe Idealize.SL.Sem

variable (V : Valuation τ sig (Elt Ideal))

/-- The input, the gain, the first weight, the convolution's taps, the second weight, the final gain and the target. -/
abbrev X (i : Fin 4096) (j : Fin 1024) : EReal := V (Proc.devRef .tc main_arg0) (ix3 0 i j)
abbrev G (j : Fin 1024) : EReal := V (Proc.devRef .tc main_arg1) (ix2 0 j)
abbrev Wu (j : Fin 1024) (l : Fin 5632) : EReal := V (Proc.devRef .tc main_arg2) (ix3 0 j l)
abbrev Cw (t : Fin 3) (l : Fin 5632) : EReal := V (Proc.devRef .tc main_arg3) (ix3 0 t l)
abbrev Wd (k : Fin 2816) (j : Fin 1024) : EReal := V (Proc.devRef .tc main_arg4) (ix3 0 k j)
abbrev Gf (j : Fin 1024) : EReal := V (Proc.devRef .tc main_arg5) (ix1 j)
abbrev Y (i : Fin 4096) (j : Fin 1024) : EReal := V (Proc.devRef .tc main_arg6) (ix3 0 i j)

/-- The first projection, its convolution, the gated values and the layer's output. -/
abbrev P : Fin 4096 → Fin 5632 → EReal := u (X V) (G V) (Wu V)
abbrev U : Fin 4096 → Fin 5632 → EReal := up (X V) (G V) (Wu V) (Cw V)
abbrev A : Fin 4096 → Fin 2816 → EReal := act sg' (U V)
abbrev H : Fin 4096 → Fin 1024 → EReal := LossSpec.out (X V) (Wd V) (A V)

theorem x_apply (i : Fin 4096) (j : Fin 1024) : res_main_v1 V (ix2 i j) = X V i j := by
  unfold res_main_v1
  clean_types
  pointwise

theorem u_apply (i : Fin 4096) (l : Fin 5632) : res_main_v20 V (ix2 i l) = P V i l := by
  unfold res_main_v20
  clean_types
  pointwise
  simp only [x_apply]
  rfl

theorem up_apply (i : Fin 4096) (l : Fin 5632) : res_main_v45 V (ix2 i l) = U V i l := by
  unfold res_main_v45
  clean_types
  pointwise [res_main_v4]
  simp only [u_apply]
  rfl

theorem gate_apply (i : Fin 4096) (k : Fin 2816) : res_main_v46 V (ix2 i k) = U V i ⟨k.val, by omega⟩ := by
  rw [← up_apply]
  unfold res_main_v46
  clean_types
  pointwise

theorem act_apply (i : Fin 4096) (k : Fin 2816) : res_main_v49 V (ix2 i k) = A V i k := by
  unfold res_main_v49
  clean_types
  pointwise
  simp only [gate_apply, up_apply]
  rfl

theorem h_apply (i : Fin 4096) (j : Fin 1024) : res_main_v52 V (ix2 i j) = H V i j := by
  unfold res_main_v52
  clean_types
  pointwise
  simp only [x_apply, act_apply]
  rfl

theorem msq_apply (i : Fin 4096) : res_main_v59 V (ix2 i 0) = InprojSpec.msq (H V) i := by
  unfold res_main_v59
  clean_types
  pointwise
  simp only [h_apply]
  rfl

theorem scale_apply (i : Fin 4096) : res_main_v60 V (ix2 i 0) = InprojSpec.scale (H V) i := by
  unfold res_main_v60
  clean_types
  pointwise
  rw [msq_apply]
  rfl

theorem norm_apply (i : Fin 4096) (j : Fin 1024) : res_main_v65 V (ix2 i j) = H V i j * InprojSpec.scale (H V) i := by
  unfold res_main_v65
  clean_types
  pointwise
  rw [scale_apply, h_apply]

theorem g_apply (j : Fin 1024) : res_main_v66 V (ix2 0 j) = Gf V j := by
  unfold res_main_v66
  clean_types
  pointwise

theorem err_apply (i : Fin 4096) (j : Fin 1024) : res_main_v69 V (ix2 i j) = err (H V) (Gf V) (Y V) i j := by
  unfold res_main_v69
  clean_types
  pointwise
  rw [norm_apply, g_apply]
  rfl

theorem dy_apply (i : Fin 4096) (j : Fin 1024) : res_main_v83 V (ix2 i j) = dy' (H V) (Gf V) (Y V) i j := by
  unfold res_main_v83
  clean_types
  pointwise
  rw [err_apply]
  rfl

theorem dn_apply (i : Fin 4096) (j : Fin 1024) : res_main_v88 V (ix2 i j) = dy' (H V) (Gf V) (Y V) i j * Gf V j := by
  unfold res_main_v88
  clean_types
  pointwise
  rw [dy_apply, g_apply]

theorem thru_apply (i : Fin 4096) (j : Fin 1024) : res_main_v99 V (ix2 i j) = thru (H V) (Gf V) (dy' (H V) (Gf V) (Y V)) i := by
  unfold res_main_v99
  clean_types
  pointwise
  simp only [Finset.univ_unique, Finset.sum_singleton, Fin.default_eq_zero, dn_apply, scale_apply, msq_apply, h_apply]
  rfl

/-- The projection and the gated values, narrowed. -/
theorem out_u_apply (i : Fin 4096) (l : Fin 5632) : truncf .bf16 (res_main_v20 V) bitsLt_bf16_f32 (ix2 i l) = P V i l := by
  rw [← u_apply]
  clean_types
  pointwise

theorem out_act_apply (i : Fin 4096) (k : Fin 2816) : truncf .bf16 (res_main_v49 V) bitsLt_bf16_f32 (ix2 i k) = A V i k := by
  rw [← act_apply]
  clean_types
  pointwise

/-- The output's gradient. -/
theorem dh_apply (i : Fin 4096) (j : Fin 1024) : addf (addf (mulf (res_main_v88 V) (broadcastInDim S4096x1024 ![0, 1]
      bcast_S4096x1_S4096x1024_0_1 (res_main_v60 V))) (mulf (res_main_v52 V) (res_main_v99 V))) (mulf (res_main_v99 V) (res_main_v52 V)) (ix2 i j)
    = dh' (H V) (Gf V) (dy' (H V) (Gf V) (Y V)) i j := by
  clean_types
  pointwise
  simp only [dn_apply, scale_apply, h_apply, thru_apply]
  rfl

/-- The loss. -/
theorem loss_apply (q : Fin 128) : broadcastInDim S1x128 ![] bcast_S_S1x128 (mulf (constant S_ .f32 0x3F000000#32) (Host.reduceAdd (Host.divf
      (Host.reduceAdd (mulf (res_main_v69 V) (res_main_v69 V)) (constant S_ .f32 0x00000000#32) reducesTo_S4096x1024_S4096_d1 h_S_)
      (broadcastInDim S4096 ![] bcast_S_S4096 (constant S_ .f32 0x44800000#32))) (constant S_ .f32 0x00000000#32) reducesTo_S4096_S_d0 h_S_))
      (ix2 0 q) = loss' (H V) (Gf V) (Y V) := by
  clean_types
  pointwise
  simp only [err_apply]
  rfl

/-- The final gain's gradient. -/
theorem gf_apply (j : Fin 1024) : broadcastInDim S1x1024 ![1] bcast_S1024_S1x1024_1 (Host.reduceAdd (shapeCast _ (Host.reduceAdd
      (mulf (res_main_v65 V) (res_main_v83 V)) (constant S_ .f32 0x00000000#32) reducesTo_S4096x1024_S1024_d0 h_S_)
      shapeCasts_S1024_S1x1024) (constant S_ .f32 0x00000000#32) reducesTo_S1x1024_S1024_d0 h_S_) (ix2 0 j)
    = gf (H V) (dy' (H V) (Gf V) (Y V)) j := by
  pointwise
  simp only [Finset.univ_unique, Finset.sum_singleton, dy_apply, norm_apply]
  exact Finset.sum_congr rfl fun i _ => mul_comm _ _

end Cert.FfnLossRefIdeal.Elem
-- ==== Proof.LossAlg.lean ====
/-
  The forward kernel of the feed-forward layer with the loss computes the forward lines and the derivative of the loss: from memories
  that agree on the arguments and are finite there, both programs leave the same saved values, gradient, loss and gain's gradient.
-/
module

public import proofs.«01_k».proof.Defs
public import proofs.«01_k».proof.Proof.Gen.FfnLossIdeal.Value
public import proofs.«01_k».proof.Proof.Gen.Pre_loss_finite
public import proofs.«01_k».proof.Proof.LossKernel
public import proofs.«01_k».proof.Proof.LossRef
public import proofs.«01_k».proof.Proof.Finite

@[expose] public section

set_option maxRecDepth 16384

noncomputable section

namespace Cert.LossAlg

open Idealize.ShloMosaic Idealize.ShloMosaic.TcCoe Idealize.SL.Sem Cert.Reals Cert.FfnLossIdeal

abbrev MK := (ℓ : Loc nD τ sig) → Buf (Elt Ideal) ℓ
abbrev MR := (ℓ : Loc FfnLossRefIdeal.nD FfnLossRefIdeal.τ FfnLossRefIdeal.sig) → Buf (Elt Ideal) ℓ

variable {m : MK} {m' : MR} {c : Dev nD}

/-- What the precondition gives on a device: the arguments hold reals. -/
theorem reals_of_pre (h : Pre_FfnLossIdeal_loss_finite m) (c : Dev nD) :
    (∀ i j, IsReal (Elem.X m c i j)) ∧ (∀ j, IsReal (Elem.G m c j)) ∧ (∀ j l, IsReal (Elem.Wu m c j l))
    ∧ (∀ t l, IsReal (Elem.Cw m c t l)) ∧ (∀ k j, IsReal (Elem.Wd m c k j)) ∧ (∀ j, IsReal (Elem.Gf m c j))
    ∧ (∀ i j, IsReal (Elem.Y m c i j)) := by
  have e := congrFun (h c) (Shape.Idx.first Pre_loss_finite.Gen.facts.h_S_)
  unfold Pre_loss_finite.fn Pre_loss_finite.fn_part1 at e
  dsimp only at e
  obtain ⟨e, e6⟩ := andi_split e
  obtain ⟨e, e5⟩ := andi_split e
  obtain ⟨e, e4⟩ := andi_split e
  obtain ⟨e, e3⟩ := andi_split e
  obtain ⟨e, e2⟩ := andi_split e
  obtain ⟨e0, e1⟩ := andi_split e
  haveI : Subsingleton Pre_loss_finite.S_.Idx := ⟨fun a b => funext fun k => k.elim0⟩
  obtain ⟨r0, h0⟩ := reals_of_all _ _ _ _ _ _ e0
  obtain ⟨r1, h1⟩ := reals_of_all _ _ _ _ _ _ e1
  obtain ⟨r2, h2⟩ := reals_of_all _ _ _ _ _ _ e2
  obtain ⟨r3, h3⟩ := reals_of_all _ _ _ _ _ _ e3
  obtain ⟨r4, h4⟩ := reals_of_all _ _ _ _ _ _ e4
  obtain ⟨r5, h5⟩ := reals_of_all _ _ _ _ _ _ e5
  obtain ⟨r6, h6⟩ := reals_of_all _ _ _ _ _ _ e6
  exact ⟨fun i j => ⟨_, h0 _⟩, fun j => ⟨_, h1 _⟩, fun j l => ⟨_, h2 _⟩, fun t l => ⟨_, h3 _⟩, fun k j => ⟨_, h4 _⟩, fun j => ⟨_, h5 _⟩,
    fun i j => ⟨_, h6 _⟩⟩

/-- The value claim: the kernel and the forward lines with their derivative leave the same six arrays. -/
theorem algebraic : algebraic_FfnLossIdeal_FfnLossRefIdeal_pre_loss_finite := by
  intro m g m' g' hp ha
  refine ⟨fun c => (Gen.dats m 0 c).arrAt 7 cfg0.N, fun c => (Gen.dats m 0 c).arrAt 8 cfg0.N, fun c => (Gen.dats m 0 c).arrAt 9 cfg0.N,
    fun c => (Gen.dats m 0 c).arrAt 10 cfg0.N, fun c => (Gen.dats m 0 c).arrAt 11 cfg0.N, fun c => (Gen.dats m 0 c).arrAt 12 cfg0.N,
    Value.run_blocks m g, (θ_run _ _ _).mono (fun r h c => ?_) (FfnLossRefIdeal.Value.run m' g')⟩
  obtain ⟨h0, h1, h2, h3, h4, h5, hr⟩ := h c
  obtain ⟨a0, a1, a2, a3, a4, a5, a6⟩ := ha c
  obtain ⟨hx, hg, hw, hc, hd, hf, hy⟩ := reals_of_pre hp c
  obtain ⟨eA, eL, eN, eD⟩ := LossSpec.same hx hd (FfnSpec.up_real hx hg hw hc) hf hy
  have eX : FfnLossRefIdeal.Elem.X (StableHlo.launchContents m' c) = Elem.X m c := funext₂ fun i j => congrFun a0 _
  have eG : FfnLossRefIdeal.Elem.G (StableHlo.launchContents m' c) = Elem.G m c := funext fun j => congrFun a1 _
  have eWu : FfnLossRefIdeal.Elem.Wu (StableHlo.launchContents m' c) = Elem.Wu m c := funext₂ fun j l => congrFun a2 _
  have eCw : FfnLossRefIdeal.Elem.Cw (StableHlo.launchContents m' c) = Elem.Cw m c := funext₂ fun t l => congrFun a3 _
  have eWd : FfnLossRefIdeal.Elem.Wd (StableHlo.launchContents m' c) = Elem.Wd m c := funext₂ fun k j => congrFun a4 _
  have eGf : FfnLossRefIdeal.Elem.Gf (StableHlo.launchContents m' c) = Elem.Gf m c := funext fun j => congrFun a5 _
  have eY : FfnLossRefIdeal.Elem.Y (StableHlo.launchContents m' c) = Elem.Y m c := funext₂ fun i j => congrFun a6 _
  have eU : FfnLossRefIdeal.Elem.U (StableHlo.launchContents m' c) = Elem.U m c := by
    rw [FfnLossRefIdeal.Elem.U, eX, eG, eWu, eCw]
  have eH : FfnLossRefIdeal.Elem.H (StableHlo.launchContents m' c)
      = LossSpec.out (Elem.X m c) (Elem.Wd m c) (LossSpec.act FfnSpec.sg' (Elem.U m c)) := by
    rw [FfnLossRefIdeal.Elem.H, FfnLossRefIdeal.Elem.A, eX, eWd, eU]
  refine ⟨h0.trans ?_, h1.trans ?_, h2.trans ?_, h3.trans ?_, h4.trans ?_, h5.trans ?_, hr⟩
  · refine Eq.trans ?_ (Elem.arr_u m c).symm
    funext i
    idx_vars i
    refine (FfnLossRefIdeal.Elem.out_u_apply _ i0 i1).trans ?_
    rw [FfnLossRefIdeal.Elem.P, eX, eG, eWu]
  · refine Eq.trans ?_ (Elem.arr_up m c).symm
    funext i
    idx_vars i
    refine (FfnLossRefIdeal.Elem.up_apply _ i0 i1).trans ?_
    rw [eU]
  · refine Eq.trans ?_ (Elem.arr_act m c).symm
    funext i
    idx_vars i
    refine (FfnLossRefIdeal.Elem.out_act_apply _ i0 i1).trans ?_
    rw [FfnLossRefIdeal.Elem.A, eU, ← eA]
  · refine Eq.trans ?_ (Elem.arr_dh m c).symm
    funext i
    idx_vars i
    refine (FfnLossRefIdeal.Elem.dh_apply _ i0 i1).trans ?_
    rw [eH, eGf, eY, ← eD]
  · refine Eq.trans ?_ (Elem.arr_loss m c).symm
    funext i
    idx_vars i
    obtain rfl : i0 = 0 := Subsingleton.elim _ _
    refine (FfnLossRefIdeal.Elem.loss_apply _ i1).trans ?_
    rw [eH, eGf, eY, ← eL]
  · refine Eq.trans ?_ (Elem.arr_gf m c).symm
    funext i
    idx_vars i
    obtain rfl : i0 = 0 := Subsingleton.elim _ _
    refine (FfnLossRefIdeal.Elem.gf_apply _ i1).trans ?_
    rw [eH, eGf, eY, ← eN, ← eA]

/-- The reference runs, leaves its arguments unchanged and has no semaphore. -/
theorem frame_ref : quiescent_FfnLossRefIdeal := fun m ρ _ =>
  (θ_run FfnLossRefIdeal.defs _ _).mono (fun r h => ⟨fun c => (h c).2.2.2.2.2.2, sem_eq_zero_of_no_sems (by decide) r.2⟩)
    (FfnLossRefIdeal.Value.run (F := Ideal) m ρ)

end Cert.LossAlg
-- ==== Proof.MixFwdSpec.lean ====
/-
  The merge of the two branches and its projection, element by element, over the extended reals: the form both programs are read into.
  The two forms of the sigmoid are one function, so the forms of the two programs agree on any values.
-/
module

public import proofs.«01_k».proof.Proof.FfnSpec

@[expose] public section

noncomputable section

namespace Cert.MixFwdSpec

open Idealize.ShloMosaic Cert.Reals Cert.FfnSpec

/-- The sigmoid by the hyperbolic tangent is the sigmoid by the exponential, at the infinities too. -/
theorem sg_eq : sg = sg' := by
  funext v
  induction v with
  | bot =>
    rw [sg, sg', word_half, EReal.coe_mul_bot_of_pos (by norm_num), EReal.neg_bot,
      show Ideal.tanh ⊥ = ((-1 : ℝ) : EReal) from EReal.coe_neg 1 ▸ rfl,
      show Ideal.exp ⊤ = ⊤ from rfl, show (1 : EReal) + ⊤ = ⊤ from rfl, ← EReal.coe_mul, ← EReal.coe_add]
    rw [show Ideal.div (1 : EReal) ⊤ = 0 by simp [Ideal.div]]
    norm_num
  | top =>
    rw [sg, sg', word_half, EReal.coe_mul_top_of_pos (by norm_num), EReal.neg_top, show Ideal.tanh ⊤ = ((1 : ℝ) : EReal) from rfl,
      show Ideal.exp ⊥ = 0 from rfl, add_zero, ← EReal.coe_mul, ← EReal.coe_add, show (1 : EReal) = ((1 : ℝ) : EReal) from rfl,
      div_coe_coe _ one_ne_zero]
    norm_num
  | coe r =>
    obtain ⟨_, _, _, h, h'⟩ := sg_real ⟨r, rfl⟩
    rw [h, h']

/-- The convolution of `z` by the taps `w`. -/
def taps (w : Fin 3 → Fin 512 → EReal) (z : Fin 4096 → Fin 512 → EReal) (i : Fin 4096) (l : Fin 512) : EReal :=
  w 0 l * earlier 2 z i l + w 1 l * earlier 1 z i l + w 2 l * z i l

/-- The gated convolution of the second branch. -/
def conv (cb cc cx : Fin 4096 → Fin 512 → EReal) (w : Fin 3 → Fin 512 → EReal) (i : Fin 4096) (l : Fin 512) : EReal :=
  cb i l * taps w (fun i l => cc i l * cx i l) i l

/-- The product of two matrices. -/
def prod {n : ℕ} (a : Fin 4096 → Fin n → EReal) (w : Fin n → Fin 1024 → EReal) (i : Fin 4096) (j : Fin 1024) : EReal := ∑ k, a i k * w k j

/-- The branches `a` and `v`, gated by `ga` and `gc` through the sigmoid `s`, added. -/
def merged (s : EReal → EReal) (ga gc a v : Fin 4096 → Fin 1024 → EReal) (i : Fin 4096) (j : Fin 1024) : EReal :=
  s (ga i j) * a i j + s (gc i j) * v i j

/-- The merged branches projected onto the residual stream. -/
def out (x : Fin 4096 → Fin 1024 → EReal) (d : Fin 4096 → Fin 1024 → EReal) (w : Fin 1024 → Fin 1024 → EReal) (i : Fin 4096)
    (j : Fin 1024) : EReal := x i j + ∑ k, d i k * w k j

/-- The residual stream normalised, times the gain. -/
def normed (h : Fin 4096 → Fin 1024 → EReal) (g : Fin 1024 → EReal) (i : Fin 4096) (j : Fin 1024) : EReal := h i j * InprojSpec.scale h i * g j

end Cert.MixFwdSpec
-- ==== Proof.MixBwdSpec.lean ====
/-
  The backward pass of the merge of the two branches, element by element, over the extended reals: the form both programs are read into.
-/
module

public import proofs.«01_k».proof.Proof.MixFwdSpec

@[expose] public section

noncomputable section

namespace Cert.MixBwdSpec

open Idealize.ShloMosaic Cert.FfnSpec Cert.MixFwdSpec

/-- A cotangent carried back through a weight. -/
def back {n k : ℕ} (d : Fin 4096 → Fin n → EReal) (w : Fin k → Fin n → EReal) (i : Fin 4096) (l : Fin k) : EReal := ∑ j, d i j * w l j

/-- The gradient of a weight, from what it multiplies and the cotangent of the product. -/
def outer {n k : ℕ} (a : Fin 4096 → Fin n → EReal) (d : Fin 4096 → Fin k → EReal) (l : Fin n) (j : Fin k) : EReal := ∑ i, a i l * d i j

/-- The cotangent of a branch, and of its gate, from the cotangent `d` of the merge. -/
def gated (g d : Fin 4096 → Fin 1024 → EReal) (i : Fin 4096) (j : Fin 1024) : EReal := d i j * sg (g i j)
def dgate (g a d : Fin 4096 → Fin 1024 → EReal) (i : Fin 4096) (j : Fin 1024) : EReal := d i j * a i j * (sg (g i j) * (1 - sg (g i j)))

/-- What the merge reads: the attention's output, the three parts of the convolution, the two gates, the taps, the branches' weights, the
    projection's weight and the cotangent of its result. -/
structure Args where
  (at' cb cc cx : Fin 4096 → Fin 512 → EReal)
  (ga gc : Fin 4096 → Fin 1024 → EReal)
  cw : Fin 3 → Fin 512 → EReal
  (wa wc : Fin 512 → Fin 1024 → EReal)
  wo : Fin 1024 → Fin 1024 → EReal
  dh : Fin 4096 → Fin 1024 → EReal

namespace Args

variable (p : Args)

/-- The forward's values: what the convolution reads, its result before and after the gate, the two branches, their merge. -/
def z (i : Fin 4096) (l : Fin 512) : EReal := p.cc i l * p.cx i l
abbrev k : Fin 4096 → Fin 512 → EReal := taps p.cw p.z
abbrev c : Fin 4096 → Fin 512 → EReal := conv p.cb p.cc p.cx p.cw
abbrev a : Fin 4096 → Fin 1024 → EReal := prod p.at' p.wa
abbrev v : Fin 4096 → Fin 1024 → EReal := prod p.c p.wc
abbrev m : Fin 4096 → Fin 1024 → EReal := merged sg p.ga p.gc p.a p.v

/-- The cotangents of the merge, of the two branches, of the attention's output, of the gated convolution, of the convolution and of what
    it reads. -/
abbrev dm : Fin 4096 → Fin 1024 → EReal := back p.dh p.wo
abbrev da : Fin 4096 → Fin 1024 → EReal := gated p.ga p.dm
abbrev dv : Fin 4096 → Fin 1024 → EReal := gated p.gc p.dm
abbrev dat : Fin 4096 → Fin 512 → EReal := back p.da p.wa
abbrev dc : Fin 4096 → Fin 512 → EReal := back p.dv p.wc
def dk (i : Fin 4096) (l : Fin 512) : EReal := p.dc i l * p.cb i l
abbrev dz : Fin 4096 → Fin 512 → EReal := dconv p.cw p.dk

/-- The gradients of the three parts of the convolution, side by side, and of the two gates. -/
def dc3 (i : Fin 4096) (q : Fin 1536) : EReal :=
  if h : q.val < 512 then p.dc i ⟨q.val, h⟩ * p.k i ⟨q.val, h⟩
  else if h : q.val - 512 < 512 then p.dz i ⟨q.val - 512, h⟩ * p.cx i ⟨q.val - 512, h⟩
  else p.dz i ⟨q.val - 512 - 512, by omega⟩ * p.cc i ⟨q.val - 512 - 512, by omega⟩
def dgt (i : Fin 4096) (q : Fin 2048) : EReal :=
  if h : q.val < 1024 then dgate p.ga p.a p.dm i ⟨q.val, h⟩ else dgate p.gc p.v p.dm i ⟨q.val - 1024, by omega⟩

/-- The gradients of the taps, of the branches' weights, one above the other, and of the projection's weight. -/
abbrev gcw : Fin 3 → Fin 512 → EReal := corr p.dk p.z
def gbr (q j : Fin 1024) : EReal := if h : q.val < 512 then outer p.at' p.da ⟨q.val, h⟩ j else outer p.c p.dv ⟨q.val - 512, by omega⟩ j
abbrev gout : Fin 1024 → Fin 1024 → EReal := outer p.m p.dh

end Args

end Cert.MixBwdSpec
-- ==== Proof.MixBwdBlocks.lean ====
/-
  The blocks the merge's backward kernel reads at each grid point, in terms of the program's arguments, and what the kernel makes of a
  block.
-/
module

public import proofs.«01_k».proof.Proof.Gen.MixBwdIdeal.Frame.Runs
public import proofs.«01_k».proof.Proof.MixBwdSpec
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

namespace Cert.MixBwdIdeal.Elem

open Cert.MixBwdIdeal Cert.MixBwdIdeal.Gen Cert.FfnSpec Cert.MixFwdSpec Cert.MixBwdSpec
open Idealize.ShloMosaic Idealize.ShloMosaic.TcCoe Idealize.SL.Sem

variable (m : (ℓ : Loc nD τ sig) → Buf (Elt Ideal) ℓ) (c : Dev nD)

/-- The arguments as matrices. -/
def args : Args where
  at' i l := m ((c.tc : Thread nD τ).loc main_arg0) (ix3 0 i l)
  cb i l := m ((c.tc : Thread nD τ).loc main_arg1) (ix3 0 i l)
  cc i l := m ((c.tc : Thread nD τ).loc main_arg2) (ix3 0 i l)
  cx i l := m ((c.tc : Thread nD τ).loc main_arg3) (ix3 0 i l)
  ga i j := m ((c.tc : Thread nD τ).loc main_arg4) (ix3 0 i j)
  gc i j := m ((c.tc : Thread nD τ).loc main_arg5) (ix3 0 i j)
  cw k l := m ((c.tc : Thread nD τ).loc main_arg6) (ix3 0 k l)
  wa l j := m ((c.tc : Thread nD τ).loc main_arg7) (ix3 0 l j)
  wc l j := m ((c.tc : Thread nD τ).loc main_arg8) (ix3 0 l j)
  wo k j := m ((c.tc : Thread nD τ).loc main_arg9) (ix3 0 k j)
  dh i j := m ((c.tc : Thread nD τ).loc main_arg10) (ix3 0 i j)

/-- Where each window's block lies: the grid goes from the last rows to the first. -/
theorem idx : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![(7 - t.val) * 32 - 1, 0]
    ∧ win0_6.index t = ![7 - t.val, 0] ∧ win0_7.index t = ![7 - t.val, 0] ∧ win0_8.index t = ![7 - t.val, 0] ∧ win0_9.index t = ![0, 0]
    ∧ win0_10.index t = ![0, 0] ∧ win0_11.index t = ![0, 0] ∧ win0_12.index t = ![7 - t.val, 0] ∧ win0_13.index t = ![7 - t.val, 0]
    ∧ win0_14.index t = ![7 - t.val, 0] ∧ win0_15.index t = ![0, 0] ∧ win0_16.index t = ![0, 0] ∧ win0_17.index t = ![0, 0] :=
  (by decide +kernel : ∀ t : Fin grid0.N, _)

theorem N8 : cfg0.N = 8 := N_0

/-- The array row of row `r` of the block of point `t`. -/
def row (t : Fin cfg0.N) (r : Fin 512) : Fin 4096 := ⟨(7 - t.val) * 512 + r.val, by have := lt_of_lt_of_eq t.isLt N8; omega⟩

/-! The host's lines. -/

theorem concat_apply (a b d : Vec Ideal S1x4096x512 .f32) (i : Fin 4096) (p : Fin 1536) :
    truncf (F := Ideal) FTy.bf16 (concatenate S4096x1536 1 [⟨S4096x512, shapeCast S4096x512 a shapeCasts_S1x4096x512_S4096x512⟩,
      ⟨S4096x512, shapeCast S4096x512 b shapeCasts_S1x4096x512_S4096x512⟩, ⟨S4096x512, shapeCast S4096x512 d shapeCasts_S1x4096x512_S4096x512⟩]
      concatenates_S4096x512_S4096x512_S4096x512_S4096x1536_d1) bitsLt_bf16_f32 (ix2 i p)
    = if h : p.val < 512 then a (ix3 0 i ⟨p.val, h⟩)
      else if h : p.val - 512 < 512 then b (ix3 0 i ⟨p.val - 512, h⟩) else d (ix3 0 i ⟨p.val - 512 - 512, by omega⟩) := by
  pointwise

theorem c_host (i : Fin 4096) (p : Fin 1536) : V m c main_v57 (ix2 i p)
    = if h : p.val < 512 then (args m c).cb i ⟨p.val, h⟩ else if h : p.val - 512 < 512 then (args m c).cc i ⟨p.val - 512, h⟩
      else (args m c).cx i ⟨p.val - 512 - 512, by omega⟩ := by
  unfold V
  simp only [hostOps0, List.flatten_cons, List.flatten_nil, List.append_nil, StableHlo.after_cons, StableHlo.after_nil]
  after_results_simp
  exact concat_apply (m ((c.tc : Thread nD τ).loc main_arg1)) (m ((c.tc : Thread nD τ).loc main_arg2)) (m ((c.tc : Thread nD τ).loc main_arg3)) i p

theorem cb_host (i : Fin 4096) (l : Fin 512) : V m c main_v57 (ix2 i ⟨l.val, by omega⟩) = (args m c).cb i l := by
  rw [c_host, dif_pos l.isLt]
theorem cc_host (i : Fin 4096) (l : Fin 512) : V m c main_v57 (ix2 i ⟨512 + l.val, by omega⟩) = (args m c).cc i l := by
  rw [c_host, dif_neg (by dsimp only; omega), dif_pos (by dsimp only; omega)]
  exact congrArg ((args m c).cc i) (Fin.ext (by dsimp only; omega))
theorem cx_host (i : Fin 4096) (l : Fin 512) : V m c main_v57 (ix2 i ⟨1024 + l.val, by omega⟩) = (args m c).cx i l := by
  rw [c_host, dif_neg (by dsimp only; omega), dif_neg (by dsimp only; omega)]
  exact congrArg ((args m c).cx i) (Fin.ext (by dsimp only; omega))

theorem g_host (i : Fin 4096) (p : Fin 2048) : V m c main_v61 (ix2 i p)
    = (if h : p.val < 1024 then (args m c).ga i ⟨p.val, h⟩ else (args m c).gc i ⟨p.val - 1024, by omega⟩ : EReal) := by
  entry_read
  pointwise
  rfl
theorem ga_host (i : Fin 4096) (j : Fin 1024) : V m c main_v61 (ix2 i ⟨j.val, by omega⟩) = (args m c).ga i j := by
  rw [g_host, dif_pos j.isLt]
theorem gc_host (i : Fin 4096) (j : Fin 1024) : V m c main_v61 (ix2 i ⟨1024 + j.val, by omega⟩) = (args m c).gc i j := by
  rw [g_host, dif_neg (by dsimp only; omega)]
  exact congrArg ((args m c).gc i) (Fin.ext (by dsimp only; omega))

theorem w_host (p j : Fin 1024) : V m c main_v65 (ix2 p j)
    = (if h : p.val < 512 then (args m c).wa ⟨p.val, h⟩ j else (args m c).wc ⟨p.val - 512, by omega⟩ j : EReal) := by
  entry_read
  pointwise
  rfl
theorem wa_host (l : Fin 512) (j : Fin 1024) : V m c main_v65 (ix2 ⟨l.val, by omega⟩ j) = (args m c).wa l j := by
  rw [w_host, dif_pos l.isLt]
theorem wc_host (l : Fin 512) (j : Fin 1024) : V m c main_v65 (ix2 ⟨512 + l.val, by omega⟩ j) = (args m c).wc l j := by
  rw [w_host, dif_neg (by dsimp only; omega)]
  exact congrArg ((args m c).wc · j) (Fin.ext (by dsimp only; omega))

theorem conv_host (i : Fin 4096) (l : Fin 512) : V m c main_v71 (ix2 i l) = (args m c).c i l := by
  entry_read
  pointwise
  rfl
theorem a_host (i : Fin 4096) (j : Fin 1024) : V m c main_v67 (ix2 i j) = (args m c).a i j := by
  entry_read
  pointwise
  rfl
theorem v_host (i : Fin 4096) (j : Fin 1024) : V m c main_v68 (ix2 i j) = (args m c).v i j := by
  entry_read
  pointwise
  rfl
theorem m_host (i : Fin 4096) (j : Fin 1024) : V m c main_v72 (ix2 i j) = (args m c).m i j := by
  unfold Args.m
  rw [sg_eq]
  entry_read
  pointwise
  rfl

variable (t : Fin cfg0.N)

theorem b0 (r : Fin 512) (j : Fin 1024) : iblk m c 0 t (ix2 r j) = (args m c).dh (row t r) j := by
  have e : (win0_0.blk t).view.emb (ix2 r j) = ix2 (row t r) j := by blk_ext [idx t, row]
  show V m c main_v66 ((win0_0.blk t).view.emb (ix2 r j)) = _
  rw [e]
  entry_read
  pointwise
  rfl
/-- An entry of the block of the gates, of the parts of the convolution, of the rows before them, of the branches' weights. -/
theorem e1 (r : Fin 512) (p : Fin 2048) : iblk m c 1 t (ix2 r p) = V m c main_v61 (ix2 (row t r) p) := by
  have e : (win0_1.blk t).view.emb (ix2 r p) = ix2 (row t r) p := by blk_ext [idx t, row]
  show V m c main_v61 ((win0_1.blk t).view.emb (ix2 r p)) = _
  rw [e]
theorem e4 (r : Fin 512) (p : Fin 1536) : iblk m c 4 t (ix2 r p) = V m c main_v57 (ix2 (row t r) p) := by
  have e : (win0_4.blk t).view.emb (ix2 r p) = ix2 (row t r) p := by blk_ext [idx t, row]
  show V m c main_v57 ((win0_4.blk t).view.emb (ix2 r p)) = _
  rw [e]
theorem e5 (q : Fin 16) (p : Fin 1536) : iblk m c 5 t (ix2 q p) = V m c main_v57 (ix2 ⟨((7 - t.val) * 32 - 1) * 16 + q.val, by omega⟩ p) := by
  have e : (win0_5.blk t).view.emb (ix2 q p) = ix2 ⟨((7 - t.val) * 32 - 1) * 16 + q.val, by omega⟩ p := by blk_ext [idx t]
  show V m c main_v57 ((win0_5.blk t).view.emb (ix2 q p)) = _
  rw [e]
theorem e10 (p j : Fin 1024) : iblk m c 10 t (ix2 p j) = V m c main_v65 (ix2 p j) := by
  have e : (win0_10.blk t).view.emb (ix2 p j) = ix2 p j := by blk_ext [idx t]
  show V m c main_v65 ((win0_10.blk t).view.emb (ix2 p j)) = _
  rw [e]

theorem b2 (r : Fin 512) (j : Fin 1024) : iblk m c 2 t (ix2 r j) = (args m c).a (row t r) j := by
  have e : (win0_2.blk t).view.emb (ix2 r j) = ix2 (row t r) j := by blk_ext [idx t, row]
  show V m c main_v67 ((win0_2.blk t).view.emb (ix2 r j)) = _
  rw [e, a_host]
theorem b3 (r : Fin 512) (j : Fin 1024) : iblk m c 3 t (ix2 r j) = (args m c).v (row t r) j := by
  have e : (win0_3.blk t).view.emb (ix2 r j) = ix2 (row t r) j := by blk_ext [idx t, row]
  show V m c main_v68 ((win0_3.blk t).view.emb (ix2 r j)) = _
  rw [e, v_host]
theorem b6 (r : Fin 512) (l : Fin 512) : iblk m c 6 t (ix2 r l) = (args m c).at' (row t r) l := by
  have e : (win0_6.blk t).view.emb (ix2 r l) = ix2 (row t r) l := by blk_ext [idx t, row]
  show V m c main_v70 ((win0_6.blk t).view.emb (ix2 r l)) = _
  rw [e]
  entry_read
  pointwise
  rfl
theorem b7 (r : Fin 512) (l : Fin 512) : iblk m c 7 t (ix2 r l) = (args m c).c (row t r) l := by
  have e : (win0_7.blk t).view.emb (ix2 r l) = ix2 (row t r) l := by blk_ext [idx t, row]
  show V m c main_v71 ((win0_7.blk t).view.emb (ix2 r l)) = _
  rw [e, conv_host]
theorem b8 (r : Fin 512) (j : Fin 1024) : iblk m c 8 t (ix2 r j) = (args m c).m (row t r) j := by
  have e : (win0_8.blk t).view.emb (ix2 r j) = ix2 (row t r) j := by blk_ext [idx t, row]
  show V m c main_v72 ((win0_8.blk t).view.emb (ix2 r j)) = _
  rw [e, m_host]
theorem b9 (k : Fin 3) (l : Fin 512) : iblk m c 9 t (ix2 k l) = (args m c).cw k l := by
  have e : (win0_9.blk t).view.emb (ix2 k l) = ix2 k l := by blk_ext [idx t]
  show V m c main_v73 ((win0_9.blk t).view.emb (ix2 k l)) = _
  rw [e]
  entry_read
  pointwise
  rfl
theorem b11 (k j : Fin 1024) : iblk m c 11 t (ix2 k j) = (args m c).wo k j := by
  have e : (win0_11.blk t).view.emb (ix2 k j) = ix2 k j := by blk_ext [idx t]
  show V m c main_v75 ((win0_11.blk t).view.emb (ix2 k j)) = _
  rw [e]
  entry_read
  pointwise
  rfl

/-- The upper and the lower half of the branches' weights, as the kernel loads them. -/
abbrev wa : Vec Ideal S512x1024 .bf16 := View.ld (iblk m c 10 t) (Rect.unit ![0, 0] ![512, 1024] inb_S1024x1024_S512x1024_0_0)
abbrev wc : Vec Ideal S512x1024 .bf16 := View.ld (iblk m c 10 t) (Rect.unit ![512, 0] ![512, 1024] inb_S1024x1024_S512x1024_512_0)

theorem wa_apply (l : Fin 512) (j : Fin 1024) : wa m c t (ix2 l j) = (args m c).wa l j := by
  rw [← wa_host, ← e10 m c t]
  refine congrArg (iblk m c 10 t) (funext fun k => Fin.ext ((Rect.idx_unit_val _ _ _ _ k).trans ?_))
  fin_cases k
  all_goals simp [ix2]
theorem wc_apply (l : Fin 512) (j : Fin 1024) : wc m c t (ix2 l j) = (args m c).wc l j := by
  rw [← wc_host, ← e10 m c t]
  refine congrArg (iblk m c 10 t) (funext fun k => Fin.ext ((Rect.idx_unit_val _ _ _ _ k).trans ?_))
  fin_cases k
  all_goals simp [ix2]

/-! What the kernel makes of a block. -/

theorem cb_apply (r l : Fin 512) : k0_pay23 (iblk m c 4 t) (ix2 r l) = (args m c).cb (row t r) l := by
  have h := e4 m c t r
  revert h
  generalize iblk m c 4 t = a
  intro h
  pointwise [k0_pay23, k0_pay22]
  rw [h, cb_host]
theorem cc_apply (r l : Fin 512) : k0_pay24 (iblk m c 4 t) (ix2 r l) = (args m c).cc (row t r) l := by
  have h := e4 m c t r
  revert h
  generalize iblk m c 4 t = a
  intro h
  pointwise [k0_pay24, k0_pay22]
  rw [h, cc_host]
theorem cx_apply (r l : Fin 512) : k0_pay25 (iblk m c 4 t) (ix2 r l) = (args m c).cx (row t r) l := by
  have h := e4 m c t r
  revert h
  generalize iblk m c 4 t = a
  intro h
  pointwise [k0_pay25, k0_pay22]
  rw [h, cx_host]
theorem z_apply (r l : Fin 512) : k0_pay26 (iblk m c 4 t) (ix2 r l) = (args m c).z (row t r) l := by
  have h := cc_apply m c t r l
  have h' := cx_apply m c t r l
  revert h h'
  generalize iblk m c 4 t = a
  intro h h'
  pointwise [k0_pay26]
  rw [h, h']
  rfl

end Cert.MixBwdIdeal.Elem
-- ==== Proof.MixBwdPay.lean ====
/-
  What the merge's backward kernel makes of a block, payload by payload: the blocks are given by the arrays whose rows they are.
-/
module

public import proofs.«01_k».proof.Proof.MixBwdBlocks

@[expose] public section

set_option maxRecDepth 16384

noncomputable section

namespace Cert.MixBwdIdeal.Elem

open Cert.MixBwdIdeal Cert.MixBwdIdeal.Gen Cert.FfnSpec Cert.MixFwdSpec Cert.MixBwdSpec
open Idealize.ShloMosaic Idealize.ShloMosaic.TcCoe Idealize.SL.Sem

section Gate

variable (i : Fin 512 → Fin 4096) (g : Vec Ideal S512x2048 .bf16) {GA GC D : Fin 4096 → Fin 1024 → EReal} (d : FVec Ideal S512x1024 .f32)

/-- The cotangent of the merge. -/
theorem pay8_apply (x : Vec Ideal S512x1024 .f32) (w : Vec Ideal S1024x1024 .bf16) {X : Fin 4096 → Fin 1024 → EReal}
    {W : Fin 1024 → Fin 1024 → EReal} (hx : ∀ r j, x (ix2 r j) = X (i r) j) (hw : ∀ k j, w (ix2 k j) = W k j) (r : Fin 512) (j : Fin 1024) :
    k0_pay8 x w (ix2 r j) = back X W (i r) j := by
  pointwise [k0_pay8, k0_pay6]
  simp only [hx, hw]
  rfl

/-- The sigmoids of the two gates. -/
theorem pay10_apply (hg : ∀ r (j : Fin 1024), g (ix2 r ⟨j.val, by omega⟩) = GA (i r) j) (r : Fin 512) (j : Fin 1024) :
    k0_pay10 g (ix2 r j) = sg (GA (i r) j) := by
  pointwise [k0_pay10, k0_pay9]
  rw [hg]
  rfl
theorem pay13_apply (hg : ∀ r (j : Fin 1024), g (ix2 r ⟨1024 + j.val, by omega⟩) = GC (i r) j) (r : Fin 512) (j : Fin 1024) :
    k0_pay13 (k0_pay11 g) (k0_pay12 (F := Ideal)) (ix2 r j) = sg (GC (i r) j) := by
  pointwise [k0_pay13, k0_pay12, k0_pay11, k0_pay9]
  rw [hg]
  rfl

/-- The cotangents of the two branches. -/
theorem pay14_apply (s : FVec Ideal S512x1024 .f32) (hd : ∀ r j, d (ix2 r j) = D (i r) j) (hs : ∀ r j, s (ix2 r j) = sg (GA (i r) j))
    (r : Fin 512) (j : Fin 1024) : k0_pay14 d s (ix2 r j) = gated GA D (i r) j := by
  pointwise [k0_pay14]
  rw [hd, hs]
  rfl
theorem pay15_apply (s q : FVec Ideal S512x1024 .f32) (hd : ∀ r j, d (ix2 r j) = D (i r) j)
    (hs : ∀ r j, k0_pay13 s q (ix2 r j) = sg (GC (i r) j)) (r : Fin 512) (j : Fin 1024) :
    k0_pay15 d s q (ix2 r j) = gated GC D (i r) j := by
  pointwise [k0_pay15]
  rw [hd, hs]
  rfl

/-- The gradients of the two gates, side by side. -/
theorem pay19_apply (s u q : FVec Ideal S512x1024 .f32) (a v : Vec Ideal S512x1024 .bf16) {A B : Fin 4096 → Fin 1024 → EReal}
    (hd : ∀ r j, d (ix2 r j) = D (i r) j) (hs : ∀ r j, s (ix2 r j) = sg (GA (i r) j)) (hu : ∀ r j, k0_pay13 u q (ix2 r j) = sg (GC (i r) j))
    (ha : ∀ r j, a (ix2 r j) = A (i r) j) (hv : ∀ r j, v (ix2 r j) = B (i r) j) (r : Fin 512) (p : Fin 2048) :
    k0_pay19 (k0_pay18 d s u q a v) (ix2 r p) = if h : p.val < 1024 then MixBwdSpec.dgate GA A D (i r) ⟨p.val, h⟩
      else MixBwdSpec.dgate GC B D (i r) ⟨p.val - 1024, by omega⟩ := by
  pointwise [k0_pay19, k0_pay18]
  simp only [hd, hs, hu, ha, hv]
  rfl

/-- A branch's cotangent carried back through its weight. -/
theorem pay20_apply (e : FVec Ideal S512x1024 .bf16) (w : Vec Ideal S512x1024 .bf16) {W : Fin 512 → Fin 1024 → EReal}
    (he : ∀ r j, e (ix2 r j) = D (i r) j) (hw : ∀ l j, w (ix2 l j) = W l j) (r l : Fin 512) :
    k0_pay20 e w (ix2 r l) = back D W (i r) l := by
  pointwise [k0_pay20]
  simp only [he, hw]
  rfl
theorem pay21_apply (e : FVec Ideal S512x1024 .bf16) (w : Vec Ideal S512x1024 .bf16) {W : Fin 512 → Fin 1024 → EReal}
    (he : ∀ r j, e (ix2 r j) = D (i r) j) (hw : ∀ l j, w (ix2 l j) = W l j) (r l : Fin 512) :
    k0_pay21 e w (ix2 r l) = back D W (i r) l := by
  pointwise [k0_pay21]
  simp only [he, hw]
  rfl

/-- What a point adds to the gradients of the weights. -/
theorem pay7_apply (x : Vec Ideal S512x1024 .f32) (w : Vec Ideal S512x1024 .bf16) (a : Vec Ideal S1024x1024 .f32)
    {X M : Fin 4096 → Fin 1024 → EReal} (hx : ∀ r j, x (ix2 r j) = X (i r) j) (hw : ∀ r j, w (ix2 r j) = M (i r) j) (k j : Fin 1024) :
    k0_pay7 x a w (ix2 k j) = a (ix2 k j) + ∑ r : Fin 512, M (i r) k * X (i r) j := by
  pointwise [k0_pay7, k0_pay6]
  simp only [hx, hw]
theorem pay16_apply (s : FVec Ideal S512x1024 .f32) (a : Vec Ideal S512x1024 .f32) (x : Vec Ideal S512x512 .bf16)
    {X : Fin 4096 → Fin 512 → EReal} (hs : ∀ r j, k0_pay14 d s (ix2 r j) = D (i r) j) (hx : ∀ r l, x (ix2 r l) = X (i r) l)
    (l : Fin 512) (j : Fin 1024) : k0_pay16 d s a x (ix2 l j) = a (ix2 l j) + ∑ r : Fin 512, X (i r) l * D (i r) j := by
  pointwise [k0_pay16]
  simp only [hs, hx]
theorem pay17_apply (s q : FVec Ideal S512x1024 .f32) (a : Vec Ideal S512x1024 .f32) (x : Vec Ideal S512x512 .bf16)
    {X : Fin 4096 → Fin 512 → EReal} (hs : ∀ r j, k0_pay15 d s q (ix2 r j) = D (i r) j) (hx : ∀ r l, x (ix2 r l) = X (i r) l)
    (l : Fin 512) (j : Fin 1024) : k0_pay17 d s q a x (ix2 l j) = a (ix2 l j) + ∑ r : Fin 512, X (i r) l * D (i r) j := by
  pointwise [k0_pay17]
  simp only [hs, hx]

end Gate

section Conv

variable (t : Fin cfg0.N) (v : Vec Ideal S512x1536 .bf16) (h : Vec Ideal S16x1536 .bf16) (w : Vec Ideal S3x512 .f32)
  (d b z : FVec Ideal S512x512 .f32) (y : Vec Ideal S8x512 .f32) {S : Fin 4096 → Fin 512 → EReal} {W : Fin 3 → Fin 512 → EReal}

/-- Whether a block has rows before it, as the kernel computes it. -/
theorem mask_eq : ∀ t : Fin cfg0.N, (Scalar.extui (Scalar.cmpi .slt (BitVec.ofNat 32 (grid0.coords t 0).val) 7#32) : BitVec 32).toInt
    = if t.val = 7 then 0 else 1 :=
  (by decide +kernel : ∀ t : Fin grid0.N, _)

/-- The convolution of a block: the rows before it come from the block of sixteen rows before it. -/
theorem taps_apply {CC CX : Fin 4096 → Fin 512 → EReal} (n : BitVec 32)
    (hn : (Scalar.extui (Scalar.cmpi .slt n 7#32) : BitVec 32).toInt = if t.val = 7 then 0 else 1) (hz : ∀ r l, k0_pay26 v (ix2 r l) = CC (row t r) l * CX (row t r) l)
    (hc : ∀ (q : Fin 16) (l : Fin 512), h (ix2 q ⟨512 + l.val, by omega⟩) = CC ⟨((7 - t.val) * 32 - 1) * 16 + q.val, by omega⟩ l)
    (hx : ∀ (q : Fin 16) (l : Fin 512), h (ix2 q ⟨1024 + l.val, by omega⟩) = CX ⟨((7 - t.val) * 32 - 1) * 16 + q.val, by omega⟩ l)
    (hw : ∀ k l, w (ix2 k l) = W k l) (r : Fin 512) (l : Fin 512) :
    k0_pay31 (k0_pay26 v) (k0_pay27 w) (k0_pay28 n v h) (k0_pay29 n v h w) (k0_pay30 n v h w) (ix2 r l)
      = taps W (fun i l => CC i l * CX i l) (row t r) l := by
  have ht := t.isLt
  have hN := N8
  have hr := r.isLt
  have e : ∀ x y z x' y' z' : EReal, x = x' → y = y' → z = z' → x + y + z = z' + y' + x' := by
    intro x y z x' y' z' h1 h2 h3; rw [h1, h2, h3]; abel
  unfold taps
  pointwise [k0_pay31, k0_pay30, k0_pay29, k0_pay28, k0_pay27]
  simp only [hz, hc, hx, hw, hn]
  split
  all_goals refine e _ _ _ _ _ _ (congrArg _ ?_) (congrArg _ ?_) (congrArg _ ?_)
  all_goals try unfold earlier
  all_goals repeat' split
  all_goals first
    | rfl
    | (exfalso; simp only [row] at *; omega)
    | (simp only [Int.cast_zero, Int.cast_one, EReal.coe_zero, EReal.coe_one, mul_zero]; done)
    | (try simp only [Int.cast_zero, Int.cast_one, EReal.coe_zero, EReal.coe_one, mul_one]
       refine congrArg₂ (· * ·) (congrArg (CC · l) (Fin.ext ?_)) (congrArg (CX · l) (Fin.ext ?_)) <;> simp only [row] <;> omega)

/-- The convolution's cotangent, one row and two rows later, the eight rows after the block being `y`. -/
theorem pay34_apply (hd : ∀ r l, k0_pay32 d b (ix2 r l) = S (row t r) l) (hy : ∀ (q : Fin 8) l, y (ix2 q l) = later 512 S (row t ⟨q.val, by omega⟩) l)
    (r l : Fin 512) : k0_pay34 d b y (ix2 r l) = later 1 S (row t r) l := by
  have ht := t.isLt
  have hN := N8
  pointwise [k0_pay34, k0_pay33]
  simp only [hd, hy]
  unfold later
  repeat' split
  all_goals first
    | rfl
    | (exfalso; simp only [row] at *; omega)
    | (refine congrArg (S · l) (Fin.ext ?_); simp only [row]; omega)
theorem pay35_apply (hd : ∀ r l, k0_pay32 d b (ix2 r l) = S (row t r) l) (hy : ∀ (q : Fin 8) l, y (ix2 q l) = later 512 S (row t ⟨q.val, by omega⟩) l)
    (r l : Fin 512) : k0_pay35 d b y (ix2 r l) = later 2 S (row t r) l := by
  have ht := t.isLt
  have hN := N8
  pointwise [k0_pay35, k0_pay33]
  simp only [hd, hy]
  unfold later
  repeat' split
  all_goals first
    | rfl
    | (exfalso; simp only [row] at *; omega)
    | (refine congrArg (S · l) (Fin.ext ?_); simp only [row]; omega)

/-- The gradients of the convolution's three parts, side by side. -/
theorem pay42_apply (c x k e e1 e2 : FVec Ideal S512x512 .f32) {D C X K : Fin 4096 → Fin 512 → EReal} (hd : ∀ r l, d (ix2 r l) = D (row t r) l)
    (hc : ∀ r l, c (ix2 r l) = C (row t r) l) (hx : ∀ r l, x (ix2 r l) = X (row t r) l) (hw : ∀ k l, w (ix2 k l) = W k l)
    (hk : ∀ r l, k (ix2 r l) = K (row t r) l) (he : ∀ r l, e (ix2 r l) = S (row t r) l) (h1 : ∀ r l, e1 (ix2 r l) = later 1 S (row t r) l)
    (h2 : ∀ r l, e2 (ix2 r l) = later 2 S (row t r) l) (r : Fin 512) (q : Fin 1536) :
    k0_pay42 d c x (k0_pay27 w) k e e1 e2 (ix2 r q) = if h : q.val < 512 then D (row t r) ⟨q.val, h⟩ * K (row t r) ⟨q.val, h⟩
      else if h : q.val - 512 < 512 then dconv W S (row t r) ⟨q.val - 512, h⟩ * X (row t r) ⟨q.val - 512, h⟩
      else dconv W S (row t r) ⟨q.val - 512 - 512, by omega⟩ * C (row t r) ⟨q.val - 512 - 512, by omega⟩ := by
  pointwise [k0_pay42, k0_pay27]
  simp only [hd, hc, hx, hw, hk, he, h1, h2]
  rfl

/-- The convolution's cotangent, and its first rows, which the next point takes over. -/
theorem pay32_apply (r l : Fin 512) : k0_pay32 d b (ix2 r l) = d (ix2 r l) * b (ix2 r l) := by
  pointwise [k0_pay32]
theorem pay36_apply (q : Fin 8) (l : Fin 512) : k0_pay36 d b (ix2 q l) = d (ix2 ⟨q.val, by omega⟩ l) * b (ix2 ⟨q.val, by omega⟩ l) := by
  pointwise [k0_pay36, k0_pay32]

/-- What a point adds to the three rows of the gradient of the taps. -/
theorem pay39_apply (g : Vec Ideal S1x512 .f32) (l : Fin 512) : k0_pay39 (k0_pay37 g) (k0_pay38 d b z) (ix2 0 l)
    = g (ix2 0 l) + ∑ r : Fin 512, k0_pay32 d b (ix2 r l) * z (ix2 r l) := by
  pointwise [k0_pay39, k0_pay38, k0_pay37]
theorem pay40_apply (g : Vec Ideal S1x512 .f32) (l : Fin 512) : k0_pay40 z d g (ix2 0 l)
    = g (ix2 0 l) + ∑ r : Fin 512, d (ix2 r l) * z (ix2 r l) := by
  pointwise [k0_pay40]
theorem pay41_apply (g : Vec Ideal S1x512 .f32) (l : Fin 512) : k0_pay41 z d g (ix2 0 l)
    = g (ix2 0 l) + ∑ r : Fin 512, d (ix2 r l) * z (ix2 r l) := by
  pointwise [k0_pay41]

end Conv

end Cert.MixBwdIdeal.Elem
-- ==== Proof.MixBwdKernel.lean ====
/-
  The arrays the merge's backward kernel leaves, element by element.
-/
module

public import proofs.«01_k».proof.Proof.Gen.MixBwdIdeal.Frame
public import proofs.«01_k».proof.Proof.MixBwdPay
public import proofs.«01_k».proof.Proof.Rows

@[expose] public section

set_option maxRecDepth 16384

noncomputable section

namespace Cert.MixBwdIdeal.Elem

open Cert.MixBwdIdeal Cert.MixBwdIdeal.Gen Cert.FfnSpec Cert.MixFwdSpec Cert.MixBwdSpec Cert.Rows
open Idealize.ShloMosaic Idealize.ShloMosaic.TcCoe Idealize.SL.Sem

variable (m : (ℓ : Loc nD τ sig) → Buf (Elt Ideal) ℓ) (c : Dev nD) (t : Fin cfg0.N)

/-- The point before, where there is one. -/
theorem prev_lt : t.val - 1 < cfg0.N := Nat.lt_of_le_of_lt (Nat.sub_le _ _) t.isLt

/-- What a point takes over from the point before, zero at the first: rows of the convolution's cotangent, and the sums of the gradients of
    the taps, of the branches' weights and of the projection's weight. -/
def carry : Vec Ideal S8x512 .f32 := if t.val % 8 = 0 then k0_pay2 (F := Ideal) else (outsAt0 m c (t.val - 1) (prev_lt t)).2.2.2.2.2.2.1
def gcwIn : Vec Ideal S3x512 .f32 := if t.val % 8 = 0 then k0_pay3 (F := Ideal) else (outsAt0 m c (t.val - 1) (prev_lt t)).2.2.2.1
def brIn : Vec Ideal S1024x1024 .f32 := if t.val % 8 = 0 then k0_pay4 (F := Ideal) else (outsAt0 m c (t.val - 1) (prev_lt t)).2.2.2.2.2.2.2.1
def outIn : Vec Ideal S1024x1024 .f32 := if t.val % 8 = 0 then k0_pay5 (F := Ideal) else (outsAt0 m c (t.val - 1) (prev_lt t)).2.2.2.2.2.2.2.2

/-! The blocks of the cotangents, as the kernel computes them. -/

abbrev dmB : FVec Ideal S512x1024 .f32 := k0_pay8 (iblk m c 0 t) (iblk m c 11 t)
abbrev dcB : FVec Ideal S512x512 .f32 := k0_pay21 (k0_pay15 (dmB m c t) (k0_pay11 (iblk m c 1 t)) k0_pay12) (wc m c t)
abbrev dkB : FVec Ideal S512x512 .f32 := k0_pay32 (dcB m c t) (k0_pay23 (iblk m c 4 t))
abbrev dk1B : FVec Ideal S512x512 .f32 := k0_pay34 (dcB m c t) (k0_pay23 (iblk m c 4 t)) (carry m c t)
abbrev dk2B : FVec Ideal S512x512 .f32 := k0_pay35 (dcB m c t) (k0_pay23 (iblk m c 4 t)) (carry m c t)
/-- The convolution of the block. -/
abbrev kB : FVec Ideal S512x512 .f32 := k0_pay31 (k0_pay26 (iblk m c 4 t)) (k0_pay27 (iblk m c 9 t))
  (k0_pay28 (BitVec.ofNat 32 (grid0.coords t 0).val) (iblk m c 4 t) (iblk m c 5 t))
  (k0_pay29 (BitVec.ofNat 32 (grid0.coords t 0).val) (iblk m c 4 t) (iblk m c 5 t) (iblk m c 9 t))
  (k0_pay30 (BitVec.ofNat 32 (grid0.coords t 0).val) (iblk m c 4 t) (iblk m c 5 t) (iblk m c 9 t))

/-! What a point leaves. -/

theorem out_dat : (outsAt0 m c t.val t.isLt).1 = k0_pay20 (k0_pay14 (dmB m c t) (k0_pay10 (iblk m c 1 t))) (wa m c t) := by
  by_cases h0 : t.val % 8 = 0
  · rw [outsAt0_A m c t h0]; frame_out; rfl
  · rw [outsAt0_B m c t h0]; frame_out; rfl

theorem out_dc3 : (outsAt0 m c t.val t.isLt).2.1 = k0_pay42 (dcB m c t) (k0_pay24 (iblk m c 4 t)) (k0_pay25 (iblk m c 4 t))
    (k0_pay27 (iblk m c 9 t)) (kB m c t) (dkB m c t) (dk1B m c t) (dk2B m c t) := by
  by_cases h0 : t.val % 8 = 0
  · rw [outsAt0_A m c t h0]; frame_out; simp only [dk1B, dk2B, carry, if_pos h0]; rfl
  · rw [outsAt0_B m c t h0]; frame_out; simp only [dk1B, dk2B, carry, if_neg h0, read_unread_whole]; rfl

theorem out_dgt : (outsAt0 m c t.val t.isLt).2.2.1 = k0_pay19 (k0_pay18 (dmB m c t) (k0_pay10 (iblk m c 1 t)) (k0_pay11 (iblk m c 1 t)) k0_pay12
    (iblk m c 2 t) (iblk m c 3 t)) := by
  by_cases h0 : t.val % 8 = 0
  · rw [outsAt0_A m c t h0]; frame_out
  · rw [outsAt0_B m c t h0]; frame_out

theorem out_carry : (outsAt0 m c t.val t.isLt).2.2.2.2.2.2.1 = k0_pay36 (dcB m c t) (k0_pay23 (iblk m c 4 t)) := by
  by_cases h0 : t.val % 8 = 0
  · rw [outsAt0_A m c t h0]; frame_out; rfl
  · rw [outsAt0_B m c t h0]; frame_out; rfl

theorem out_oacc : (outsAt0 m c t.val t.isLt).2.2.2.2.2.2.2.2 = k0_pay7 (iblk m c 0 t) (outIn m c t) (iblk m c 8 t) := by
  by_cases h0 : t.val % 8 = 0
  · rw [outsAt0_A m c t h0]; frame_out; simp only [outIn, if_pos h0]
  · rw [outsAt0_B m c t h0]; frame_out; simp only [outIn, if_neg h0, read_unread_whole]

/-- The two sums kept beside the outputs are stored whole. -/
theorem out_gout (k j : Fin 1024) : (outsAt0 m c t.val t.isLt).2.2.2.2.2.1 (ix2 k j) = (outsAt0 m c t.val t.isLt).2.2.2.2.2.2.2.2 (ix2 k j) := by
  by_cases h0 : t.val % 8 = 0
  · rw [outsAt0_A m c t h0]; frame_out; pointwise [k0_pay1]
  · rw [outsAt0_B m c t h0]; frame_out; pointwise [k0_pay1]

theorem pay43_apply (x : Vec Ideal S1024x1024 .f32) (k j : Fin 1024) : k0_pay43 x (ix2 k j) = x (ix2 k j) := by
  pointwise [k0_pay43]

theorem out_gbr (k j : Fin 1024) : (outsAt0 m c t.val t.isLt).2.2.2.2.1 (ix2 k j) = (outsAt0 m c t.val t.isLt).2.2.2.2.2.2.2.1 (ix2 k j) := by
  by_cases h0 : t.val % 8 = 0
  · rw [outsAt0_A m c t h0]; frame_out
    exact (pay43_apply _ k j).trans (readCov_band _ _ 0 k k (Nat.zero_add _).symm _ j)
  · rw [outsAt0_B m c t h0]; frame_out
    exact (pay43_apply _ k j).trans (readCov_band _ _ 0 k k (Nat.zero_add _).symm _ j)

/-! The blocks, entry by entry. -/

theorem ga_apply (r : Fin 512) (j : Fin 1024) : iblk m c 1 t (ix2 r ⟨j.val, by omega⟩) = (args m c).ga (row t r) j :=
  (e1 m c t r _).trans (ga_host m c _ j)
theorem gc_apply (r : Fin 512) (j : Fin 1024) : iblk m c 1 t (ix2 r ⟨1024 + j.val, by omega⟩) = (args m c).gc (row t r) j :=
  (e1 m c t r _).trans (gc_host m c _ j)
theorem dm_apply (r : Fin 512) (j : Fin 1024) : dmB m c t (ix2 r j) = (args m c).dm (row t r) j :=
  pay8_apply (row t) _ _ (b0 m c t) (b11 m c t) r j
theorem sa_apply (r : Fin 512) (j : Fin 1024) : k0_pay10 (iblk m c 1 t) (ix2 r j) = sg ((args m c).ga (row t r) j) :=
  pay10_apply (row t) _ (ga_apply m c t) r j
theorem sc_apply (r : Fin 512) (j : Fin 1024) : k0_pay13 (k0_pay11 (iblk m c 1 t)) k0_pay12 (ix2 r j) = sg ((args m c).gc (row t r) j) :=
  pay13_apply (row t) _ (gc_apply m c t) r j
theorem da_apply (r : Fin 512) (j : Fin 1024) : k0_pay14 (dmB m c t) (k0_pay10 (iblk m c 1 t)) (ix2 r j) = (args m c).da (row t r) j :=
  pay14_apply (row t) _ _ (dm_apply m c t) (sa_apply m c t) r j
theorem dv_apply (r : Fin 512) (j : Fin 1024) :
    k0_pay15 (dmB m c t) (k0_pay11 (iblk m c 1 t)) k0_pay12 (ix2 r j) = (args m c).dv (row t r) j :=
  pay15_apply (row t) _ _ _ (dm_apply m c t) (sc_apply m c t) r j
theorem dc_apply (r l : Fin 512) : dcB m c t (ix2 r l) = (args m c).dc (row t r) l :=
  pay21_apply (row t) _ _ (dv_apply m c t) (wc_apply m c t) r l
theorem dk_apply (r l : Fin 512) : dkB m c t (ix2 r l) = (args m c).dk (row t r) l :=
  (pay32_apply _ _ r l).trans (congrArg₂ (· * ·) (dc_apply m c t r l) (cb_apply m c t r l))

/-- The rows taken over are the first of the block after. -/
theorem carry_apply (q : Fin 8) (l : Fin 512) : carry m c t (ix2 q l) = later 512 (args m c).dk (row t ⟨q.val, by omega⟩) l := by
  have ht := t.isLt
  have hN := N8
  unfold carry later
  split
  · rw [dif_neg (by simp only [row]; omega)]
    pointwise [k0_pay2]
  · rw [dif_pos (by simp only [row]; omega), show (outsAt0 m c (t.val - 1) (prev_lt t)).2.2.2.2.2.2.1
      = k0_pay36 (dcB m c ⟨t.val - 1, prev_lt t⟩) (k0_pay23 (iblk m c 4 ⟨t.val - 1, prev_lt t⟩)) from out_carry m c ⟨t.val - 1, prev_lt t⟩]
    refine (pay36_apply _ _ q l).trans ((congrArg₂ (· * ·) (dc_apply m c _ _ l) (cb_apply m c _ _ l)).trans ?_)
    refine congrArg ((args m c).dk · l) (Fin.ext ?_)
    simp only [row]; omega

theorem dk1_apply (r l : Fin 512) : dk1B m c t (ix2 r l) = later 1 (args m c).dk (row t r) l :=
  pay34_apply t _ _ _ (dk_apply m c t) (carry_apply m c t) r l
theorem dk2_apply (r l : Fin 512) : dk2B m c t (ix2 r l) = later 2 (args m c).dk (row t r) l :=
  pay35_apply t _ _ _ (dk_apply m c t) (carry_apply m c t) r l

theorem k_apply (r l : Fin 512) : kB m c t (ix2 r l) = (args m c).k (row t r) l :=
  taps_apply t _ _ _ _ (mask_eq t) (z_apply m c t) (fun q l => (e5 m c t q _).trans (cc_host m c _ l))
    (fun q l => (e5 m c t q _).trans (cx_host m c _ l)) (b9 m c t) r l

theorem out_dat_apply (r l : Fin 512) : (outsAt0 m c t.val t.isLt).1 (ix2 r l) = (args m c).dat (row t r) l := by
  rw [out_dat]; exact pay20_apply (row t) _ _ (da_apply m c t) (wa_apply m c t) r l

theorem out_dc3_apply (r : Fin 512) (q : Fin 1536) : (outsAt0 m c t.val t.isLt).2.1 (ix2 r q) = (args m c).dc3 (row t r) q := by
  rw [out_dc3]
  exact pay42_apply t _ _ _ _ _ _ _ _ (dc_apply m c t) (cc_apply m c t) (cx_apply m c t) (b9 m c t) (k_apply m c t) (dk_apply m c t)
    (dk1_apply m c t) (dk2_apply m c t) r q

theorem out_dgt_apply (r : Fin 512) (q : Fin 2048) : (outsAt0 m c t.val t.isLt).2.2.1 (ix2 r q) = (args m c).dgt (row t r) q := by
  rw [out_dgt]
  exact pay19_apply (row t) _ _ _ _ _ _ (dm_apply m c t) (sa_apply m c t) (sc_apply m c t) (b2 m c t) (b3 m c t) r q

/-! What a point adds to the sums. -/

theorem out_oacc_apply (k j : Fin 1024) : (outsAt0 m c t.val t.isLt).2.2.2.2.2.2.2.2 (ix2 k j) = outIn m c t (ix2 k j)
    + ∑ r : Fin 512, (args m c).m (row t r) k * (args m c).dh (row t r) j := by
  rw [out_oacc]; exact pay7_apply (row t) _ _ _ (b0 m c t) (b8 m c t) k j

/-- The sum over the block of the gradient of the branches' weights. -/
def brSum (k j : Fin 1024) : EReal := if h : k.val < 512 then ∑ r : Fin 512, (args m c).at' (row t r) ⟨k.val, h⟩ * (args m c).da (row t r) j
  else ∑ r : Fin 512, (args m c).c (row t r) ⟨k.val - 512, by omega⟩ * (args m c).dv (row t r) j

set_option maxHeartbeats 2000000 in
theorem out_br_apply (k j : Fin 1024) : (outsAt0 m c t.val t.isLt).2.2.2.2.2.2.2.1 (ix2 k j) = brIn m c t (ix2 k j) + brSum m c t k j := by
  have hu := fun a (s : Fin 512) => pay16_apply (row t) (dmB m c t) (k0_pay10 (iblk m c 1 t)) a (iblk m c 6 t) (da_apply m c t) (b6 m c t) s j
  have hl := fun a (s : Fin 512) => pay17_apply (row t) (dmB m c t) (k0_pay11 (iblk m c 1 t)) k0_pay12 a (iblk m c 7 t) (dv_apply m c t) (b7 m c t) s j
  unfold brSum
  by_cases h0 : t.val % 8 = 0
  · rw [outsAt0_A m c t h0]; frame_out
    simp only [brIn, if_pos h0]
    split
    · rename_i h
      have hi : k.val = 0 + (⟨k.val, h⟩ : Fin 512).val := (Nat.zero_add _).symm
      refine (canon_band_of_lt 512 k h _ _ _ j).trans ((canon_band 0 k _ hi _ _ _ j).trans ((hu _ _).trans (congrArg (· + _) ?_)))
      exact (readCov_band _ _ 0 k _ hi _ j).trans (canon_band 0 k k (Nat.zero_add _).symm _ _ _ j)
    · rename_i h
      have hi : k.val = 512 + (⟨k.val - 512, by omega⟩ : Fin 512).val := by dsimp only; omega
      refine (canon_band 512 k _ hi _ _ _ j).trans ((hl _ _).trans (congrArg (· + _) ?_))
      refine (readCov_band _ _ 512 k _ hi _ j).trans ?_
      exact (canon_band_of_le 0 k (by omega) _ _ _ j).trans (canon_band 0 k k (Nat.zero_add _).symm _ _ _ j)
  · rw [outsAt0_B m c t h0]; frame_out
    simp only [read_unread_whole, brIn, if_neg h0]
    split
    · rename_i h
      have hi : k.val = 0 + (⟨k.val, h⟩ : Fin 512).val := (Nat.zero_add _).symm
      refine (canon_band_of_lt 512 k h _ _ _ j).trans ((canon_band 0 k _ hi _ _ _ j).trans ((hu _ _).trans (congrArg (· + _) ?_)))
      exact ld_band _ 0 k _ hi _ j
    · rename_i h
      have hi : k.val = 512 + (⟨k.val - 512, by omega⟩ : Fin 512).val := by dsimp only; omega
      refine (canon_band 512 k _ hi _ _ _ j).trans ((hl _ _).trans (congrArg (· + _) ?_))
      exact ld_band _ 512 k _ hi _ j

/-- The sum a point adds at a row of the gradient of the taps, from the block `d` correlated there. -/
abbrev corrB (d : FVec Ideal S512x512 .f32) (l : Fin 512) : EReal := ∑ r : Fin 512, d (ix2 r l) * k0_pay26 (iblk m c 4 t) (ix2 r l)

theorem out_gcw (l : Fin 512) : (outsAt0 m c t.val t.isLt).2.2.2.1 (ix2 0 l) = gcwIn m c t (ix2 0 l) + corrB m c t (dk2B m c t) l
    ∧ (outsAt0 m c t.val t.isLt).2.2.2.1 (ix2 1 l) = gcwIn m c t (ix2 1 l) + corrB m c t (dk1B m c t) l
    ∧ (outsAt0 m c t.val t.isLt).2.2.2.1 (ix2 2 l) = gcwIn m c t (ix2 2 l) + corrB m c t (dkB m c t) l := by
  have z : ∀ (L : List (View.Piece (Elt Ideal) S3x512 .f32)) (inb) (w : S3x512.Idx → Elt Ideal .f32) (k : Fin 3),
      View.canon (⟨Rect.unit ![0, 0] ![3, 512] inb, w⟩ :: L) (ix2 k l) = w (ix2 k l) :=
    fun L inb w k => congrFun (View.canon_cons_unit_lit inb w L (by decide)) _
  by_cases h0 : t.val % 8 = 0
  · rw [outsAt0_A m c t h0]; frame_out
    simp only [dk1B, dk2B, carry, gcwIn, if_pos h0]
    refine ⟨?_, ?_, ?_⟩
    · refine (canon_row (K := 3) (0 : Fin 3) _ _ _ l).trans ((pay41_apply _ _ _ l).trans (congrArg (· + _) ?_))
      refine (readCov_row (K := 3) _ _ (0 : Fin 3) _ l).trans ?_
      refine (canon_row_of_ne (K := 3) (0 : Fin 3) 1 (by decide) _ _ _ l).trans ?_
      exact (canon_row_of_ne (K := 3) (0 : Fin 3) 2 (by decide) _ _ _ l).trans (z _ _ _ _)
    · refine (canon_row_of_ne (K := 3) (1 : Fin 3) 0 (by decide) _ _ _ l).trans ?_
      refine (canon_row (K := 3) (1 : Fin 3) _ _ _ l).trans ((pay40_apply _ _ _ l).trans (congrArg (· + _) ?_))
      refine (readCov_row (K := 3) _ _ (1 : Fin 3) _ l).trans ?_
      exact (canon_row_of_ne (K := 3) (1 : Fin 3) 2 (by decide) _ _ _ l).trans (z _ _ _ _)
    · refine (canon_row_of_ne (K := 3) (2 : Fin 3) 0 (by decide) _ _ _ l).trans ?_
      refine (canon_row_of_ne (K := 3) (2 : Fin 3) 1 (by decide) _ _ _ l).trans ?_
      refine (canon_row (K := 3) (2 : Fin 3) _ _ _ l).trans ((pay39_apply _ _ _ _ l).trans (congrArg (· + _) ?_))
      exact (readCov_row (K := 3) _ _ (2 : Fin 3) _ l).trans (z _ _ _ _)
  · rw [outsAt0_B m c t h0]; frame_out
    simp only [read_unread_whole, dk1B, dk2B, carry, gcwIn, if_neg h0]
    refine ⟨?_, ?_, ?_⟩
    · refine (canon_row (K := 3) (0 : Fin 3) _ _ _ l).trans ((pay41_apply _ _ _ l).trans (congrArg (· + _) ?_))
      exact ld_row _ (0 : Fin 3) _ l
    · refine (canon_row_of_ne (K := 3) (1 : Fin 3) 0 (by decide) _ _ _ l).trans ?_
      refine (canon_row (K := 3) (1 : Fin 3) _ _ _ l).trans ((pay40_apply _ _ _ l).trans (congrArg (· + _) ?_))
      exact ld_row _ (1 : Fin 3) _ l
    · refine (canon_row_of_ne (K := 3) (2 : Fin 3) 0 (by decide) _ _ _ l).trans ?_
      refine (canon_row_of_ne (K := 3) (2 : Fin 3) 1 (by decide) _ _ _ l).trans ?_
      refine (canon_row (K := 3) (2 : Fin 3) _ _ _ l).trans ((pay39_apply _ _ _ _ l).trans (congrArg (· + _) ?_))
      exact ld_row _ (2 : Fin 3) _ l

theorem corrB_eq {d : FVec Ideal S512x512 .f32} {l : Fin 512} {S : Fin 4096 → Fin 512 → EReal} (h : ∀ r, d (ix2 r l) = S (row t r) l) :
    corrB m c t d l = ∑ r : Fin 512, S (row t r) l * (args m c).z (row t r) l :=
  Finset.sum_congr rfl fun r _ => congrArg₂ (· * ·) (h r) (z_apply m c t r l)

theorem out_gcw_apply (k : Fin 3) (l : Fin 512) : (outsAt0 m c t.val t.isLt).2.2.2.1 (ix2 k l) = gcwIn m c t (ix2 k l)
    + ∑ r : Fin 512, tap (args m c).dk k (row t r) l * (args m c).z (row t r) l := by
  obtain ⟨h0, h1, h2⟩ := out_gcw m c t l
  match k with
  | 0 => exact h0.trans (congrArg (_ + ·) (corrB_eq m c t fun r => dk2_apply m c t r l))
  | 1 => exact h1.trans (congrArg (_ + ·) (corrB_eq m c t fun r => dk1_apply m c t r l))
  | 2 => exact h2.trans (congrArg (_ + ·) (corrB_eq m c t fun r => dk_apply m c t r l))

/-! The sums over the grid. -/

/-- The blocks' rows, from the last block to the first, are all the rows. -/
theorem sum_rows (f : Fin 4096 → EReal) : ∑ s : Fin 8, ∑ r : Fin 512, f (row ⟨s.val, lt_of_lt_of_eq s.isLt N8.symm⟩ r) = ∑ i, f i := by
  rw [← Equiv.sum_comp Fin.revPerm]
  exact Fin.sum_mul_add_congr fun s k hl => congrArg f (Fin.ext (by simp only [row, Fin.revPerm_apply, Fin.val_rev]; omega))

theorem acc_gcw (ht : t.val + 1 = cfg0.N) (k : Fin 3) (l : Fin 512) : (outsAt0 m c t.val t.isLt).2.2.2.1 (ix2 k l) = (args m c).gcw k l := by
  refine (Pipeline.eq_sum_fin_of_reset_step_apply_last (fun n h (i : Fin 3 × Fin 512) => (outsAt0 m c n h).2.2.2.1 (ix2 i.1 i.2)) 8 (fun _ => 0)
    (fun t i => ∑ r : Fin 512, tap (args m c).dk i.1 (row t r) i.2 * (args m c).z (row t r) i.2)
    (fun t h i => ?_) (fun t h i => ?_) (by decide) t ht (k, l)).trans ?_
  · rw [out_gcw_apply, gcwIn, if_pos h]; pointwise [k0_pay3]
  · rw [out_gcw_apply, gcwIn, if_neg h]
  · rw [zero_add]
    exact sum_rows fun i => tap (args m c).dk k i l * (args m c).z i l

theorem acc_gbr (ht : t.val + 1 = cfg0.N) (k j : Fin 1024) : (outsAt0 m c t.val t.isLt).2.2.2.2.1 (ix2 k j) = (args m c).gbr k j := by
  refine (out_gbr m c t k j).trans ((Pipeline.eq_sum_fin_of_reset_step_apply_last
    (fun n h (i : Fin 1024 × Fin 1024) => (outsAt0 m c n h).2.2.2.2.2.2.2.1 (ix2 i.1 i.2)) 8 (fun _ => 0) (fun t i => brSum m c t i.1 i.2)
    (fun t h i => ?_) (fun t h i => ?_) (by decide) t ht (k, j)).trans ?_)
  · rw [out_br_apply, brIn, if_pos h]; pointwise [k0_pay4]
  · rw [out_br_apply, brIn, if_neg h]
  · rw [zero_add]
    unfold Args.gbr brSum
    split
    · exact sum_rows fun i => (args m c).at' i _ * (args m c).da i j
    · exact sum_rows fun i => (args m c).c i _ * (args m c).dv i j

theorem acc_gout (ht : t.val + 1 = cfg0.N) (k j : Fin 1024) : (outsAt0 m c t.val t.isLt).2.2.2.2.2.1 (ix2 k j) = (args m c).gout k j := by
  refine (out_gout m c t k j).trans ((Pipeline.eq_sum_fin_of_reset_step_apply_last
    (fun n h (i : Fin 1024 × Fin 1024) => (outsAt0 m c n h).2.2.2.2.2.2.2.2 (ix2 i.1 i.2)) 8 (fun _ => 0)
    (fun t i => ∑ r : Fin 512, (args m c).m (row t r) i.1 * (args m c).dh (row t r) i.2)
    (fun t h i => ?_) (fun t h i => ?_) (by decide) t ht (k, j)).trans ?_)
  · rw [out_oacc_apply, outIn, if_pos h]; pointwise [k0_pay5]
  · rw [out_oacc_apply, outIn, if_neg h]
  · rw [zero_add]
    exact sum_rows fun i => (args m c).m i k * (args m c).dh i j

/-- The last point. -/
abbrev tl : Fin cfg0.N := ⟨7, lt_of_lt_of_eq (by decide) N_0.symm⟩

end Cert.MixBwdIdeal.Elem
-- ==== Proof.MixBwdArrays.lean ====
/-
  The arrays the merge's backward kernel leaves after the run.
-/
module

public import proofs.«01_k».proof.Proof.MixBwdKernel

@[expose] public section

set_option maxRecDepth 16384

noncomputable section

namespace Cert.MixBwdIdeal.Elem

open Cert.MixBwdIdeal Cert.MixBwdIdeal.Gen Cert.FfnSpec Cert.MixFwdSpec Cert.MixBwdSpec Cert.Rows
open Idealize.ShloMosaic Idealize.ShloMosaic.TcCoe Idealize.SL.Sem

variable (m : (ℓ : Loc nD τ sig) → Buf (Elt Ideal) ℓ) (c : Dev nD)

/-! The arrays each point leaves its own rows of. -/

theorem arr_dat : (dats m 0 c).arrAt 12 cfg0.N = fun i => (args m c).dat (i 0) (i 1) := by
  have h := out_dat_apply m c
  revert h
  generalize (args m c).dat = D
  intro h
  refine (dats m 0 c).arrAt_eq_of_covers 12 (fun i => D (i 0) (i 1)) (by decide +kernel) fun t hf y => ?_
  blk_simp
  rw [after0_12]
  idx_vars y
  refine (h t y0 y1).trans ?_
  have e : ((View.whole main_v76_0).slice (win0_12.rect t)).emb (ix2 y0 y1) = ix2 (row t y0) y1 := by blk_ext [idx t, row]
  exact congrArg (fun i => D (i 0) (i 1)) e.symm
theorem arr_dc3 : (dats m 0 c).arrAt 13 cfg0.N = fun i => (args m c).dc3 (i 0) (i 1) := by
  have h := out_dc3_apply m c
  revert h
  generalize (args m c).dc3 = D
  intro h
  refine (dats m 0 c).arrAt_eq_of_covers 13 (fun i => D (i 0) (i 1)) (by decide +kernel) fun t hf y => ?_
  blk_simp
  rw [after0_13]
  idx_vars y
  refine (h t y0 y1).trans ?_
  have e : ((View.whole main_v76_1).slice (win0_13.rect t)).emb (ix2 y0 y1) = ix2 (row t y0) y1 := by blk_ext [idx t, row]
  exact congrArg (fun i => D (i 0) (i 1)) e.symm
theorem arr_dgt : (dats m 0 c).arrAt 14 cfg0.N = fun i => (args m c).dgt (i 0) (i 1) := by
  have h := out_dgt_apply m c
  revert h
  generalize (args m c).dgt = D
  intro h
  refine (dats m 0 c).arrAt_eq_of_covers 14 (fun i => D (i 0) (i 1)) (by decide +kernel) fun t hf y => ?_
  blk_simp
  rw [after0_14]
  idx_vars y
  refine (h t y0 y1).trans ?_
  have e : ((View.whole main_v76_2).slice (win0_14.rect t)).emb (ix2 y0 y1) = ix2 (row t y0) y1 := by blk_ext [idx t, row]
  exact congrArg (fun i => D (i 0) (i 1)) e.symm

/-! The sums, which the last point leaves. -/

theorem arr_gcw : (dats m 0 c).arrAt 15 cfg0.N = fun i => (args m c).gcw (i 0) (i 1) := by
  have h := acc_gcw m c tl N_0.symm
  revert h
  generalize (args m c).gcw = D
  intro h
  refine (dats m 0 c).arrAt_eq_of_after_last 15 tl (by decide +kernel) (fun i => D (i 0) (i 1)) fun y => ?_
  blk_simp
  rw [after0_15]
  idx_vars y
  exact h y0 y1
theorem arr_gbr : (dats m 0 c).arrAt 16 cfg0.N = fun i => (args m c).gbr (i 0) (i 1) := by
  have h := acc_gbr m c tl N_0.symm
  revert h
  generalize (args m c).gbr = D
  intro h
  refine (dats m 0 c).arrAt_eq_of_after_last 16 tl (by decide +kernel) (fun i => D (i 0) (i 1)) fun y => ?_
  blk_simp
  rw [after0_16]
  idx_vars y
  exact h y0 y1
theorem arr_gout : (dats m 0 c).arrAt 17 cfg0.N = fun i => (args m c).gout (i 0) (i 1) := by
  have h := acc_gout m c tl N_0.symm
  revert h
  generalize (args m c).gout = D
  intro h
  refine (dats m 0 c).arrAt_eq_of_after_last 17 tl (by decide +kernel) (fun i => D (i 0) (i 1)) fun y => ?_
  blk_simp
  rw [after0_17]
  idx_vars y
  exact h y0 y1

end Cert.MixBwdIdeal.Elem
-- ==== Proof.MixRef.lean ====
/-
  The reference of the merge's backward pass, read element by element.
-/
module

public import proofs.«01_k».proof.Proof.Gen.MixRefIdeal.Read
public import proofs.«01_k».proof.Proof.MixBwdSpec
public import Idealize.ShloMosaic.Lib.Pointwise
public import Idealize.ShloMosaic.Lib.Tactic.CleanTypes
public import Idealize.ShloMosaic.Lib.Claim
public import Idealize.ShloMosaic.Lib.Tactic

@[expose] public section

set_option maxRecDepth 16384

noncomputable section

namespace Cert.MixRefIdeal.Elem

open Cert.MixRefIdeal Cert.MixRefIdeal.Value Cert.FfnSpec Cert.MixFwdSpec Cert.MixBwdSpec
open Idealize.ShloMosaic Idealize.ShloMosaic.TcCoe Idealize.SL.Sem

variable (m : (ℓ : Loc nD τ sig) → Buf (Elt Ideal) ℓ) (c : Dev nD)

/-- The arguments, in order. -/
abbrev ats : Vec Ideal S1x4096x512 .f32 := m ((c.tc : Thread nD τ).loc main_arg0)
abbrev cbs : Vec Ideal S1x4096x512 .f32 := m ((c.tc : Thread nD τ).loc main_arg1)
abbrev ccs : Vec Ideal S1x4096x512 .f32 := m ((c.tc : Thread nD τ).loc main_arg2)
abbrev cxs : Vec Ideal S1x4096x512 .f32 := m ((c.tc : Thread nD τ).loc main_arg3)
abbrev gas : Vec Ideal S1x4096x1024 .f32 := m ((c.tc : Thread nD τ).loc main_arg4)
abbrev gcs : Vec Ideal S1x4096x1024 .f32 := m ((c.tc : Thread nD τ).loc main_arg5)
abbrev cws : Vec Ideal S1x3x512 .f32 := m ((c.tc : Thread nD τ).loc main_arg6)
abbrev was : Vec Ideal S1x512x1024 .f32 := m ((c.tc : Thread nD τ).loc main_arg7)
abbrev wcs : Vec Ideal S1x512x1024 .f32 := m ((c.tc : Thread nD τ).loc main_arg8)
abbrev wos : Vec Ideal S1x1024x1024 .f32 := m ((c.tc : Thread nD τ).loc main_arg9)
abbrev dhs : Vec Ideal S1x4096x1024 .f32 := m ((c.tc : Thread nD τ).loc main_arg10)

/-- The arguments as matrices. -/
def args : Args where
  at' i l := ats m c (ix3 0 i l)
  cb i l := cbs m c (ix3 0 i l)
  cc i l := ccs m c (ix3 0 i l)
  cx i l := cxs m c (ix3 0 i l)
  ga i j := gas m c (ix3 0 i j)
  gc i j := gcs m c (ix3 0 i j)
  cw k l := cws m c (ix3 0 k l)
  wa l j := was m c (ix3 0 l j)
  wc l j := wcs m c (ix3 0 l j)
  wo k j := wos m c (ix3 0 k j)
  dh i j := dhs m c (ix3 0 i j)

/-- The reference's terms for the forward's values and the cotangents. -/
abbrev e1T : FVec Ideal S4096x512 .f32 := Read.val_main_v26 (ccs m c) (cxs m c)
abbrev e2T : FVec Ideal S4096x512 .f32 := Read.val_main_v16 (ccs m c) (cxs m c)
abbrev zT : FVec Ideal S4096x512 .f32 := Read.val_main_v10 (ccs m c) (cxs m c)
abbrev kT : FVec Ideal S4096x512 .f32 := Read.val_main_v37 (ccs m c) (cxs m c) (cws m c)
abbrev cT : FVec Ideal S4096x512 .f32 := Read.val_main_v38 (cbs m c) (ccs m c) (cxs m c) (cws m c)
abbrev aT : FVec Ideal S4096x1024 .f32 := Read.val_main_v48 (ats m c) (was m c)
abbrev vT : FVec Ideal S4096x1024 .f32 := Read.val_main_v59 (cbs m c) (ccs m c) (cxs m c) (cws m c) (wcs m c)
abbrev mT : FVec Ideal S4096x1024 .f32 := Read.val_main_v61 (ats m c) (cbs m c) (ccs m c) (cxs m c) (gas m c) (gcs m c) (cws m c) (was m c) (wcs m c)
abbrev saT : FVec Ideal S4096x1024 .f32 := Read.val_main_v44 (gas m c)
abbrev scT : FVec Ideal S4096x1024 .f32 := Read.val_main_v55 (gcs m c)
abbrev dmT : FVec Ideal S4096x1024 .f32 := Read.val_main_v66 (wos m c) (dhs m c)
abbrev daT : FVec Ideal S4096x1024 .f32 := Read.val_main_v73 (gas m c) (wos m c) (dhs m c)
abbrev dvT : FVec Ideal S4096x1024 .f32 := Read.val_main_v67 (gcs m c) (wos m c) (dhs m c)
abbrev dcT : FVec Ideal S4096x512 .f32 := Read.val_main_v71 (gcs m c) (wcs m c) (wos m c) (dhs m c)
abbrev dkT : FVec Ideal S4096x512 .f32 := Read.val_main_v79 (cbs m c) (gcs m c) (wcs m c) (wos m c) (dhs m c)
abbrev dzT : FVec Ideal S4096x512 .f32 := Read.val_main_v111 (cbs m c) (gcs m c) (cws m c) (wcs m c) (wos m c) (dhs m c)

theorem z_apply (i : Fin 4096) (l : Fin 512) : zT m c (ix2 i l) = (args m c).z i l := by
  have hcc : ∀ i l, ccs m c (ix3 0 i l) = (args m c).cc i l := fun _ _ => rfl
  have hcx : ∀ i l, cxs m c (ix3 0 i l) = (args m c).cx i l := fun _ _ => rfl
  revert hcc hcx
  unfold zT
  generalize ccs m c = xcc, cxs m c = xcx
  intro hcc hcx
  pointwise [Read.val_main_v10, Read.val_main_v2, Read.val_main_v3]
  simp only [hcc, hcx]
  rfl

theorem e1_apply (i : Fin 4096) (l : Fin 512) : e1T m c (ix2 i l) = earlier 1 (args m c).z i l := by
  have hz := z_apply m c
  revert hz
  unfold e1T zT Read.val_main_v26 Read.val_main_v25 earlier
  generalize Read.val_main_v10 (ccs m c) (cxs m c) = tz
  intro hz
  pointwise [Read.val_main_v24, Read.val_main_cst_1]
  simp only [hz]

theorem e2_apply (i : Fin 4096) (l : Fin 512) : e2T m c (ix2 i l) = earlier 2 (args m c).z i l := by
  have hz := z_apply m c
  revert hz
  unfold e2T zT Read.val_main_v16 Read.val_main_v15 earlier
  generalize Read.val_main_v10 (ccs m c) (cxs m c) = tz
  intro hz
  pointwise [Read.val_main_v14, Read.val_main_cst]
  simp only [hz]

theorem k_apply (i : Fin 4096) (l : Fin 512) : kT m c (ix2 i l) = (args m c).k i l := by
  have hz := z_apply m c
  have he1 := e1_apply m c
  have he2 := e2_apply m c
  have hcw : ∀ i l, cws m c (ix3 0 i l) = (args m c).cw i l := fun _ _ => rfl
  revert hz he1 he2 hcw
  unfold kT zT e1T e2T Read.val_main_v37 Read.val_main_v36 Read.val_main_v31 Read.val_main_v20 Read.val_main_v30
  generalize Read.val_main_v10 (ccs m c) (cxs m c) = tz, Read.val_main_v26 (ccs m c) (cxs m c) = te1, Read.val_main_v16 (ccs m c) (cxs m c) = te2,
    cws m c = xcw
  intro hz he1 he2 hcw
  pointwise [Read.val_main_v35, Read.val_main_v34, Read.val_main_v33, Read.val_main_v32, Read.val_main_v19, Read.val_main_v18, Read.val_main_v12,
    Read.val_main_v11, Read.val_main_v17, Read.val_main_v21, Read.val_main_v22, Read.val_main_v27, Read.val_main_v28, Read.val_main_v29,
    Read.val_main_v6, Read.val_main_cst_0, Read.val_main_cst_2]
  simp only [hz, he1, he2, hcw]
  rfl

theorem c_apply (i : Fin 4096) (l : Fin 512) : cT m c (ix2 i l) = (args m c).c i l := by
  have hk := k_apply m c
  have hcb : ∀ i l, cbs m c (ix3 0 i l) = (args m c).cb i l := fun _ _ => rfl
  revert hk hcb
  unfold cT kT Read.val_main_v38
  generalize Read.val_main_v37 (ccs m c) (cxs m c) (cws m c) = tk, cbs m c = xcb
  intro hk hcb
  pointwise [Read.val_main_v1]
  simp only [hk, hcb]
  rfl

theorem a_apply (i : Fin 4096) (j : Fin 1024) : aT m c (ix2 i j) = (args m c).a i j := by
  have hat : ∀ i l, ats m c (ix3 0 i l) = (args m c).at' i l := fun _ _ => rfl
  have hwa : ∀ i l, was m c (ix3 0 i l) = (args m c).wa i l := fun _ _ => rfl
  revert hat hwa
  unfold aT
  generalize ats m c = xat, was m c = xwa
  intro hat hwa
  pointwise [Read.val_main_v48, Read.val_main_v0, Read.val_main_v7]
  simp only [hat, hwa]
  rfl

theorem v_apply (i : Fin 4096) (j : Fin 1024) : vT m c (ix2 i j) = (args m c).v i j := by
  have hc := c_apply m c
  have hwc : ∀ i l, wcs m c (ix3 0 i l) = (args m c).wc i l := fun _ _ => rfl
  revert hc hwc
  unfold vT cT Read.val_main_v59
  generalize Read.val_main_v38 (cbs m c) (ccs m c) (cxs m c) (cws m c) = tc, wcs m c = xwc
  intro hc hwc
  pointwise [Read.val_main_v8]
  simp only [hc, hwc]
  rfl

theorem sa_apply (i : Fin 4096) (j : Fin 1024) : saT m c (ix2 i j) = sg ((args m c).ga i j) := by
  have hga : ∀ i l, gas m c (ix3 0 i l) = (args m c).ga i l := fun _ _ => rfl
  revert hga
  unfold saT
  generalize gas m c = xga
  intro hga
  pointwise [Read.val_main_v39, Read.val_main_v40, Read.val_main_cst_3, Read.val_main_v41, Read.val_main_v42, Read.val_main_cst_4,
    Read.val_main_v43, Read.val_main_v44, Read.val_main_v4]
  simp only [hga]
  exact (congrFun sg_eq _).symm

theorem sc_apply (i : Fin 4096) (j : Fin 1024) : scT m c (ix2 i j) = sg ((args m c).gc i j) := by
  have hgc : ∀ i l, gcs m c (ix3 0 i l) = (args m c).gc i l := fun _ _ => rfl
  revert hgc
  unfold scT
  generalize gcs m c = xgc
  intro hgc
  pointwise [Read.val_main_v50, Read.val_main_v51, Read.val_main_cst_6, Read.val_main_v52, Read.val_main_v53, Read.val_main_cst_7,
    Read.val_main_v54, Read.val_main_v55, Read.val_main_v5]
  simp only [hgc]
  exact (congrFun sg_eq _).symm

theorem m_apply (i : Fin 4096) (j : Fin 1024) : mT m c (ix2 i j) = (args m c).m i j := by
  have ha := a_apply m c
  have hv := v_apply m c
  have hsa := sa_apply m c
  have hsc := sc_apply m c
  revert ha hv hsa hsc
  unfold mT aT vT saT scT Read.val_main_v61 Read.val_main_v49 Read.val_main_v60
  generalize Read.val_main_v48 (ats m c) (was m c) = ta, Read.val_main_v59 (cbs m c) (ccs m c) (cxs m c) (cws m c) (wcs m c) = tv,
    Read.val_main_v44 (gas m c) = tsa, Read.val_main_v55 (gcs m c) = tsc
  intro ha hv hsa hsc
  pointwise []
  simp only [ha, hv, hsa, hsc]
  rfl

theorem dm_apply (i : Fin 4096) (j : Fin 1024) : dmT m c (ix2 i j) = (args m c).dm i j := by
  have hwo : ∀ i l, wos m c (ix3 0 i l) = (args m c).wo i l := fun _ _ => rfl
  have hdh : ∀ i l, dhs m c (ix3 0 i l) = (args m c).dh i l := fun _ _ => rfl
  revert hwo hdh
  unfold dmT
  generalize wos m c = xwo, dhs m c = xdh
  intro hwo hdh
  pointwise [Read.val_main_v66, Read.val_main_v63, Read.val_main_v9]
  simp only [hwo, hdh]
  rfl

theorem da_apply (i : Fin 4096) (j : Fin 1024) : daT m c (ix2 i j) = (args m c).da i j := by
  have hsa := sa_apply m c
  have hdm := dm_apply m c
  revert hsa hdm
  unfold daT saT dmT Read.val_main_v73
  generalize Read.val_main_v44 (gas m c) = tsa, Read.val_main_v66 (wos m c) (dhs m c) = tdm
  intro hsa hdm
  pointwise []
  simp only [hsa, hdm]
  exact mul_comm _ _

theorem dv_apply (i : Fin 4096) (j : Fin 1024) : dvT m c (ix2 i j) = (args m c).dv i j := by
  have hsc := sc_apply m c
  have hdm := dm_apply m c
  revert hsc hdm
  unfold dvT scT dmT Read.val_main_v67
  generalize Read.val_main_v55 (gcs m c) = tsc, Read.val_main_v66 (wos m c) (dhs m c) = tdm
  intro hsc hdm
  pointwise []
  simp only [hsc, hdm]
  exact mul_comm _ _

theorem dc_apply (i : Fin 4096) (l : Fin 512) : dcT m c (ix2 i l) = (args m c).dc i l := by
  have hdv := dv_apply m c
  have hwc : ∀ i l, wcs m c (ix3 0 i l) = (args m c).wc i l := fun _ _ => rfl
  revert hdv hwc
  unfold dcT dvT Read.val_main_v71
  generalize Read.val_main_v67 (gcs m c) (wos m c) (dhs m c) = tdv, wcs m c = xwc
  intro hdv hwc
  pointwise [Read.val_main_v8]
  simp only [hdv, hwc]
  rfl

theorem dk_apply (i : Fin 4096) (l : Fin 512) : dkT m c (ix2 i l) = (args m c).dk i l := by
  have hdc := dc_apply m c
  have hcb : ∀ i l, cbs m c (ix3 0 i l) = (args m c).cb i l := fun _ _ => rfl
  revert hdc hcb
  unfold dkT dcT Read.val_main_v79
  generalize Read.val_main_v71 (gcs m c) (wcs m c) (wos m c) (dhs m c) = tdc, cbs m c = xcb
  intro hdc hcb
  pointwise [Read.val_main_v1]
  simp only [hdc, hcb]
  exact mul_comm _ _

theorem dz_apply (i : Fin 4096) (l : Fin 512) : dzT m c (ix2 i l) = (args m c).dz i l := by
  have hdk := dk_apply m c
  have hcw : ∀ i l, cws m c (ix3 0 i l) = (args m c).cw i l := fun _ _ => rfl
  revert hdk hcw
  unfold dzT dkT Read.val_main_v111 Read.val_main_v98 Read.val_main_v82 Read.val_main_v97 Read.val_main_v96 Read.val_main_v90
    Read.val_main_v110 Read.val_main_v109 Read.val_main_v103
  generalize Read.val_main_v79 (cbs m c) (gcs m c) (wcs m c) (wos m c) (dhs m c) = tdk, cws m c = xcw
  intro hdk hcw
  pointwise [Read.val_main_v81, Read.val_main_v89, Read.val_main_v102, Read.val_main_v34, Read.val_main_v33, Read.val_main_v32, Read.val_main_v28,
    Read.val_main_v22, Read.val_main_v21, Read.val_main_v18, Read.val_main_v12, Read.val_main_v11, Read.val_main_v6, Read.val_main_cst_14,
    Read.val_main_cst_18]
  simp only [hdk, hcw]
  exact (dconv_eq _ _ _ _).symm

/-! The results. -/

theorem dat_apply (i : Fin 4096) (l : Fin 512) : Read.val_main_v117 (gas m c) (was m c) (wos m c) (dhs m c) (ix2 i l) = (args m c).dat i l := by
  have hda := da_apply m c
  have hwa : ∀ i l, was m c (ix3 0 i l) = (args m c).wa i l := fun _ _ => rfl
  revert hda hwa
  unfold daT Read.val_main_v117 Read.val_main_v77
  generalize Read.val_main_v73 (gas m c) (wos m c) (dhs m c) = tda, was m c = xwa
  intro hda hwa
  pointwise [Read.val_main_v7]
  simp only [hda, hwa]
  rfl

theorem dc3_apply (i : Fin 4096) (q : Fin 1536) : Read.val_main_v119 (cbs m c) (ccs m c) (cxs m c) (gcs m c) (cws m c) (wcs m c) (wos m c) (dhs m c) (ix2 i q) = (args m c).dc3 i q := by
  have hdc := dc_apply m c
  have hk := k_apply m c
  have hdz := dz_apply m c
  have hcc : ∀ i l, ccs m c (ix3 0 i l) = (args m c).cc i l := fun _ _ => rfl
  have hcx : ∀ i l, cxs m c (ix3 0 i l) = (args m c).cx i l := fun _ _ => rfl
  revert hdc hk hdz hcc hcx
  unfold dcT kT dzT Read.val_main_v119 Read.val_main_v118 Read.val_main_v80 Read.val_main_v116 Read.val_main_v115 Args.dc3
  generalize Read.val_main_v71 (gcs m c) (wcs m c) (wos m c) (dhs m c) = tdc, Read.val_main_v37 (ccs m c) (cxs m c) (cws m c) = tk,
    Read.val_main_v111 (cbs m c) (gcs m c) (cws m c) (wcs m c) (wos m c) (dhs m c) = tdz, ccs m c = xcc, cxs m c = xcx
  intro hdc hk hdz hcc hcx
  pointwise [Read.val_main_v2, Read.val_main_v3]
  simp only [hdc, hk, hdz, hcc, hcx]
  split_ifs <;> first | rfl | exact mul_comm _ _

theorem dgt_apply (i : Fin 4096) (q : Fin 2048) : Read.val_main_v121 (ats m c) (cbs m c) (ccs m c) (cxs m c) (gas m c) (gcs m c) (cws m c) (was m c) (wcs m c) (wos m c) (dhs m c) (ix2 i q) = (args m c).dgt i q := by
  have hdm := dm_apply m c
  have ha := a_apply m c
  have hv := v_apply m c
  have hsa := sa_apply m c
  have hsc := sc_apply m c
  revert hdm ha hv hsa hsc
  unfold dmT aT vT saT scT Read.val_main_v121 Read.val_main_v120 Read.val_main_v78 Read.val_main_v74 Read.val_main_v47
    Read.val_main_v46 Read.val_main_v72 Read.val_main_v68 Read.val_main_v58 Read.val_main_v57 Args.dgt MixBwdSpec.dgate
  generalize Read.val_main_v66 (wos m c) (dhs m c) = tdm, Read.val_main_v48 (ats m c) (was m c) = ta,
    Read.val_main_v59 (cbs m c) (ccs m c) (cxs m c) (cws m c) (wcs m c) = tv, Read.val_main_v44 (gas m c) = tsa,
    Read.val_main_v55 (gcs m c) = tsc
  intro hdm ha hv hsa hsc
  pointwise [Read.val_main_v45, Read.val_main_v56, Read.val_main_cst_5, Read.val_main_cst_8]
  simp only [hdm, ha, hv, hsa, hsc]

theorem gcw_apply (t : Fin 3) (l : Fin 512) : Read.val_main_v114 (cbs m c) (ccs m c) (cxs m c) (gcs m c) (wcs m c) (wos m c) (dhs m c) (ix2 t l) = (args m c).gcw t l := by
  rw [show (args m c).gcw t l = _ from corr_eq _ _ t l]
  have hdk := dk_apply m c
  have hz := z_apply m c
  have he1 := e1_apply m c
  have he2 := e2_apply m c
  revert hdk hz he1 he2
  unfold dkT zT e1T e2T Read.val_main_v114 Read.val_main_v101 Read.val_main_v88 Read.val_main_v87 Read.val_main_v86 Read.val_main_v85
    Read.val_main_v84 Read.val_main_v83 Read.val_main_v100 Read.val_main_v99 Read.val_main_v94 Read.val_main_v93 Read.val_main_v92
    Read.val_main_v91 Read.val_main_v113 Read.val_main_v112 Read.val_main_v107 Read.val_main_v106 Read.val_main_v105 Read.val_main_v104
  generalize Read.val_main_v79 (cbs m c) (gcs m c) (wcs m c) (wos m c) (dhs m c) = tdk, Read.val_main_v10 (ccs m c) (cxs m c) = tz,
    Read.val_main_v26 (ccs m c) (cxs m c) = te1, Read.val_main_v16 (ccs m c) (cxs m c) = te2
  intro hdk hz he1 he2
  match t with
  | 0 | 1 | 2 =>
    pointwise [Read.val_main_cst_9, Read.val_main_cst_10, Read.val_main_cst_11, Read.val_main_cst_12, Read.val_main_cst_13, Read.val_main_cst_15,
      Read.val_main_cst_16, Read.val_main_cst_17, Read.val_main_cst_19]
    simp only [Finset.univ_unique, Finset.sum_singleton, hdk, hz, he1, he2]
    rfl

theorem gbr_apply (q j : Fin 1024) : Read.val_main_v123 (ats m c) (cbs m c) (ccs m c) (cxs m c) (gas m c) (gcs m c) (cws m c) (wos m c) (dhs m c) (ix2 q j) = (args m c).gbr q j := by
  have hda := da_apply m c
  have hdv := dv_apply m c
  have hc := c_apply m c
  have hat : ∀ i l, ats m c (ix3 0 i l) = (args m c).at' i l := fun _ _ => rfl
  revert hda hdv hc hat
  unfold daT dvT cT Read.val_main_v123 Read.val_main_v122 Read.val_main_v76 Read.val_main_v75 Read.val_main_v70 Read.val_main_v69
    Args.gbr outer
  generalize Read.val_main_v73 (gas m c) (wos m c) (dhs m c) = tda, Read.val_main_v67 (gcs m c) (wos m c) (dhs m c) = tdv,
    Read.val_main_v38 (cbs m c) (ccs m c) (cxs m c) (cws m c) = tc, ats m c = xat
  intro hda hdv hc hat
  pointwise [Read.val_main_v0]
  simp only [hda, hdv, hc, hat]
  split_ifs <;> exact Finset.sum_congr rfl fun i _ => mul_comm _ _

theorem gout_apply (q j : Fin 1024) : Read.val_main_v124 (ats m c) (cbs m c) (ccs m c) (cxs m c) (gas m c) (gcs m c) (cws m c) (was m c) (wcs m c) (dhs m c) (ix2 q j) = (args m c).gout q j := by
  have hm := m_apply m c
  have hdh : ∀ i l, dhs m c (ix3 0 i l) = (args m c).dh i l := fun _ _ => rfl
  revert hm hdh
  unfold mT Read.val_main_v124 Read.val_main_v65 Read.val_main_v64
  generalize Read.val_main_v61 (ats m c) (cbs m c) (ccs m c) (cxs m c) (gas m c) (gcs m c) (cws m c) (was m c) (wcs m c) = tm, dhs m c = xdh
  intro hm hdh
  pointwise [Read.val_main_v63]
  simp only [hm, hdh]
  exact Finset.sum_congr rfl fun i _ => mul_comm _ _

end Cert.MixRefIdeal.Elem
-- ==== Proof.MixAlg.lean ====
/-
  The backward kernel of the merge computes the derivative of the merge's forward lines: from memories that agree on the arguments, both
  programs leave the same six gradients.
-/
module

public import proofs.«01_k».proof.Defs
public import proofs.«01_k».proof.Proof.Gen.MixBwdIdeal.Value
public import proofs.«01_k».proof.Proof.Gen.MixRefIdeal.Run
public import proofs.«01_k».proof.Proof.MixBwdArrays
public import proofs.«01_k».proof.Proof.MixRef

@[expose] public section

set_option maxRecDepth 16384

noncomputable section

namespace Cert.MixAlg

open Idealize.ShloMosaic Idealize.ShloMosaic.TcCoe Idealize.SL.Sem Cert.MixBwdIdeal

set_option maxHeartbeats 1000000 in
/-- The value claim: the kernel and the derivative of the forward lines leave the same six arrays. -/
theorem algebraic : algebraic_MixBwdIdeal_MixRefIdeal := by
  intro m g m' g' _ ha
  refine ⟨fun c => (Gen.dats m 0 c).arrAt 12 cfg0.N, fun c => (Gen.dats m 0 c).arrAt 13 cfg0.N, fun c => (Gen.dats m 0 c).arrAt 14 cfg0.N,
    fun c => (Gen.dats m 0 c).arrAt 15 cfg0.N, fun c => (Gen.dats m 0 c).arrAt 16 cfg0.N, fun c => (Gen.dats m 0 c).arrAt 17 cfg0.N,
    Value.run_blocks m g, (θ_run _ _ _).mono (fun r h c => ?_) (MixRefIdeal.Value.run m' g')⟩
  obtain ⟨h0, h1, h2, h3, h4, h5, hr⟩ := h c
  obtain ⟨a0, a1, a2, a3, a4, a5, a6, a7, a8, a9, a10⟩ := ha c
  have e : MixRefIdeal.Elem.args m' c = Elem.args m c := by
    unfold MixRefIdeal.Elem.args Elem.args
    congr 1
    · exact funext₂ fun i l => congrFun a0 _
    · exact funext₂ fun i l => congrFun a1 _
    · exact funext₂ fun i l => congrFun a2 _
    · exact funext₂ fun i l => congrFun a3 _
    · exact funext₂ fun i j => congrFun a4 _
    · exact funext₂ fun i j => congrFun a5 _
    · exact funext₂ fun k l => congrFun a6 _
    · exact funext₂ fun l j => congrFun a7 _
    · exact funext₂ fun l j => congrFun a8 _
    · exact funext₂ fun k j => congrFun a9 _
    · exact funext₂ fun i j => congrFun a10 _
  refine ⟨h0.trans ?_, h1.trans ?_, h2.trans ?_, h3.trans ?_, h4.trans ?_, h5.trans ?_, hr⟩
  · refine ((MixRefIdeal.Read.val_main_v117_eq ..).trans ?_).trans (Elem.arr_dat m c).symm
    funext i
    idx_vars i
    rw [← e]
    exact MixRefIdeal.Elem.dat_apply m' c i0 i1
  · refine ((MixRefIdeal.Read.val_main_v119_eq ..).trans ?_).trans (Elem.arr_dc3 m c).symm
    funext i
    idx_vars i
    rw [← e]
    exact MixRefIdeal.Elem.dc3_apply m' c i0 i1
  · refine ((MixRefIdeal.Read.val_main_v121_eq ..).trans ?_).trans (Elem.arr_dgt m c).symm
    funext i
    idx_vars i
    rw [← e]
    exact MixRefIdeal.Elem.dgt_apply m' c i0 i1
  · refine ((MixRefIdeal.Read.val_main_v114_eq ..).trans ?_).trans (Elem.arr_gcw m c).symm
    funext i
    idx_vars i
    rw [← e]
    exact MixRefIdeal.Elem.gcw_apply m' c i0 i1
  · refine ((MixRefIdeal.Read.val_main_v123_eq ..).trans ?_).trans (Elem.arr_gbr m c).symm
    funext i
    idx_vars i
    rw [← e]
    exact MixRefIdeal.Elem.gbr_apply m' c i0 i1
  · refine ((MixRefIdeal.Read.val_main_v124_eq ..).trans ?_).trans (Elem.arr_gout m c).symm
    funext i
    idx_vars i
    rw [← e]
    exact MixRefIdeal.Elem.gout_apply m' c i0 i1

/-- The reference runs, leaves its arguments unchanged and has no semaphore. -/
theorem frame_ref : quiescent_MixRefIdeal := fun m ρ _ =>
  (θ_run MixRefIdeal.defs _ _).mono (fun r h => ⟨fun c => (h c).2.2.2.2.2.2, sem_eq_zero_of_no_sems (by decide) r.2⟩)
    (MixRefIdeal.Value.run (F := Ideal) m ρ)

end Cert.MixAlg
-- ==== Proof.AttnSpec.lean ====
/-
  The attention over a window of 256 keys, one query and one head, as the kernel writes it.
-/
module

public import proofs.«01_k».proof.Proof.Reals

@[expose] public section

noncomputable section

namespace Cert.AttnSpec

open Idealize.ShloMosaic Cert.Reals

/-- The scale of the scores, an eighth. -/
abbrev eighth : EReal := Ideal.ofBits FTy.f32 1040187392#32

/-- The maximum of a row of scores and of the sink's. -/
abbrev top {n : ℕ} (s : Fin n → EReal) (z : EReal) : EReal := max (Finset.fold max (Ideal.ofBits FTy.f32 4286578688#32) s Finset.univ) z

/-- One entry of the attention: the weighted values over the weights' sum, the sink's weight among them. -/
def head {n : ℕ} (s v : Fin n → EReal) (z : EReal) : EReal :=
  Ideal.div (∑ x, v x * Ideal.exp (s x - top s z)) ((∑ x, Ideal.exp (s x - top s z)) + Ideal.exp (z - top s z))

/-- The key row at place `x` of the window of rows of block `n`: the block before and the block itself; before the first
block there is none, and the rows of the first stand in its place. -/
def krow (n : Fin 32) (x : Fin 256) : Fin 4096 :=
  ⟨if 128 ≤ 128 * n.val + x.val then 128 * n.val + x.val - 128 else x.val, by have := n.isLt; have := x.isLt; split <;> omega⟩

/-- A query row sees the 128 keys that end with its own, as far as there are any. -/
def seen (n : Fin 32) (x : Fin 256) (r : Fin 128) : Prop := r.val < x.val ∧ x.val ≤ r.val + 128 ∧ (0 < n.val ∨ 128 ≤ x.val)

instance (n : Fin 32) (x : Fin 256) (r : Fin 128) : Decidable (seen n x r) := inferInstanceAs (Decidable (_ ∧ _ ∧ _))

/-- What the kernel adds to a score: nothing, or −∞ at a key that is not seen. -/
def bias (n : Fin 32) (x : Fin 256) (r : Fin 128) : EReal := if seen n x r then 0 else Ideal.ofBits FTy.f32 4286578688#32

/-- The block of a row, and its place in it. -/
def blk (i : Fin 4096) : Fin 32 := ⟨i.val / 128, by have := i.isLt; omega⟩
def pos (i : Fin 4096) : Fin 128 := ⟨i.val % 128, by omega⟩

variable (Q : Fin 4096 → Fin 512 → EReal) (K V : Fin 4096 → Fin 128 → EReal) (Z : Fin 8 → EReal)

/-- The scaled product of a query and a key, for the head of column `j`. -/
def score (i : Fin 4096) (j : Fin 512) (x : Fin 256) : EReal :=
  (∑ y : Fin 64, K (krow (blk i) x) ⟨64 * (j.val / 256) + y.val, by omega⟩ * Q i ⟨64 * (j.val / 64) + y.val, by omega⟩) * eighth

/-- The attention's output as the kernel computes it. -/
def out (i : Fin 4096) (j : Fin 512) : EReal :=
  head (fun x => score Q K i j x + bias (blk i) x (pos i)) (fun x => V (krow (blk i) x) ⟨64 * (j.val / 256) + j.val % 64, by omega⟩)
    (Z ⟨j.val / 64, by omega⟩)

/-! Masks as bits. -/

theorem select_ofBool (p : Bool) (x y : EReal) : Scalar.select (BitVec.ofBool p) x y = if p then x else y := by
  cases p <;> rfl

theorem and_ofBool (p q : Bool) : IntOp.andi (BitVec.ofBool p) (BitVec.ofBool q) = BitVec.ofBool (p && q) := by
  cases p <;> cases q <;> rfl

/-! The attention over the reals: the weights of the keys that are seen, and the sink's. -/

theorem word_bot : Ideal.ofBits FTy.f32 4286578688#32 = ⊥ := by
  simp [Ideal.ofBits, Ideal.ieee]

theorem word_eighth : eighth = ((1 / 8 : ℝ) : EReal) := by
  simp [Ideal.ofBits, Ideal.ieee]
  rw [← EReal.coe_mul]; norm_num

variable {n : ℕ} (P : Fin n → Prop) [DecidablePred P] (a v : Fin n → ℝ) (z : ℝ)

/-- A key's weight before any scaling. -/
def wt (x : Fin n) : ℝ := if P x then Real.exp (a x) else 0

/-- The output: the weighted values over the weights' sum. -/
def mean : ℝ := (∑ x, wt P a x * v x) / ((∑ x, wt P a x) + Real.exp z)

theorem wt_nonneg (x : Fin n) : 0 ≤ wt P a x := by unfold wt; split <;> positivity

theorem total_pos : 0 < (∑ x, wt P a x) + Real.exp z := add_pos_of_nonneg_of_pos (Finset.sum_nonneg fun x _ => wt_nonneg P a x) (Real.exp_pos z)

variable {P a v z}
variable {s w : Fin n → EReal} (hs : ∀ x, s x = if P x then (a x : EReal) else ⊥) (hw : ∀ x, P x → w x = v x)

include hs in
theorem exp_score (M : ℝ) (x : Fin n) : Ideal.exp (s x - M) = ((wt P a x * Real.exp (-M) : ℝ) : EReal) := by
  rw [hs]; unfold wt; split
  · rw [← EReal.coe_sub, exp_coe, sub_eq_add_neg, Real.exp_add]
  · rw [zero_mul]; rfl

theorem exp_sink (M : ℝ) : Ideal.exp ((z : EReal) - M) = ((Real.exp z * Real.exp (-M) : ℝ) : EReal) := by
  rw [← EReal.coe_sub, exp_coe, sub_eq_add_neg, Real.exp_add]

include hw in
theorem weighted (e : ℝ) (x : Fin n) : w x * ((wt P a x * e : ℝ) : EReal) = ((wt P a x * v x * e : ℝ) : EReal) := by
  by_cases h : P x
  · rw [hw x h, ← EReal.coe_mul]; exact congrArg _ (by ring)
  · have : wt P a x = 0 := if_neg h
    rw [this]; simp

include hs in
theorem total (M : ℝ) : (∑ x, Ideal.exp (s x - M)) + Ideal.exp ((z : EReal) - M) = ((((∑ x, wt P a x) + Real.exp z) * Real.exp (-M) : ℝ) : EReal) := by
  rw [exp_sink, Finset.sum_congr rfl fun x _ => exp_score hs M x, ← coe_sum, ← EReal.coe_add]
  exact congrArg _ (by rw [add_mul, Finset.sum_mul])

include hs in
theorem score_lt_top (x : Fin n) : s x < ⊤ := by
  rw [hs]; split
  · exact EReal.coe_lt_top _
  · exact bot_lt_top

include hs in
theorem top_real : ∃ M : ℝ, top s (z : EReal) = M := by
  refine ⟨(top s (z : EReal)).toReal, (EReal.coe_toReal (ne_of_lt ?_) (ne_of_gt ?_)).symm⟩
  · exact max_lt ((Finset.fold_max_lt _).mpr ⟨by rw [word_bot]; exact bot_lt_top, fun x _ => score_lt_top hs x⟩) (EReal.coe_lt_top z)
  · exact lt_max_of_lt_right (EReal.bot_lt_coe z)

include hs hw in
/-- The kernel's form is that mean. -/
theorem head_eq : head s w z = (mean P a v z : EReal) := by
  obtain ⟨M, hM⟩ := top_real (z := z) hs
  unfold head mean
  rw [hM, total hs, Finset.sum_congr rfl fun x _ => by rw [exp_score hs M x, weighted hw], ← coe_sum, div_coe_coe _ (by have := total_pos P a z; positivity),
    ← Finset.sum_mul, mul_div_mul_right _ _ (Real.exp_ne_zero _)]

/-- The reference's form: the scores with the sink's after them, the weights divided first. -/
def cat (s : Fin n → EReal) (z : EReal) (y : Fin (n + 1)) : EReal := if h : y.val < n then s ⟨y.val, h⟩ else z
def top' (s : Fin n → EReal) (z : EReal) : EReal :=
  max (Ideal.ofBits FTy.f32 4286578688#32) (Finset.fold max (Ideal.ofBits FTy.f32 4286578688#32) (cat s z) Finset.univ)
def head' (s w : Fin n → EReal) (z : EReal) : EReal :=
  ∑ x, w x * Ideal.div (Ideal.exp (s x - top' s z)) (∑ y, Ideal.exp (cat s z y - top' s z))

theorem sum_cat (f : EReal → EReal) (s : Fin n → EReal) (z : EReal) : ∑ y, f (cat s z y) = (∑ x, f (s x)) + f z := by
  rw [Fin.sum_univ_castSucc]
  refine congrArg₂ (· + ·) (Finset.sum_congr rfl fun x _ => congrArg f (dif_pos x.isLt)) (congrArg f (dif_neg (lt_irrefl n)))

include hs in
theorem top'_real : ∃ M : ℝ, top' s (z : EReal) = M := by
  refine ⟨(top' s (z : EReal)).toReal, (EReal.coe_toReal (ne_of_lt ?_) (ne_of_gt ?_)).symm⟩
  · refine max_lt (by rw [word_bot]; exact bot_lt_top) ((Finset.fold_max_lt _).mpr ⟨by rw [word_bot]; exact bot_lt_top, fun y _ => ?_⟩)
    unfold cat; split
    · exact score_lt_top hs _
    · exact EReal.coe_lt_top z
  · refine lt_max_of_lt_right ((Finset.lt_fold_max _).mpr (.inr ⟨Fin.last n, Finset.mem_univ _, ?_⟩))
    rw [show cat s (z : EReal) (Fin.last n) = z from dif_neg (lt_irrefl n)]
    exact EReal.bot_lt_coe z

include hs hw in
theorem head'_eq : head' s w z = (mean P a v z : EReal) := by
  obtain ⟨M, hM⟩ := top'_real (z := z) hs
  have hT := total_pos P a z
  unfold head' mean
  rw [hM, sum_cat (fun y => Ideal.exp (y - M)), total hs]
  rw [Finset.sum_congr rfl fun x _ => (by
    rw [exp_score hs M x, div_coe_coe _ (by positivity), mul_div_mul_right _ _ (Real.exp_ne_zero _), div_eq_mul_inv, weighted hw] :
    w x * Ideal.div (Ideal.exp (s x - M)) _ = ((wt P a x * v x * ((∑ x, wt P a x) + Real.exp z)⁻¹ : ℝ) : EReal)), ← coe_sum]
  exact congrArg _ (by rw [← Finset.sum_mul, div_eq_mul_inv])

/-- Where the arguments are real, the reference's softmax over a row's scores is the kernel's output. -/
theorem same {Q : Fin 4096 → Fin 512 → EReal} {K V : Fin 4096 → Fin 128 → EReal} {Z : Fin 8 → EReal}
    (hQ : ∃ q : Fin 4096 → Fin 512 → ℝ, ∀ i j, Q i j = q i j) (hK : ∃ k : Fin 4096 → Fin 128 → ℝ, ∀ i j, K i j = k i j)
    (hV : ∃ v : Fin 4096 → Fin 128 → ℝ, ∀ i j, V i j = v i j) (hZ : ∃ z : Fin 8 → ℝ, ∀ j, Z j = z j)
    (s w : Fin 256 → EReal) (i : Fin 4096) (j : Fin 512) (hs : ∀ x, s x = if seen (blk i) x (pos i) then score Q K i j x else ⊥)
    (hw : ∀ x, seen (blk i) x (pos i) → w x = V (krow (blk i) x) ⟨64 * (j.val / 256) + j.val % 64, by omega⟩) :
    head' s w (Z ⟨j.val / 64, by omega⟩) = out Q K V Z i j := by
  obtain ⟨q, hq⟩ := hQ
  obtain ⟨k, hk⟩ := hK
  obtain ⟨v, hv⟩ := hV
  obtain ⟨z, hz⟩ := hZ
  let a (x : Fin 256) : ℝ :=
    (∑ y : Fin 64, k (krow (blk i) x) ⟨64 * (j.val / 256) + y.val, by omega⟩ * q i ⟨64 * (j.val / 64) + y.val, by omega⟩) * (1 / 8)
  have ha : ∀ x, score Q K i j x = (a x : EReal) := fun x => by
    simp only [score, a, hk, hq, word_eighth, ← EReal.coe_mul, ← coe_sum]
  have hb : ∀ x, score Q K i j x + bias (blk i) x (pos i) = if seen (blk i) x (pos i) then (a x : EReal) else ⊥ := fun x => by
    unfold bias
    split
    · rw [ha, add_zero]
    · rw [word_bot, EReal.add_bot]
  unfold out
  rw [hz]
  exact (head'_eq (P := fun x => seen (blk i) x (pos i)) (a := a) (fun x => by rw [hs, ha]) fun x hx => (hw x hx).trans (hv _ _)).trans
    (head_eq hb fun x _ => hv _ _).symm

end Cert.AttnSpec
-- ==== Proof.AttnTile.lean ====
/-
  What the attention kernel stores for a block of queries, element by element.
-/
module

public import proofs.«01_k».proof.Proof.Gen.AttnFwdIdeal.Frame.Runs
public import proofs.«01_k».proof.Proof.AttnSpec
public import Idealize.ShloMosaic.Lib.Pipeline.ValueKit
public import Idealize.ShloMosaic.Lib.Claim
public import Idealize.ShloMosaic.Lib.Tactic
public import Idealize.ShloMosaic.Lib.Pointwise
public import Idealize.ShloMosaic.Lib.Pipeline.ReadBack
public import Idealize.ShloMosaic.Lib.Tactic.CleanTypes
public import Idealize.ShloMosaic.Lib.ReduceAll

@[expose] public section

set_option maxRecDepth 16384

noncomputable section

namespace Cert.AttnFwdIdeal.Elem

open Cert.AttnFwdIdeal Cert.AttnFwdIdeal.Gen Cert.AttnSpec
open Idealize.ShloMosaic Idealize.ShloMosaic.TcCoe Idealize.SL.Sem

/-- The scaled scores of one group of heads, with the mask's bias. -/
def score (k : FVec Ideal S256x64 .bf16) (q : FVec Ideal S512x64 .bf16) (b : FVec Ideal S256x512 .f32) : FVec Ideal S256x512 .f32 :=
  addf (mulf (matmul dot_S256x64_S512x64_S256x512_1_1_0_0_n_n none k q (constant S256x512 .f32 0x00000000#32))
    (broadcast S256x512 (Scalar.ofBits (F := Ideal) .f32 0x3E000000#32))) b

/-- The queries of the first group of heads, one head's rows below the other's. -/
def stack0 (q : FVec Ideal S128x512 .bf16) : FVec Ideal S512x64 .bf16 :=
  concatenate S512x64 0 [⟨S128x64, extractStridedSlice S128x64 ![0, 0] q slices_S128x512_o0_0_S128x64⟩,
    ⟨S128x64, extractStridedSlice S128x64 ![0, 64] q slices_S128x512_o0_64_S128x64⟩,
    ⟨S128x64, extractStridedSlice S128x64 ![0, 128] q slices_S128x512_o0_128_S128x64⟩,
    ⟨S128x64, extractStridedSlice S128x64 ![0, 192] q slices_S128x512_o0_192_S128x64⟩] concatenates_S128x64_S128x64_S128x64_S128x64_S512x64_d0

/-- The attention of one group of heads, from its values, scores and sinks. -/
abbrev group (v : FVec Ideal S256x64 .bf16) (sc : FVec Ideal S256x512 .f32) (s : Fin 4 → EReal) : FVec Ideal S512x64 .f32 :=
  k0_pay12 v sc (iota .tc S1x512 32 [1] iota_S1x512_d1_w32) (k0_pay9 (F := Ideal) (s 0) (s 1)) k0_pay10 (k0_pay11 (F := Ideal) (s 2)) (s 3)

/-- The two groups' heads side by side again. -/
def unstack (a b : FVec Ideal S512x64 .f32) : FVec Ideal S128x512 .bf16 :=
  k0_pay34 b (k0_pay29 a) (k0_pay30 a) (k0_pay31 a) (k0_pay32 a) (extractStridedSlice S128x64 ![0, 0] b slices_S512x64_o0_0_S128x64)

/-- The attention of one block of queries. -/
def tile (k0 k1 v0 v1 : FVec Ideal S256x64 .bf16) (q : FVec Ideal S128x512 .bf16) (b : FVec Ideal S256x512 .f32)
    (s : Fin 8 → EReal) : FVec Ideal S128x512 .bf16 :=
  unstack (group v0 (score k0 (stack0 q) b) ![s 0, s 1, s 2, s 3]) (group v1 (score k1 (k0_pay58 q) b) ![s 4, s 5, s 6, s 7])

theorem score_apply (k : FVec Ideal S256x64 .bf16) (q : FVec Ideal S512x64 .bf16) (b : FVec Ideal S256x512 .f32) (i : Fin 256) (l : Fin 512) :
    score k q b (ix2 i l) = (∑ x : Fin 64, k (ix2 i x) * q (ix2 l x)) * eighth + b (ix2 i l) := by
  pointwise [score]

theorem stack0_apply (q : FVec Ideal S128x512 .bf16) (l : Fin 512) (x : Fin 64) :
    stack0 q (ix2 l x) = q (ix2 ⟨l.val % 128, by omega⟩ ⟨64 * (l.val / 128) + x.val, by omega⟩) := by
  pointwise [stack0]
  repeat' split
  all_goals exact congrArg₂ (fun a b => q (ix2 a b)) (Fin.ext (by dsimp only; omega)) (Fin.ext (by dsimp only; omega))

theorem stack1_apply (q : FVec Ideal S128x512 .bf16) (l : Fin 512) (x : Fin 64) :
    k0_pay58 q (ix2 l x) = q (ix2 ⟨l.val % 128, by omega⟩ ⟨256 + 64 * (l.val / 128) + x.val, by omega⟩) := by
  pointwise [k0_pay58]
  repeat' split
  all_goals exact congrArg₂ (fun a b => q (ix2 a b)) (Fin.ext (by dsimp only; omega)) (Fin.ext (by dsimp only; omega))

/-- A comparison of a lane's number. -/
theorem lane_ge (l : Fin 512) :
    IntOp.cmpi .sge (BitVec.ofNat 32 l.val) 128#32 = (if 128 ≤ l.val then 1#1 else 0#1)
    ∧ IntOp.cmpi .sge (BitVec.ofNat 32 l.val) 256#32 = (if 256 ≤ l.val then 1#1 else 0#1)
    ∧ IntOp.cmpi .sge (BitVec.ofNat 32 l.val) 384#32 = (if 384 ≤ l.val then 1#1 else 0#1) := by
  revert l
  decide +kernel

theorem sink_lane (s : Fin 4 → EReal) (l : Fin 512) :
    Scalar.select (IntOp.cmpi CmpIPredicate.sge (BitVec.ofNat 32 l.val) 384#32) (s 3)
      (Scalar.select (IntOp.cmpi CmpIPredicate.sge (BitVec.ofNat 32 l.val) 256#32) (s 2)
        (Scalar.select (IntOp.cmpi CmpIPredicate.sge (BitVec.ofNat 32 l.val) 128#32) (s 1) (s 0))) = s ⟨l.val / 128, by omega⟩ := by
  obtain ⟨h1, h2, h3⟩ := lane_ge l
  rw [h1, h2, h3]
  have h : ∀ a b : EReal, Scalar.select (1#1 : BitVec 1) a b = a ∧ Scalar.select (0#1 : BitVec 1) a b = b := fun a b => ⟨rfl, rfl⟩
  by_cases c1 : 128 ≤ l.val
  · by_cases c2 : 256 ≤ l.val
    · by_cases c3 : 384 ≤ l.val
      · rw [if_pos c3, (h _ _).1]; exact congrArg s (Fin.ext (by dsimp only; omega))
      · rw [if_neg c3, (h _ _).2, if_pos c2, (h _ _).1]; exact congrArg s (Fin.ext (by dsimp only; omega))
    · rw [if_neg (by omega), (h _ _).2, if_neg c2, (h _ _).2, if_pos c1, (h _ _).1]; exact congrArg s (Fin.ext (by dsimp only; omega))
  · rw [if_neg (by omega), (h _ _).2, if_neg (by omega), (h _ _).2, if_neg c1, (h _ _).2]; exact congrArg s (Fin.ext (by dsimp only; omega))

theorem group_apply (v : FVec Ideal S256x64 .bf16) (sc : FVec Ideal S256x512 .f32) (s : Fin 4 → EReal) (l : Fin 512) (d : Fin 64) :
    group v sc s (ix2 l d) = head (fun x => sc (ix2 x l)) (fun x => v (ix2 x d)) (s ⟨l.val / 128, by omega⟩) := by
  pointwise [k0_pay12, k0_pay11, k0_pay10, k0_pay9]
  rw [sink_lane]
  rfl

theorem unstack_apply (a b : FVec Ideal S512x64 .f32) (r : Fin 128) (j : Fin 512) :
    unstack a b (ix2 r j) = if j.val < 256 then a (ix2 ⟨128 * (j.val / 64 % 4) + r.val, by omega⟩ ⟨j.val % 64, by omega⟩)
      else b (ix2 ⟨128 * (j.val / 64 % 4) + r.val, by omega⟩ ⟨j.val % 64, by omega⟩) := by
  pointwise [unstack, k0_pay34, k0_pay29, k0_pay30, k0_pay31, k0_pay32]
  repeat' split
  all_goals first
    | exact congrArg₂ (fun x y => a (ix2 x y)) (Fin.ext (by dsimp only; omega)) (Fin.ext (by dsimp only; omega))
    | exact congrArg₂ (fun x y => b (ix2 x y)) (Fin.ext (by dsimp only; omega)) (Fin.ext (by dsimp only; omega))
    | (exfalso; omega)

theorem pick_lo (s : Fin 8 → EReal) (a : Fin 4) (b : Fin 8) (h : b.val = a.val) : ![s 0, s 1, s 2, s 3] a = s b := by
  rw [show b = (⟨a.val, Nat.lt_trans a.isLt (by decide)⟩ : Fin 8) from Fin.ext h]
  fin_cases a <;> rfl

theorem pick_hi (s : Fin 8 → EReal) (a : Fin 4) (b : Fin 8) (h : b.val = a.val + 4) : ![s 4, s 5, s 6, s 7] a = s b := by
  rw [show b = (⟨a.val + 4, Nat.add_lt_add_right a.isLt 4⟩ : Fin 8) from Fin.ext h]
  fin_cases a <;> rfl

/-- One entry of a block of queries, from the window's keys and values. -/
theorem tile_apply {k0 k1 v0 v1 : FVec Ideal S256x64 .bf16} (q : FVec Ideal S128x512 .bf16) (b : FVec Ideal S256x512 .f32)
    (s : Fin 8 → EReal) {kw vw : Fin 256 → Fin 128 → EReal}
    (hk0 : ∀ x y, k0 (ix2 x y) = kw x ⟨y.val, by omega⟩) (hk1 : ∀ x y, k1 (ix2 x y) = kw x ⟨64 + y.val, by omega⟩)
    (hv0 : ∀ x y, v0 (ix2 x y) = vw x ⟨y.val, by omega⟩) (hv1 : ∀ x y, v1 (ix2 x y) = vw x ⟨64 + y.val, by omega⟩)
    (r : Fin 128) (j : Fin 512) :
    tile k0 k1 v0 v1 q b s (ix2 r j) =
      head (fun x => (∑ y : Fin 64, kw x ⟨64 * (j.val / 256) + y.val, by omega⟩ * q (ix2 r ⟨64 * (j.val / 64) + y.val, by omega⟩)) * eighth
        + b (ix2 x ⟨128 * (j.val / 64 % 4) + r.val, by omega⟩)) (fun x => vw x ⟨64 * (j.val / 256) + j.val % 64, by omega⟩)
        (s ⟨j.val / 64, by omega⟩) := by
  unfold tile
  rw [unstack_apply]
  split
  · rename_i hj
    rw [group_apply]
    refine congr (congr (congrArg head (funext fun x => ?_)) (funext fun x => ?_)) ?_
    · rw [score_apply]
      refine congrArg (· * eighth + _) (Finset.sum_congr rfl fun y _ => ?_)
      rw [hk0, stack0_apply]
      exact congrArg₂ (· * ·) (congrArg (kw x) (Fin.ext (by dsimp only; omega)))
        (congrArg₂ (fun x y => q (ix2 x y)) (Fin.ext (by dsimp only; omega)) (Fin.ext (by dsimp only; omega)))
    · rw [hv0]
      exact congrArg (vw x) (Fin.ext (by dsimp only; omega))
    · exact pick_lo s _ _ (by dsimp only; omega)
  · rename_i hj
    rw [group_apply]
    refine congr (congr (congrArg head (funext fun x => ?_)) (funext fun x => ?_)) ?_
    · rw [score_apply]
      refine congrArg (· * eighth + _) (Finset.sum_congr rfl fun y _ => ?_)
      rw [hk1, stack1_apply]
      exact congrArg₂ (· * ·) (congrArg (kw x) (Fin.ext (by dsimp only; omega)))
        (congrArg₂ (fun x y => q (ix2 x y)) (Fin.ext (by dsimp only; omega)) (Fin.ext (by dsimp only; omega)))
    · rw [hv1]
      exact congrArg (vw x) (Fin.ext (by dsimp only; omega))
    · exact pick_hi s _ _ (by dsimp only; omega)

/-! The four blocks a grid point stores, each the attention of its queries. -/

variable (v0 v2 : Vec Ideal S512x128 .bf16) (v4 v6 : Vec Ideal S128x128 .bf16) (v8 : Vec Ideal S128x512 .bf16) (v10 : Vec Ideal S1x256x512 .f32)
  (s : Fin 8 → EReal)

theorem store0 : k0_pay17 (k0_pay12 (k0_pay7 v2 v6) (k0_pay8 v0 v4 v8 v10) (iota Kind.tc S1x512 32 [1] iota_S1x512_d1_w32)
      (k0_pay9 (F := Ideal) (s 0) (s 1)) k0_pay10 (k0_pay11 (F := Ideal) (s 2)) (s 3))
    (k0_pay13 (k0_pay2 v2) (k0_pay4 v6)) (k0_pay14 (k0_pay1 v0) (k0_pay3 v4) (k0_pay5 v8) (k0_pay6 v10))
    (iota Kind.tc S1x512 32 [1] iota_S1x512_d1_w32) (k0_pay15 (F := Ideal) (s 4) (s 5)) k0_pay16 (s 6) (s 7)
    = tile (k0_pay7 v0 v4) (k0_pay13 (k0_pay2 v0) (k0_pay4 v4)) (k0_pay7 v2 v6) (k0_pay13 (k0_pay2 v2) (k0_pay4 v6)) (k0_pay5 v8) (k0_pay6 v10) s := rfl

theorem store1 : k0_pay34 (k0_pay28 (k0_pay20 v8) (k0_pay21 v10) (k0_pay26 (k0_pay1 v0) (k0_pay18 (k0_pay1 v0)))
      (k0_pay27 (k0_pay2 v2) (k0_pay19 (k0_pay2 v2))) (s 4) (s 5) (s 6) (s 7))
    (k0_pay29 (k0_pay25 (k0_pay20 v8) (k0_pay21 v10) (k0_pay22 (k0_pay1 v0)) (k0_pay23 (k0_pay2 v2)) (k0_pay24 v8) (s 0) (s 1) (s 2) (s 3)))
    (k0_pay30 (k0_pay25 (k0_pay20 v8) (k0_pay21 v10) (k0_pay22 (k0_pay1 v0)) (k0_pay23 (k0_pay2 v2)) (k0_pay24 v8) (s 0) (s 1) (s 2) (s 3)))
    (k0_pay31 (k0_pay25 (k0_pay20 v8) (k0_pay21 v10) (k0_pay22 (k0_pay1 v0)) (k0_pay23 (k0_pay2 v2)) (k0_pay24 v8) (s 0) (s 1) (s 2) (s 3)))
    (k0_pay32 (k0_pay25 (k0_pay20 v8) (k0_pay21 v10) (k0_pay22 (k0_pay1 v0)) (k0_pay23 (k0_pay2 v2)) (k0_pay24 v8) (s 0) (s 1) (s 2) (s 3)))
    (k0_pay33 (k0_pay20 v8) (k0_pay21 v10) (k0_pay26 (k0_pay1 v0) (k0_pay18 (k0_pay1 v0)))
      (k0_pay27 (k0_pay2 v2) (k0_pay19 (k0_pay2 v2))) (s 4) (s 5) (s 6) (s 7))
    = tile (k0_pay22 (k0_pay1 v0)) (k0_pay26 (k0_pay1 v0) (k0_pay18 (k0_pay1 v0))) (k0_pay23 (k0_pay2 v2)) (k0_pay27 (k0_pay2 v2) (k0_pay19 (k0_pay2 v2)))
      (k0_pay20 v8) (k0_pay21 v10) s := rfl

theorem store2 : k0_pay48 (k0_pay43 (k0_pay39 (k0_pay2 v2)) (k0_pay40 (k0_pay1 v0) v8 v10) (k0_pay41 (F := Ideal) (s 0) (s 1) (s 2)) k0_pay42 (s 3))
    (k0_pay44 (k0_pay2 v2) (k0_pay36 (k0_pay2 v2))) (k0_pay45 (k0_pay1 v0) (k0_pay35 (k0_pay1 v0)) (k0_pay37 v8) (k0_pay38 v10))
    (k0_pay46 (F := Ideal) (s 4) (s 5) (s 6)) k0_pay47 (s 7)
    = tile (k0_pay39 (k0_pay2 v0)) (k0_pay44 (k0_pay2 v0) (k0_pay36 (k0_pay2 v0))) (k0_pay39 (k0_pay2 v2)) (k0_pay44 (k0_pay2 v2) (k0_pay36 (k0_pay2 v2)))
      (k0_pay37 v8) (k0_pay38 v10) s := rfl

theorem store3 : k0_pay59 (k0_pay52 v10) (k0_pay55 (k0_pay52 v10) (k0_pay53 (k0_pay2 v2)) (k0_pay54 (k0_pay1 v0) v8) (s 0) (s 1) (s 2) (s 3))
    (k0_pay56 (k0_pay1 v0) (k0_pay49 (k0_pay1 v0))) (k0_pay57 (k0_pay2 v2) (k0_pay50 (k0_pay2 v2))) (k0_pay58 (k0_pay51 v8))
    (constant S256x512 FTy.f32 0#32) (s 4) (s 5) (s 6) (s 7)
    = tile (k0_pay53 (k0_pay2 v0)) (k0_pay56 (k0_pay1 v0) (k0_pay49 (k0_pay1 v0))) (k0_pay53 (k0_pay2 v2)) (k0_pay57 (k0_pay2 v2) (k0_pay50 (k0_pay2 v2)))
      (k0_pay51 v8) (k0_pay52 v10) s := rfl

end Cert.AttnFwdIdeal.Elem
-- ==== Proof.AttnBlocks.lean ====
/-
  The blocks of the attention kernel, as entries of the arrays it is given.
-/
module

public import proofs.«01_k».proof.Proof.Gen.AttnFwdIdeal.Frame.Runs
public import proofs.«01_k».proof.Proof.AttnTile
public import proofs.«01_k».proof.Proof.AttnSpec
public import Idealize.ShloMosaic.Lib.Pipeline.ValueKit
public import Idealize.ShloMosaic.Lib.Claim
public import Idealize.ShloMosaic.Lib.Tactic
public import Idealize.ShloMosaic.Lib.Pointwise
public import Idealize.ShloMosaic.Lib.Pipeline.ReadBack
public import Idealize.ShloMosaic.Lib.Tactic.CleanTypes
public import Idealize.ShloMosaic.Lib.ReduceAll

@[expose] public section

set_option maxRecDepth 16384

noncomputable section

namespace Cert.AttnFwdIdeal.Elem

open Cert.AttnFwdIdeal Cert.AttnFwdIdeal.Gen Cert.AttnSpec
open Idealize.ShloMosaic Idealize.ShloMosaic.TcCoe Idealize.SL.Sem
variable (m : (ℓ : Loc nD τ sig) → Buf (Elt Ideal) ℓ) (c : Dev nD) (t : Fin cfg0.N)

/-- The queries, the keys, the values and the sinks' scores. -/
abbrev Q (i : Fin 4096) (j : Fin 512) : EReal := m ((c.tc : Thread nD τ).loc main_arg0) (ix3 0 i j)
abbrev K (i : Fin 4096) (j : Fin 128) : EReal := m ((c.tc : Thread nD τ).loc main_arg1) (ix3 0 i j)
abbrev W (i : Fin 4096) (j : Fin 128) : EReal := m ((c.tc : Thread nD τ).loc main_arg2) (ix3 0 i j)
abbrev Z (h : Fin 8) : EReal := m ((c.tc : Thread nD τ).loc main_arg3) (ix2 0 h)

/-! The host's lines: the three arrays side by side, the sinks, the biases. -/

/-- The lines after the first ten leave alone what those wrote. -/
theorem V_first {b : Ref sig .tc} (h : ([hostOps0_1 (F := Ideal), hostOps0_2, hostOps0_3, hostOps0_4, hostOps0_5, hostOps0_6, hostOps0_7,
      hostOps0_8, hostOps0_9, hostOps0_10, hostOps0_11, hostOps0_12].flatten).Forall fun op => Proc.devRef .tc b ∉ op.writes) :
    V m c b = StableHlo.after hostOps0 (fun b => m (c, b)) b := by
  unfold V
  rw [List.flatten_cons, StableHlo.after_append]
  exact StableHlo.after_of_forall_not_mem (b := Proc.devRef .tc b) _ _ (List.forall_iff_forall_mem.mp h)

theorem concat_apply (a : Vec Ideal S1x4096x512 .f32) (b d : Vec Ideal S1x4096x128 .f32) (i : Fin 4096) (j : Fin 768) :
    truncf (F := Ideal) FTy.bf16 (concatenate S4096x768 1 [⟨S4096x512, shapeCast S4096x512 a shapeCasts_S1x4096x512_S4096x512⟩,
      ⟨S4096x128, shapeCast S4096x128 b shapeCasts_S1x4096x128_S4096x128⟩, ⟨S4096x128, shapeCast S4096x128 d shapeCasts_S1x4096x128_S4096x128⟩]
      concatenates_S4096x512_S4096x128_S4096x128_S4096x768_d1) bitsLt_bf16_f32 (ix2 i j)
    = if h : j.val < 512 then a (ix3 0 i ⟨j.val, h⟩)
      else if h : j.val - 512 < 128 then b (ix3 0 i ⟨j.val - 512, h⟩) else d (ix3 0 i ⟨j.val - 512 - 128, by omega⟩) := by
  pointwise

theorem qkv_host (i : Fin 4096) (j : Fin 768) : V m c main_v4 (ix2 i j)
    = if h : j.val < 512 then Q m c i ⟨j.val, h⟩
      else if h : j.val - 512 < 128 then K m c i ⟨j.val - 512, h⟩ else W m c i ⟨j.val - 512 - 128, by omega⟩ := by
  rw [V_first m c (by
    simp only [hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append, List.Forall,
      StableHlo.nullary_writes, StableHlo.unary_writes, StableHlo.binary_writes, StableHlo.ternary_writes, StableHlo.reshape_writes,
      StableHlo.nary_writes, Finset.mem_singleton]
    repeat' apply And.intro
    all_goals exact StableHlo.devRef_ne_of_ne (by decide))]
  simp only [hostOps0, StableHlo.after_cons, StableHlo.after_nil]
  after_results_simp
  exact concat_apply (m ((c.tc : Thread nD τ).loc main_arg0)) (m ((c.tc : Thread nD τ).loc main_arg1)) (m ((c.tc : Thread nD τ).loc main_arg2)) i j

theorem q_host (i : Fin 4096) (j : Fin 512) : V m c main_v4 (ix2 i ⟨j.val, by omega⟩) = Q m c i j := by
  rw [qkv_host, dif_pos j.isLt]
theorem k_host (i : Fin 4096) (j : Fin 128) : V m c main_v4 (ix2 i ⟨512 + j.val, by omega⟩) = K m c i j := by
  rw [qkv_host, dif_neg (by dsimp only; omega), dif_pos (by dsimp only; omega)]
  exact congrArg (K m c i) (Fin.ext (by dsimp only; omega))
theorem w_host (i : Fin 4096) (j : Fin 128) : V m c main_v4 (ix2 i ⟨640 + j.val, by omega⟩) = W m c i j := by
  rw [qkv_host, dif_neg (by dsimp only; omega), dif_neg (by dsimp only; omega)]
  exact congrArg (W m c i) (Fin.ext (by dsimp only; omega))

theorem z_host (h : Fin 8) : V m c main_v5 (ix1 h) = Z m c h := by
  unfold V
  simp only [List.flatten_cons, List.flatten_nil, List.append_nil, List.cons_append, List.nil_append]
  entry_read
  pointwise

/-- The remainder of a place of the four heads' rows by 128, as the host's lines compute it. -/
theorem rem_eq (l : Fin 512) : Scalar.select (IntOp.andi (IntOp.cmpi CmpIPredicate.ne
    (IntOp.cmpi CmpIPredicate.slt (IntOp.remsi ArithUnit.host (BitVec.ofNat 32 l.val) (Scalar.select (IntOp.cmpi CmpIPredicate.eq 128#32 0#32) 1#32 128#32)) 0#32)
    (IntOp.cmpi CmpIPredicate.slt (Scalar.select (IntOp.cmpi CmpIPredicate.eq 128#32 0#32) 1#32 128#32) 0#32))
    (IntOp.cmpi CmpIPredicate.ne (IntOp.remsi ArithUnit.host (BitVec.ofNat 32 l.val) (Scalar.select (IntOp.cmpi CmpIPredicate.eq 128#32 0#32) 1#32 128#32)) 0#32))
    (IntOp.addi (IntOp.remsi ArithUnit.host (BitVec.ofNat 32 l.val) (Scalar.select (IntOp.cmpi CmpIPredicate.eq 128#32 0#32) 1#32 128#32))
      (Scalar.select (IntOp.cmpi CmpIPredicate.eq 128#32 0#32) 1#32 128#32))
    (IntOp.remsi ArithUnit.host (BitVec.ofNat 32 l.val) (Scalar.select (IntOp.cmpi CmpIPredicate.eq 128#32 0#32) 1#32 128#32))
    = BitVec.ofNat 32 (l.val % 128) := by
  revert l; decide +kernel

/-- The comparisons of the band, as numbers. -/
theorem band_eq : ∀ (k : Fin 256) (r : Fin 128), IntOp.andi (IntOp.cmpi CmpIPredicate.sgt (BitVec.ofNat 32 k.val) (BitVec.ofNat 32 r.val))
    (IntOp.cmpi CmpIPredicate.sle (BitVec.ofNat 32 k.val) (IntOp.addi (BitVec.ofNat 32 r.val) 128#32))
    = BitVec.ofBool (decide (r.val < k.val ∧ k.val ≤ r.val + 128)) := by
  decide +kernel

theorem later_eq : ∀ k : Fin 256, IntOp.cmpi CmpIPredicate.sge (BitVec.ofNat 32 k.val) 128#32 = BitVec.ofBool (decide (128 ≤ k.val)) := by
  decide +kernel

theorem bias_first (k : Fin 256) (l : Fin 512) : V m c main_v29 (ix3 (0 : Fin 2) k l) = bias 0 k ⟨l.val % 128, by omega⟩ := by
  unfold V
  simp only [List.flatten_cons, List.flatten_nil, List.append_nil, List.cons_append, List.nil_append]
  entry_read
  pointwise
  simp only [StableHlo.TRef.toBuf, StableHlo.TRef.ofBuf, cast_eq, eq_rec_constant]
  pointwise
  rw [rem_eq, band_eq k ⟨l.val % 128, by omega⟩, later_eq, and_ofBool, select_ofBool]
  refine if_congr ?_ rfl rfl
  rw [Bool.and_eq_true, decide_eq_true_iff, decide_eq_true_iff]
  exact ⟨fun ⟨⟨a, b⟩, d⟩ => ⟨a, b, .inr d⟩, fun ⟨a, b, d⟩ => ⟨⟨a, b⟩, d.resolve_left (Nat.lt_irrefl 0)⟩⟩

theorem bias_later (n : Fin 32) (hn : 0 < n.val) (k : Fin 256) (l : Fin 512) : V m c main_v29 (ix3 (1 : Fin 2) k l) = bias n k ⟨l.val % 128, by omega⟩ := by
  unfold V
  simp only [List.flatten_cons, List.flatten_nil, List.append_nil, List.cons_append, List.nil_append]
  entry_read
  pointwise
  simp only [StableHlo.TRef.toBuf, StableHlo.TRef.ofBuf, cast_eq, eq_rec_constant]
  pointwise
  rw [rem_eq, band_eq k ⟨l.val % 128, by omega⟩, select_ofBool]
  refine if_congr ?_ rfl rfl
  rw [decide_eq_true_iff]
  exact ⟨fun ⟨a, b⟩ => ⟨a, b, .inl hn⟩, fun ⟨a, b, _⟩ => ⟨a, b⟩⟩

theorem bias_every (n : Fin 32) (hn : 0 < n.val) (k : Fin 256) (l : Fin 512) : V m c main_v53 (ix3 (1 : Fin 2) k l) = bias n k ⟨l.val % 128, by omega⟩ := by
  unfold V
  simp only [List.flatten_cons, List.flatten_nil, List.append_nil, List.cons_append, List.nil_append]
  entry_read
  pointwise
  simp only [StableHlo.TRef.toBuf, StableHlo.TRef.ofBuf, cast_eq, eq_rec_constant]
  pointwise
  rw [rem_eq, band_eq k ⟨l.val % 128, by omega⟩, select_ofBool]
  refine if_congr ?_ rfl rfl
  rw [decide_eq_true_iff]
  exact ⟨fun ⟨a, b⟩ => ⟨a, b, .inl hn⟩, fun ⟨a, b, _⟩ => ⟨a, b⟩⟩

/-! The windows' blocks. -/

theorem idx : ∀ t : Fin cfg0.N, win0_0.index t = ![0] ∧ win0_1.index t = ![min t.val 1, 0, 0] ∧ win0_2.index t = ![1, 0, 0]
    ∧ win0_3.index t = ![t.val, 0] ∧ win0_4.index t = ![4 * t.val - 1, 4] ∧ win0_5.index t = ![t.val, 4]
    ∧ win0_6.index t = ![4 * t.val - 1, 5] ∧ win0_7.index t = ![t.val, 5] ∧ win0_8.index t = ![t.val, 0] :=
  (by decide +kernel : ∀ t : Fin grid0.N, _)

/-- The array row of row `r` of the block of point `t`, and of row `r` of the block before. -/
def row (t : Fin cfg0.N) (r : Fin 512) : Fin 4096 :=
  ⟨t.val * 512 + r.val, by have := t.isLt; have := r.isLt; have : cfg0.N = 8 := N_0; omega⟩
def prow (t : Fin cfg0.N) (r : Fin 128) : Fin 4096 :=
  ⟨(4 * t.val - 1) * 128 + r.val, by have := t.isLt; have := r.isLt; have : cfg0.N = 8 := N_0; omega⟩

theorem b0 (h : Fin 8) : iblk m c 0 t (ix1 h) = Z m c h := by
  have e : (win0_0.blk t).view.emb (ix1 h) = ix1 h := by blk_ext [idx t]
  show V m c main_v5 ((win0_0.blk t).view.emb (ix1 h)) = _
  rw [e, z_host]
set_option maxHeartbeats 2000000 in
theorem b1 (n : Fin 32) (hn : n.val = 4 * t.val) (k : Fin 256) (l : Fin 512) :
    iblk m c 1 t (ix3 0 k l) = bias n k ⟨l.val % 128, by omega⟩ := by
  rcases Nat.eq_zero_or_pos t.val with h0 | h0
  · have e : (win0_1.blk t).view.emb (ix3 (0 : Fin 1) k l) = ix3 (0 : Fin 2) k l := by blk_ext [idx t, h0]
    show V m c main_v29 ((win0_1.blk t).view.emb (ix3 (0 : Fin 1) k l)) = _
    rw [e, bias_first, show n = 0 from Fin.ext (by rw [hn, h0]; rfl)]
  · have h1 : min t.val 1 = 1 := by omega
    have e : (win0_1.blk t).view.emb (ix3 (0 : Fin 1) k l) = ix3 (1 : Fin 2) k l := by blk_ext [idx t, h1]
    show V m c main_v29 ((win0_1.blk t).view.emb (ix3 (0 : Fin 1) k l)) = _
    rw [e, bias_later m c n (by omega)]
set_option maxHeartbeats 2000000 in
theorem b2 (n : Fin 32) (hn : 0 < n.val) (k : Fin 256) (l : Fin 512) : iblk m c 2 t (ix3 0 k l) = bias n k ⟨l.val % 128, by omega⟩ := by
  have e : (win0_2.blk t).view.emb (ix3 (0 : Fin 1) k l) = ix3 (1 : Fin 2) k l := by blk_ext [idx t]
  show V m c main_v53 ((win0_2.blk t).view.emb (ix3 (0 : Fin 1) k l)) = _
  rw [e, bias_every m c n hn]
set_option maxHeartbeats 2000000 in
theorem b3 (r : Fin 512) (j : Fin 512) : X0_3 m c t (ix2 r j) = Q m c (row t r) j := by
  unfold X0_3 Pipeline.Window.fill
  rw [dif_pos (moved0_3 t _)]
  refine (congrArg (V m c main_v4) (?_ : (win0_3.blk t).view.emb _ = ix2 (row t r) (⟨j.val, by omega⟩ : Fin 768))).trans (q_host m c _ _)
  blk_ext [idx t, row]
theorem b4 (r j : Fin 128) : iblk m c 4 t (ix2 r j) = K m c (prow t r) j := by
  have e : (win0_4.blk t).view.emb (ix2 r j) = ix2 (prow t r) (⟨512 + j.val, by omega⟩ : Fin 768) := by blk_ext [idx t, prow]
  show V m c main_v4 ((win0_4.blk t).view.emb (ix2 r j)) = _
  rw [e, k_host]
theorem b5 (r : Fin 512) (j : Fin 128) : iblk m c 5 t (ix2 r j) = K m c (row t r) j := by
  have e : (win0_5.blk t).view.emb (ix2 r j) = ix2 (row t r) (⟨512 + j.val, by omega⟩ : Fin 768) := by blk_ext [idx t, row]
  show V m c main_v4 ((win0_5.blk t).view.emb (ix2 r j)) = _
  rw [e, k_host]
theorem b6 (r j : Fin 128) : iblk m c 6 t (ix2 r j) = W m c (prow t r) j := by
  have e : (win0_6.blk t).view.emb (ix2 r j) = ix2 (prow t r) (⟨640 + j.val, by omega⟩ : Fin 768) := by blk_ext [idx t, prow]
  show V m c main_v4 ((win0_6.blk t).view.emb (ix2 r j)) = _
  rw [e, w_host]
theorem b7 (r : Fin 512) (j : Fin 128) : iblk m c 7 t (ix2 r j) = W m c (row t r) j := by
  have e : (win0_7.blk t).view.emb (ix2 r j) = ix2 (row t r) (⟨640 + j.val, by omega⟩ : Fin 768) := by blk_ext [idx t, row]
  show V m c main_v4 ((win0_7.blk t).view.emb (ix2 r j)) = _
  rw [e, w_host]

end Cert.AttnFwdIdeal.Elem
-- ==== Proof.AttnKernel.lean ====
/-
  What the attention kernel leaves in its result: every store's rows are the attention's.
-/
module

public import proofs.«01_k».proof.Proof.Gen.AttnFwdIdeal.Frame
public import proofs.«01_k».proof.Proof.AttnBlocks
public import proofs.«01_k».proof.Proof.Rows
public import Idealize.ShloMosaic.Lib.Pipeline.ValueKit
public import Idealize.ShloMosaic.Lib.Claim
public import Idealize.ShloMosaic.Lib.Tactic
public import Idealize.ShloMosaic.Lib.Pointwise
public import Idealize.ShloMosaic.Lib.Pipeline.ReadBack
public import Idealize.ShloMosaic.Lib.Tactic.CleanTypes
public import Idealize.ShloMosaic.Lib.ReduceAll

@[expose] public section

set_option maxRecDepth 16384

noncomputable section

namespace Cert.AttnFwdIdeal.Elem

open Cert.AttnFwdIdeal Cert.AttnFwdIdeal.Gen Cert.AttnSpec Cert.Rows
open Idealize.ShloMosaic Idealize.ShloMosaic.TcCoe Idealize.SL.Sem
variable (m : (ℓ : Loc nD τ sig) → Buf (Elt Ideal) ℓ) (c : Dev nD) (t : Fin cfg0.N)

/-! The windows of keys and of values: rows of one array, whichever block they come from. -/

/-- The block of 128 rows at place `b` of point `t`. -/
def nb (b : Fin 4) : Fin 32 := ⟨4 * t.val + b.val, by have := t.isLt; have := b.isLt; have : cfg0.N = 8 := N_0; omega⟩

theorem krow_prow {n : Fin 32} (hn : n = nb t 0) (x : Fin 256) (h : x.val < 128) : prow t ⟨x.val, h⟩ = krow n x := by
  subst hn; refine Fin.ext ?_
  show (4 * t.val - 1) * 128 + x.val = if 128 ≤ 128 * (4 * t.val + 0) + x.val then 128 * (4 * t.val + 0) + x.val - 128 else x.val
  split <;> omega

theorem krow_row (b : Fin 4) (x : Fin 256) (r : Fin 512) (h : r.val + 128 = 128 * b.val + x.val) : row t r = krow (nb t b) x := by
  refine Fin.ext ?_
  show t.val * 512 + r.val = if 128 ≤ 128 * (4 * t.val + b.val) + x.val then 128 * (4 * t.val + b.val) + x.val - 128 else x.val
  split <;> omega

variable {v0 : Vec Ideal S512x128 .bf16} {v4 : Vec Ideal S128x128 .bf16} {A : Fin 4096 → Fin 128 → EReal}
  (h0 : ∀ r j, v0 (ix2 r j) = A (row t r) j) (h4 : ∀ r j, v4 (ix2 r j) = A (prow t r) j) (x : Fin 256) (y : Fin 64)
include h0

section first
include h4

theorem win00 : k0_pay7 v0 v4 (ix2 x y) = A (krow (nb t 0) x) ⟨y.val, by omega⟩ := by
  pointwise [k0_pay7, k0_pay3, k0_pay4, k0_pay1, k0_pay2]
  split
  · rename_i h; rw [h4, krow_prow t rfl x h]
  · rw [h0, krow_row t 0 x _ (by dsimp only; omega)]
theorem win01 : k0_pay13 (k0_pay2 v0) (k0_pay4 v4) (ix2 x y) = A (krow (nb t 0) x) ⟨64 + y.val, by omega⟩ := by
  pointwise [k0_pay13, k0_pay2, k0_pay4]
  split
  · rename_i h; rw [h4, krow_prow t rfl x h]
  · rw [h0, krow_row t 0 x _ (by dsimp only; omega)]
end first

theorem win10 : k0_pay22 (k0_pay1 v0) (ix2 x y) = A (krow (nb t 1) x) ⟨y.val, by omega⟩ := by
  pointwise [k0_pay22, k0_pay1, k0_pay18]
  (repeat' split) <;> rw [h0, krow_row t 1 x _ (by dsimp only; omega)]
theorem win11 : k0_pay26 (k0_pay1 v0) (k0_pay18 (k0_pay1 v0)) (ix2 x y) = A (krow (nb t 1) x) ⟨64 + y.val, by omega⟩ := by
  pointwise [k0_pay26, k0_pay1, k0_pay18]
  (repeat' split) <;> rw [h0, krow_row t 1 x _ (by dsimp only; omega)]
theorem win20 : k0_pay39 (k0_pay2 v0) (ix2 x y) = A (krow (nb t 2) x) ⟨y.val, by omega⟩ := by
  pointwise [k0_pay39, k0_pay2, k0_pay36]
  (repeat' split) <;> rw [h0, krow_row t 2 x _ (by dsimp only; omega)]
theorem win21 : k0_pay44 (k0_pay2 v0) (k0_pay36 (k0_pay2 v0)) (ix2 x y) = A (krow (nb t 2) x) ⟨64 + y.val, by omega⟩ := by
  pointwise [k0_pay44, k0_pay2, k0_pay36]
  (repeat' split) <;> rw [h0, krow_row t 2 x _ (by dsimp only; omega)]
theorem win30 : k0_pay53 (k0_pay2 v0) (ix2 x y) = A (krow (nb t 3) x) ⟨y.val, by omega⟩ := by
  pointwise [k0_pay53, k0_pay2, k0_pay50]
  (repeat' split) <;> rw [h0, krow_row t 3 x _ (by dsimp only; omega)]
theorem win31 : k0_pay56 (k0_pay1 v0) (k0_pay49 (k0_pay1 v0)) (ix2 x y) = A (krow (nb t 3) x) ⟨64 + y.val, by omega⟩ := by
  pointwise [k0_pay56, k0_pay1, k0_pay49]
  (repeat' split) <;> rw [h0, krow_row t 3 x _ (by dsimp only; omega)]

omit h0

theorem bias_apply (b : Vec Ideal S1x256x512 .f32) (x : Fin 256) (l : Fin 512) : k0_pay6 b (ix2 x l) = b (ix3 0 x l) := by pointwise [k0_pay6]
theorem bias1_eq (b : Vec Ideal S1x256x512 .f32) : k0_pay21 b = k0_pay6 b := rfl
theorem bias2_eq (b : Vec Ideal S1x256x512 .f32) : k0_pay38 b = k0_pay6 b := rfl
theorem bias3_eq (b : Vec Ideal S1x256x512 .f32) : k0_pay52 b = k0_pay6 b := rfl
theorem q3_apply (q : Vec Ideal S128x512 .bf16) (r : Fin 128) (j : Fin 512) : k0_pay51 q (ix2 r j) = q (ix2 r j) := by pointwise [k0_pay51]
theorem q2_apply (q : Vec Ideal S128x512 .bf16) (r : Fin 128) (j : Fin 512) : k0_pay37 q (ix2 r j) = q (ix2 r j) := by pointwise [k0_pay37]
theorem q1_apply (q : Vec Ideal S128x512 .bf16) (r : Fin 128) (j : Fin 512) : k0_pay20 q (ix2 r j) = q (ix2 r j) := by pointwise [k0_pay20]
theorem q0_apply (q : Vec Ideal S128x512 .bf16) (r : Fin 128) (j : Fin 512) : k0_pay5 q (ix2 r j) = q (ix2 r j) := by pointwise [k0_pay5]

/-- One store's rows: the attention's at those rows. -/
theorem tile_out (b : Fin 4) {k0 k1 v0 v1 : FVec Ideal S256x64 .bf16} {q : FVec Ideal S128x512 .bf16} {w : Vec Ideal S1x256x512 .f32}
    (hk0 : ∀ x y, k0 (ix2 x y) = K m c (krow (nb t b) x) ⟨y.val, by omega⟩) (hk1 : ∀ x y, k1 (ix2 x y) = K m c (krow (nb t b) x) ⟨64 + y.val, by omega⟩)
    (hv0 : ∀ x y, v0 (ix2 x y) = W m c (krow (nb t b) x) ⟨y.val, by omega⟩) (hv1 : ∀ x y, v1 (ix2 x y) = W m c (krow (nb t b) x) ⟨64 + y.val, by omega⟩)
    (r : Fin 512) (s : Fin 128) (hr : r.val = 128 * b.val + s.val)
    (hq : ∀ j, q (ix2 s j) = Q m c (row t r) j) (hw : ∀ x l, w (ix3 0 x l) = bias (nb t b) x ⟨l.val % 128, by omega⟩) (j : Fin 512) :
    tile k0 k1 v0 v1 q (k0_pay6 w) (Z m c) (ix2 s j) = out (Q m c) (K m c) (W m c) (Z m c) (row t r) j := by
  have hb : blk (row t r) = nb t b := Fin.ext (by show (t.val * 512 + r.val) / 128 = 4 * t.val + b.val; have := s.isLt; omega)
  have hp : pos (row t r) = s := Fin.ext (by show (t.val * 512 + r.val) % 128 = s.val; have := s.isLt; omega)
  rw [tile_apply q _ _ hk0 hk1 hv0 hv1]
  unfold out AttnSpec.score
  rw [hb, hp]
  simp only [hq, bias_apply, hw]
  refine congrArg (fun f => head f _ _) (funext fun x => congrArg₂ (· + ·) rfl (congrArg (bias _ x) (Fin.ext ?_)))
  show (128 * (j.val / 64 % 4) + s.val) % 128 = s.val
  have := s.isLt; omega

theorem sink (k : ℕ) (hk : k < 8) (inb) (h) : View.ld (iblk m c 0 t : Vec Ideal S8 .f32) (Rect.unit ![k] ![1] inb) (Shape.Idx.first h) = Z m c ⟨k, hk⟩ := by
  rw [← b0 m c t]
  refine congrArg (iblk m c 0 t : Vec Ideal S8 .f32) (funext fun x => Fin.ext ?_)
  fin_cases x
  show k + 1 * 0 = k
  omega

/-- The block of 128 query rows from row `a` on. -/
abbrev qrows (a : ℕ) (inb : ∀ x, (![a, 0] : Fin 2 → ℕ) x + (⟨2, ![128, 512]⟩ : Shape).size x ≤ (⟨2, ![512, 512]⟩ : Shape).size x) :
    Vec Ideal S128x512 .bf16 := View.ld (X0_3 m c t) (bandRect (K := 512) (n := 512) a 128 inb)

/-- The four stores of a point, one per block of 128 rows. -/
theorem outs_eq : outsAt0 m c t = View.canon
    [⟨bandRect (K := 512) (n := 512) 384 128 inb_S512x512_S128x512_384_0,
        tile (k0_pay53 (k0_pay2 (iblk m c 5 t))) (k0_pay56 (k0_pay1 (iblk m c 5 t)) (k0_pay49 (k0_pay1 (iblk m c 5 t))))
          (k0_pay53 (k0_pay2 (iblk m c 7 t))) (k0_pay57 (k0_pay2 (iblk m c 7 t)) (k0_pay50 (k0_pay2 (iblk m c 7 t))))
          (k0_pay51 (qrows m c t 384 inb_S512x512_S128x512_384_0)) (k0_pay52 (iblk m c 2 t)) (Z m c)⟩,
     ⟨bandRect (K := 512) (n := 512) 256 128 inb_S512x512_S128x512_256_0,
        tile (k0_pay39 (k0_pay2 (iblk m c 5 t))) (k0_pay44 (k0_pay2 (iblk m c 5 t)) (k0_pay36 (k0_pay2 (iblk m c 5 t))))
          (k0_pay39 (k0_pay2 (iblk m c 7 t))) (k0_pay44 (k0_pay2 (iblk m c 7 t)) (k0_pay36 (k0_pay2 (iblk m c 7 t))))
          (k0_pay37 (qrows m c t 256 inb_S512x512_S128x512_256_0)) (k0_pay38 (iblk m c 2 t)) (Z m c)⟩,
     ⟨bandRect (K := 512) (n := 512) 128 128 inb_S512x512_S128x512_128_0,
        tile (k0_pay22 (k0_pay1 (iblk m c 5 t))) (k0_pay26 (k0_pay1 (iblk m c 5 t)) (k0_pay18 (k0_pay1 (iblk m c 5 t))))
          (k0_pay23 (k0_pay2 (iblk m c 7 t))) (k0_pay27 (k0_pay2 (iblk m c 7 t)) (k0_pay19 (k0_pay2 (iblk m c 7 t))))
          (k0_pay20 (qrows m c t 128 inb_S512x512_S128x512_128_0)) (k0_pay21 (iblk m c 2 t)) (Z m c)⟩,
     ⟨bandRect (K := 512) (n := 512) 0 128 inb_S512x512_S128x512_0_0,
        tile (k0_pay7 (iblk m c 5 t) (iblk m c 4 t)) (k0_pay13 (k0_pay2 (iblk m c 5 t)) (k0_pay4 (iblk m c 4 t)))
          (k0_pay7 (iblk m c 7 t) (iblk m c 6 t)) (k0_pay13 (k0_pay2 (iblk m c 7 t)) (k0_pay4 (iblk m c 6 t)))
          (k0_pay5 (qrows m c t 0 inb_S512x512_S128x512_0_0)) (k0_pay6 (iblk m c 1 t)) (Z m c)⟩] := by
  unfold outsAt0; frame_out
  simp only [show ∀ inb h, View.ld (iblk m c 0 t : Vec Ideal S8 .f32) (Rect.unit ![0] ![1] inb) (Shape.Idx.first h) = Z m c 0 from sink m c t 0 (by decide),
    show ∀ inb h, View.ld (iblk m c 0 t : Vec Ideal S8 .f32) (Rect.unit ![1] ![1] inb) (Shape.Idx.first h) = Z m c 1 from sink m c t 1 (by decide),
    show ∀ inb h, View.ld (iblk m c 0 t : Vec Ideal S8 .f32) (Rect.unit ![2] ![1] inb) (Shape.Idx.first h) = Z m c 2 from sink m c t 2 (by decide),
    show ∀ inb h, View.ld (iblk m c 0 t : Vec Ideal S8 .f32) (Rect.unit ![3] ![1] inb) (Shape.Idx.first h) = Z m c 3 from sink m c t 3 (by decide),
    show ∀ inb h, View.ld (iblk m c 0 t : Vec Ideal S8 .f32) (Rect.unit ![4] ![1] inb) (Shape.Idx.first h) = Z m c 4 from sink m c t 4 (by decide),
    show ∀ inb h, View.ld (iblk m c 0 t : Vec Ideal S8 .f32) (Rect.unit ![5] ![1] inb) (Shape.Idx.first h) = Z m c 5 from sink m c t 5 (by decide),
    show ∀ inb h, View.ld (iblk m c 0 t : Vec Ideal S8 .f32) (Rect.unit ![6] ![1] inb) (Shape.Idx.first h) = Z m c 6 from sink m c t 6 (by decide),
    show ∀ inb h, View.ld (iblk m c 0 t : Vec Ideal S8 .f32) (Rect.unit ![7] ![1] inb) (Shape.Idx.first h) = Z m c 7 from sink m c t 7 (by decide)]
  rfl

theorem outs_apply (r j : Fin 512) : outsAt0 m c t (ix2 r j) = out (Q m c) (K m c) (W m c) (Z m c) (row t r) j := by
  rw [outs_eq]
  have hn : ∀ b : Fin 4, 0 < b.val → 0 < (nb t b).val := fun b hb => by show 0 < 4 * t.val + b.val; omega
  have hq : ∀ (a : ℕ) (inb) (s : Fin 128) (_ : r.val = a + s.val) (j : Fin 512), qrows m c t a inb (ix2 s j) = Q m c (row t r) j :=
    fun a inb s hs j => (ld_band (Val := Elt Ideal) (e := .bf16) (X0_3 m c t) a r s hs inb j).trans (b3 m c t r j)
  by_cases h3 : 384 ≤ r.val
  · have hr : r.val = 384 + (r.val - 384) := by omega
    refine (canon_band (Val := Elt Ideal) (e := .bf16) 384 r ⟨r.val - 384, by omega⟩ hr _ _ _ j).trans ?_
    rw [bias3_eq]
    exact tile_out m c t 3 (win30 t (b5 m c t)) (win31 t (b5 m c t)) (win30 t (b7 m c t)) (win31 t (b7 m c t)) r _ hr
      (fun j => (q3_apply _ _ j).trans (hq 384 _ _ hr j)) (b2 m c t _ (hn 3 (by decide))) j
  refine (canon_band_of_lt (Val := Elt Ideal) (e := .bf16) 384 r (by omega) _ _ _ j).trans ?_
  by_cases h2 : 256 ≤ r.val
  · have hr : r.val = 256 + (r.val - 256) := by omega
    refine (canon_band (Val := Elt Ideal) (e := .bf16) 256 r ⟨r.val - 256, by omega⟩ hr _ _ _ j).trans ?_
    rw [bias2_eq]
    exact tile_out m c t 2 (win20 t (b5 m c t)) (win21 t (b5 m c t)) (win20 t (b7 m c t)) (win21 t (b7 m c t)) r _ hr
      (fun j => (q2_apply _ _ j).trans (hq 256 _ _ hr j)) (b2 m c t _ (hn 2 (by decide))) j
  refine (canon_band_of_lt (Val := Elt Ideal) (e := .bf16) 256 r (by omega) _ _ _ j).trans ?_
  by_cases h1 : 128 ≤ r.val
  · have hr : r.val = 128 + (r.val - 128) := by omega
    refine (canon_band (Val := Elt Ideal) (e := .bf16) 128 r ⟨r.val - 128, by omega⟩ hr _ _ _ j).trans ?_
    rw [bias1_eq]
    exact tile_out m c t 1 (win10 t (b5 m c t)) (win11 t (b5 m c t)) (win10 t (b7 m c t)) (win11 t (b7 m c t)) r _ hr
      (fun j => (q1_apply _ _ j).trans (hq 128 _ _ hr j)) (b2 m c t _ (hn 1 (by decide))) j
  refine (canon_band_of_lt (Val := Elt Ideal) (e := .bf16) 128 r (by omega) _ _ _ j).trans ?_
  have hr : r.val = 0 + r.val := by omega
  refine (canon_band (Val := Elt Ideal) (e := .bf16) (R := 128) 0 r ⟨r.val, by omega⟩ hr _ _ _ j).trans ?_
  exact tile_out m c t 0 (win00 t (b5 m c t) (b4 m c t)) (win01 t (b5 m c t) (b4 m c t)) (win00 t (b7 m c t) (b6 m c t)) (win01 t (b7 m c t) (b6 m c t)) r _ hr
    (fun j => (q0_apply _ _ j).trans (hq 0 _ _ hr j)) (b1 m c t _ rfl) j

set_option maxHeartbeats 600000 in
/-- The result array: the attention's output. -/
theorem arr_out : (dats m 0 c).arrAt 8 cfg0.N = fun x => out (Q m c) (K m c) (W m c) (Z m c) (x 0) (x 1) := by
  refine (dats m 0 c).arrAt_eq_of_covers 8 _ (by decide +kernel) fun t hf y => ?_
  blk_simp
  rw [after0_8]
  idx_vars y
  refine (outs_apply m c t y0 y1).trans ?_
  have e : ((View.whole main_v54).slice (win0_8.rect t)).emb (ix2 y0 y1) = ix2 (row t y0) y1 := by blk_ext [idx t, row]
  generalize Q m c = q
  generalize K m c = k
  generalize W m c = w
  generalize Z m c = z
  rw [e]
  rfl

end Cert.AttnFwdIdeal.Elem
-- ==== Proof.AttnRef.lean ====
/-
  The attention of the reference, entry by entry: scores against the block before and the block itself, the sink's score after
  them, the softmax, and the weighted values.
-/
module

public import proofs.«01_k».proof.Proof.Gen.AttnOutRefIdeal.Read
public import proofs.«01_k».proof.Proof.AttnSpec
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

namespace Cert.AttnOutRefIdeal.Elem

open Cert.AttnOutRefIdeal Cert.AttnOutRefIdeal.Gen Cert.AttnOutRefIdeal.Read Cert.AttnSpec
open Idealize.ShloMosaic Idealize.ShloMosaic.TcCoe Idealize.SL.Sem

variable (x0 : (⟨S1x4096x512, .f32⟩ : BufTy).Contents (Elt Ideal)) (x1 x2 : (⟨S1x4096x128, .f32⟩ : BufTy).Contents (Elt Ideal))
  (x3 : (⟨S1x8, .f32⟩ : BufTy).Contents (Elt Ideal))
variable (n : Fin 32) (g : Fin 2) (h : Fin 4) (r : Fin 128) (x : Fin 256) (y : Fin 64) (w : Fin 257)

/-! ## The windows -/

theorem v5_apply : val_main_v5 (F := Ideal) x1 (ix4 n r g y) = x1 (ix3 0 ⟨n.val * 128 + r.val, by omega⟩ ⟨g.val * 64 + y.val, by omega⟩) := by
  pointwise [val_main_v5, val_main_v1]

theorem v4_apply :
    val_main_v4 (F := Ideal) x0 (ix5 n r g h y) = x0 (ix3 0 ⟨n.val * 128 + r.val, by omega⟩ ⟨g.val * 256 + h.val * 64 + y.val, by omega⟩) := by
  pointwise [val_main_v4, val_main_v0]

theorem v10_apply : val_main_v10 (F := Ideal) x1 (ix4 n r g y) = if _h : n.val < 1 then 0 else val_main_v5 (F := Ideal) x1 (ix4 ⟨n.val - 1, by omega⟩ r g y) := by
  pointwise [val_main_v10, val_main_v8, val_main_v9, val_main_cst]

theorem v11_apply : val_main_v11 (F := Ideal) x1 (ix4 n x g y) = if _h : x.val < 128 then val_main_v10 (F := Ideal) x1 (ix4 n ⟨x.val, by omega⟩ g y)
    else val_main_v5 (F := Ideal) x1 (ix4 n ⟨x.val - 128, by omega⟩ g y) := by
  pointwise [val_main_v11]

/-- The window of the values is made as that of the keys. -/
theorem v16_eq : val_main_v16 (F := Ideal) x2 = val_main_v11 (F := Ideal) x2 := rfl

/-- A row of the window that is seen is that row of the keys. -/
theorem window (hs : seen n x r) : val_main_v11 (F := Ideal) x1 (ix4 n x g y) = x1 (ix3 0 (krow n x) ⟨64 * g.val + y.val, by omega⟩) := by
  obtain ⟨_, _, h3⟩ := hs
  rw [v11_apply]
  split
  · rw [v10_apply, dif_neg (by omega), v5_apply]
    refine congrArg₂ (fun p q => x1 (ix3 0 p q)) (Fin.ext ?_) (Fin.ext ?_)
    · show (n.val - 1) * 128 + x.val = if 128 ≤ 128 * n.val + x.val then 128 * n.val + x.val - 128 else x.val
      split <;> omega
    · show g.val * 64 + y.val = 64 * g.val + y.val
      omega
  · rw [v5_apply]
    refine congrArg₂ (fun p q => x1 (ix3 0 p q)) (Fin.ext ?_) (Fin.ext ?_)
    · show n.val * 128 + (x.val - 128) = if 128 ≤ 128 * n.val + x.val then 128 * n.val + x.val - 128 else x.val
      split <;> omega
    · show g.val * 64 + y.val = 64 * g.val + y.val
      omega

/-! ## The scores -/

theorem v20_apply : val_main_v20 (F := Ideal) x0 x1 (ix5 n g h r x)
    = (∑ z : Fin 64, val_main_v11 (F := Ideal) x1 (ix4 n x g z) * val_main_v4 (F := Ideal) x0 (ix5 n r g h z)) * eighth := by
  pointwise [val_main_v20, val_main_v19, val_main_v18, val_main_v17, val_main_cst_1]

theorem before_eq : ∀ (r : Fin 128) (x : Fin 256), IntOp.andi
    (IntOp.cmpi CmpIPredicate.sge (IntOp.subi (IntOp.addi (BitVec.ofNat 32 r.val) 128#32) (BitVec.ofNat 32 x.val)) 0#32)
    (IntOp.cmpi CmpIPredicate.slt (IntOp.subi (IntOp.addi (BitVec.ofNat 32 r.val) 128#32) (BitVec.ofNat 32 x.val)) 128#32)
      = BitVec.ofBool (decide (r.val < x.val ∧ x.val ≤ r.val + 128)) := by
  decide +kernel

theorem there_eq : ∀ (n : Fin 32) (x : Fin 256), IntOp.ori (IntOp.cmpi CmpIPredicate.sgt (BitVec.ofNat 32 n.val) 0#32)
    (IntOp.cmpi CmpIPredicate.sge (BitVec.ofNat 32 x.val) 128#32) = BitVec.ofBool (decide (0 < n.val ∨ 128 ≤ x.val)) := by
  decide +kernel

theorem v49_apply : val_main_v49 (F := Ideal) (ix5 n 0 0 r x) = BitVec.ofBool (decide (seen n x r)) := by
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_c, val_main_c_2, val_main_c_3, val_main_c_4, val_main_c_5]
  rw [before_eq, there_eq, and_ofBool]
  refine congrArg BitVec.ofBool (Bool.eq_iff_iff.mpr ?_)
  rw [Bool.and_eq_true, decide_eq_true_iff, decide_eq_true_iff, decide_eq_true_iff, and_assoc]
  rfl

/-- A score of the window, −∞ where the key is not seen. -/
abbrev masked : EReal := val_main_v50 (F := Ideal) x0 x1 (ix5 n g h r x)

theorem v50_apply : masked x0 x1 n g h r x = if seen n x r then val_main_v20 (F := Ideal) x0 x1 (ix5 n g h r x) else Ideal.ofBits FTy.f32 4286578688#32 := by
  pointwise [masked, val_main_v50, val_main_call0_v2, val_main_call0_v1, val_main_call0_v0, val_main_cst_6]
  rw [v49_apply, select_ofBool]
  simp only [decide_eq_true_eq]
  rfl

theorem v53_apply : val_main_v53 (F := Ideal) x0 x1 x3 (ix5 n g h r w) = cat (masked x0 x1 n g h r) (x3 (ix2 0 ⟨g.val * 4 + h.val, by omega⟩)) w := by
  pointwise [val_main_v53, val_main_v52, val_main_v51, val_main_v3]
  rfl

/-! ## The softmax -/

theorem max_apply (u : FVec Ideal S32x2x4x128x257 .f32) (b : FVec Ideal S_ .f32) :
    Host.reduce (FloatOps.maximumf (F := Ideal) (φ := .f32)) u b reducesTo_S32x2x4x128x257_S32x2x4x128_d4 h_S_ (ix4 n g h r)
      = Finset.fold max (b ix0) (fun y : Fin 257 => u (ix5 n g h r y)) Finset.univ := by
  pointwise []
  exact congrArg (fun i => Finset.fold max (b i) _ _) (funext fun a => a.elim0)

theorem v54_apply : val_main_v54 (F := Ideal) x0 x1 x3 (ix4 n g h r)
    = Finset.fold max (Ideal.ofBits FTy.f32 4286578688#32) (cat (masked x0 x1 n g h r) (x3 (ix2 0 ⟨g.val * 4 + h.val, by omega⟩))) Finset.univ := by
  unfold val_main_v54
  rw [max_apply]
  simp only [v53_apply]
  rfl

theorem v56_apply : val_main_v56 (F := Ideal) x0 x1 x3 (ix4 n g h r) = top' (masked x0 x1 n g h r) (x3 (ix2 0 ⟨g.val * 4 + h.val, by omega⟩)) := by
  unfold top'
  rw [← v54_apply, val_main_v56_apply, val_main_v55_apply, val_main_cst_8_apply]
  generalize val_main_v54 (F := Ideal) x0 x1 x3 (ix4 n g h r) = z
  rfl

theorem v64_apply : val_main_v64 (F := Ideal) x0 x1 x3 (ix5 n g h r w)
    = Ideal.div (Ideal.exp (val_main_v53 (F := Ideal) x0 x1 x3 (ix5 n g h r w) - val_main_v56 (F := Ideal) x0 x1 x3 (ix4 n g h r)))
      (∑ y, Ideal.exp (val_main_v53 (F := Ideal) x0 x1 x3 (ix5 n g h r y) - val_main_v56 (F := Ideal) x0 x1 x3 (ix4 n g h r))) := by
  pointwise [val_main_v64, val_main_v63, val_main_v62, val_main_v61, val_main_v60, val_main_v59, val_main_v58, val_main_v57, val_main_cst_9]

/-- The softmax's value at a key of the window, over the scores and the sink's after them. -/
theorem weight_eq : val_main_v64 (F := Ideal) x0 x1 x3 (ix5 n g h r ⟨x.val, by omega⟩)
    = Ideal.div (Ideal.exp (masked x0 x1 n g h r x - top' (masked x0 x1 n g h r) (x3 (ix2 0 ⟨g.val * 4 + h.val, by omega⟩))))
      (∑ y, Ideal.exp (cat (masked x0 x1 n g h r) (x3 (ix2 0 ⟨g.val * 4 + h.val, by omega⟩)) y
        - top' (masked x0 x1 n g h r) (x3 (ix2 0 ⟨g.val * 4 + h.val, by omega⟩)))) := by
  rw [v64_apply, v56_apply, v53_apply]
  refine congrArg₂ Ideal.div (congrArg (fun a => Ideal.exp (a - _)) (dif_pos x.isLt)) (Finset.sum_congr rfl fun y _ => ?_)
  rw [v53_apply]

variable (i : Fin 4096) (j : Fin 512)

theorem v69_apply : val_main_v69 (F := Ideal) x0 x1 x2 x3 (ix2 i j) = ∑ x : Fin 256, val_main_v16 (F := Ideal) x2 (ix4 ⟨i.val / 128, by omega⟩ x ⟨j.val / 256, by omega⟩ ⟨j.val % 64, by omega⟩)
    * val_main_v64 (F := Ideal) x0 x1 x3 (ix5 ⟨i.val / 128, by omega⟩ ⟨j.val / 256, by omega⟩ ⟨j.val / 64 % 4, by omega⟩ ⟨i.val % 128, by omega⟩ ⟨x.val, by omega⟩) := by
  pointwise [val_main_v69, val_main_v68, val_main_v67, val_main_v66, val_main_v65]

/-- The reference's output at row `i`, column `j`. -/
theorem out_apply : val_main_v69 (F := Ideal) x0 x1 x2 x3 (ix2 i j) = head' (masked x0 x1 (blk i) ⟨j.val / 256, by omega⟩ ⟨j.val / 64 % 4, by omega⟩ (pos i))
    (fun x => val_main_v11 (F := Ideal) x2 (ix4 (blk i) x ⟨j.val / 256, by omega⟩ ⟨j.val % 64, by omega⟩)) (x3 (ix2 0 ⟨j.val / 64, by omega⟩)) := by
  rw [v69_apply, v16_eq]
  refine Finset.sum_congr rfl fun x _ => ?_
  rw [weight_eq, show (⟨j.val / 256 * 4 + j.val / 64 % 4, by omega⟩ : Fin 8) = ⟨j.val / 64, by omega⟩ from Fin.ext (by show j.val / 256 * 4 + j.val / 64 % 4 = j.val / 64; omega)]
  rfl

/-- A masked score, off the queries and keys the kernel reads. -/
theorem masked_eq (x : Fin 256) : masked x0 x1 (blk i) ⟨j.val / 256, by omega⟩ ⟨j.val / 64 % 4, by omega⟩ (pos i) x
    = if seen (blk i) x (pos i) then score (fun a b => x0 (ix3 0 a b)) (fun a b => x1 (ix3 0 a b)) i j x else ⊥ := by
  rw [v50_apply, word_bot]
  split
  · rename_i hs
    rw [v20_apply]
    refine congrArg (· * eighth) (Finset.sum_congr rfl fun y _ => ?_)
    rw [window x1 (blk i) _ (pos i) x y hs, v4_apply]
    refine congrArg (_ * ·) (congrArg₂ (fun p q => x0 (ix3 0 p q)) (Fin.ext ?_) (Fin.ext ?_))
    · show i.val / 128 * 128 + i.val % 128 = i.val
      omega
    · show j.val / 256 * 256 + j.val / 64 % 4 * 64 + y.val = 64 * (j.val / 64) + y.val
      omega
  · rfl

end Cert.AttnOutRefIdeal.Elem
-- ==== Proof.AttnAlg.lean ====
/-
  The attention kernel computes the attention of the forward lines: from memories that agree on the arguments and are finite
  there, both programs leave the same output.
-/
module

public import proofs.«01_k».proof.Defs
public import proofs.«01_k».proof.Proof.Gen.AttnFwdIdeal.Value
public import proofs.«01_k».proof.Proof.Gen.Pre_attn_out_finite
public import proofs.«01_k».proof.Proof.AttnKernel
public import proofs.«01_k».proof.Proof.AttnRef
public import proofs.«01_k».proof.Proof.Finite

@[expose] public section

set_option maxRecDepth 16384

noncomputable section

namespace Cert.AttnAlg

open Idealize.ShloMosaic Idealize.ShloMosaic.TcCoe Idealize.SL.Sem Cert.Reals Cert.AttnFwdIdeal

abbrev MK := (ℓ : Loc nD τ sig) → Buf (Elt Ideal) ℓ
abbrev MR := (ℓ : Loc AttnOutRefIdeal.nD AttnOutRefIdeal.τ AttnOutRefIdeal.sig) → Buf (Elt Ideal) ℓ

variable {m : MK} {m' : MR} {c : Dev nD}

/-- What the precondition gives on a device: the arguments hold reals. -/
theorem reals_of_pre (h : Pre_AttnFwdIdeal_attn_out_finite m) (c : Dev nD) :
    (∃ q : Fin 4096 → Fin 512 → ℝ, ∀ i j, Elem.Q m c i j = q i j) ∧ (∃ k : Fin 4096 → Fin 128 → ℝ, ∀ i j, Elem.K m c i j = k i j)
    ∧ (∃ w : Fin 4096 → Fin 128 → ℝ, ∀ i j, Elem.W m c i j = w i j) ∧ (∃ z : Fin 8 → ℝ, ∀ j, Elem.Z m c j = z j) := by
  have e := congrFun (h c) (Shape.Idx.first Pre_attn_out_finite.Gen.facts.h_S_)
  unfold Pre_attn_out_finite.fn at e
  dsimp only at e
  obtain ⟨e, e3⟩ := andi_split e
  obtain ⟨e, e2⟩ := andi_split e
  obtain ⟨e0, e1⟩ := andi_split e
  haveI : Subsingleton Pre_attn_out_finite.S_.Idx := ⟨fun a b => funext fun k => k.elim0⟩
  obtain ⟨r0, h0⟩ := reals_of_all _ _ _ _ _ _ e0
  obtain ⟨r1, h1⟩ := reals_of_all _ _ _ _ _ _ e1
  obtain ⟨r2, h2⟩ := reals_of_all _ _ _ _ _ _ e2
  obtain ⟨r3, h3⟩ := reals_of_all _ _ _ _ _ _ e3
  exact ⟨⟨fun i j => r0 (ix3 0 i j), fun i j => h0 _⟩, ⟨fun i j => r1 (ix3 0 i j), fun i j => h1 _⟩,
    ⟨fun i j => r2 (ix3 0 i j), fun i j => h2 _⟩, ⟨fun j => r3 (ix2 0 j), fun j => h3 _⟩⟩

/-- The value claim: the kernel and the forward lines leave the same attention output. -/
theorem algebraic : algebraic_AttnFwdIdeal_AttnOutRefIdeal_pre_attn_out_finite := by
  intro m g m' g' hp ha
  refine ⟨fun c => (Gen.dats m 0 c).arrAt 8 cfg0.N, Value.run_blocks m g,
    (θ_run _ _ _).mono (fun r h c => ?_) (AttnOutRefIdeal.Value.run m' g')⟩
  obtain ⟨h0, hr⟩ := h c
  obtain ⟨a0, a1, a2, a3⟩ := ha c
  obtain ⟨hq, hk, hw, hz⟩ := reals_of_pre hp c
  refine ⟨h0.trans (Eq.trans ?_ (Elem.arr_out m c).symm), hr⟩
  funext i
  idx_vars i
  refine (congrFun (AttnOutRefIdeal.Read.val_main_v69_eq m' c) _).trans ?_
  rw [a0, a1, a2, a3]
  refine (AttnOutRefIdeal.Elem.out_apply _ _ _ _ i0 i1).trans ?_
  refine AttnSpec.same hq hk hw hz _ _ i0 i1 (AttnOutRefIdeal.Elem.masked_eq _ _ i0 i1) fun x hx => ?_
  exact AttnOutRefIdeal.Elem.window _ (AttnSpec.blk i0) _ (AttnSpec.pos i0) x _ hx

/-- The reference runs, leaves its arguments unchanged and has no semaphore. -/
theorem frame_ref : quiescent_AttnOutRefIdeal := fun m ρ _ =>
  (θ_run AttnOutRefIdeal.defs _ _).mono (fun r h => ⟨fun c => (h c).2, sem_eq_zero_of_no_sems (by decide) r.2⟩)
    (AttnOutRefIdeal.Value.run (F := Ideal) m ρ)

end Cert.AttnAlg
-- ==== Proof.MixFwdBlocks.lean ====
/-
  The blocks the merge's forward kernel reads at each grid point, in terms of the program's arguments, and what the kernel makes of a block.
-/
module

public import proofs.«01_k».proof.Proof.Gen.MixFwdIdeal.Frame.Runs
public import proofs.«01_k».proof.Proof.MixFwdSpec
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

namespace Cert.MixFwdIdeal.Elem

open Cert.MixFwdIdeal Cert.MixFwdIdeal.Gen Cert.FfnSpec Cert.MixFwdSpec
open Idealize.ShloMosaic Idealize.ShloMosaic.TcCoe Idealize.SL.Sem

variable (m : (ℓ : Loc nD τ sig) → Buf (Elt Ideal) ℓ) (c : Dev nD)

/-- The residual stream, the attention's output, the three parts of the convolution, the two gates, the taps, the branches' weights, the
    projection's weight and the gain. -/
abbrev X (i : Fin 4096) (j : Fin 1024) : EReal := m ((c.tc : Thread nD τ).loc main_arg0) (ix3 0 i j)
abbrev At (i : Fin 4096) (l : Fin 512) : EReal := m ((c.tc : Thread nD τ).loc main_arg1) (ix3 0 i l)
abbrev Cb (i : Fin 4096) (l : Fin 512) : EReal := m ((c.tc : Thread nD τ).loc main_arg2) (ix3 0 i l)
abbrev Cc (i : Fin 4096) (l : Fin 512) : EReal := m ((c.tc : Thread nD τ).loc main_arg3) (ix3 0 i l)
abbrev Cx (i : Fin 4096) (l : Fin 512) : EReal := m ((c.tc : Thread nD τ).loc main_arg4) (ix3 0 i l)
abbrev Ga (i : Fin 4096) (j : Fin 1024) : EReal := m ((c.tc : Thread nD τ).loc main_arg5) (ix3 0 i j)
abbrev Gc (i : Fin 4096) (j : Fin 1024) : EReal := m ((c.tc : Thread nD τ).loc main_arg6) (ix3 0 i j)
abbrev Cw (k : Fin 3) (l : Fin 512) : EReal := m ((c.tc : Thread nD τ).loc main_arg7) (ix3 0 k l)
abbrev Wa (l : Fin 512) (j : Fin 1024) : EReal := m ((c.tc : Thread nD τ).loc main_arg8) (ix3 0 l j)
abbrev Wc (l : Fin 512) (j : Fin 1024) : EReal := m ((c.tc : Thread nD τ).loc main_arg9) (ix3 0 l j)
abbrev Wo (k j : Fin 1024) : EReal := m ((c.tc : Thread nD τ).loc main_arg10) (ix3 0 k j)
abbrev G (j : Fin 1024) : EReal := m ((c.tc : Thread nD τ).loc main_arg11) (ix2 0 j)

/-- What the convolution reads, the gated convolution, the two branches, their merge and the residual stream after it. -/
abbrev Z (i : Fin 4096) (l : Fin 512) : EReal := Cc m c i l * Cx m c i l
abbrev C : Fin 4096 → Fin 512 → EReal := conv (Cb m c) (Cc m c) (Cx m c) (Cw m c)
abbrev A : Fin 4096 → Fin 1024 → EReal := prod (At m c) (Wa m c)
abbrev B : Fin 4096 → Fin 1024 → EReal := prod (C m c) (Wc m c)
abbrev M : Fin 4096 → Fin 1024 → EReal := merged sg (Ga m c) (Gc m c) (A m c) (B m c)
abbrev H : Fin 4096 → Fin 1024 → EReal := MixFwdSpec.out (X m c) (M m c) (Wo m c)

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

theorem N8 : cfg0.N = 8 := N_0

/-- The array row of row `r` of the block of point `t`. -/
def row (t : Fin cfg0.N) (r : Fin 512) : Fin 4096 := ⟨t.val * 512 + r.val, by have := lt_of_lt_of_eq t.isLt N8; omega⟩

/-! The host's lines: the three parts of the convolution side by side, the two gates side by side, the branches' weights above each other. -/

theorem concat_apply (a b d : Vec Ideal S1x4096x512 .f32) (i : Fin 4096) (p : Fin 1536) :
    truncf (F := Ideal) FTy.bf16 (concatenate S4096x1536 1 [⟨S4096x512, shapeCast S4096x512 a shapeCasts_S1x4096x512_S4096x512⟩,
      ⟨S4096x512, shapeCast S4096x512 b shapeCasts_S1x4096x512_S4096x512⟩, ⟨S4096x512, shapeCast S4096x512 d shapeCasts_S1x4096x512_S4096x512⟩]
      concatenates_S4096x512_S4096x512_S4096x512_S4096x1536_d1) bitsLt_bf16_f32 (ix2 i p)
    = if h : p.val < 512 then a (ix3 0 i ⟨p.val, h⟩)
      else if h : p.val - 512 < 512 then b (ix3 0 i ⟨p.val - 512, h⟩) else d (ix3 0 i ⟨p.val - 512 - 512, by omega⟩) := by
  pointwise

theorem c_host (i : Fin 4096) (p : Fin 1536) : V m c main_v11 (ix2 i p)
    = if h : p.val < 512 then Cb m c i ⟨p.val, h⟩ else if h : p.val - 512 < 512 then Cc m c i ⟨p.val - 512, h⟩
      else Cx m c i ⟨p.val - 512 - 512, by omega⟩ := by
  unfold V
  simp only [hostOps0, List.flatten_cons, List.flatten_nil, List.append_nil, StableHlo.after_cons, StableHlo.after_nil]
  after_results_simp
  exact concat_apply (m ((c.tc : Thread nD τ).loc main_arg2)) (m ((c.tc : Thread nD τ).loc main_arg3)) (m ((c.tc : Thread nD τ).loc main_arg4)) i p

theorem cb_host (i : Fin 4096) (l : Fin 512) : V m c main_v11 (ix2 i ⟨l.val, by omega⟩) = Cb m c i l := by
  rw [c_host, dif_pos l.isLt]
theorem cc_host (i : Fin 4096) (l : Fin 512) : V m c main_v11 (ix2 i ⟨512 + l.val, by omega⟩) = Cc m c i l := by
  rw [c_host, dif_neg (by dsimp only; omega), dif_pos (by dsimp only; omega)]
  exact congrArg (Cc m c i) (Fin.ext (by dsimp only; omega))
theorem cx_host (i : Fin 4096) (l : Fin 512) : V m c main_v11 (ix2 i ⟨1024 + l.val, by omega⟩) = Cx m c i l := by
  rw [c_host, dif_neg (by dsimp only; omega), dif_neg (by dsimp only; omega)]
  exact congrArg (Cx m c i) (Fin.ext (by dsimp only; omega))

theorem g_host (i : Fin 4096) (p : Fin 2048) : V m c main_v15 (ix2 i p)
    = (if h : p.val < 1024 then Ga m c i ⟨p.val, h⟩ else Gc m c i ⟨p.val - 1024, by omega⟩ : EReal) := by
  entry_read
  pointwise
theorem ga_host (i : Fin 4096) (j : Fin 1024) : V m c main_v15 (ix2 i ⟨j.val, by omega⟩) = Ga m c i j := by
  rw [g_host, dif_pos j.isLt]
theorem gc_host (i : Fin 4096) (j : Fin 1024) : V m c main_v15 (ix2 i ⟨1024 + j.val, by omega⟩) = Gc m c i j := by
  rw [g_host, dif_neg (by dsimp only; omega)]
  exact congrArg (Gc m c i) (Fin.ext (by dsimp only; omega))

theorem w_host (p j : Fin 1024) : V m c main_v3 (ix2 p j)
    = (if h : p.val < 512 then Wa m c ⟨p.val, h⟩ j else Wc m c ⟨p.val - 512, by omega⟩ j : EReal) := by
  entry_read
  pointwise
theorem wa_host (l : Fin 512) (j : Fin 1024) : V m c main_v3 (ix2 ⟨l.val, by omega⟩ j) = Wa m c l j := by
  rw [w_host, dif_pos l.isLt]
theorem wc_host (l : Fin 512) (j : Fin 1024) : V m c main_v3 (ix2 ⟨512 + l.val, by omega⟩ j) = Wc m c l j := by
  rw [w_host, dif_neg (by dsimp only; omega)]
  exact congrArg (Wc m c · j) (Fin.ext (by dsimp only; omega))

variable (t : Fin cfg0.N)

theorem b0 (r : Fin 512) (j : Fin 1024) : iblk m c 0 t (ix2 r j) = X m c (row t r) j := by
  have e : (win0_0.blk t).view.emb (ix2 r j) = ix2 (row t r) j := by blk_ext [idx t, row]
  show V m c main_v4 ((win0_0.blk t).view.emb (ix2 r j)) = _
  rw [e]
  entry_read
  pointwise
theorem b1 (r : Fin 512) (l : Fin 512) : iblk m c 1 t (ix2 r l) = At m c (row t r) l := by
  have e : (win0_1.blk t).view.emb (ix2 r l) = ix2 (row t r) l := by blk_ext [idx t, row]
  show V m c main_v6 ((win0_1.blk t).view.emb (ix2 r l)) = _
  rw [e]
  entry_read
  pointwise
/-- An entry of the block of the parts of the convolution, of the gates, of the branches' weights. -/
theorem e2 (r : Fin 512) (p : Fin 1536) : iblk m c 2 t (ix2 r p) = V m c main_v11 (ix2 (row t r) p) := by
  have e : (win0_2.blk t).view.emb (ix2 r p) = ix2 (row t r) p := by blk_ext [idx t, row]
  show V m c main_v11 ((win0_2.blk t).view.emb (ix2 r p)) = _
  rw [e]
theorem e3 (r : Fin 512) (p : Fin 2048) : iblk m c 3 t (ix2 r p) = V m c main_v15 (ix2 (row t r) p) := by
  have e : (win0_3.blk t).view.emb (ix2 r p) = ix2 (row t r) p := by blk_ext [idx t, row]
  show V m c main_v15 ((win0_3.blk t).view.emb (ix2 r p)) = _
  rw [e]
theorem e5 (p j : Fin 1024) : iblk m c 5 t (ix2 p j) = V m c main_v3 (ix2 p j) := by
  have e : (win0_5.blk t).view.emb (ix2 p j) = ix2 p j := by blk_ext [idx t]
  show V m c main_v3 ((win0_5.blk t).view.emb (ix2 p j)) = _
  rw [e]

theorem b4 (k : Fin 3) (l : Fin 512) : iblk m c 4 t (ix2 k l) = Cw m c k l := by
  have e : (win0_4.blk t).view.emb (ix2 k l) = ix2 k l := by blk_ext [idx t]
  show V m c main_v16 ((win0_4.blk t).view.emb (ix2 k l)) = _
  rw [e]
  entry_read
  pointwise
theorem b6 (k j : Fin 1024) : iblk m c 6 t (ix2 k j) = Wo m c k j := by
  have e : (win0_6.blk t).view.emb (ix2 k j) = ix2 k j := by blk_ext [idx t]
  show V m c main_v18 ((win0_6.blk t).view.emb (ix2 k j)) = _
  rw [e]
  entry_read
  pointwise
theorem b7 (j : Fin 1024) : iblk m c 7 t (ix2 0 j) = G m c j := by
  have e : (win0_7.blk t).view.emb (ix2 0 j) = ix2 0 j := by blk_ext [idx t]
  show V m c main_arg11 ((win0_7.blk t).view.emb (ix2 0 j)) = _
  rw [e, V_main_arg11]

/-- The upper and the lower half of the branches' weights, as the kernel loads them. -/
abbrev wa : Vec Ideal S512x1024 .bf16 := View.ld (iblk m c 5 t) (Rect.unit ![0, 0] ![512, 1024] inb_S1024x1024_S512x1024_0_0)
abbrev wc : Vec Ideal S512x1024 .bf16 := View.ld (iblk m c 5 t) (Rect.unit ![512, 0] ![512, 1024] inb_S1024x1024_S512x1024_512_0)

theorem wa_apply (l : Fin 512) (j : Fin 1024) : wa m c t (ix2 l j) = Wa m c l j := by
  rw [← wa_host, ← e5 m c t]
  refine congrArg (iblk m c 5 t) (funext fun k => Fin.ext ((Rect.idx_unit_val _ _ _ _ k).trans ?_))
  fin_cases k
  all_goals simp [ix2]
theorem wc_apply (l : Fin 512) (j : Fin 1024) : wc m c t (ix2 l j) = Wc m c l j := by
  rw [← wc_host, ← e5 m c t]
  refine congrArg (iblk m c 5 t) (funext fun k => Fin.ext ((Rect.idx_unit_val _ _ _ _ k).trans ?_))
  fin_cases k
  all_goals simp [ix2]

/-! What the kernel makes of a block. -/

section Pay

variable (v : Vec Ideal S512x1536 .bf16) (d : Vec Ideal S8x512 .f32) (w : Vec Ideal S3x512 .f32)

/-- The product the convolution reads. -/
theorem z_apply (r : Fin 512) (l : Fin 512) : k0_pay7 (iblk m c 2 t) (ix2 r l) = Z m c (row t r) l := by
  have h := e2 m c t r
  revert h
  generalize iblk m c 2 t = a
  intro h
  pointwise [k0_pay7, k0_pay5]
  rw [h, h, cc_host, cx_host]
theorem cb_apply (r : Fin 512) (l : Fin 512) : k0_pay6 (iblk m c 2 t) (ix2 r l) = Cb m c (row t r) l := by
  have h := e2 m c t r
  revert h
  generalize iblk m c 2 t = a
  intro h
  pointwise [k0_pay6, k0_pay5]
  rw [h, cb_host]

/-- The convolution of a block, the eight rows before it being `d` and the taps `w`. -/
theorem taps_apply {S : Fin 4096 → Fin 512 → EReal} {W : Fin 3 → Fin 512 → EReal} (hp : ∀ r l, k0_pay7 v (ix2 r l) = S (row t r) l)
    (hd : ∀ (q : Fin 8) l, d (ix2 q l) = earlier 8 S (row t ⟨q.val, by omega⟩) l) (hw : ∀ k l, w (ix2 k l) = W k l)
    (r : Fin 512) (l : Fin 512) : k0_pay8 v d w (ix2 r l) = taps W S (row t r) l := by
  have ht := t.isLt
  have hN := N8
  have hr := r.isLt
  have e : ∀ x y z x' y' z' : EReal, x = x' → y = y' → z = z' → x + y + z = z' + y' + x' := by
    intro x y z x' y' z' h1 h2 h3; rw [h1, h2, h3]; abel
  unfold taps
  pointwise [k0_pay8]
  simp only [hp, hd, hw]
  split
  all_goals refine e _ _ _ _ _ _ (congrArg _ ?_) (congrArg _ ?_) (congrArg _ ?_)
  all_goals try unfold earlier
  all_goals repeat' split
  all_goals first
    | rfl
    | (exfalso; simp only [row] at *; omega)
    | (refine congrArg (S · l) (Fin.ext ?_); simp only [row]; omega)

variable (i : Fin 512 → Fin 4096)

/-- The gated convolution, the two branches. -/
theorem pay11_apply (b k : FVec Ideal S512x512 .f32) {B K : Fin 4096 → Fin 512 → EReal} (hb : ∀ r l, b (ix2 r l) = B (i r) l)
    (hk : ∀ r l, k (ix2 r l) = K (i r) l) (r l : Fin 512) : k0_pay11 b k (ix2 r l) = B (i r) l * K (i r) l := by
  pointwise [k0_pay11]
  rw [hb, hk]

theorem pay12_apply (a : Vec Ideal S512x512 .bf16) (w : Vec Ideal S512x1024 .bf16) {A : Fin 4096 → Fin 512 → EReal}
    {W : Fin 512 → Fin 1024 → EReal} (ha : ∀ r l, a (ix2 r l) = A (i r) l) (hw : ∀ l j, w (ix2 l j) = W l j) (r : Fin 512) (j : Fin 1024) :
    k0_pay12 a w (ix2 r j) = prod A W (i r) j := by
  pointwise [k0_pay12]
  simp only [ha, hw]
  rfl

theorem pay13_apply (b k : FVec Ideal S512x512 .f32) (w : Vec Ideal S512x1024 .bf16) {A : Fin 4096 → Fin 512 → EReal}
    {W : Fin 512 → Fin 1024 → EReal} (ha : ∀ r l, k0_pay11 b k (ix2 r l) = A (i r) l) (hw : ∀ l j, w (ix2 l j) = W l j) (r : Fin 512)
    (j : Fin 1024) : k0_pay13 b k w (ix2 r j) = prod A W (i r) j := by
  pointwise [k0_pay13]
  simp only [ha, hw]
  rfl

/-- The two gated branches. -/
theorem pay17_apply (a : Vec Ideal S512x512 .bf16) (w : Vec Ideal S512x1024 .bf16) (g : Vec Ideal S512x2048 .bf16)
    {A G : Fin 4096 → Fin 1024 → EReal} (ha : ∀ r j, k0_pay12 a w (ix2 r j) = A (i r) j)
    (hg : ∀ r (j : Fin 1024), g (ix2 r ⟨j.val, by omega⟩) = G (i r) j) (r : Fin 512) (j : Fin 1024) :
    k0_pay17 a w g (ix2 r j) = sg (G (i r) j) * A (i r) j := by
  pointwise [k0_pay17, k0_pay16]
  rw [ha, hg]
  rfl

theorem pay1_apply (b a : FVec Ideal S512x1024 .f32) (g : Vec Ideal S512x2048 .bf16) {A B G : Fin 4096 → Fin 1024 → EReal}
    (hb : ∀ r j, b (ix2 r j) = B (i r) j) (ha : ∀ r j, a (ix2 r j) = A (i r) j)
    (hg : ∀ r (j : Fin 1024), g (ix2 r ⟨1024 + j.val, by omega⟩) = G (i r) j) (r : Fin 512) (j : Fin 1024) :
    k0_pay1 b a (k0_pay18 g) (FloatOps.ofBits FTy.f32 1056964608#32) (ix2 r j) = A (i r) j + sg (G (i r) j) * B (i r) j := by
  pointwise [k0_pay1, k0_pay18, k0_pay16]
  rw [ha, hb, hg]
  rfl

section Out

variable (b a k : FVec Ideal S512x1024 .f32) (q : Ideal .f32) (x : Vec Ideal S512x1024 .f32) (w : Vec Ideal S1024x1024 .bf16)
  (g : Vec Ideal S1x1024 .f32)

/-- The residual stream after the merge, and its norm. -/
theorem pay2_apply {M X : Fin 4096 → Fin 1024 → EReal} {W : Fin 1024 → Fin 1024 → EReal} (hM : ∀ r j, k0_pay1 b a k q (ix2 r j) = M (i r) j)
    (hx : ∀ r j, x (ix2 r j) = X (i r) j) (hw : ∀ k j, w (ix2 k j) = W k j) (r : Fin 512) (j : Fin 1024) :
    k0_pay2 b a k q x w (ix2 r j) = MixFwdSpec.out X M W (i r) j := by
  pointwise [k0_pay2]
  simp only [hM, hx, hw]
  rfl

theorem pay3_apply {H : Fin 4096 → Fin 1024 → EReal} {G : Fin 1024 → EReal} (hH : ∀ r j, k0_pay2 b a k q x w (ix2 r j) = H (i r) j)
    (hg : ∀ j, g (ix2 0 j) = G j) (r : Fin 512) (j : Fin 1024) : k0_pay3 b a k q x w g (ix2 r j) = normed H G (i r) j := by
  pointwise [k0_pay3]
  simp only [hH, hg]
  rfl

end Out

end Pay

end Cert.MixFwdIdeal.Elem
-- ==== Proof.MixFwdKernel.lean ====
/-
  The arrays the merge's forward kernel leaves, element by element.
-/
module

public import proofs.«01_k».proof.Proof.Gen.MixFwdIdeal.Frame
public import proofs.«01_k».proof.Proof.MixFwdBlocks
public import Idealize.ShloMosaic.Lib.Pipeline.ReadBack

@[expose] public section

set_option maxRecDepth 16384

noncomputable section

namespace Cert.MixFwdIdeal.Elem

open Cert.MixFwdIdeal Cert.MixFwdIdeal.Gen Cert.FfnSpec Cert.MixFwdSpec
open Idealize.ShloMosaic Idealize.ShloMosaic.TcCoe Idealize.SL.Sem

variable (m : (ℓ : Loc nD τ sig) → Buf (Elt Ideal) ℓ) (c : Dev nD) (t : Fin cfg0.N)

/-- The point before, where there is one. -/
theorem prev_lt : t.val - 1 < cfg0.N := Nat.lt_of_le_of_lt (Nat.sub_le _ _) t.isLt

/-- The rows a point takes over from the point before: zero at the first. -/
def carry : Vec Ideal S8x512 .f32 := if t.val % 8 = 0 then k0_pay4 (F := Ideal) else (outsAt0 m c (t.val - 1) (prev_lt t)).2.2.2.2.2.2

/-- The block's convolution, the branch it feeds, the gated other branch and the second gate. -/
abbrev kB : FVec Ideal S512x512 .f32 := k0_pay8 (iblk m c 2 t) (carry m c t) (iblk m c 4 t)
abbrev cB : FVec Ideal S512x512 .f32 := k0_pay6 (iblk m c 2 t)
abbrev vB : FVec Ideal S512x1024 .f32 := k0_pay13 (cB m c t) (kB m c t) (wc m c t)
abbrev aB : FVec Ideal S512x1024 .f32 := k0_pay17 (iblk m c 1 t) (wa m c t) (iblk m c 3 t)
abbrev gB : FVec Ideal S512x1024 .f32 := k0_pay18 (iblk m c 3 t)
abbrev half : Ideal .f32 := FloatOps.ofBits FTy.f32 1056964608#32

theorem out_conv : (outsAt0 m c t.val t.isLt).1 = k0_pay11 (cB m c t) (kB m c t) := by
  by_cases h0 : t.val % 8 = 0
  · rw [outsAt0_A m c t h0]; frame_out; simp only [vB, aB, gB, cB, kB, wa, wc, half, carry, if_pos h0]
  · rw [outsAt0_B m c t h0]; frame_out; simp only [vB, aB, gB, cB, kB, wa, wc, half, carry, if_neg h0, read_unread_whole]

theorem out_a : (outsAt0 m c t.val t.isLt).2.1 = k0_pay14 (iblk m c 1 t) (wa m c t) := by
  by_cases h0 : t.val % 8 = 0
  · rw [outsAt0_A m c t h0]; frame_out; rfl
  · rw [outsAt0_B m c t h0]; frame_out; rfl

theorem out_cv : (outsAt0 m c t.val t.isLt).2.2.1 = k0_pay15 (cB m c t) (kB m c t) (wc m c t) := by
  by_cases h0 : t.val % 8 = 0
  · rw [outsAt0_A m c t h0]; frame_out; simp only [vB, aB, gB, cB, kB, wa, wc, half, carry, if_pos h0]; rfl
  · rw [outsAt0_B m c t h0]; frame_out; simp only [vB, aB, gB, cB, kB, wa, wc, half, carry, if_neg h0, read_unread_whole]; rfl

theorem out_merged : (outsAt0 m c t.val t.isLt).2.2.2.1 = k0_pay1 (vB m c t) (aB m c t) (gB m c t) half := by
  by_cases h0 : t.val % 8 = 0
  · rw [outsAt0_A m c t h0]; frame_out; simp only [vB, aB, gB, cB, kB, wa, wc, half, carry, if_pos h0]; rfl
  · rw [outsAt0_B m c t h0]; frame_out; simp only [vB, aB, gB, cB, kB, wa, wc, half, carry, if_neg h0, read_unread_whole]; rfl

theorem out_h : (outsAt0 m c t.val t.isLt).2.2.2.2.1 = k0_pay2 (vB m c t) (aB m c t) (gB m c t) half (iblk m c 0 t) (iblk m c 6 t) := by
  by_cases h0 : t.val % 8 = 0
  · rw [outsAt0_A m c t h0]; frame_out; simp only [vB, aB, gB, cB, kB, wa, wc, half, carry, if_pos h0]; rfl
  · rw [outsAt0_B m c t h0]; frame_out; simp only [vB, aB, gB, cB, kB, wa, wc, half, carry, if_neg h0, read_unread_whole]; rfl

theorem out_hn : (outsAt0 m c t.val t.isLt).2.2.2.2.2.1
    = k0_pay3 (vB m c t) (aB m c t) (gB m c t) half (iblk m c 0 t) (iblk m c 6 t) (iblk m c 7 t) := by
  by_cases h0 : t.val % 8 = 0
  · rw [outsAt0_A m c t h0]; frame_out; simp only [vB, aB, gB, cB, kB, wa, wc, half, carry, if_pos h0]; rfl
  · rw [outsAt0_B m c t h0]; frame_out; simp only [vB, aB, gB, cB, kB, wa, wc, half, carry, if_neg h0, read_unread_whole]; rfl

theorem out_carry : (outsAt0 m c t.val t.isLt).2.2.2.2.2.2 = k0_pay10 (k0_pay9 (iblk m c 2 t)) := by
  by_cases h0 : t.val % 8 = 0
  · rw [outsAt0_A m c t h0]; frame_out
  · rw [outsAt0_B m c t h0]; frame_out

/-- The rows taken over are the last of the block before. -/
theorem carry_apply (q : Fin 8) (l : Fin 512) : carry m c t (ix2 q l) = earlier 8 (Z m c) (row t ⟨q.val, by omega⟩) l := by
  have ht := t.isLt
  have hN := N8
  unfold carry earlier
  split
  · rw [dif_pos (by simp only [row]; omega)]
    pointwise [k0_pay4]
  · rw [dif_neg (by simp only [row]; omega), show (outsAt0 m c (t.val - 1) (prev_lt t)).2.2.2.2.2.2
      = k0_pay10 (k0_pay9 (iblk m c 2 ⟨t.val - 1, prev_lt t⟩)) from out_carry m c ⟨t.val - 1, prev_lt t⟩]
    pointwise [k0_pay10, k0_pay9]
    refine (z_apply m c _ _ l).trans (congrArg (Z m c · l) (Fin.ext ?_))
    simp only [row]; omega

theorem conv_apply (r l : Fin 512) : k0_pay11 (cB m c t) (kB m c t) (ix2 r l) = C m c (row t r) l :=
  pay11_apply (row t) _ _ (cb_apply m c t) (taps_apply t _ _ _ (z_apply m c t) (carry_apply m c t) (b4 m c t)) r l

theorem a_apply (r : Fin 512) (j : Fin 1024) : k0_pay12 (iblk m c 1 t) (wa m c t) (ix2 r j) = A m c (row t r) j :=
  pay12_apply (row t) _ _ (b1 m c t) (wa_apply m c t) r j

theorem v_apply (r : Fin 512) (j : Fin 1024) : vB m c t (ix2 r j) = B m c (row t r) j :=
  pay13_apply (row t) _ _ _ (conv_apply m c t) (wc_apply m c t) r j

theorem merged_apply (r : Fin 512) (j : Fin 1024) : k0_pay1 (vB m c t) (aB m c t) (gB m c t) half (ix2 r j) = M m c (row t r) j :=
  pay1_apply (row t) (vB m c t) (aB m c t) (iblk m c 3 t) (A := fun i j => sg (Ga m c i j) * A m c i j) (G := Gc m c) (v_apply m c t)
    (pay17_apply (row t) _ _ _ (a_apply m c t) fun r j => by rw [e3, ga_host]) (fun r j => by rw [e3, gc_host]) r j

theorem h_apply (r : Fin 512) (j : Fin 1024) :
    k0_pay2 (vB m c t) (aB m c t) (gB m c t) half (iblk m c 0 t) (iblk m c 6 t) (ix2 r j) = H m c (row t r) j :=
  pay2_apply (row t) _ _ _ _ _ _ (merged_apply m c t) (b0 m c t) (b6 m c t) r j

theorem out_conv_apply (r l : Fin 512) : (outsAt0 m c t.val t.isLt).1 (ix2 r l) = C m c (row t r) l := by
  rw [out_conv]; exact conv_apply m c t r l

theorem out_a_apply (r : Fin 512) (j : Fin 1024) : (outsAt0 m c t.val t.isLt).2.1 (ix2 r j) = A m c (row t r) j := by
  rw [out_a, ← a_apply m c t]
  pointwise [k0_pay14]

theorem out_cv_apply (r : Fin 512) (j : Fin 1024) : (outsAt0 m c t.val t.isLt).2.2.1 (ix2 r j) = B m c (row t r) j := by
  rw [out_cv, ← v_apply m c t]
  pointwise [k0_pay15]

theorem out_merged_apply (r : Fin 512) (j : Fin 1024) : (outsAt0 m c t.val t.isLt).2.2.2.1 (ix2 r j) = M m c (row t r) j := by
  rw [out_merged]; exact merged_apply m c t r j

theorem out_h_apply (r : Fin 512) (j : Fin 1024) : (outsAt0 m c t.val t.isLt).2.2.2.2.1 (ix2 r j) = H m c (row t r) j := by
  rw [out_h]; exact h_apply m c t r j

theorem out_hn_apply (r : Fin 512) (j : Fin 1024) : (outsAt0 m c t.val t.isLt).2.2.2.2.2.1 (ix2 r j)
    = normed (H m c) (G m c) (row t r) j := by
  rw [out_hn]; exact pay3_apply (row t) _ _ _ _ _ _ _ (h_apply m c t) (b7 m c t) r j

/-! The arrays after the run: the gated convolution, the two branches, their merge, the residual stream after it and its norm. -/

theorem arr_conv : (dats m 0 c).arrAt 8 cfg0.N = fun i => C m c (i 0) (i 1) := by
  refine (dats m 0 c).arrAt_eq_of_covers 8 _ (by decide +kernel) fun t hf y => ?_
  blk_simp
  rw [after0_8]
  idx_vars y
  refine (out_conv_apply m c t y0 y1).trans ?_
  have e : ((View.whole main_v19_0).slice (win0_8.rect t)).emb (ix2 y0 y1) = ix2 (row t y0) y1 := by blk_ext [idx t, row]
  generalize C m c = q
  rw [e]; rfl

theorem arr_a : (dats m 0 c).arrAt 9 cfg0.N = fun i => A m c (i 0) (i 1) := by
  refine (dats m 0 c).arrAt_eq_of_covers 9 _ (by decide +kernel) fun t hf y => ?_
  blk_simp
  rw [after0_9]
  idx_vars y
  refine (out_a_apply m c t y0 y1).trans ?_
  have e : ((View.whole main_v19_1).slice (win0_9.rect t)).emb (ix2 y0 y1) = ix2 (row t y0) y1 := by blk_ext [idx t, row]
  generalize A m c = q
  rw [e]; rfl

theorem arr_cv : (dats m 0 c).arrAt 10 cfg0.N = fun i => B m c (i 0) (i 1) := by
  refine (dats m 0 c).arrAt_eq_of_covers 10 _ (by decide +kernel) fun t hf y => ?_
  blk_simp
  rw [after0_10]
  idx_vars y
  refine (out_cv_apply m c t y0 y1).trans ?_
  have e : ((View.whole main_v19_2).slice (win0_10.rect t)).emb (ix2 y0 y1) = ix2 (row t y0) y1 := by blk_ext [idx t, row]
  generalize B m c = q
  rw [e]; rfl

theorem arr_merged : (dats m 0 c).arrAt 11 cfg0.N = fun i => M m c (i 0) (i 1) := by
  refine (dats m 0 c).arrAt_eq_of_covers 11 _ (by decide +kernel) fun t hf y => ?_
  blk_simp
  rw [after0_11]
  idx_vars y
  refine (out_merged_apply m c t y0 y1).trans ?_
  have e : ((View.whole main_v19_3).slice (win0_11.rect t)).emb (ix2 y0 y1) = ix2 (row t y0) y1 := by blk_ext [idx t, row]
  generalize M m c = q
  rw [e]; rfl

theorem arr_h : (dats m 0 c).arrAt 12 cfg0.N = fun i => H m c (i 0) (i 1) := by
  refine (dats m 0 c).arrAt_eq_of_covers 12 _ (by decide +kernel) fun t hf y => ?_
  blk_simp
  rw [after0_12]
  idx_vars y
  refine (out_h_apply m c t y0 y1).trans ?_
  have e : ((View.whole main_v19_4).slice (win0_12.rect t)).emb (ix2 y0 y1) = ix2 (row t y0) y1 := by blk_ext [idx t, row]
  generalize H m c = q
  rw [e]; rfl

theorem arr_hn : (dats m 0 c).arrAt 13 cfg0.N = fun i => normed (H m c) (G m c) (i 0) (i 1) := by
  refine (dats m 0 c).arrAt_eq_of_covers 13 _ (by decide +kernel) fun t hf y => ?_
  blk_simp
  rw [after0_13]
  idx_vars y
  refine (out_hn_apply m c t y0 y1).trans ?_
  have e : ((View.whole main_v19_5).slice (win0_13.rect t)).emb (ix2 y0 y1) = ix2 (row t y0) y1 := by blk_ext [idx t, row]
  generalize normed (H m c) (G m c) = q
  rw [e]; rfl

end Cert.MixFwdIdeal.Elem
-- ==== Proof.MixFwdRef.lean ====
/-
  The reference of the merge, read element by element.
-/
module

public import proofs.«01_k».proof.Proof.Gen.MixFwdRefIdeal.Read
public import proofs.«01_k».proof.Proof.MixFwdSpec
public import Idealize.ShloMosaic.Lib.Pointwise
public import Idealize.ShloMosaic.Lib.Tactic.CleanTypes
public import Idealize.ShloMosaic.Lib.Claim
public import Idealize.ShloMosaic.Lib.Tactic

@[expose] public section

set_option maxRecDepth 16384

noncomputable section

namespace Cert.MixFwdRefIdeal.Elem

open Cert.MixFwdRefIdeal Cert.MixFwdRefIdeal.Value Cert.FfnSpec Cert.MixFwdSpec
open Idealize.ShloMosaic Idealize.ShloMosaic.TcCoe Idealize.SL.Sem

variable (m : (ℓ : Loc nD τ sig) → Buf (Elt Ideal) ℓ) (c : Dev nD)

/-- The arguments, in order. -/
abbrev xs : Vec Ideal S1x4096x1024 .f32 := m ((c.tc : Thread nD τ).loc main_arg0)
abbrev ats : Vec Ideal S1x4096x512 .f32 := m ((c.tc : Thread nD τ).loc main_arg1)
abbrev cbs : Vec Ideal S1x4096x512 .f32 := m ((c.tc : Thread nD τ).loc main_arg2)
abbrev ccs : Vec Ideal S1x4096x512 .f32 := m ((c.tc : Thread nD τ).loc main_arg3)
abbrev cxs : Vec Ideal S1x4096x512 .f32 := m ((c.tc : Thread nD τ).loc main_arg4)
abbrev gas : Vec Ideal S1x4096x1024 .f32 := m ((c.tc : Thread nD τ).loc main_arg5)
abbrev gcs : Vec Ideal S1x4096x1024 .f32 := m ((c.tc : Thread nD τ).loc main_arg6)
abbrev cws : Vec Ideal S1x3x512 .f32 := m ((c.tc : Thread nD τ).loc main_arg7)
abbrev was : Vec Ideal S1x512x1024 .f32 := m ((c.tc : Thread nD τ).loc main_arg8)
abbrev wcs : Vec Ideal S1x512x1024 .f32 := m ((c.tc : Thread nD τ).loc main_arg9)
abbrev wos : Vec Ideal S1x1024x1024 .f32 := m ((c.tc : Thread nD τ).loc main_arg10)
abbrev gs : Vec Ideal S1x1024 .f32 := m ((c.tc : Thread nD τ).loc main_arg11)

/-- The gated convolution, the two branches, their merge and the residual stream after it. -/
abbrev C : Fin 4096 → Fin 512 → EReal := conv (fun i l => cbs m c (ix3 0 i l)) (fun i l => ccs m c (ix3 0 i l)) (fun i l => cxs m c (ix3 0 i l))
  (fun k l => cws m c (ix3 0 k l))
abbrev A : Fin 4096 → Fin 1024 → EReal := prod (fun i l => ats m c (ix3 0 i l)) (fun l j => was m c (ix3 0 l j))
abbrev B : Fin 4096 → Fin 1024 → EReal := prod (C m c) (fun l j => wcs m c (ix3 0 l j))
abbrev M : Fin 4096 → Fin 1024 → EReal := merged sg' (fun i j => gas m c (ix3 0 i j)) (fun i j => gcs m c (ix3 0 i j)) (A m c) (B m c)
abbrev H : Fin 4096 → Fin 1024 → EReal := MixFwdSpec.out (fun i j => xs m c (ix3 0 i j)) (M m c) (fun k j => wos m c (ix3 0 k j))

/-- The reference's terms for them. -/
abbrev cT : FVec Ideal S4096x512 .f32 := Read.val_main_v30 (cbs m c) (ccs m c) (cxs m c) (cws m c)
abbrev aT : FVec Ideal S4096x1024 .f32 := Read.val_main_v33 (ats m c) (was m c)
abbrev bT : FVec Ideal S4096x1024 .f32 := Read.val_main_v35 (cbs m c) (ccs m c) (cxs m c) (cws m c) (wcs m c)
abbrev mT : FVec Ideal S4096x1024 .f32 :=
  Read.val_main_v52 (ats m c) (cbs m c) (ccs m c) (cxs m c) (gas m c) (gcs m c) (cws m c) (was m c) (wcs m c)
abbrev hT : FVec Ideal S4096x1024 .f32 :=
  Read.val_main_v56 (xs m c) (ats m c) (cbs m c) (ccs m c) (cxs m c) (gas m c) (gcs m c) (cws m c) (was m c) (wcs m c) (wos m c)

theorem z_apply (i : Fin 4096) (l : Fin 512) : Read.val_main_v3 (ccs m c) (cxs m c) (ix2 i l) = ccs m c (ix3 0 i l) * cxs m c (ix3 0 i l) := by
  generalize ccs m c = a, cxs m c = b
  pointwise [Read.val_main_v3, Read.val_main_v1, Read.val_main_v2]

theorem conv_apply (i : Fin 4096) (l : Fin 512) : cT m c (ix2 i l) = C m c i l := by
  have hz := z_apply m c
  revert hz
  unfold cT C Read.val_main_v30 Read.val_main_v29 Read.val_main_v28 Read.val_main_v23 Read.val_main_v22 Read.val_main_v13
    Read.val_main_v19 Read.val_main_v18 Read.val_main_v10 Read.val_main_v9 conv taps earlier
  generalize Read.val_main_v3 (ccs m c) (cxs m c) = z, cbs m c = b, cws m c = w
  intro hz
  pointwise [Read.val_main_v4, Read.val_main_v5, Read.val_main_v6, Read.val_main_v7, Read.val_main_v8, Read.val_main_v11, Read.val_main_v12,
    Read.val_main_v14, Read.val_main_v15, Read.val_main_v17, Read.val_main_v20, Read.val_main_v21, Read.val_main_v24, Read.val_main_v25,
    Read.val_main_v26, Read.val_main_v27, Read.val_main_v0, Read.val_main_cst, Read.val_main_cst_0]
  simp only [hz]

theorem a_apply (i : Fin 4096) (j : Fin 1024) : aT m c (ix2 i j) = A m c i j := by
  unfold aT A
  generalize ats m c = a, was m c = w
  pointwise [Read.val_main_v31, Read.val_main_v32, Read.val_main_v33]
  rfl

theorem b_apply (i : Fin 4096) (j : Fin 1024) : bT m c (ix2 i j) = B m c i j := by
  have h := conv_apply m c
  revert h
  unfold bT B Read.val_main_v35 cT
  generalize Read.val_main_v30 (cbs m c) (ccs m c) (cxs m c) (cws m c) = t, C m c = u, wcs m c = w
  intro h
  pointwise [Read.val_main_v34]
  simp only [h]
  rfl

theorem m_apply (i : Fin 4096) (j : Fin 1024) : mT m c (ix2 i j) = M m c i j := by
  have ha := a_apply m c
  have hb := b_apply m c
  revert ha hb
  unfold mT M Read.val_main_v52 Read.val_main_v51 Read.val_main_v43 aT bT
  generalize Read.val_main_v33 (ats m c) (was m c) = t, Read.val_main_v35 (cbs m c) (ccs m c) (cxs m c) (cws m c) (wcs m c) = u, A m c = p,
    B m c = q, gas m c = g, gcs m c = k
  intro ha hb
  pointwise [Read.val_main_v36, Read.val_main_v37, Read.val_main_v38, Read.val_main_v39, Read.val_main_v40, Read.val_main_v41, Read.val_main_v42,
    Read.val_main_v44, Read.val_main_v45, Read.val_main_v46, Read.val_main_v47, Read.val_main_v48, Read.val_main_v49, Read.val_main_v50,
    Read.val_main_cst_1, Read.val_main_cst_2, Read.val_main_cst_3, Read.val_main_cst_4]
  simp only [ha, hb]
  rfl

theorem h_apply (i : Fin 4096) (j : Fin 1024) : hT m c (ix2 i j) = H m c i j := by
  have h := m_apply m c
  revert h
  unfold hT H Read.val_main_v56 Read.val_main_v55 mT
  generalize Read.val_main_v52 (ats m c) (cbs m c) (ccs m c) (cxs m c) (gas m c) (gcs m c) (cws m c) (was m c) (wcs m c) = t, M m c = p,
    xs m c = x, wos m c = w
  intro h
  pointwise [Read.val_main_v53, Read.val_main_v54]
  simp only [h]
  rfl

theorem n_apply (i : Fin 4096) (j : Fin 1024) : res_main_v75 m c (ix2 i j) = normed (H m c) (fun j => gs m c (ix2 0 j)) i j := by
  have h := h_apply m c
  revert h
  rw [Read.val_main_v75_eq]
  unfold hT Read.val_main_v75 Read.val_main_v74 Read.val_main_v71 Read.val_main_v70 Read.val_main_v69 Read.val_main_v68 Read.val_main_v66
    Read.val_main_v64 Read.val_main_v63 Read.val_main_v62
  generalize Read.val_main_v56 (xs m c) (ats m c) (cbs m c) (ccs m c) (cxs m c) (gas m c) (gcs m c) (cws m c) (was m c) (wcs m c) (wos m c) = t,
    H m c = p
  intro h
  pointwise [Read.val_main_v61, Read.val_main_v65, Read.val_main_v67, Read.val_main_v72, Read.val_main_v73,
    Read.val_main_cst_5, Read.val_main_cst_6, Read.val_main_cst_7]
  simp only [h]
  rfl

end Cert.MixFwdRefIdeal.Elem
-- ==== Proof.MixFwdAlg.lean ====
/-
  The forward kernel of the merge computes the forward lines: from memories that agree on the arguments, both programs leave the same
  convolution, branches, merge, residual stream and norm.
-/
module

public import proofs.«01_k».proof.Defs
public import proofs.«01_k».proof.Proof.Gen.MixFwdIdeal.Value
public import proofs.«01_k».proof.Proof.MixFwdKernel
public import proofs.«01_k».proof.Proof.MixFwdRef

@[expose] public section

set_option maxRecDepth 16384

noncomputable section

namespace Cert.MixFwdAlg

open Idealize.ShloMosaic Idealize.ShloMosaic.TcCoe Idealize.SL.Sem Cert.MixFwdIdeal

set_option maxHeartbeats 1000000 in
/-- The value claim: the kernel and the forward lines leave the same six arrays. -/
theorem algebraic : algebraic_MixFwdIdeal_MixFwdRefIdeal := by
  intro m g m' g' _ ha
  refine ⟨fun c => (Gen.dats m 0 c).arrAt 8 cfg0.N, fun c => (Gen.dats m 0 c).arrAt 9 cfg0.N, fun c => (Gen.dats m 0 c).arrAt 10 cfg0.N,
    fun c => (Gen.dats m 0 c).arrAt 11 cfg0.N, fun c => (Gen.dats m 0 c).arrAt 12 cfg0.N, fun c => (Gen.dats m 0 c).arrAt 13 cfg0.N,
    Value.run_blocks m g, (θ_run _ _ _).mono (fun r h c => ?_) (MixFwdRefIdeal.Value.run m' g')⟩
  obtain ⟨h0, h1, h2, h3, h4, h5, hr⟩ := h c
  obtain ⟨a0, a1, a2, a3, a4, a5, a6, a7, a8, a9, a10, a11⟩ := ha c
  have e0 : (fun i j => MixFwdRefIdeal.Elem.xs m' c (ix3 0 i j)) = Elem.X m c := funext₂ fun i j => congrFun a0 _
  have e1 : (fun i l => MixFwdRefIdeal.Elem.ats m' c (ix3 0 i l)) = Elem.At m c := funext₂ fun i l => congrFun a1 _
  have e2 : (fun i l => MixFwdRefIdeal.Elem.cbs m' c (ix3 0 i l)) = Elem.Cb m c := funext₂ fun i l => congrFun a2 _
  have e3 : (fun i l => MixFwdRefIdeal.Elem.ccs m' c (ix3 0 i l)) = Elem.Cc m c := funext₂ fun i l => congrFun a3 _
  have e4 : (fun i l => MixFwdRefIdeal.Elem.cxs m' c (ix3 0 i l)) = Elem.Cx m c := funext₂ fun i l => congrFun a4 _
  have e5 : (fun i j => MixFwdRefIdeal.Elem.gas m' c (ix3 0 i j)) = Elem.Ga m c := funext₂ fun i j => congrFun a5 _
  have e6 : (fun i j => MixFwdRefIdeal.Elem.gcs m' c (ix3 0 i j)) = Elem.Gc m c := funext₂ fun i j => congrFun a6 _
  have e7 : (fun k l => MixFwdRefIdeal.Elem.cws m' c (ix3 0 k l)) = Elem.Cw m c := funext₂ fun k l => congrFun a7 _
  have e8 : (fun l j => MixFwdRefIdeal.Elem.was m' c (ix3 0 l j)) = Elem.Wa m c := funext₂ fun l j => congrFun a8 _
  have e9 : (fun l j => MixFwdRefIdeal.Elem.wcs m' c (ix3 0 l j)) = Elem.Wc m c := funext₂ fun l j => congrFun a9 _
  have e10 : (fun k j => MixFwdRefIdeal.Elem.wos m' c (ix3 0 k j)) = Elem.Wo m c := funext₂ fun k j => congrFun a10 _
  have e11 : (fun j => MixFwdRefIdeal.Elem.gs m' c (ix2 0 j)) = Elem.G m c := funext fun j => congrFun a11 _
  have eC : MixFwdRefIdeal.Elem.C m' c = Elem.C m c := by rw [MixFwdRefIdeal.Elem.C, e2, e3, e4, e7]
  have eA : MixFwdRefIdeal.Elem.A m' c = Elem.A m c := by rw [MixFwdRefIdeal.Elem.A, e1, e8]
  have eB : MixFwdRefIdeal.Elem.B m' c = Elem.B m c := by rw [MixFwdRefIdeal.Elem.B, eC, e9]
  have eM : MixFwdRefIdeal.Elem.M m' c = Elem.M m c := by rw [MixFwdRefIdeal.Elem.M, eA, eB, e5, e6, ← MixFwdSpec.sg_eq]
  have eH : MixFwdRefIdeal.Elem.H m' c = Elem.H m c := by rw [MixFwdRefIdeal.Elem.H, eM, e0, e10]
  refine ⟨h0.trans ?_, h1.trans ?_, h2.trans ?_, h3.trans ?_, h4.trans ?_, h5.trans ?_, hr⟩
  · refine ((MixFwdRefIdeal.Read.val_main_v57_eq ..).trans ?_).trans (Elem.arr_conv m c).symm
    funext i
    idx_vars i
    exact (MixFwdRefIdeal.Elem.conv_apply m' c i0 i1).trans (congrFun₂ eC i0 i1)
  · refine ((MixFwdRefIdeal.Read.val_main_v58_eq ..).trans ?_).trans (Elem.arr_a m c).symm
    funext i
    idx_vars i
    exact (MixFwdRefIdeal.Elem.a_apply m' c i0 i1).trans (congrFun₂ eA i0 i1)
  · refine ((MixFwdRefIdeal.Read.val_main_v59_eq ..).trans ?_).trans (Elem.arr_cv m c).symm
    funext i
    idx_vars i
    exact (MixFwdRefIdeal.Elem.b_apply m' c i0 i1).trans (congrFun₂ eB i0 i1)
  · refine ((MixFwdRefIdeal.Read.val_main_v60_eq ..).trans ?_).trans (Elem.arr_merged m c).symm
    funext i
    idx_vars i
    exact (MixFwdRefIdeal.Elem.m_apply m' c i0 i1).trans (congrFun₂ eM i0 i1)
  · refine ((MixFwdRefIdeal.Read.val_main_v56_eq ..).trans ?_).trans (Elem.arr_h m c).symm
    funext i
    idx_vars i
    exact (MixFwdRefIdeal.Elem.h_apply m' c i0 i1).trans (congrFun₂ eH i0 i1)
  · refine Eq.trans ?_ (Elem.arr_hn m c).symm
    funext i
    idx_vars i
    refine (MixFwdRefIdeal.Elem.n_apply m' c i0 i1).trans ?_
    rw [eH, e11]

/-- The reference runs, leaves its arguments unchanged and has no semaphore. -/
theorem frame_ref : quiescent_MixFwdRefIdeal := fun m ρ _ =>
  (θ_run MixFwdRefIdeal.defs _ _).mono (fun r h => ⟨fun c => (h c).2.2.2.2.2.2, sem_eq_zero_of_no_sems (by decide) r.2⟩)
    (MixFwdRefIdeal.Value.run (F := Ideal) m ρ)

end Cert.MixFwdAlg
-- ==== Proof.InprojFwdKernel.lean ====
/-
  The first norm and the input projection: the blocks the kernel reads at each grid point, and the arrays it leaves, element by element.
-/
module

public import proofs.«01_k».proof.Proof.Gen.InprojFwdIdeal.Frame
public import proofs.«01_k».proof.Proof.MixFwdSpec
public import Idealize.ShloMosaic.Lib.Pipeline.ValueKit
public import Idealize.ShloMosaic.Lib.Pipeline.ReadBack
public import Idealize.ShloMosaic.Lib.Claim
public import Idealize.ShloMosaic.Lib.Tactic
public import Idealize.ShloMosaic.Lib.Pointwise

@[expose] public section

set_option maxRecDepth 16384

noncomputable section

namespace Cert.InprojFwdIdeal.Elem

open Cert.InprojFwdIdeal Cert.InprojFwdIdeal.Gen Cert.MixFwdSpec
open Idealize.ShloMosaic Idealize.ShloMosaic.TcCoe Idealize.SL.Sem

variable (m : (ℓ : Loc nD τ sig) → Buf (Elt Ideal) ℓ) (c : Dev nD)

/-- The input, the gain, the projection's weight and its bias. -/
abbrev X (i : Fin 4096) (j : Fin 1024) : EReal := m ((c.tc : Thread nD τ).loc main_arg0) (ix3 0 i j)
abbrev G (j : Fin 1024) : EReal := m ((c.tc : Thread nD τ).loc main_arg1) (ix2 0 j)
abbrev W (j : Fin 1024) (p : Fin 4352) : EReal := m ((c.tc : Thread nD τ).loc main_arg2) (ix3 0 j p)
abbrev Bi (p : Fin 4352) : EReal := m ((c.tc : Thread nD τ).loc main_arg3) (ix2 0 p)

/-- The input normalised, and its projection. -/
abbrev Xn : Fin 4096 → Fin 1024 → EReal := normed (X m c) (G m c)
abbrev P (i : Fin 4096) (p : Fin 4352) : EReal := (∑ k, Xn m c i k * W m c k p) + Bi m c p

/-- The three groups of columns of the projection: queries, keys and values; the convolution's parts; the gates. -/
def Q (i : Fin 4096) (p : Fin 768) : EReal := P m c i ⟨p.val, by omega⟩
def C (i : Fin 4096) (p : Fin 1536) : EReal := P m c i ⟨768 + p.val, by omega⟩
def Gt (i : Fin 4096) (p : Fin 2048) : EReal := P m c i ⟨2304 + p.val, by omega⟩

/-- Where each window's block lies. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N8 : cfg0.N = 8 := N_0

/-- The array row of row `r` of the block of point `t`. -/
def row (t : Fin cfg0.N) (r : Fin 512) : Fin 4096 := ⟨t.val * 512 + r.val, by have := lt_of_lt_of_eq t.isLt N8; omega⟩

variable (t : Fin cfg0.N)

theorem b0 (r : Fin 512) (j : Fin 1024) : iblk m c 0 t (ix2 r j) = X m c (row t r) j := by
  have e : (win0_0.blk t).view.emb (ix2 r j) = ix2 (row t r) j := by blk_ext [idx t, row]
  show V m c main_v0 ((win0_0.blk t).view.emb (ix2 r j)) = _
  rw [e]
  entry_read
  pointwise
theorem b1 (j : Fin 1024) : iblk m c 1 t (ix2 0 j) = G m c j := by
  have e : (win0_1.blk t).view.emb (ix2 0 j) = ix2 0 j := by blk_ext [idx t]
  show V m c main_arg1 ((win0_1.blk t).view.emb (ix2 0 j)) = _
  rw [e, V_main_arg1]
theorem b2 (p : Fin 4352) (j : Fin 1024) : iblk m c 2 t (ix2 p j) = W m c j p := by
  have e : (win0_2.blk t).view.emb (ix2 p j) = ix2 p j := by blk_ext [idx t]
  show V m c main_v3 ((win0_2.blk t).view.emb (ix2 p j)) = _
  rw [e]
  entry_read
  pointwise
theorem b3 (p : Fin 4352) : iblk m c 3 t (ix2 0 p) = Bi m c p := by
  have e : (win0_3.blk t).view.emb (ix2 0 p) = ix2 0 p := by blk_ext [idx t]
  show V m c main_arg3 ((win0_3.blk t).view.emb (ix2 0 p)) = _
  rw [e, V_main_arg3]

/-- The block normalised. -/
theorem n_apply (r : Fin 512) (j : Fin 1024) : k0_pay1 (iblk m c 0 t) (iblk m c 1 t) (ix2 r j) = Xn m c (row t r) j := by
  have h0 := b0 m c t
  have h1 := b1 m c t
  revert h0 h1
  generalize iblk m c 0 t = a, iblk m c 1 t = b
  intro h0 h1
  pointwise [k0_pay1]
  simp only [h0, h1]
  rfl

/-- Its projection. -/
theorem p_apply (r : Fin 512) (p : Fin 4352) :
    k0_pay2 (iblk m c 0 t) (iblk m c 1 t) (iblk m c 2 t) (iblk m c 3 t) (ix2 r p) = P m c (row t r) p := by
  have h1 := n_apply m c t
  have h2 := b2 m c t
  have h3 := b3 m c t
  revert h1 h2 h3
  generalize iblk m c 0 t = a, iblk m c 1 t = b, iblk m c 2 t = w, iblk m c 3 t = d
  intro h1 h2 h3
  pointwise [k0_pay2]
  simp only [h1, h2, h3]

theorem out_n : (dats m 0 c).after 4 t = k0_pay1 (iblk m c 0 t) (iblk m c 1 t) := by
  rw [after0_4]; unfold out0_4; frame_out
theorem out_q : (dats m 0 c).after 5 t = k0_pay3 (iblk m c 0 t) (iblk m c 1 t) (iblk m c 2 t) (iblk m c 3 t) := by
  rw [after0_5]; unfold out0_5; frame_out
theorem out_c : (dats m 0 c).after 6 t = k0_pay4 (iblk m c 0 t) (iblk m c 1 t) (iblk m c 2 t) (iblk m c 3 t) := by
  rw [after0_6]; unfold out0_6; frame_out
theorem out_g : (dats m 0 c).after 7 t = k0_pay5 (iblk m c 0 t) (iblk m c 1 t) (iblk m c 2 t) (iblk m c 3 t) := by
  rw [after0_7]; unfold out0_7; frame_out

theorem q_apply (r : Fin 512) (p : Fin 768) : k0_pay3 (iblk m c 0 t) (iblk m c 1 t) (iblk m c 2 t) (iblk m c 3 t) (ix2 r p)
    = Q m c (row t r) p := by
  rw [Q, ← p_apply]
  pointwise [k0_pay3]
theorem c_apply (r : Fin 512) (p : Fin 1536) : k0_pay4 (iblk m c 0 t) (iblk m c 1 t) (iblk m c 2 t) (iblk m c 3 t) (ix2 r p)
    = C m c (row t r) p := by
  rw [C, ← p_apply]
  pointwise [k0_pay4]
theorem g_apply (r : Fin 512) (p : Fin 2048) : k0_pay5 (iblk m c 0 t) (iblk m c 1 t) (iblk m c 2 t) (iblk m c 3 t) (ix2 r p)
    = Gt m c (row t r) p := by
  rw [Gt, ← p_apply]
  pointwise [k0_pay5]

/-! The arrays after the run. -/

theorem arr_n : (dats m 0 c).arrAt 4 cfg0.N = fun i => Xn m c (i 0) (i 1) := by
  refine (dats m 0 c).arrAt_eq_of_covers 4 _ (by decide +kernel) fun t hf y => ?_
  blk_simp
  rw [out_n]
  idx_vars y
  refine (n_apply m c t y0 y1).trans ?_
  have e : ((View.whole main_v4_0).slice (win0_4.rect t)).emb (ix2 y0 y1) = ix2 (row t y0) y1 := by blk_ext [idx t, row]
  generalize Xn m c = q
  rw [e]; rfl

theorem arr_q : (dats m 0 c).arrAt 5 cfg0.N = fun i => Q m c (i 0) (i 1) := by
  refine (dats m 0 c).arrAt_eq_of_covers 5 _ (by decide +kernel) fun t hf y => ?_
  blk_simp
  rw [out_q]
  idx_vars y
  refine (q_apply m c t y0 y1).trans ?_
  have e : ((View.whole main_v4_1).slice (win0_5.rect t)).emb (ix2 y0 y1) = ix2 (row t y0) y1 := by blk_ext [idx t, row]
  generalize Q m c = q
  rw [e]; rfl

theorem arr_c : (dats m 0 c).arrAt 6 cfg0.N = fun i => C m c (i 0) (i 1) := by
  refine (dats m 0 c).arrAt_eq_of_covers 6 _ (by decide +kernel) fun t hf y => ?_
  blk_simp
  rw [out_c]
  idx_vars y
  refine (c_apply m c t y0 y1).trans ?_
  have e : ((View.whole main_v4_2).slice (win0_6.rect t)).emb (ix2 y0 y1) = ix2 (row t y0) y1 := by blk_ext [idx t, row]
  generalize C m c = q
  rw [e]; rfl

theorem arr_g : (dats m 0 c).arrAt 7 cfg0.N = fun i => Gt m c (i 0) (i 1) := by
  refine (dats m 0 c).arrAt_eq_of_covers 7 _ (by decide +kernel) fun t hf y => ?_
  blk_simp
  rw [out_g]
  idx_vars y
  refine (g_apply m c t y0 y1).trans ?_
  have e : ((View.whole main_v4_3).slice (win0_7.rect t)).emb (ix2 y0 y1) = ix2 (row t y0) y1 := by blk_ext [idx t, row]
  generalize Gt m c = q
  rw [e]; rfl

end Cert.InprojFwdIdeal.Elem
-- ==== Proof.InprojFwdRef.lean ====
/-
  The forward lines of the first norm and the input projection, read element by element.
-/
module

public import proofs.«01_k».proof.Proof.Gen.InprojFwdRefIdeal.Read
public import proofs.«01_k».proof.Proof.MixFwdSpec
public import Idealize.ShloMosaic.Lib.Pointwise
public import Idealize.ShloMosaic.Lib.Tactic.CleanTypes
public import Idealize.ShloMosaic.Lib.Claim
public import Idealize.ShloMosaic.Lib.Tactic

@[expose] public section

set_option maxRecDepth 16384

noncomputable section

namespace Cert.InprojFwdRefIdeal.Elem

open Cert.InprojFwdRefIdeal Cert.InprojFwdRefIdeal.Value Cert.MixFwdSpec
open Idealize.ShloMosaic Idealize.ShloMosaic.TcCoe Idealize.SL.Sem

variable (x : Vec Ideal S1x4096x1024 .f32) (g : Vec Ideal S1x1024 .f32) (w : Vec Ideal S1x1024x4352 .f32) (b : Vec Ideal S1x4352 .f32)

/-- The input normalised. -/
theorem n_apply (i : Fin 4096) (j : Fin 1024) : Read.val_main_v12 x g (ix2 i j)
    = normed (fun i j => x (ix3 0 i j)) (fun j => g (ix2 0 j)) i j := by
  unfold Read.val_main_v12 Read.val_main_v10 Read.val_main_v9 Read.val_main_v8 Read.val_main_v7 Read.val_main_v5 Read.val_main_v3
    Read.val_main_v2 Read.val_main_v1
  pointwise [Read.val_main_v0, Read.val_main_v4, Read.val_main_v6, Read.val_main_v11, Read.val_main_cst, Read.val_main_cst_0,
    Read.val_main_cst_1]
  rfl

/-- Its projection. -/
theorem p_apply (i : Fin 4096) (p : Fin 4352) : Read.val_main_v16 x g w b (ix2 i p)
    = (∑ k, normed (fun i j => x (ix3 0 i j)) (fun j => g (ix2 0 j)) i k * w (ix3 0 k p)) + b (ix2 0 p) := by
  have h := n_apply x g
  revert h
  unfold Read.val_main_v16 Read.val_main_v14
  generalize Read.val_main_v12 x g = t, normed (fun i j => x (ix3 0 i j)) (fun j => g (ix2 0 j)) = u
  intro h
  pointwise [Read.val_main_v13, Read.val_main_v15]
  simp only [h]

theorem n_out (i : Fin 4096) (j : Fin 1024) : Read.val_main_v20 x g (ix2 i j) = Read.val_main_v12 x g (ix2 i j) := by
  unfold Read.val_main_v20
  generalize Read.val_main_v12 x g = t
  pointwise
theorem q_out (i : Fin 4096) (p : Fin 768) : Read.val_main_v21 x g w b (ix2 i p) = Read.val_main_v16 x g w b (ix2 i ⟨p.val, by omega⟩) := by
  unfold Read.val_main_v21 Read.val_main_v17
  generalize Read.val_main_v16 x g w b = t
  pointwise
theorem c_out (i : Fin 4096) (p : Fin 1536) :
    Read.val_main_v22 x g w b (ix2 i p) = Read.val_main_v16 x g w b (ix2 i ⟨768 + p.val, by omega⟩) := by
  unfold Read.val_main_v22 Read.val_main_v18
  generalize Read.val_main_v16 x g w b = t
  pointwise
theorem g_out (i : Fin 4096) (p : Fin 2048) :
    Read.val_main_v23 x g w b (ix2 i p) = Read.val_main_v16 x g w b (ix2 i ⟨2304 + p.val, by omega⟩) := by
  unfold Read.val_main_v23 Read.val_main_v19
  generalize Read.val_main_v16 x g w b = t
  pointwise

end Cert.InprojFwdRefIdeal.Elem
-- ==== Proof.InprojFwdAlg.lean ====
/-
  The forward kernel of the input projection computes the forward lines: from memories that agree on the arguments, both programs leave
  the same normalised input and the same three groups of projected columns.
-/
module

public import proofs.«01_k».proof.Defs
public import proofs.«01_k».proof.Proof.Gen.InprojFwdIdeal.Value
public import proofs.«01_k».proof.Proof.Gen.InprojFwdRefIdeal.Run
public import proofs.«01_k».proof.Proof.InprojFwdKernel
public import proofs.«01_k».proof.Proof.InprojFwdRef

@[expose] public section

set_option maxRecDepth 16384

noncomputable section

namespace Cert.InprojFwdAlg

open Idealize.ShloMosaic Idealize.ShloMosaic.TcCoe Idealize.SL.Sem Cert.InprojFwdIdeal

/-- The value claim: the kernel and the forward lines leave the same four arrays. -/
theorem algebraic : algebraic_InprojFwdIdeal_InprojFwdRefIdeal := by
  intro m g m' g' _ ha
  refine ⟨fun c => (Gen.dats m 0 c).arrAt 4 cfg0.N, fun c => (Gen.dats m 0 c).arrAt 5 cfg0.N, fun c => (Gen.dats m 0 c).arrAt 6 cfg0.N,
    fun c => (Gen.dats m 0 c).arrAt 7 cfg0.N, Value.run_blocks m g,
    (θ_run _ _ _).mono (fun r h c => ?_) (InprojFwdRefIdeal.Value.run m' g')⟩
  obtain ⟨h0, h1, h2, h3, hr⟩ := h c
  obtain ⟨a0, a1, a2, a3⟩ := ha c
  rw [a0, a1] at h0
  rw [a0, a1, a2, a3] at h1 h2 h3
  refine ⟨h0.trans ?_, h1.trans ?_, h2.trans ?_, h3.trans ?_, hr⟩
  · refine ((InprojFwdRefIdeal.Read.val_main_v20_eq ..).trans ?_).trans (Elem.arr_n m c).symm
    funext i
    idx_vars i
    exact (InprojFwdRefIdeal.Elem.n_out _ _ i0 i1).trans (InprojFwdRefIdeal.Elem.n_apply _ _ i0 i1)
  · refine ((InprojFwdRefIdeal.Read.val_main_v21_eq ..).trans ?_).trans (Elem.arr_q m c).symm
    funext i
    idx_vars i
    exact (InprojFwdRefIdeal.Elem.q_out _ _ _ _ i0 i1).trans (InprojFwdRefIdeal.Elem.p_apply _ _ _ _ i0 _)
  · refine ((InprojFwdRefIdeal.Read.val_main_v22_eq ..).trans ?_).trans (Elem.arr_c m c).symm
    funext i
    idx_vars i
    exact (InprojFwdRefIdeal.Elem.c_out _ _ _ _ i0 i1).trans (InprojFwdRefIdeal.Elem.p_apply _ _ _ _ i0 _)
  · refine ((InprojFwdRefIdeal.Read.val_main_v23_eq ..).trans ?_).trans (Elem.arr_g m c).symm
    funext i
    idx_vars i
    exact (InprojFwdRefIdeal.Elem.g_out _ _ _ _ i0 i1).trans (InprojFwdRefIdeal.Elem.p_apply _ _ _ _ i0 _)

/-- The reference runs, leaves its arguments unchanged and has no semaphore. -/
theorem frame_ref : quiescent_InprojFwdRefIdeal := fun m ρ _ =>
  (θ_run InprojFwdRefIdeal.defs _ _).mono (fun r h => ⟨fun c => (h c).2.2.2.2, sem_eq_zero_of_no_sems (by decide) r.2⟩)
    (InprojFwdRefIdeal.Value.run (F := Ideal) m ρ)

end Cert.InprojFwdAlg
-- ==== Proof.AttnBwdFrame.lean ====
/-
  The frame of the attention's gradient kernel: whatever its outputs hold, it ends, leaves its arguments unchanged and
  every counter at zero. The last grid point stores into two of the six outputs only, so nothing is named of what they
  hold; the inputs' blocks are named, point by point.
-/
module

public import proofs.«01_k».proof.Proof.Gen.AttnBwd.Frame
public import proofs.«01_k».proof.Proof.Gen.AttnBwd.Skeleton
public import Idealize.ShloMosaic.Lib.Claim

@[expose] public section

set_option maxRecDepth 16384

noncomputable section

namespace Cert.AttnBwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ways through the body: the first point clears the accumulators and works on its pair of blocks, the points
    between only work, the point past the last pair only stores what is carried. -/
def Cases (i : grid0.Coords) : Prop :=
  (k0_cond1 i = 1#1 ∧ k0_cond2 i = 1#1 ∧ ¬k0_cond3 i = 1#1)
    ∨ (¬k0_cond1 i = 1#1 ∧ k0_cond2 i = 1#1 ∧ ¬k0_cond3 i = 1#1)
    ∨ (¬k0_cond1 i = 1#1 ∧ ¬k0_cond2 i = 1#1 ∧ k0_cond3 i = 1#1)

theorem cases (t : Fin cfg0.N) : Cases (grid0.coords t) :=
  (by unfold Cases; decide +kernel : ∀ t : Fin grid0.N, Cases (grid0.coords t)) t

set_option maxHeartbeats 4000000 in
/-- The body, whichever way it goes: the inputs stay as they were, the outputs and the two carried arrays end at some
    contents. -/
theorem run (c : Dev nD) (i : grid0.Coords) (arg1 : Memref sig .tc .smem S8 .f32) (harg1 : arg1.IsWhole) (arg2 :
    Memref sig .tc .vmem S1x256x512 .f32) (harg2 : arg2.IsWhole) (arg3 : Memref sig .tc .vmem S1x256x512 .f32) (harg3
    : arg3.IsWhole) (arg4 : Memref sig .tc .vmem S256x512 .bf16) (harg4 : arg4.IsWhole) (arg5 : Memref sig .tc .vmem
    S128x128 .bf16) (harg5 : arg5.IsWhole) (arg6 : Memref sig .tc .vmem S256x128 .bf16) (harg6 : arg6.IsWhole) (arg7 :
    Memref sig .tc .vmem S128x128 .bf16) (harg7 : arg7.IsWhole) (arg8 : Memref sig .tc .vmem S256x128 .bf16) (harg8 :
    arg8.IsWhole) (arg9 : Memref sig .tc .vmem S256x512 .bf16) (harg9 : arg9.IsWhole) (arg10 : Memref sig .tc .vmem
    S256x512 .bf16) (harg10 : arg10.IsWhole) (arg11 : Memref sig .tc .vmem S256x512 .bf16) (harg11 : arg11.IsWhole)
    (arg12 : Memref sig .tc .vmem S128x128 .bf16) (harg12 : arg12.IsWhole) (arg13 : Memref sig .tc .vmem S128x128
    .bf16) (harg13 : arg13.IsWhole) (arg14 : Memref sig .tc .vmem S128x128 .bf16) (harg14 : arg14.IsWhole) (arg15 :
    Memref sig .tc .vmem S128x128 .bf16) (harg15 : arg15.IsWhole) (arg16 : Memref sig .tc .vmem S8x128 .f32) (harg16 :
    arg16.IsWhole) (arg17 : Memref sig .tc .vmem S128x128 .f32) (harg17 : arg17.IsWhole) (arg18 : Memref sig .tc .vmem
    S128x128 .f32) (harg18 : arg18.IsWhole) (hc : Cases i)
    (x0 : Vec F S8 .f32) (x1 : Vec F S1x256x512 .f32) (x2 : Vec F S1x256x512 .f32) (x3 : Vec F S256x512 .bf16) (x4 :
        Vec F S128x128 .bf16) (x5 : Vec F S256x128 .bf16) (x6 : Vec F S128x128 .bf16) (x7 : Vec F S256x128 .bf16) (x8
        : Vec F S256x512 .bf16) (x9 : Vec F S256x512 .bf16) :
      ∀ (E : Set ℕ) (K : PUnit → sProp 𝕄),
        iprop(owns c.tc arg1 fullShare x0 ∗ owns c.tc arg2 fullShare x1 ∗ owns c.tc arg3 fullShare x2 ∗ owns c.tc arg4
            fullShare x3 ∗ owns c.tc arg5 fullShare x4 ∗ owns c.tc arg6 fullShare x5 ∗ owns c.tc arg7 fullShare x6 ∗
            owns c.tc arg8 fullShare x7 ∗ owns c.tc arg9 fullShare x8 ∗ owns c.tc arg10 fullShare x9 ∗ (∃ d, owns c.tc
            arg11 fullShare d) ∗ (∃ d, owns c.tc arg12 fullShare d) ∗ (∃ d, owns c.tc arg13 fullShare d) ∗ (∃ d, owns
            c.tc arg14 fullShare d) ∗ (∃ d, owns c.tc arg15 fullShare d) ∗ (∃ d, owns c.tc arg16 fullShare d) ∗ (∃ d,
            owns c.tc arg17 fullShare d) ∗ (∃ d, owns c.tc arg18 fullShare d)
            ∗ (iprop(owns c.tc arg1 fullShare x0 ∗ owns c.tc arg2 fullShare x1 ∗ owns c.tc arg3 fullShare x2 ∗ owns
                c.tc arg4 fullShare x3 ∗ owns c.tc arg5 fullShare x4 ∗ owns c.tc arg6 fullShare x5 ∗ owns c.tc arg7
                fullShare x6 ∗ owns c.tc arg8 fullShare x7 ∗ owns c.tc arg9 fullShare x8 ∗ owns c.tc arg10 fullShare
                x9 ∗ (∃ d, owns c.tc arg11 fullShare d) ∗ (∃ d, owns c.tc arg12 fullShare d) ∗ (∃ d, owns c.tc arg13
                fullShare d) ∗ (∃ d, owns c.tc arg14 fullShare d) ∗ (∃ d, owns c.tc arg15 fullShare d) ∗ (∃ d, owns
                c.tc arg16 fullShare d) ∗ (∃ d, owns c.tc arg17 fullShare d) ∗ (∃ d, owns c.tc arg18 fullShare d)) -∗
                K ⟨⟩))
          ⊢ wp frame (wpE (defs₀ (F := F)) Variants.none c none) E (cc0_attn_bwd i arg1 harg1 arg2 harg2 arg3 harg3
              arg4 harg4 arg5 harg5 arg6 harg6 arg7 harg7 arg8 harg8 arg9 harg9 arg10 harg10 arg11 harg11 arg12 harg12
              arg13 harg13 arg14 harg14 arg15 harg15 arg16 harg16 arg17 harg17 arg18 harg18) K := by
  intro E K
  simp only [cc0_attn_bwd_eq_skeleton]; unfold cc0_attn_bwd_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
      %hf6, H6⟩, ⟨%f7, %hf7, H7⟩, ⟨%f8, %hf8, H8⟩, ⟨%f9, %hf9, H9⟩, ⟨%d10, %f10, -, H10⟩, ⟨%d11, %f11, -, H11⟩, ⟨%d12,
      %f12, -, H12⟩, ⟨%d13, %f13, -, H13⟩, ⟨%d14, %f14, -, H14⟩, ⟨%d15, %f15, -, H15⟩, ⟨%ds0, %fs0, -, HS0⟩, ⟨%ds1,
      %fs1, -, HS1⟩, Hk⟩
  obtain rfl := harg1.eq_unread hf0; obtain rfl := harg2.eq_unread hf1; obtain rfl := harg3.eq_unread hf2; obtain rfl
      := harg4.eq_unread hf3; obtain rfl := harg5.eq_unread hf4; obtain rfl := harg6.eq_unread hf5; obtain rfl :=
      harg7.eq_unread hf6; obtain rfl := harg8.eq_unread hf7; obtain rfl := harg9.eq_unread hf8; obtain rfl :=
      harg10.eq_unread hf9
  rcases hc with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    iexists _, _; isplitr; swap; · iexact HS1
    ipureintro; rfl

/-- The outputs, of which nothing is named. -/
def hidden : Fin 16 → Bool := fun w => decide (10 ≤ w.val)

/-- What is known around the body: the arrays as the region finds them, and each input's block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = X0_3 m c t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d

/-- The windows' buffers at a point. -/
abbrev ms0_0 (t : Fin cfg0.N) : Memref sig .tc .smem S8 .f32 := win0_0.stage (cfg0.slots t 0)
abbrev ms0_1 (t : Fin cfg0.N) : Memref sig .tc .vmem S1x256x512 .f32 := win0_1.stage (cfg0.slots t 1)
abbrev ms0_2 (t : Fin cfg0.N) : Memref sig .tc .vmem S1x256x512 .f32 := win0_2.stage (cfg0.slots t 2)
abbrev ms0_3 (t : Fin cfg0.N) : Memref sig .tc .vmem S256x512 .bf16 := win0_3.stage (cfg0.slots t 3)
abbrev ms0_4 (t : Fin cfg0.N) : Memref sig .tc .vmem S128x128 .bf16 := win0_4.stage (cfg0.slots t 4)
abbrev ms0_5 (t : Fin cfg0.N) : Memref sig .tc .vmem S256x128 .bf16 := win0_5.stage (cfg0.slots t 5)
abbrev ms0_6 (t : Fin cfg0.N) : Memref sig .tc .vmem S128x128 .bf16 := win0_6.stage (cfg0.slots t 6)
abbrev ms0_7 (t : Fin cfg0.N) : Memref sig .tc .vmem S256x128 .bf16 := win0_7.stage (cfg0.slots t 7)
abbrev ms0_8 (t : Fin cfg0.N) : Memref sig .tc .vmem S256x512 .bf16 := win0_8.stage (cfg0.slots t 8)
abbrev ms0_9 (t : Fin cfg0.N) : Memref sig .tc .vmem S256x512 .bf16 := win0_9.stage (cfg0.slots t 9)
abbrev ms0_10 (t : Fin cfg0.N) : Memref sig .tc .vmem S256x512 .bf16 := win0_10.stage (cfg0.slots t 10)
abbrev ms0_11 (t : Fin cfg0.N) : Memref sig .tc .vmem S128x128 .bf16 := win0_11.stage (cfg0.slots t 11)
abbrev ms0_12 (t : Fin cfg0.N) : Memref sig .tc .vmem S128x128 .bf16 := win0_12.stage (cfg0.slots t 12)
abbrev ms0_13 (t : Fin cfg0.N) : Memref sig .tc .vmem S128x128 .bf16 := win0_13.stage (cfg0.slots t 13)
abbrev ms0_14 (t : Fin cfg0.N) : Memref sig .tc .vmem S128x128 .bf16 := win0_14.stage (cfg0.slots t 14)
abbrev ms0_15 (t : Fin cfg0.N) : Memref sig .tc .vmem S8x128 .f32 := win0_15.stage (cfg0.slots t 15)

/-- What the body is called with at a point, -/
def bodyPre (c : Dev nD) (t : Fin cfg0.N) : sProp 𝕄 :=
  iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare d)
      ∗ (∃ d, owns (c : Thread nD τ) (ms0_11 t) fullShare d)
      ∗ (∃ d, owns (c : Thread nD τ) (ms0_12 t) fullShare d)
      ∗ (∃ d, owns (c : Thread nD τ) (ms0_13 t) fullShare d)
      ∗ (∃ d, owns (c : Thread nD τ) (ms0_14 t) fullShare d)
      ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
      ∗ (dats m 0 c).leavesExact 0 t
      ∗ (dats m 0 c).leavesExact 1 t
      ∗ (dats m 0 c).leavesExact 2 t
      ∗ (dats m 0 c).leavesExact 3 t
      ∗ (dats m 0 c).leavesExact 4 t
      ∗ (dats m 0 c).leavesExact 5 t
      ∗ (dats m 0 c).leavesExact 6 t
      ∗ (dats m 0 c).leavesExact 7 t
      ∗ (dats m 0 c).leavesExact 8 t
      ∗ (dats m 0 c).leavesExact 9 t
      ∗ (∃ d, owns (c : Thread nD τ) (ms0_10 t) fullShare d)
      ∗ (∃ d, owns (c : Thread nD τ) (ms0_11 t) fullShare d)
      ∗ (∃ d, owns (c : Thread nD τ) (ms0_12 t) fullShare d)
      ∗ (∃ d, owns (c : Thread nD τ) (ms0_13 t) fullShare d)
      ∗ (∃ d, owns (c : Thread nD τ) (ms0_14 t) fullShare d)
      ∗ (∃ d, owns (c : Thread nD τ) (ms0_15 t) fullShare d))

/-- The two carried arrays, beside the generator's register. -/
theorem carried_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

set_option maxHeartbeats 4800000 in
/-- The body at any point. -/
theorem sound_body (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0_0, before0_1, before0_2, before0_3, before0_4, before0_5, before0_6, before0_7, before0_8,
    before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, carried_eq]
  rw [show (dats m 0 c).leavesExact 0 t = owns (c : Thread nD τ) (ms0_0 t) fullShare (iblk m c 0 t) from by
    unfold Dat.leavesExact; rw [show cfg0.idle 0 (grid0.coords t) = false from rfl]; dsimp only [dats]]
  rw [show (dats m 0 c).leavesExact 1 t = owns (c : Thread nD τ) (ms0_1 t) fullShare (iblk m c 1 t) from by
    unfold Dat.leavesExact; rw [show cfg0.idle 1 (grid0.coords t) = false from rfl]; dsimp only [dats]]
  rw [show (dats m 0 c).leavesExact 2 t = owns (c : Thread nD τ) (ms0_2 t) fullShare (iblk m c 2 t) from by
    unfold Dat.leavesExact; rw [show cfg0.idle 2 (grid0.coords t) = false from rfl]; dsimp only [dats]]
  rw [show (dats m 0 c).leavesExact 3 t = owns (c : Thread nD τ) (ms0_3 t) fullShare (X0_3 m c t) from by
    unfold Dat.leavesExact; rw [show cfg0.idle 3 (grid0.coords t) = false from rfl]; dsimp only [dats]]
  rw [show (dats m 0 c).leavesExact 4 t = owns (c : Thread nD τ) (ms0_4 t) fullShare (iblk m c 4 t) from by
    unfold Dat.leavesExact; rw [show cfg0.idle 4 (grid0.coords t) = false from rfl]; dsimp only [dats]]
  rw [show (dats m 0 c).leavesExact 5 t = owns (c : Thread nD τ) (ms0_5 t) fullShare (iblk m c 5 t) from by
    unfold Dat.leavesExact; rw [show cfg0.idle 5 (grid0.coords t) = false from rfl]; dsimp only [dats]]
  rw [show (dats m 0 c).leavesExact 6 t = owns (c : Thread nD τ) (ms0_6 t) fullShare (iblk m c 6 t) from by
    unfold Dat.leavesExact; rw [show cfg0.idle 6 (grid0.coords t) = false from rfl]; dsimp only [dats]]
  rw [show (dats m 0 c).leavesExact 7 t = owns (c : Thread nD τ) (ms0_7 t) fullShare (iblk m c 7 t) from by
    unfold Dat.leavesExact; rw [show cfg0.idle 7 (grid0.coords t) = false from rfl]; dsimp only [dats]]
  rw [show (dats m 0 c).leavesExact 8 t = owns (c : Thread nD τ) (ms0_8 t) fullShare (iblk m c 8 t) from by
    unfold Dat.leavesExact; rw [show cfg0.idle 8 (grid0.coords t) = false from rfl]; dsimp only [dats]]
  rw [show (dats m 0 c).leavesExact 9 t = owns (c : Thread nD τ) (ms0_9 t) fullShare (iblk m c 9 t) from by
    unfold Dat.leavesExact; rw [show cfg0.idle 9 (grid0.coords t) = false from rfl]; dsimp only [dats]]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩⟩
  iapply ((run c (grid0.coords t) _ _ _ _ _ _ _ _ _ _ _ _ _ _ _ _ _ _ _ _ _ _ _ _ _ _ _ _ _ _ _ _ _ _ _ _ (cases t)
    (iblk m c 0 t) (iblk m c 1 t) (iblk m c 2 t) (X0_3 m c t) (iblk m c 4 t)
    (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) :
    BodyObligation (dats (F := F) m 0 c) (defs₀ (F := F)) Variants.none () Set.univ hidden := fun t => by
  rw [bigSep_W0, bigSep_W0,
    show defs₀ (F := F) .tc cfg0.body (cfg0.bodyArgs t (cfg0.slots t)) = bodyAt0 t from by unfold defs₀; rw [Defs.onTc_tc]]
  exact triple_restated (sound_body m c t) rfl .rfl fun _ => .rfl

-- the launch's implicit arguments are found through plain definitions in a metavariable's type
set_option backward.isDefEq.respectTransparency.types false in
/-- The launch. -/
theorem launched : θ_run defs (onTc (τ := τ) (main (F := F))) (s₀ m ρ) (fun r =>
    (Pipeline.RDat.FramePost (cfgs 0) (fun c => (dats m 0 c).toRForget hidden) (V m)) r ∧ r.2.sem = fun _ => 0) :=
  Pipeline.θ_run_frame_forget_shared (Q' := _) cfgs (dats m) (0 : Fin 1) launch₀0 defs₀ Variants.none hidden m ρ main
    (hbody := fun c => (body_obligation m c).loose) (hq := fun _ _ _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩,
    h.2⟩) (launched m ρ)

end Cert.AttnBwd.Gen

end
-- ==== Proof.lean ====
/-
  Everything the certificate claims: per call, the frames of the kernel, of its idealization and of its reference, the
  idealization keeping every operation, and the value claim.
-/
module

public import proofs.«01_k».proof.Defs
public import proofs.«01_k».proof.Proof.Gen.InprojBwd.Frame
public import proofs.«01_k».proof.Proof.Gen.InprojBwdIdeal.Frame
public import proofs.«01_k».proof.Proof.Gen.InprojBwdIdeal.Value
public import proofs.«01_k».proof.Proof.Gen.InprojRefIdeal.Run
public import proofs.«01_k».proof.Proof.Gen.InprojRefIdeal.Read
public import proofs.«01_k».proof.Proof.Gen.Pre_inproj_finite
public import proofs.«01_k».proof.Proof.InprojAlg
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnRefIdeal.Run
public import proofs.«01_k».proof.Proof.Gen.FfnRefIdeal.Read
public import proofs.«01_k».proof.Proof.Gen.Pre_ffn_finite
public import proofs.«01_k».proof.Proof.FfnAlg
public import proofs.«01_k».proof.Proof.Gen.FfnLoss.Frame
public import proofs.«01_k».proof.Proof.Gen.FfnLossIdeal.Frame
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Proof.Gen.Pre_loss_finite
public import proofs.«01_k».proof.Proof.LossAlg
public import proofs.«01_k».proof.Proof.Gen.MixBwd.Frame
public import proofs.«01_k».proof.Proof.Gen.MixBwdIdeal.Frame
public import proofs.«01_k».proof.Proof.Gen.MixBwdIdeal.Value
public import proofs.«01_k».proof.Proof.Gen.MixRefIdeal.Run
public import proofs.«01_k».proof.Proof.Gen.MixRefIdeal.Read
public import proofs.«01_k».proof.Proof.MixAlg
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnOutRefIdeal.Run
public import proofs.«01_k».proof.Proof.Gen.AttnOutRefIdeal.Read
public import proofs.«01_k».proof.Proof.Gen.Pre_attn_out_finite
public import proofs.«01_k».proof.Proof.AttnAlg
public import proofs.«01_k».proof.Proof.Gen.MixFwd.Frame
public import proofs.«01_k».proof.Proof.Gen.MixFwdIdeal.Frame
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.MixFwdAlg
public import proofs.«01_k».proof.Proof.Gen.InprojFwd.Frame
public import proofs.«01_k».proof.Proof.Gen.InprojFwdIdeal.Frame
public import proofs.«01_k».proof.Proof.Gen.InprojFwdIdeal.Value
public import proofs.«01_k».proof.Proof.Gen.InprojFwdRefIdeal.Run
public import proofs.«01_k».proof.Proof.Gen.InprojFwdRefIdeal.Read
public import proofs.«01_k».proof.Proof.InprojFwdAlg
public import proofs.«01_k».proof.Proof.AttnBwdFrame

@[expose] public section

noncomputable section

namespace Cert.Proof

open Idealize.ShloMosaic Idealize.SL.Sem

/-- The claims: the frames first, call by call, then what each kernel computes. -/
theorem claim : Cert.Claim :=
  ⟨Cert.InprojBwd.Gen.facts,
    Cert.InprojBwdIdeal.Gen.facts,
    Cert.InprojRefIdeal.Gen.facts,
    Cert.FfnBwd.Gen.facts,
    Cert.FfnBwdIdeal.Gen.facts,
    Cert.FfnRefIdeal.Gen.facts,
    Cert.FfnLoss.Gen.facts,
    Cert.FfnLossIdeal.Gen.facts,
    Cert.FfnLossRefIdeal.Gen.facts,
    Cert.MixBwd.Gen.facts,
    Cert.MixBwdIdeal.Gen.facts,
    Cert.MixRefIdeal.Gen.facts,
    Cert.AttnFwd.Gen.facts,
    Cert.AttnFwdIdeal.Gen.facts,
    Cert.AttnOutRefIdeal.Gen.facts,
    Cert.MixFwd.Gen.facts,
    Cert.MixFwdIdeal.Gen.facts,
    Cert.MixFwdRefIdeal.Gen.facts,
    Cert.InprojFwd.Gen.facts,
    Cert.InprojFwdIdeal.Gen.facts,
    Cert.InprojFwdRefIdeal.Gen.facts,
    Cert.AttnBwd.Gen.facts,
    Cert.Pre_inproj_finite.Gen.facts,
    Cert.Pre_ffn_finite.Gen.facts,
    Cert.Pre_loss_finite.Gen.facts,
    Cert.Pre_attn_out_finite.Gen.facts,
    fun m ρ _ => Cert.InprojBwd.Gen.frame m ρ,
    fun m ρ _ => Cert.InprojBwdIdeal.Gen.frame m ρ,
    fun m ρ _ => Cert.InprojBwdIdeal.Gen.frame m ρ,
    Cert.InprojAlg.frame_ref,
    fun m ρ _ => Cert.InprojAlg.frame_ref m ρ trivial,
    fun m ρ _ => Cert.FfnBwd.Gen.frame m ρ,
    fun m ρ _ => Cert.FfnBwdIdeal.Gen.frame m ρ,
    fun m ρ _ => Cert.FfnBwdIdeal.Gen.frame m ρ,
    Cert.FfnAlg.frame_ref,
    fun m ρ _ => Cert.FfnAlg.frame_ref m ρ trivial,
    fun m ρ _ => Cert.FfnLoss.Gen.frame m ρ,
    fun m ρ _ => Cert.FfnLossIdeal.Gen.frame m ρ,
    fun m ρ _ => Cert.FfnLossIdeal.Gen.frame m ρ,
    Cert.LossAlg.frame_ref,
    fun m ρ _ => Cert.LossAlg.frame_ref m ρ trivial,
    fun m ρ _ => Cert.MixBwd.Gen.frame m ρ,
    fun m ρ _ => Cert.MixBwdIdeal.Gen.frame m ρ,
    Cert.MixAlg.frame_ref,
    fun m ρ _ => Cert.AttnFwd.Gen.frame m ρ,
    fun m ρ _ => Cert.AttnFwdIdeal.Gen.frame m ρ,
    fun m ρ _ => Cert.AttnFwdIdeal.Gen.frame m ρ,
    Cert.AttnAlg.frame_ref,
    fun m ρ _ => Cert.AttnAlg.frame_ref m ρ trivial,
    fun m ρ _ => Cert.MixFwd.Gen.frame m ρ,
    fun m ρ _ => Cert.MixFwdIdeal.Gen.frame m ρ,
    Cert.MixFwdAlg.frame_ref,
    fun m ρ _ => Cert.InprojFwd.Gen.frame m ρ,
    fun m ρ _ => Cert.InprojFwdIdeal.Gen.frame m ρ,
    Cert.InprojFwdAlg.frame_ref,
    fun m ρ _ => Cert.AttnBwd.Gen.frame m ρ,
    trivial,
    Cert.InprojAlg.algebraic,
    trivial,
    Cert.FfnAlg.algebraic,
    trivial,
    Cert.LossAlg.algebraic,
    trivial,
    Cert.MixAlg.algebraic,
    trivial,
    Cert.AttnAlg.algebraic,
    trivial,
    Cert.MixFwdAlg.algebraic,
    trivial,
    Cert.InprojFwdAlg.algebraic⟩

end Cert.Proof

end
